-- ==== Defs.lean ====
def Pre_Kernel [hPre_balanced_Kernel : Cert.Pre_balanced_Kernel.Facts] (m : (ℓ : Loc Cert.Kernel.nD Cert.Kernel.τ Cert.Kernel.sig) → Buf (Elt Bits) ℓ) : Prop :=
  ∀ c : Dev Cert.Kernel.nD,
    (Cert.Pre_balanced_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_balanced_Kernel : Cert.Pre_balanced_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_balanced_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced_ReferenceIdeal [hPre_balanced_ReferenceIdeal : Cert.Pre_balanced_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_balanced_Kernel : Cert.Pre_balanced_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_balanced_ReferenceIdeal [hReferenceIdeal : Cert.ReferenceIdeal.Facts] [hPre_balanced_ReferenceIdeal : Cert.Pre_balanced_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = Layout.block ⟨2, ![4096, 1024]⟩ ⟨2, ![32768, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_balanced_Kernel : Cert.Pre_balanced_Kernel.Facts) (hPre_balanced_ReferenceIdeal : Cert.Pre_balanced_ReferenceIdeal.Facts),
    quiescent_Kernel (hKernel := hKernel) (hPre_balanced_Kernel := hPre_balanced_Kernel)
    ∧ quiescent_KernelIdeal (hKernelIdeal := hKernelIdeal) (hPre_balanced_Kernel := hPre_balanced_Kernel)
    ∧ quiescent_ReferenceIdeal (hReferenceIdeal := hReferenceIdeal)
    ∧ quiescent_ReferenceIdeal_pre_balanced_ReferenceIdeal (hReferenceIdeal := hReferenceIdeal) (hPre_balanced_ReferenceIdeal := hPre_balanced_ReferenceIdeal)
    ∧ preserves_Kernel_KernelIdeal
    ∧ algebraic_KernelIdeal_ReferenceIdeal (hKernelIdeal := hKernelIdeal) (hReferenceIdeal := hReferenceIdeal) (hPre_balanced_Kernel := hPre_balanced_Kernel)
-- ==== Pre_balanced_Kernel.lean ====
abbrev S4096x1024 : Shape := ⟨2, ![4096, 1024]⟩
abbrev S32768 : Shape := ⟨1, ![32768]⟩
abbrev S32768x1 : Shape := ⟨2, ![32768, 1]⟩
abbrev S8 : Shape := ⟨1, ![8]⟩
abbrev S1x8 : Shape := ⟨2, ![1, 8]⟩
abbrev S32768x8 : Shape := ⟨2, ![32768, 8]⟩
abbrev S_ : Shape := ⟨0, ![]⟩
abbrev S8x4096x8 : Shape := ⟨3, ![8, 4096, 8]⟩
abbrev S8x8 : Shape := ⟨2, ![8, 8]⟩
abbrev S7x8 : Shape := ⟨2, ![7, 8]⟩

class Facts : Prop where
  bcast_S32768_S32768x1_0 : S32768.BroadcastsInDim S32768x1 (![0] : Fin 1 → Fin S32768x1.rank)
  bcast_S8_S1x8_1 : S8.BroadcastsInDim S1x8 (![1] : Fin 1 → Fin S1x8.rank)
  bcast_S32768x1_S32768x8_0_1 : S32768x1.BroadcastsInDim S32768x8 (![0, 1] : Fin 2 → Fin S32768x8.rank)
  bcast_S1x8_S32768x8_0_1 : S1x8.BroadcastsInDim S32768x8 (![0, 1] : Fin 2 → Fin S32768x8.rank)
  natLt_1_32 : 1 < 32
  reducesTo_S32768x8_S8_d0 : S32768x8.ReducesTo [0] S8
  h_S_ : 0 < S_.numel
  shapeCasts_S32768x8_S8x4096x8 : S32768x8.ShapeCasts S8x4096x8
  reducesTo_S8x4096x8_S8x8_d1 : S8x4096x8.ReducesTo [1] S8x8
  bcast_S_S1x8 : S_.BroadcastsInDim S1x8 (![] : Fin 0 → Fin S1x8.rank)
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  slices_S8x8_S7x8_0_0 : S8x8.Slices ![0, 0] S7x8
  bcast_S_S7x8 : S_.BroadcastsInDim S7x8 (![] : Fin 0 → Fin S7x8.rank)
  bcast_S1x8_S7x8_0_1 : S1x8.BroadcastsInDim S7x8 (![0, 1] : Fin 2 → Fin S7x8.rank)
  reducesTo_S7x8_S_d0_1 : S7x8.ReducesTo [0, 1] S_

variable [Facts]

def fn_part1 {F : FTy → Type} [FloatOps F] (main_v9 : IVec S8x8 32) (main_v15 : IVec S1x8 32) (main_v17 : IVec S8 1) (main_c_4 : IVec S_ 1) : IVec S_ 1 :=
  let main_v18 : IVec S_ 1 := (fun x v => Host.reduce IntOp.andi x v reducesTo_S8_S_d0 h_S_) main_v17 main_c_4
  let main_c_5 : IVec S_ 32 := constantI S_ 32 640#32
  let main_v19 : IVec S8x8 32 := broadcastInDim S8x8 ![] bcast_S_S8x8 main_c_5
  let main_v20 : IVec S8x8 1 := cmpi .sle main_v9 main_v19
  let main_c_6 : IVec S_ 1 := constantI S_ 1 1#1
  let main_v21 : IVec S_ 1 := (fun x v => Host.reduce IntOp.andi x v reducesTo_S8x8_S_d0_1 h_S_) main_v20 main_c_6
  let main_v22 : IVec S_ 1 := andi main_v18 main_v21
  let main_v23 : IVec S7x8 32 := (extractStridedSlice S7x8 ![0, 0] · slices_S8x8_S7x8_0_0) main_v9
  let main_c_7 : IVec S_ 32 := constantI S_ 32 7#32
  let main_v24 : IVec S7x8 32 := broadcastInDim S7x8 ![] bcast_S_S7x8 main_c_7
  let main_v25 : IVec S7x8 32 := muli main_v24 main_v23
  let main_v26 : IVec S7x8 32 := broadcastInDim S7x8 ![0, 1] bcast_S1x8_S7x8_0_1 main_v15
  let main_v27 : IVec S7x8 1 := cmpi .sge main_v25 main_v26
  let main_c_8 : IVec S_ 1 := constantI S_ 1 1#1
  let main_v28 : IVec S_ 1 := (fun x v => Host.reduce IntOp.andi x v reducesTo_S7x8_S_d0_1 h_S_) main_v27 main_c_8
  let main_v29 : IVec S_ 1 := andi main_v22 main_v28
  main_v29

def fn {F : FTy → Type} [FloatOps F] (main_arg0 : FVec F S4096x1024 .bf16) (main_arg1 : IVec S32768 32) : IVec S_ 1 :=
  let main_v0 : IVec S32768x1 32 := broadcastInDim S32768x1 ![0] bcast_S32768_S32768x1_0 main_arg1
  let main_v1 : IVec S8 32 := iotaInDim S8 32 0
  let main_v2 : IVec S1x8 32 := broadcastInDim S1x8 ![1] bcast_S8_S1x8_1 main_v1
  let main_v3 : IVec S32768x8 32 := broadcastInDim S32768x8 ![0, 1] bcast_S32768x1_S32768x8_0_1 main_v0
  let main_v4 : IVec S32768x8 32 := broadcastInDim S32768x8 ![0, 1] bcast_S1x8_S32768x8_0_1 main_v2
  let main_v5 : IVec S32768x8 1 := cmpi .eq main_v3 main_v4
  let main_v6 : IVec S32768x8 32 := (extui 32 · natLt_1_32) main_v5
  let main_c : IVec S_ 32 := constantI S_ 32 0#32
  let main_v7 : IVec S8 32 := (fun x v => Host.reduce IntOp.addi x v reducesTo_S32768x8_S8_d0 h_S_) main_v6 main_c
  let main_v8 : IVec S8x4096x8 32 := shapeCast S8x4096x8 main_v6 shapeCasts_S32768x8_S8x4096x8
  let main_c_0 : IVec S_ 32 := constantI S_ 32 0#32
  let main_v9 : IVec S8x8 32 := (fun x v => Host.reduce IntOp.addi x v reducesTo_S8x4096x8_S8x8_d1 h_S_) main_v8 main_c_0
  let main_v10 : IVec S8 32 := iotaInDim S8 32 0
  let main_v11 : IVec S1x8 32 := broadcastInDim S1x8 ![1] bcast_S8_S1x8_1 main_v10
  let main_c_1 : IVec S_ 32 := constantI S_ 32 640#32
  let main_v12 : IVec S1x8 32 := broadcastInDim S1x8 ![] bcast_S_S1x8 main_c_1
  let main_v13 : IVec S1x8 32 := muli main_v12 main_v11
  let main_c_2 : IVec S_ 32 := constantI S_ 32 1024#32
  let main_v14 : IVec S1x8 32 := broadcastInDim S1x8 ![] bcast_S_S1x8 main_c_2
  let main_v15 : IVec S1x8 32 := subi main_v13 main_v14
  let main_c_3 : IVec S_ 32 := constantI S_ 32 4096#32
  let main_v16 : IVec S8 32 := broadcastInDim S8 ![] bcast_S_S8 main_c_3
  let main_v17 : IVec S8 1 := cmpi .eq main_v7 main_v16
  let main_c_4 : IVec S_ 1 := constantI S_ 1 1#1
  fn_part1 (F := F) main_v9 main_v15 main_v17 main_c_4
-- ==== Pre_balanced_ReferenceIdeal.lean ====
abbrev S32768x1024 : Shape := ⟨2, ![32768, 1024]⟩
abbrev S32768 : Shape := ⟨1, ![32768]⟩
abbrev S32768x1 : Shape := ⟨2, ![32768, 1]⟩
abbrev S8 : Shape := ⟨1, ![8]⟩
abbrev S1x8 : Shape := ⟨2, ![1, 8]⟩
abbrev S32768x8 : Shape := ⟨2, ![32768, 8]⟩
abbrev S_ : Shape := ⟨0, ![]⟩
abbrev S8x4096x8 : Shape := ⟨3, ![8, 4096, 8]⟩
abbrev S8x8 : Shape := ⟨2, ![8, 8]⟩
abbrev S7x8 : Shape := ⟨2, ![7, 8]⟩

class Facts : Prop where
  bcast_S32768_S32768x1_0 : S32768.BroadcastsInDim S32768x1 (![0] : Fin 1 → Fin S32768x1.rank)
  bcast_S8_S1x8_1 : S8.BroadcastsInDim S1x8 (![1] : Fin 1 → Fin S1x8.rank)
  bcast_S32768x1_S32768x8_0_1 : S32768x1.BroadcastsInDim S32768x8 (![0, 1] : Fin 2 → Fin S32768x8.rank)
  bcast_S1x8_S32768x8_0_1 : S1x8.BroadcastsInDim S32768x8 (![0, 1] : Fin 2 → Fin S32768x8.rank)
  natLt_1_32 : 1 < 32
  reducesTo_S32768x8_S8_d0 : S32768x8.ReducesTo [0] S8
  h_S_ : 0 < S_.numel
  shapeCasts_S32768x8_S8x4096x8 : S32768x8.ShapeCasts S8x4096x8
  reducesTo_S8x4096x8_S8x8_d1 : S8x4096x8.ReducesTo [1] S8x8
  bcast_S_S1x8 : S_.BroadcastsInDim S1x8 (![] : Fin 0 → Fin S1x8.rank)
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  slices_S8x8_S7x8_0_0 : S8x8.Slices ![0, 0] S7x8
  bcast_S_S7x8 : S_.BroadcastsInDim S7x8 (![] : Fin 0 → Fin S7x8.rank)
  bcast_S1x8_S7x8_0_1 : S1x8.BroadcastsInDim S7x8 (![0, 1] : Fin 2 → Fin S7x8.rank)
  reducesTo_S7x8_S_d0_1 : S7x8.ReducesTo [0, 1] S_

variable [Facts]

def fn_part1 {F : FTy → Type} [FloatOps F] (main_v9 : IVec S8x8 32) (main_v15 : IVec S1x8 32) (main_v17 : IVec S8 1) (main_c_4 : IVec S_ 1) : IVec S_ 1 :=
  let main_v18 : IVec S_ 1 := (fun x v => Host.reduce IntOp.andi x v reducesTo_S8_S_d0 h_S_) main_v17 main_c_4
  let main_c_5 : IVec S_ 32 := constantI S_ 32 640#32
  let main_v19 : IVec S8x8 32 := broadcastInDim S8x8 ![] bcast_S_S8x8 main_c_5
  let main_v20 : IVec S8x8 1 := cmpi .sle main_v9 main_v19
  let main_c_6 : IVec S_ 1 := constantI S_ 1 1#1
  let main_v21 : IVec S_ 1 := (fun x v => Host.reduce IntOp.andi x v reducesTo_S8x8_S_d0_1 h_S_) main_v20 main_c_6
  let main_v22 : IVec S_ 1 := andi main_v18 main_v21
  let main_v23 : IVec S7x8 32 := (extractStridedSlice S7x8 ![0, 0] · slices_S8x8_S7x8_0_0) main_v9
  let main_c_7 : IVec S_ 32 := constantI S_ 32 7#32
  let main_v24 : IVec S7x8 32 := broadcastInDim S7x8 ![] bcast_S_S7x8 main_c_7
  let main_v25 : IVec S7x8 32 := muli main_v24 main_v23
  let main_v26 : IVec S7x8 32 := broadcastInDim S7x8 ![0, 1] bcast_S1x8_S7x8_0_1 main_v15
  let main_v27 : IVec S7x8 1 := cmpi .sge main_v25 main_v26
  let main_c_8 : IVec S_ 1 := constantI S_ 1 1#1
  let main_v28 : IVec S_ 1 := (fun x v => Host.reduce IntOp.andi x v reducesTo_S7x8_S_d0_1 h_S_) main_v27 main_c_8
  let main_v29 : IVec S_ 1 := andi main_v22 main_v28
  main_v29

def fn {F : FTy → Type} [FloatOps F] (main_arg0 : FVec F S32768x1024 .bf16) (main_arg1 : IVec S32768 32) : IVec S_ 1 :=
  let main_v0 : IVec S32768x1 32 := broadcastInDim S32768x1 ![0] bcast_S32768_S32768x1_0 main_arg1
  let main_v1 : IVec S8 32 := iotaInDim S8 32 0
  let main_v2 : IVec S1x8 32 := broadcastInDim S1x8 ![1] bcast_S8_S1x8_1 main_v1
  let main_v3 : IVec S32768x8 32 := broadcastInDim S32768x8 ![0, 1] bcast_S32768x1_S32768x8_0_1 main_v0
  let main_v4 : IVec S32768x8 32 := broadcastInDim S32768x8 ![0, 1] bcast_S1x8_S32768x8_0_1 main_v2
  let main_v5 : IVec S32768x8 1 := cmpi .eq main_v3 main_v4
  let main_v6 : IVec S32768x8 32 := (extui 32 · natLt_1_32) main_v5
  let main_c : IVec S_ 32 := constantI S_ 32 0#32
  let main_v7 : IVec S8 32 := (fun x v => Host.reduce IntOp.addi x v reducesTo_S32768x8_S8_d0 h_S_) main_v6 main_c
  let main_v8 : IVec S8x4096x8 32 := shapeCast S8x4096x8 main_v6 shapeCasts_S32768x8_S8x4096x8
  let main_c_0 : IVec S_ 32 := constantI S_ 32 0#32
  let main_v9 : IVec S8x8 32 := (fun x v => Host.reduce IntOp.addi x v reducesTo_S8x4096x8_S8x8_d1 h_S_) main_v8 main_c_0
  let main_v10 : IVec S8 32 := iotaInDim S8 32 0
  let main_v11 : IVec S1x8 32 := broadcastInDim S1x8 ![1] bcast_S8_S1x8_1 main_v10
  let main_c_1 : IVec S_ 32 := constantI S_ 32 640#32
  let main_v12 : IVec S1x8 32 := broadcastInDim S1x8 ![] bcast_S_S1x8 main_c_1
  let main_v13 : IVec S1x8 32 := muli main_v12 main_v11
  let main_c_2 : IVec S_ 32 := constantI S_ 32 1024#32
  let main_v14 : IVec S1x8 32 := broadcastInDim S1x8 ![] bcast_S_S1x8 main_c_2
  let main_v15 : IVec S1x8 32 := subi main_v13 main_v14
  let main_c_3 : IVec S_ 32 := constantI S_ 32 4096#32
  let main_v16 : IVec S8 32 := broadcastInDim S8 ![] bcast_S_S8 main_c_3
  let main_v17 : IVec S8 1 := cmpi .eq main_v7 main_v16
  let main_c_4 : IVec S_ 1 := constantI S_ 1 1#1
  fn_part1 (F := F) main_v9 main_v15 main_v17 main_c_4
-- ==== Kernel.lean ====
abbrev S4096x1024 : Shape := ⟨2, ![4096, 1024]⟩
abbrev S32768 : Shape := ⟨1, ![32768]⟩
abbrev S_ : Shape := ⟨0, ![]⟩
abbrev S4096 : Shape := ⟨1, ![4096]⟩
abbrev S4096x1 : Shape := ⟨2, ![4096, 1]⟩
abbrev S8 : Shape := ⟨1, ![8]⟩
abbrev S1x8 : Shape := ⟨2, ![1, 8]⟩
abbrev S4096x8 : Shape := ⟨2, ![4096, 8]⟩
abbrev S128 : Shape := ⟨1, ![128]⟩
abbrev S1x128 : Shape := ⟨2, ![1, 128]⟩
abbrev S512x8x1024 : Shape := ⟨3, ![512, 8, 1024]⟩
abbrev S640x8x1024 : Shape := ⟨3, ![640, 8, 1024]⟩
abbrev S7x128 : Shape := ⟨2, ![7, 128]⟩
abbrev S32x128 : Shape := ⟨2, ![32, 128]⟩
abbrev S8x128 : Shape := ⟨2, ![8, 128]⟩
abbrev S7 : Shape := ⟨1, ![7]⟩
abbrev S8x1024 : Shape := ⟨2, ![8, 1024]⟩
abbrev S1 : Shape := ⟨1, ![1]⟩
abbrev S1x1 : Shape := ⟨2, ![1, 1]⟩
abbrev S1x8x1024 : Shape := ⟨3, ![1, 8, 1024]⟩
abbrev S80x8x1024 : Shape := ⟨3, ![80, 8, 1024]⟩

abbrev nBuf : Space → Nat
  | .hbm => 35
  | .vmem => 7
  | .smem => 3
  | _ => 0

abbrev bufTy : (tb : Table) → Fin (tcTables nBuf tb) → BufTy
  | .hbm, ⟨0, _⟩ => ⟨S4096x1024, .bf16⟩
  | .hbm, ⟨1, _⟩ => ⟨S32768, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S8, .i32⟩
  | .hbm, ⟨21, _⟩ => ⟨S1x8, .i32⟩
  | .hbm, ⟨22, _⟩ => ⟨S4096x8, .i32⟩
  | .hbm, ⟨23, _⟩ => ⟨S4096x8, .i32⟩
  | .hbm, ⟨24, _⟩ => ⟨S4096x8, .i1⟩
  | .hbm, ⟨25, _⟩ => ⟨S4096x8, .i32⟩
  | .hbm, ⟨26, _⟩ => ⟨S_, .i32⟩
  | .hbm, ⟨27, _⟩ => ⟨S8, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S1x128, .i32⟩
  | .hbm, ⟨32, _⟩ => ⟨S512x8x1024, .bf16⟩
  | .hbm, ⟨33, _⟩ => ⟨S512x8x1024, .bf16⟩
  | .hbm, ⟨34, _⟩ => ⟨S4096x1024, .bf16⟩
  | .local _ .vmem, ⟨0, _⟩ => ⟨S512x8x1024, .bf16⟩
  | .local _ .vmem, ⟨1, _⟩ => ⟨S1x128, .i32⟩
  | .local _ .vmem, ⟨2, _⟩ => ⟨S512x8x1024, .bf16⟩
  | .local _ .vmem, ⟨3, _⟩ => ⟨S640x8x1024, .bf16⟩
  | .local _ .vmem, ⟨4, _⟩ => ⟨S640x8x1024, .bf16⟩
  | .local _ .vmem, ⟨5, _⟩ => ⟨S7x128, .i32⟩
  | .local _ .vmem, ⟨6, _⟩ => ⟨S32x128, .i32⟩
  | .local _ .smem, ⟨0, _⟩ => ⟨S4096, .i32⟩
  | .local _ .smem, ⟨1, _⟩ => ⟨S8x128, .i32⟩
  | .local _ .smem, ⟨2, _⟩ => ⟨S32x128, .i32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_c_5 : Ref sig .tc := ⟨.hbm, 28, rfl⟩
abbrev main_call1_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg1_0 : Ref sig .tc := ⟨.smem, 0, rfl⟩
abbrev cc0_scratch4 : Ref sig .tc := ⟨.smem, 1, rfl⟩
abbrev cc0_scratch5 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.addi v2 c1_i32_0
  let c8_i32_1 : BitVec 32 := 8#32
  let v6 : BitVec 32 := Scalar.remsi v5 c8_i32_1
  let c1_i32_3 : BitVec 32 := 1#32
  let v7 : BitVec 32 := Scalar.muli v6 c1_i32_3
  let v8 : BitVec 32 := Scalar.addi c0_i32 v7
  v8.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.addi v2 c2_i32
  let c8_i32_4 : BitVec 32 := 8#32
  let v10 : BitVec 32 := Scalar.remsi v9 c8_i32_4
  let c1_i32_6 : BitVec 32 := 1#32
  let v11 : BitVec 32 := Scalar.muli v10 c1_i32_6
  let v12 : BitVec 32 := Scalar.addi c0_i32_7 v11
  v12.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.addi v2 c3_i32
  let c8_i32_8 : BitVec 32 := 8#32
  let v14 : BitVec 32 := Scalar.remsi v13 c8_i32_8
  let c1_i32_10 : BitVec 32 := 1#32
  let v15 : BitVec 32 := Scalar.muli v14 c1_i32_10
  let v16 : BitVec 32 := Scalar.addi c0_i32_11 v15
  v16.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v17 : BitVec 32 := Scalar.addi v2 c4_i32
  let c8_i32_12 : BitVec 32 := 8#32
  let v18 : BitVec 32 := Scalar.remsi v17 c8_i32_12
  let c1_i32_14 : BitVec 32 := 1#32
  let v19 : BitVec 32 := Scalar.muli v18 c1_i32_14
  let v20 : BitVec 32 := Scalar.addi c0_i32_15 v19
  v20.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v21 : BitVec 32 := Scalar.addi v2 c5_i32
  let c8_i32_16 : BitVec 32 := 8#32
  let v22 : BitVec 32 := Scalar.remsi v21 c8_i32_16
  let c1_i32_18 : BitVec 32 := 1#32
  let v23 : BitVec 32 := Scalar.muli v22 c1_i32_18
  let v24 : BitVec 32 := Scalar.addi c0_i32_19 v23
  v24.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v25 : BitVec 32 := Scalar.addi v2 c6_i32
  let c8_i32_20 : BitVec 32 := 8#32
  let v26 : BitVec 32 := Scalar.remsi v25 c8_i32_20
  let c1_i32_22 : BitVec 32 := 1#32
  let v27 : BitVec 32 := Scalar.muli v26 c1_i32_22
  let v28 : BitVec 32 := Scalar.addi c0_i32_23 v27
  v28.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v29 : BitVec 32 := Scalar.addi v2 c7_i32
  let c8_i32_24 : BitVec 32 := 8#32
  let v30 : BitVec 32 := Scalar.remsi v29 c8_i32_24
  let c1_i32_26 : BitVec 32 := 1#32
  let v31 : BitVec 32 := Scalar.muli v30 c1_i32_26
  let v32 : BitVec 32 := Scalar.addi c0_i32_27 v31
  v32.toNat
def k0_dev8 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v33 : BitVec 32 := Scalar.addi v2 c1_i32_29
  let c8_i32_30 : BitVec 32 := 8#32
  let v34 : BitVec 32 := Scalar.remsi v33 c8_i32_30
  let c1_i32_33 : BitVec 32 := 1#32
  let v35 : BitVec 32 := Scalar.muli v34 c1_i32_33
  let v36 : BitVec 32 := Scalar.addi c0_i32_34 v35
  v36.toNat
def k0_dev9 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_37 : BitVec 32 := 2#32
  let v42 : BitVec 32 := Scalar.addi v2 c2_i32_37
  let c8_i32_38 : BitVec 32 := 8#32
  let v43 : BitVec 32 := Scalar.remsi v42 c8_i32_38
  let c1_i32_41 : BitVec 32 := 1#32
  let v44 : BitVec 32 := Scalar.muli v43 c1_i32_41
  let v45 : BitVec 32 := Scalar.addi c0_i32_42 v44
  v45.toNat
def k0_dev10 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_45 : BitVec 32 := 3#32
  let v51 : BitVec 32 := Scalar.addi v2 c3_i32_45
  let c8_i32_46 : BitVec 32 := 8#32
  let v52 : BitVec 32 := Scalar.remsi v51 c8_i32_46
  let c1_i32_49 : BitVec 32 := 1#32
  let v53 : BitVec 32 := Scalar.muli v52 c1_i32_49
  let v54 : BitVec 32 := Scalar.addi c0_i32_50 v53
  v54.toNat
def k0_dev11 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_53 : BitVec 32 := 4#32
  let v60 : BitVec 32 := Scalar.addi v2 c4_i32_53
  let c8_i32_54 : BitVec 32 := 8#32
  let v61 : BitVec 32 := Scalar.remsi v60 c8_i32_54
  let c1_i32_57 : BitVec 32 := 1#32
  let v62 : BitVec 32 := Scalar.muli v61 c1_i32_57
  let v63 : BitVec 32 := Scalar.addi c0_i32_58 v62
  v63.toNat
def k0_dev12 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_61 : BitVec 32 := 5#32
  let v69 : BitVec 32 := Scalar.addi v2 c5_i32_61
  let c8_i32_62 : BitVec 32 := 8#32
  let v70 : BitVec 32 := Scalar.remsi v69 c8_i32_62
  let c1_i32_65 : BitVec 32 := 1#32
  let v71 : BitVec 32 := Scalar.muli v70 c1_i32_65
  let v72 : BitVec 32 := Scalar.addi c0_i32_66 v71
  v72.toNat
def k0_dev13 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_69 : BitVec 32 := 6#32
  let v78 : BitVec 32 := Scalar.addi v2 c6_i32_69
  let c8_i32_70 : BitVec 32 := 8#32
  let v79 : BitVec 32 := Scalar.remsi v78 c8_i32_70
  let c1_i32_73 : BitVec 32 := 1#32
  let v80 : BitVec 32 := Scalar.muli v79 c1_i32_73
  let v81 : BitVec 32 := Scalar.addi c0_i32_74 v80
  v81.toNat
def k0_dev14 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_77 : BitVec 32 := 7#32
  let v87 : BitVec 32 := Scalar.addi v2 c7_i32_77
  let c8_i32_78 : BitVec 32 := 8#32
  let v88 : BitVec 32 := Scalar.remsi v87 c8_i32_78
  let c1_i32_81 : BitVec 32 := 1#32
  let v89 : BitVec 32 := Scalar.muli v88 c1_i32_81
  let v90 : BitVec 32 := Scalar.addi c0_i32_82 v89
  v90.toNat
def k0_off1 (d0 : Dev nD) : Fin 2 → Nat :=
  let c7_99 : Index := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_96 : BitVec 32 := 1#32
  let v112 : BitVec 32 := Scalar.addi v2 c1_i32_96
  let c0_i32_97 : BitVec 32 := 0#32
  let v113 : BitVec 32 := Scalar.addi v112 c0_i32_97
  let c8_i32_98 : BitVec 32 := 8#32
  let v114 : BitVec 32 := Scalar.remsi v113 c8_i32_98
  let v115 : Index := Scalar.indexCast v114
  ![7, v115.toNat]
@[reducible] def k0_t1_loop : Scf.Loop 32 :=
  let c0_i32_112 : BitVec 32 := 0#32
  let c80_i32 : BitVec 32 := 80#32
  let v135 : BitVec 32 := Scalar.addi c0_i32_112 c80_i32
  let c1_i32_113 : BitVec 32 := 1#32
  ⟨c0_i32_112, v135, c1_i32_113⟩
def k0_off2 (d0 : Dev nD) (v98 : BitVec 32) (v100 : BitVec 32) (v102 : BitVec 32) (v104 : BitVec 32) (v106 : BitVec 32) (v108 : BitVec 32) (v110 : BitVec 32) (v116 : BitVec 32) (k0_t1 : Fin k0_t1_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_96 : BitVec 32 := 1#32
  let v112 : BitVec 32 := Scalar.addi v2 c1_i32_96
  let c0_i32_97 : BitVec 32 := 0#32
  let v113 : BitVec 32 := Scalar.addi v112 c0_i32_97
  let c8_i32_98 : BitVec 32 := 8#32
  let v114 : BitVec 32 := Scalar.remsi v113 c8_i32_98
  let c7_i32_109 : BitVec 32 := 7#32
  let v131 : BitVec 1 := Scalar.cmpi .eq v114 c7_i32_109
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_108 : BitVec 32 := 6#32
  let v129 : BitVec 1 := Scalar.cmpi .eq v114 c6_i32_108
  let c5_i32_107 : BitVec 32 := 5#32
  let v127 : BitVec 1 := Scalar.cmpi .eq v114 c5_i32_107
  let c4_i32_106 : BitVec 32 := 4#32
  let v125 : BitVec 1 := Scalar.cmpi .eq v114 c4_i32_106
  let c3_i32_105 : BitVec 32 := 3#32
  let v123 : BitVec 1 := Scalar.cmpi .eq v114 c3_i32_105
  let c2_i32_104 : BitVec 32 := 2#32
  let v121 : BitVec 1 := Scalar.cmpi .eq v114 c2_i32_104
  let c1_i32_103 : BitVec 32 := 1#32
  let v119 : BitVec 1 := Scalar.cmpi .eq v114 c1_i32_103
  let c0_i32_100 : BitVec 32 := 0#32
  let v117 : BitVec 1 := Scalar.cmpi .eq v114 c0_i32_100
  let c0_i32_101 : BitVec 32 := 0#32
  let c0_i32_102 : BitVec 32 := 0#32
  let v118 : BitVec 32 := Scalar.select v117 c0_i32_101 c0_i32_102
  let v120 : BitVec 32 := Scalar.select v119 v99 v118
  let v122 : BitVec 32 := Scalar.select v121 v101 v120
  let v124 : BitVec 32 := Scalar.select v123 v103 v122
  let v126 : BitVec 32 := Scalar.select v125 v105 v124
  let v128 : BitVec 32 := Scalar.select v127 v107 v126
  let v130 : BitVec 32 := Scalar.select v129 v109 v128
  let v132 : BitVec 32 := Scalar.select v131 v111 v130
  let c0_i32_112 : BitVec 32 := 0#32
  let c1_i32_113 : BitVec 32 := 1#32
  let arg17 : BitVec 32 := Scf.iv c0_i32_112 c1_i32_113 k0_t1
  let c8_i32_600 : BitVec 32 := 8#32
  let v711 : BitVec 32 := Scalar.muli arg17 c8_i32_600
  let c0_i32_601 : BitVec 32 := 0#32
  let v712 : BitVec 32 := Scalar.addi v711 c0_i32_601
  let c1_i32_110 : BitVec 32 := 1#32
  let v133 : BitVec 32 := Scalar.subi v116 c1_i32_110
  let c0_i32_111 : BitVec 32 := 0#32
  let v134 : BitVec 32 := Scalar.maxsi v133 c0_i32_111
  let v713 : BitVec 32 := Scalar.minsi v712 v134
  let v714 : BitVec 32 := Scalar.addi v132 v713
  let c4095_i32 : BitVec 32 := 4095#32
  let v715 : BitVec 32 := Scalar.minsi v714 c4095_i32
  let v716 : Index := Scalar.indexCast v715
  ![v716.toNat]

def k0_off3 (v717 : BitVec 32) : Fin 3 → Nat :=
  let c8_i32_602 : BitVec 32 := 8#32
  let v718 : BitVec 32 := Scalar.divsi v717 c8_i32_602
  let v719 : Index := Scalar.indexCast v718
  let c0_603 : Index := 0#32
  let c0_604 : Index := 0#32
  ![v719.toNat, 0, 0]

def k0_chk2 (v717 : BitVec 32) : Prop :=
  (∀ a, (k0_off3 v717) a + S1x8x1024.size a ≤ S512x8x1024.size a)
theorem k0_off3_inb : ∀ (v717 : BitVec 32) (k0_hw2 : k0_chk2 v717), ∀ a, (k0_off3 v717) a + S1x8x1024.size a ≤ S512x8x1024.size a := fun v717 k0_hw2 => k0_hw2

def k0_off4 (d0 : Dev nD) (v98 : BitVec 32) (v100 : BitVec 32) (v102 : BitVec 32) (v104 : BitVec 32) (v106 : BitVec 32) (v108 : BitVec 32) (v110 : BitVec 32) (v116 : BitVec 32) (k0_t1 : Fin k0_t1_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_96 : BitVec 32 := 1#32
  let v112 : BitVec 32 := Scalar.addi v2 c1_i32_96
  let c0_i32_97 : BitVec 32 := 0#32
  let v113 : BitVec 32 := Scalar.addi v112 c0_i32_97
  let c8_i32_98 : BitVec 32 := 8#32
  let v114 : BitVec 32 := Scalar.remsi v113 c8_i32_98
  let c7_i32_109 : BitVec 32 := 7#32
  let v131 : BitVec 1 := Scalar.cmpi .eq v114 c7_i32_109
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_108 : BitVec 32 := 6#32
  let v129 : BitVec 1 := Scalar.cmpi .eq v114 c6_i32_108
  let c5_i32_107 : BitVec 32 := 5#32
  let v127 : BitVec 1 := Scalar.cmpi .eq v114 c5_i32_107
  let c4_i32_106 : BitVec 32 := 4#32
  let v125 : BitVec 1 := Scalar.cmpi .eq v114 c4_i32_106
  let c3_i32_105 : BitVec 32 := 3#32
  let v123 : BitVec 1 := Scalar.cmpi .eq v114 c3_i32_105
  let c2_i32_104 : BitVec 32 := 2#32
  let v121 : BitVec 1 := Scalar.cmpi .eq v114 c2_i32_104
  let c1_i32_103 : BitVec 32 := 1#32
  let v119 : BitVec 1 := Scalar.cmpi .eq v114 c1_i32_103
  let c0_i32_100 : BitVec 32 := 0#32
  let v117 : BitVec 1 := Scalar.cmpi .eq v114 c0_i32_100
  let c0_i32_101 : BitVec 32 := 0#32
  let c0_i32_102 : BitVec 32 := 0#32
  let v118 : BitVec 32 := Scalar.select v117 c0_i32_101 c0_i32_102
  let v120 : BitVec 32 := Scalar.select v119 v99 v118
  let v122 : BitVec 32 := Scalar.select v121 v101 v120
  let v124 : BitVec 32 := Scalar.select v123 v103 v122
  let v126 : BitVec 32 := Scalar.select v125 v105 v124
  let v128 : BitVec 32 := Scalar.select v127 v107 v126
  let v130 : BitVec 32 := Scalar.select v129 v109 v128
  let v132 : BitVec 32 := Scalar.select v131 v111 v130
  let c0_i32_112 : BitVec 32 := 0#32
  let c1_i32_113 : BitVec 32 := 1#32
  let arg17 : BitVec 32 := Scf.iv c0_i32_112 c1_i32_113 k0_t1
  let c8_i32_610 : BitVec 32 := 8#32
  let v730 : BitVec 32 := Scalar.muli arg17 c8_i32_610
  let c1_i32_611 : BitVec 32 := 1#32
  let v731 : BitVec 32 := Scalar.addi v730 c1_i32_611
  let c1_i32_110 : BitVec 32 := 1#32
  let v133 : BitVec 32 := Scalar.subi v116 c1_i32_110
  let c0_i32_111 : BitVec 32 := 0#32
  let v134 : BitVec 32 := Scalar.maxsi v133 c0_i32_111
  let v732 : BitVec 32 := Scalar.minsi v731 v134
  let v733 : BitVec 32 := Scalar.addi v132 v732
  let c4095_i32_612 : BitVec 32 := 4095#32
  let v734 : BitVec 32 := Scalar.minsi v733 c4095_i32_612
  let v735 : Index := Scalar.indexCast v734
  ![v735.toNat]
def k0_off5 (v736 : BitVec 32) : Fin 3 → Nat :=
  let c8_i32_613 : BitVec 32 := 8#32
  let v737 : BitVec 32 := Scalar.divsi v736 c8_i32_613
  let v738 : Index := Scalar.indexCast v737
  let c0_614 : Index := 0#32
  let c0_615 : Index := 0#32
  ![v738.toNat, 0, 0]

def k0_chk3 (v736 : BitVec 32) : Prop :=
  (∀ a, (k0_off5 v736) a + S1x8x1024.size a ≤ S512x8x1024.size a)
theorem k0_off5_inb : ∀ (v736 : BitVec 32) (k0_hw3 : k0_chk3 v736), ∀ a, (k0_off5 v736) a + S1x8x1024.size a ≤ S512x8x1024.size a := fun v736 k0_hw3 => k0_hw3

def k0_off6 (d0 : Dev nD) (v98 : BitVec 32) (v100 : BitVec 32) (v102 : BitVec 32) (v104 : BitVec 32) (v106 : BitVec 32) (v108 : BitVec 32) (v110 : BitVec 32) (v116 : BitVec 32) (k0_t1 : Fin k0_t1_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_96 : BitVec 32 := 1#32
  let v112 : BitVec 32 := Scalar.addi v2 c1_i32_96
  let c0_i32_97 : BitVec 32 := 0#32
  let v113 : BitVec 32 := Scalar.addi v112 c0_i32_97
  let c8_i32_98 : BitVec 32 := 8#32
  let v114 : BitVec 32 := Scalar.remsi v113 c8_i32_98
  let c7_i32_109 : BitVec 32 := 7#32
  let v131 : BitVec 1 := Scalar.cmpi .eq v114 c7_i32_109
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_108 : BitVec 32 := 6#32
  let v129 : BitVec 1 := Scalar.cmpi .eq v114 c6_i32_108
  let c5_i32_107 : BitVec 32 := 5#32
  let v127 : BitVec 1 := Scalar.cmpi .eq v114 c5_i32_107
  let c4_i32_106 : BitVec 32 := 4#32
  let v125 : BitVec 1 := Scalar.cmpi .eq v114 c4_i32_106
  let c3_i32_105 : BitVec 32 := 3#32
  let v123 : BitVec 1 := Scalar.cmpi .eq v114 c3_i32_105
  let c2_i32_104 : BitVec 32 := 2#32
  let v121 : BitVec 1 := Scalar.cmpi .eq v114 c2_i32_104
  let c1_i32_103 : BitVec 32 := 1#32
  let v119 : BitVec 1 := Scalar.cmpi .eq v114 c1_i32_103
  let c0_i32_100 : BitVec 32 := 0#32
  let v117 : BitVec 1 := Scalar.cmpi .eq v114 c0_i32_100
  let c0_i32_101 : BitVec 32 := 0#32
  let c0_i32_102 : BitVec 32 := 0#32
  let v118 : BitVec 32 := Scalar.select v117 c0_i32_101 c0_i32_102
  let v120 : BitVec 32 := Scalar.select v119 v99 v118
  let v122 : BitVec 32 := Scalar.select v121 v101 v120
  let v124 : BitVec 32 := Scalar.select v123 v103 v122
  let v126 : BitVec 32 := Scalar.select v125 v105 v124
  let v128 : BitVec 32 := Scalar.select v127 v107 v126
  let v130 : BitVec 32 := Scalar.select v129 v109 v128
  let v132 : BitVec 32 := Scalar.select v131 v111 v130
  let c0_i32_112 : BitVec 32 := 0#32
  let c1_i32_113 : BitVec 32 := 1#32
  let arg17 : BitVec 32 := Scf.iv c0_i32_112 c1_i32_113 k0_t1
  let c8_i32_621 : BitVec 32 := 8#32
  let v749 : BitVec 32 := Scalar.muli arg17 c8_i32_621
  let c2_i32_622 : BitVec 32 := 2#32
  let v750 : BitVec 32 := Scalar.addi v749 c2_i32_622
  let c1_i32_110 : BitVec 32 := 1#32
  let v133 : BitVec 32 := Scalar.subi v116 c1_i32_110
  let c0_i32_111 : BitVec 32 := 0#32
  let v134 : BitVec 32 := Scalar.maxsi v133 c0_i32_111
  let v751 : BitVec 32 := Scalar.minsi v750 v134
  let v752 : BitVec 32 := Scalar.addi v132 v751
  let c4095_i32_623 : BitVec 32 := 4095#32
  let v753 : BitVec 32 := Scalar.minsi v752 c4095_i32_623
  let v754 : Index := Scalar.indexCast v753
  ![v754.toNat]
def k0_off7 (v755 : BitVec 32) : Fin 3 → Nat :=
  let c8_i32_624 : BitVec 32 := 8#32
  let v756 : BitVec 32 := Scalar.divsi v755 c8_i32_624
  let v757 : Index := Scalar.indexCast v756
  let c0_625 : Index := 0#32
  let c0_626 : Index := 0#32
  ![v757.toNat, 0, 0]

def k0_chk4 (v755 : BitVec 32) : Prop :=
  (∀ a, (k0_off7 v755) a + S1x8x1024.size a ≤ S512x8x1024.size a)
theorem k0_off7_inb : ∀ (v755 : BitVec 32) (k0_hw4 : k0_chk4 v755), ∀ a, (k0_off7 v755) a + S1x8x1024.size a ≤ S512x8x1024.size a := fun v755 k0_hw4 => k0_hw4

def k0_off8 (d0 : Dev nD) (v98 : BitVec 32) (v100 : BitVec 32) (v102 : BitVec 32) (v104 : BitVec 32) (v106 : BitVec 32) (v108 : BitVec 32) (v110 : BitVec 32) (v116 : BitVec 32) (k0_t1 : Fin k0_t1_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_96 : BitVec 32 := 1#32
  let v112 : BitVec 32 := Scalar.addi v2 c1_i32_96
  let c0_i32_97 : BitVec 32 := 0#32
  let v113 : BitVec 32 := Scalar.addi v112 c0_i32_97
  let c8_i32_98 : BitVec 32 := 8#32
  let v114 : BitVec 32 := Scalar.remsi v113 c8_i32_98
  let c7_i32_109 : BitVec 32 := 7#32
  let v131 : BitVec 1 := Scalar.cmpi .eq v114 c7_i32_109
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_108 : BitVec 32 := 6#32
  let v129 : BitVec 1 := Scalar.cmpi .eq v114 c6_i32_108
  let c5_i32_107 : BitVec 32 := 5#32
  let v127 : BitVec 1 := Scalar.cmpi .eq v114 c5_i32_107
  let c4_i32_106 : BitVec 32 := 4#32
  let v125 : BitVec 1 := Scalar.cmpi .eq v114 c4_i32_106
  let c3_i32_105 : BitVec 32 := 3#32
  let v123 : BitVec 1 := Scalar.cmpi .eq v114 c3_i32_105
  let c2_i32_104 : BitVec 32 := 2#32
  let v121 : BitVec 1 := Scalar.cmpi .eq v114 c2_i32_104
  let c1_i32_103 : BitVec 32 := 1#32
  let v119 : BitVec 1 := Scalar.cmpi .eq v114 c1_i32_103
  let c0_i32_100 : BitVec 32 := 0#32
  let v117 : BitVec 1 := Scalar.cmpi .eq v114 c0_i32_100
  let c0_i32_101 : BitVec 32 := 0#32
  let c0_i32_102 : BitVec 32 := 0#32
  let v118 : BitVec 32 := Scalar.select v117 c0_i32_101 c0_i32_102
  let v120 : BitVec 32 := Scalar.select v119 v99 v118
  let v122 : BitVec 32 := Scalar.select v121 v101 v120
  let v124 : BitVec 32 := Scalar.select v123 v103 v122
  let v126 : BitVec 32 := Scalar.select v125 v105 v124
  let v128 : BitVec 32 := Scalar.select v127 v107 v126
  let v130 : BitVec 32 := Scalar.select v129 v109 v128
  let v132 : BitVec 32 := Scalar.select v131 v111 v130
  let c0_i32_112 : BitVec 32 := 0#32
  let c1_i32_113 : BitVec 32 := 1#32
  let arg17 : BitVec 32 := Scf.iv c0_i32_112 c1_i32_113 k0_t1
  let c8_i32_632 : BitVec 32 := 8#32
  let v768 : BitVec 32 := Scalar.muli arg17 c8_i32_632
  let c3_i32_633 : BitVec 32 := 3#32
  let v769 : BitVec 32 := Scalar.addi v768 c3_i32_633
  let c1_i32_110 : BitVec 32 := 1#32
  let v133 : BitVec 32 := Scalar.subi v116 c1_i32_110
  let c0_i32_111 : BitVec 32 := 0#32
  let v134 : BitVec 32 := Scalar.maxsi v133 c0_i32_111
  let v770 : BitVec 32 := Scalar.minsi v769 v134
  let v771 : BitVec 32 := Scalar.addi v132 v770
  let c4095_i32_634 : BitVec 32 := 4095#32
  let v772 : BitVec 32 := Scalar.minsi v771 c4095_i32_634
  let v773 : Index := Scalar.indexCast v772
  ![v773.toNat]
def k0_off9 (v774 : BitVec 32) : Fin 3 → Nat :=
  let c8_i32_635 : BitVec 32 := 8#32
  let v775 : BitVec 32 := Scalar.divsi v774 c8_i32_635
  let v776 : Index := Scalar.indexCast v775
  let c0_636 : Index := 0#32
  let c0_637 : Index := 0#32
  ![v776.toNat, 0, 0]

def k0_chk5 (v774 : BitVec 32) : Prop :=
  (∀ a, (k0_off9 v774) a + S1x8x1024.size a ≤ S512x8x1024.size a)
theorem k0_off9_inb : ∀ (v774 : BitVec 32) (k0_hw5 : k0_chk5 v774), ∀ a, (k0_off9 v774) a + S1x8x1024.size a ≤ S512x8x1024.size a := fun v774 k0_hw5 => k0_hw5

def k0_off10 (d0 : Dev nD) (v98 : BitVec 32) (v100 : BitVec 32) (v102 : BitVec 32) (v104 : BitVec 32) (v106 : BitVec 32) (v108 : BitVec 32) (v110 : BitVec 32) (v116 : BitVec 32) (k0_t1 : Fin k0_t1_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_96 : BitVec 32 := 1#32
  let v112 : BitVec 32 := Scalar.addi v2 c1_i32_96
  let c0_i32_97 : BitVec 32 := 0#32
  let v113 : BitVec 32 := Scalar.addi v112 c0_i32_97
  let c8_i32_98 : BitVec 32 := 8#32
  let v114 : BitVec 32 := Scalar.remsi v113 c8_i32_98
  let c7_i32_109 : BitVec 32 := 7#32
  let v131 : BitVec 1 := Scalar.cmpi .eq v114 c7_i32_109
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_108 : BitVec 32 := 6#32
  let v129 : BitVec 1 := Scalar.cmpi .eq v114 c6_i32_108
  let c5_i32_107 : BitVec 32 := 5#32
  let v127 : BitVec 1 := Scalar.cmpi .eq v114 c5_i32_107
  let c4_i32_106 : BitVec 32 := 4#32
  let v125 : BitVec 1 := Scalar.cmpi .eq v114 c4_i32_106
  let c3_i32_105 : BitVec 32 := 3#32
  let v123 : BitVec 1 := Scalar.cmpi .eq v114 c3_i32_105
  let c2_i32_104 : BitVec 32 := 2#32
  let v121 : BitVec 1 := Scalar.cmpi .eq v114 c2_i32_104
  let c1_i32_103 : BitVec 32 := 1#32
  let v119 : BitVec 1 := Scalar.cmpi .eq v114 c1_i32_103
  let c0_i32_100 : BitVec 32 := 0#32
  let v117 : BitVec 1 := Scalar.cmpi .eq v114 c0_i32_100
  let c0_i32_101 : BitVec 32 := 0#32
  let c0_i32_102 : BitVec 32 := 0#32
  let v118 : BitVec 32 := Scalar.select v117 c0_i32_101 c0_i32_102
  let v120 : BitVec 32 := Scalar.select v119 v99 v118
  let v122 : BitVec 32 := Scalar.select v121 v101 v120
  let v124 : BitVec 32 := Scalar.select v123 v103 v122
  let v126 : BitVec 32 := Scalar.select v125 v105 v124
  let v128 : BitVec 32 := Scalar.select v127 v107 v126
  let v130 : BitVec 32 := Scalar.select v129 v109 v128
  let v132 : BitVec 32 := Scalar.select v131 v111 v130
  let c0_i32_112 : BitVec 32 := 0#32
  let c1_i32_113 : BitVec 32 := 1#32
  let arg17 : BitVec 32 := Scf.iv c0_i32_112 c1_i32_113 k0_t1
  let c8_i32_643 : BitVec 32 := 8#32
  let v787 : BitVec 32 := Scalar.muli arg17 c8_i32_643
  let c4_i32_644 : BitVec 32 := 4#32
  let v788 : BitVec 32 := Scalar.addi v787 c4_i32_644
  let c1_i32_110 : BitVec 32 := 1#32
  let v133 : BitVec 32 := Scalar.subi v116 c1_i32_110
  let c0_i32_111 : BitVec 32 := 0#32
  let v134 : BitVec 32 := Scalar.maxsi v133 c0_i32_111
  let v789 : BitVec 32 := Scalar.minsi v788 v134
  let v790 : BitVec 32 := Scalar.addi v132 v789
  let c4095_i32_645 : BitVec 32 := 4095#32
  let v791 : BitVec 32 := Scalar.minsi v790 c4095_i32_645
  let v792 : Index := Scalar.indexCast v791
  ![v792.toNat]
def k0_off11 (v793 : BitVec 32) : Fin 3 → Nat :=
  let c8_i32_646 : BitVec 32 := 8#32
  let v794 : BitVec 32 := Scalar.divsi v793 c8_i32_646
  let v795 : Index := Scalar.indexCast v794
  let c0_647 : Index := 0#32
  let c0_648 : Index := 0#32
  ![v795.toNat, 0, 0]

def k0_chk6 (v793 : BitVec 32) : Prop :=
  (∀ a, (k0_off11 v793) a + S1x8x1024.size a ≤ S512x8x1024.size a)
theorem k0_off11_inb : ∀ (v793 : BitVec 32) (k0_hw6 : k0_chk6 v793), ∀ a, (k0_off11 v793) a + S1x8x1024.size a ≤ S512x8x1024.size a := fun v793 k0_hw6 => k0_hw6

def k0_off12 (d0 : Dev nD) (v98 : BitVec 32) (v100 : BitVec 32) (v102 : BitVec 32) (v104 : BitVec 32) (v106 : BitVec 32) (v108 : BitVec 32) (v110 : BitVec 32) (v116 : BitVec 32) (k0_t1 : Fin k0_t1_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_96 : BitVec 32 := 1#32
  let v112 : BitVec 32 := Scalar.addi v2 c1_i32_96
  let c0_i32_97 : BitVec 32 := 0#32
  let v113 : BitVec 32 := Scalar.addi v112 c0_i32_97
  let c8_i32_98 : BitVec 32 := 8#32
  let v114 : BitVec 32 := Scalar.remsi v113 c8_i32_98
  let c7_i32_109 : BitVec 32 := 7#32
  let v131 : BitVec 1 := Scalar.cmpi .eq v114 c7_i32_109
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_108 : BitVec 32 := 6#32
  let v129 : BitVec 1 := Scalar.cmpi .eq v114 c6_i32_108
  let c5_i32_107 : BitVec 32 := 5#32
  let v127 : BitVec 1 := Scalar.cmpi .eq v114 c5_i32_107
  let c4_i32_106 : BitVec 32 := 4#32
  let v125 : BitVec 1 := Scalar.cmpi .eq v114 c4_i32_106
  let c3_i32_105 : BitVec 32 := 3#32
  let v123 : BitVec 1 := Scalar.cmpi .eq v114 c3_i32_105
  let c2_i32_104 : BitVec 32 := 2#32
  let v121 : BitVec 1 := Scalar.cmpi .eq v114 c2_i32_104
  let c1_i32_103 : BitVec 32 := 1#32
  let v119 : BitVec 1 := Scalar.cmpi .eq v114 c1_i32_103
  let c0_i32_100 : BitVec 32 := 0#32
  let v117 : BitVec 1 := Scalar.cmpi .eq v114 c0_i32_100
  let c0_i32_101 : BitVec 32 := 0#32
  let c0_i32_102 : BitVec 32 := 0#32
  let v118 : BitVec 32 := Scalar.select v117 c0_i32_101 c0_i32_102
  let v120 : BitVec 32 := Scalar.select v119 v99 v118
  let v122 : BitVec 32 := Scalar.select v121 v101 v120
  let v124 : BitVec 32 := Scalar.select v123 v103 v122
  let v126 : BitVec 32 := Scalar.select v125 v105 v124
  let v128 : BitVec 32 := Scalar.select v127 v107 v126
  let v130 : BitVec 32 := Scalar.select v129 v109 v128
  let v132 : BitVec 32 := Scalar.select v131 v111 v130
  let c0_i32_112 : BitVec 32 := 0#32
  let c1_i32_113 : BitVec 32 := 1#32
  let arg17 : BitVec 32 := Scf.iv c0_i32_112 c1_i32_113 k0_t1
  let c8_i32_654 : BitVec 32 := 8#32
  let v806 : BitVec 32 := Scalar.muli arg17 c8_i32_654
  let c5_i32_655 : BitVec 32 := 5#32
  let v807 : BitVec 32 := Scalar.addi v806 c5_i32_655
  let c1_i32_110 : BitVec 32 := 1#32
  let v133 : BitVec 32 := Scalar.subi v116 c1_i32_110
  let c0_i32_111 : BitVec 32 := 0#32
  let v134 : BitVec 32 := Scalar.maxsi v133 c0_i32_111
  let v808 : BitVec 32 := Scalar.minsi v807 v134
  let v809 : BitVec 32 := Scalar.addi v132 v808
  let c4095_i32_656 : BitVec 32 := 4095#32
  let v810 : BitVec 32 := Scalar.minsi v809 c4095_i32_656
  let v811 : Index := Scalar.indexCast v810
  ![v811.toNat]
def k0_off13 (v812 : BitVec 32) : Fin 3 → Nat :=
  let c8_i32_657 : BitVec 32 := 8#32
  let v813 : BitVec 32 := Scalar.divsi v812 c8_i32_657
  let v814 : Index := Scalar.indexCast v813
  let c0_658 : Index := 0#32
  let c0_659 : Index := 0#32
  ![v814.toNat, 0, 0]

def k0_chk7 (v812 : BitVec 32) : Prop :=
  (∀ a, (k0_off13 v812) a + S1x8x1024.size a ≤ S512x8x1024.size a)
theorem k0_off13_inb : ∀ (v812 : BitVec 32) (k0_hw7 : k0_chk7 v812), ∀ a, (k0_off13 v812) a + S1x8x1024.size a ≤ S512x8x1024.size a := fun v812 k0_hw7 => k0_hw7

def k0_off14 (d0 : Dev nD) (v98 : BitVec 32) (v100 : BitVec 32) (v102 : BitVec 32) (v104 : BitVec 32) (v106 : BitVec 32) (v108 : BitVec 32) (v110 : BitVec 32) (v116 : BitVec 32) (k0_t1 : Fin k0_t1_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_96 : BitVec 32 := 1#32
  let v112 : BitVec 32 := Scalar.addi v2 c1_i32_96
  let c0_i32_97 : BitVec 32 := 0#32
  let v113 : BitVec 32 := Scalar.addi v112 c0_i32_97
  let c8_i32_98 : BitVec 32 := 8#32
  let v114 : BitVec 32 := Scalar.remsi v113 c8_i32_98
  let c7_i32_109 : BitVec 32 := 7#32
  let v131 : BitVec 1 := Scalar.cmpi .eq v114 c7_i32_109
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_108 : BitVec 32 := 6#32
  let v129 : BitVec 1 := Scalar.cmpi .eq v114 c6_i32_108
  let c5_i32_107 : BitVec 32 := 5#32
  let v127 : BitVec 1 := Scalar.cmpi .eq v114 c5_i32_107
  let c4_i32_106 : BitVec 32 := 4#32
  let v125 : BitVec 1 := Scalar.cmpi .eq v114 c4_i32_106
  let c3_i32_105 : BitVec 32 := 3#32
  let v123 : BitVec 1 := Scalar.cmpi .eq v114 c3_i32_105
  let c2_i32_104 : BitVec 32 := 2#32
  let v121 : BitVec 1 := Scalar.cmpi .eq v114 c2_i32_104
  let c1_i32_103 : BitVec 32 := 1#32
  let v119 : BitVec 1 := Scalar.cmpi .eq v114 c1_i32_103
  let c0_i32_100 : BitVec 32 := 0#32
  let v117 : BitVec 1 := Scalar.cmpi .eq v114 c0_i32_100
  let c0_i32_101 : BitVec 32 := 0#32
  let c0_i32_102 : BitVec 32 := 0#32
  let v118 : BitVec 32 := Scalar.select v117 c0_i32_101 c0_i32_102
  let v120 : BitVec 32 := Scalar.select v119 v99 v118
  let v122 : BitVec 32 := Scalar.select v121 v101 v120
  let v124 : BitVec 32 := Scalar.select v123 v103 v122
  let v126 : BitVec 32 := Scalar.select v125 v105 v124
  let v128 : BitVec 32 := Scalar.select v127 v107 v126
  let v130 : BitVec 32 := Scalar.select v129 v109 v128
  let v132 : BitVec 32 := Scalar.select v131 v111 v130
  let c0_i32_112 : BitVec 32 := 0#32
  let c1_i32_113 : BitVec 32 := 1#32
  let arg17 : BitVec 32 := Scf.iv c0_i32_112 c1_i32_113 k0_t1
  let c8_i32_665 : BitVec 32 := 8#32
  let v825 : BitVec 32 := Scalar.muli arg17 c8_i32_665
  let c6_i32_666 : BitVec 32 := 6#32
  let v826 : BitVec 32 := Scalar.addi v825 c6_i32_666
  let c1_i32_110 : BitVec 32 := 1#32
  let v133 : BitVec 32 := Scalar.subi v116 c1_i32_110
  let c0_i32_111 : BitVec 32 := 0#32
  let v134 : BitVec 32 := Scalar.maxsi v133 c0_i32_111
  let v827 : BitVec 32 := Scalar.minsi v826 v134
  let v828 : BitVec 32 := Scalar.addi v132 v827
  let c4095_i32_667 : BitVec 32 := 4095#32
  let v829 : BitVec 32 := Scalar.minsi v828 c4095_i32_667
  let v830 : Index := Scalar.indexCast v829
  ![v830.toNat]
def k0_off15 (v831 : BitVec 32) : Fin 3 → Nat :=
  let c8_i32_668 : BitVec 32 := 8#32
  let v832 : BitVec 32 := Scalar.divsi v831 c8_i32_668
  let v833 : Index := Scalar.indexCast v832
  let c0_669 : Index := 0#32
  let c0_670 : Index := 0#32
  ![v833.toNat, 0, 0]

def k0_chk8 (v831 : BitVec 32) : Prop :=
  (∀ a, (k0_off15 v831) a + S1x8x1024.size a ≤ S512x8x1024.size a)
theorem k0_off15_inb : ∀ (v831 : BitVec 32) (k0_hw8 : k0_chk8 v831), ∀ a, (k0_off15 v831) a + S1x8x1024.size a ≤ S512x8x1024.size a := fun v831 k0_hw8 => k0_hw8

def k0_off16 (d0 : Dev nD) (v98 : BitVec 32) (v100 : BitVec 32) (v102 : BitVec 32) (v104 : BitVec 32) (v106 : BitVec 32) (v108 : BitVec 32) (v110 : BitVec 32) (v116 : BitVec 32) (k0_t1 : Fin k0_t1_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_96 : BitVec 32 := 1#32
  let v112 : BitVec 32 := Scalar.addi v2 c1_i32_96
  let c0_i32_97 : BitVec 32 := 0#32
  let v113 : BitVec 32 := Scalar.addi v112 c0_i32_97
  let c8_i32_98 : BitVec 32 := 8#32
  let v114 : BitVec 32 := Scalar.remsi v113 c8_i32_98
  let c7_i32_109 : BitVec 32 := 7#32
  let v131 : BitVec 1 := Scalar.cmpi .eq v114 c7_i32_109
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_108 : BitVec 32 := 6#32
  let v129 : BitVec 1 := Scalar.cmpi .eq v114 c6_i32_108
  let c5_i32_107 : BitVec 32 := 5#32
  let v127 : BitVec 1 := Scalar.cmpi .eq v114 c5_i32_107
  let c4_i32_106 : BitVec 32 := 4#32
  let v125 : BitVec 1 := Scalar.cmpi .eq v114 c4_i32_106
  let c3_i32_105 : BitVec 32 := 3#32
  let v123 : BitVec 1 := Scalar.cmpi .eq v114 c3_i32_105
  let c2_i32_104 : BitVec 32 := 2#32
  let v121 : BitVec 1 := Scalar.cmpi .eq v114 c2_i32_104
  let c1_i32_103 : BitVec 32 := 1#32
  let v119 : BitVec 1 := Scalar.cmpi .eq v114 c1_i32_103
  let c0_i32_100 : BitVec 32 := 0#32
  let v117 : BitVec 1 := Scalar.cmpi .eq v114 c0_i32_100
  let c0_i32_101 : BitVec 32 := 0#32
  let c0_i32_102 : BitVec 32 := 0#32
  let v118 : BitVec 32 := Scalar.select v117 c0_i32_101 c0_i32_102
  let v120 : BitVec 32 := Scalar.select v119 v99 v118
  let v122 : BitVec 32 := Scalar.select v121 v101 v120
  let v124 : BitVec 32 := Scalar.select v123 v103 v122
  let v126 : BitVec 32 := Scalar.select v125 v105 v124
  let v128 : BitVec 32 := Scalar.select v127 v107 v126
  let v130 : BitVec 32 := Scalar.select v129 v109 v128
  let v132 : BitVec 32 := Scalar.select v131 v111 v130
  let c0_i32_112 : BitVec 32 := 0#32
  let c1_i32_113 : BitVec 32 := 1#32
  let arg17 : BitVec 32 := Scf.iv c0_i32_112 c1_i32_113 k0_t1
  let c8_i32_676 : BitVec 32 := 8#32
  let v844 : BitVec 32 := Scalar.muli arg17 c8_i32_676
  let c7_i32_677 : BitVec 32 := 7#32
  let v845 : BitVec 32 := Scalar.addi v844 c7_i32_677
  let c1_i32_110 : BitVec 32 := 1#32
  let v133 : BitVec 32 := Scalar.subi v116 c1_i32_110
  let c0_i32_111 : BitVec 32 := 0#32
  let v134 : BitVec 32 := Scalar.maxsi v133 c0_i32_111
  let v846 : BitVec 32 := Scalar.minsi v845 v134
  let v847 : BitVec 32 := Scalar.addi v132 v846
  let c4095_i32_678 : BitVec 32 := 4095#32
  let v848 : BitVec 32 := Scalar.minsi v847 c4095_i32_678
  let v849 : Index := Scalar.indexCast v848
  ![v849.toNat]

def k0_chk1 (d0 : Dev nD) (v98 : BitVec 32) (v100 : BitVec 32) (v102 : BitVec 32) (v104 : BitVec 32) (v106 : BitVec 32) (v108 : BitVec 32) (v110 : BitVec 32) (v116 : BitVec 32) : Prop :=
  (∀ k0_t1 : Fin k0_t1_loop.trips, ∀ a, (k0_off2 d0 v98 v100 v102 v104 v106 v108 v110 v116 k0_t1) a + S1.size a ≤ S4096.size a) ∧
  (∀ k0_t1 : Fin k0_t1_loop.trips, ∀ a, (k0_off4 d0 v98 v100 v102 v104 v106 v108 v110 v116 k0_t1) a + S1.size a ≤ S4096.size a) ∧
  (∀ k0_t1 : Fin k0_t1_loop.trips, ∀ a, (k0_off6 d0 v98 v100 v102 v104 v106 v108 v110 v116 k0_t1) a + S1.size a ≤ S4096.size a) ∧
  (∀ k0_t1 : Fin k0_t1_loop.trips, ∀ a, (k0_off8 d0 v98 v100 v102 v104 v106 v108 v110 v116 k0_t1) a + S1.size a ≤ S4096.size a) ∧
  (∀ k0_t1 : Fin k0_t1_loop.trips, ∀ a, (k0_off10 d0 v98 v100 v102 v104 v106 v108 v110 v116 k0_t1) a + S1.size a ≤ S4096.size a) ∧
  (∀ k0_t1 : Fin k0_t1_loop.trips, ∀ a, (k0_off12 d0 v98 v100 v102 v104 v106 v108 v110 v116 k0_t1) a + S1.size a ≤ S4096.size a) ∧
  (∀ k0_t1 : Fin k0_t1_loop.trips, ∀ a, (k0_off14 d0 v98 v100 v102 v104 v106 v108 v110 v116 k0_t1) a + S1.size a ≤ S4096.size a) ∧
  (∀ k0_t1 : Fin k0_t1_loop.trips, ∀ a, (k0_off16 d0 v98 v100 v102 v104 v106 v108 v110 v116 k0_t1) a + S1.size a ≤ S4096.size a)
theorem k0_off2_inb : ∀ (d0 : Dev nD) (v98 : BitVec 32) (v100 : BitVec 32) (v102 : BitVec 32) (v104 : BitVec 32) (v106 : BitVec 32) (v108 : BitVec 32) (v110 : BitVec 32) (v116 : BitVec 32) (k0_hw1 : k0_chk1 d0 v98 v100 v102 v104 v106 v108 v110 v116) (k0_t1 : Fin k0_t1_loop.trips), ∀ a, (k0_off2 d0 v98 v100 v102 v104 v106 v108 v110 v116 k0_t1) a + S1.size a ≤ S4096.size a := fun d0 v98 v100 v102 v104 v106 v108 v110 v116 k0_hw1 k0_t1 => k0_hw1.1 k0_t1
theorem k0_off4_inb : ∀ (d0 : Dev nD) (v98 : BitVec 32) (v100 : BitVec 32) (v102 : BitVec 32) (v104 : BitVec 32) (v106 : BitVec 32) (v108 : BitVec 32) (v110 : BitVec 32) (v116 : BitVec 32) (k0_hw1 : k0_chk1 d0 v98 v100 v102 v104 v106 v108 v110 v116) (k0_t1 : Fin k0_t1_loop.trips), ∀ a, (k0_off4 d0 v98 v100 v102 v104 v106 v108 v110 v116 k0_t1) a + S1.size a ≤ S4096.size a := fun d0 v98 v100 v102 v104 v106 v108 v110 v116 k0_hw1 k0_t1 => k0_hw1.2.1 k0_t1
theorem k0_off6_inb : ∀ (d0 : Dev nD) (v98 : BitVec 32) (v100 : BitVec 32) (v102 : BitVec 32) (v104 : BitVec 32) (v106 : BitVec 32) (v108 : BitVec 32) (v110 : BitVec 32) (v116 : BitVec 32) (k0_hw1 : k0_chk1 d0 v98 v100 v102 v104 v106 v108 v110 v116) (k0_t1 : Fin k0_t1_loop.trips), ∀ a, (k0_off6 d0 v98 v100 v102 v104 v106 v108 v110 v116 k0_t1) a + S1.size a ≤ S4096.size a := fun d0 v98 v100 v102 v104 v106 v108 v110 v116 k0_hw1 k0_t1 => k0_hw1.2.2.1 k0_t1
theorem k0_off8_inb : ∀ (d0 : Dev nD) (v98 : BitVec 32) (v100 : BitVec 32) (v102 : BitVec 32) (v104 : BitVec 32) (v106 : BitVec 32) (v108 : BitVec 32) (v110 : BitVec 32) (v116 : BitVec 32) (k0_hw1 : k0_chk1 d0 v98 v100 v102 v104 v106 v108 v110 v116) (k0_t1 : Fin k0_t1_loop.trips), ∀ a, (k0_off8 d0 v98 v100 v102 v104 v106 v108 v110 v116 k0_t1) a + S1.size a ≤ S4096.size a := fun d0 v98 v100 v102 v104 v106 v108 v110 v116 k0_hw1 k0_t1 => k0_hw1.2.2.2.1 k0_t1
theorem k0_off10_inb : ∀ (d0 : Dev nD) (v98 : BitVec 32) (v100 : BitVec 32) (v102 : BitVec 32) (v104 : BitVec 32) (v106 : BitVec 32) (v108 : BitVec 32) (v110 : BitVec 32) (v116 : BitVec 32) (k0_hw1 : k0_chk1 d0 v98 v100 v102 v104 v106 v108 v110 v116) (k0_t1 : Fin k0_t1_loop.trips), ∀ a, (k0_off10 d0 v98 v100 v102 v104 v106 v108 v110 v116 k0_t1) a + S1.size a ≤ S4096.size a := fun d0 v98 v100 v102 v104 v106 v108 v110 v116 k0_hw1 k0_t1 => k0_hw1.2.2.2.2.1 k0_t1
theorem k0_off12_inb : ∀ (d0 : Dev nD) (v98 : BitVec 32) (v100 : BitVec 32) (v102 : BitVec 32) (v104 : BitVec 32) (v106 : BitVec 32) (v108 : BitVec 32) (v110 : BitVec 32) (v116 : BitVec 32) (k0_hw1 : k0_chk1 d0 v98 v100 v102 v104 v106 v108 v110 v116) (k0_t1 : Fin k0_t1_loop.trips), ∀ a, (k0_off12 d0 v98 v100 v102 v104 v106 v108 v110 v116 k0_t1) a + S1.size a ≤ S4096.size a := fun d0 v98 v100 v102 v104 v106 v108 v110 v116 k0_hw1 k0_t1 => k0_hw1.2.2.2.2.2.1 k0_t1
theorem k0_off14_inb : ∀ (d0 : Dev nD) (v98 : BitVec 32) (v100 : BitVec 32) (v102 : BitVec 32) (v104 : BitVec 32) (v106 : BitVec 32) (v108 : BitVec 32) (v110 : BitVec 32) (v116 : BitVec 32) (k0_hw1 : k0_chk1 d0 v98 v100 v102 v104 v106 v108 v110 v116) (k0_t1 : Fin k0_t1_loop.trips), ∀ a, (k0_off14 d0 v98 v100 v102 v104 v106 v108 v110 v116 k0_t1) a + S1.size a ≤ S4096.size a := fun d0 v98 v100 v102 v104 v106 v108 v110 v116 k0_hw1 k0_t1 => k0_hw1.2.2.2.2.2.2.1 k0_t1
theorem k0_off16_inb : ∀ (d0 : Dev nD) (v98 : BitVec 32) (v100 : BitVec 32) (v102 : BitVec 32) (v104 : BitVec 32) (v106 : BitVec 32) (v108 : BitVec 32) (v110 : BitVec 32) (v116 : BitVec 32) (k0_hw1 : k0_chk1 d0 v98 v100 v102 v104 v106 v108 v110 v116) (k0_t1 : Fin k0_t1_loop.trips), ∀ a, (k0_off16 d0 v98 v100 v102 v104 v106 v108 v110 v116 k0_t1) a + S1.size a ≤ S4096.size a := fun d0 v98 v100 v102 v104 v106 v108 v110 v116 k0_hw1 k0_t1 => k0_hw1.2.2.2.2.2.2.2 k0_t1

def k0_off17 (v850 : BitVec 32) : Fin 3 → Nat :=
  let c8_i32_679 : BitVec 32 := 8#32
  let v851 : BitVec 32 := Scalar.divsi v850 c8_i32_679
  let v852 : Index := Scalar.indexCast v851
  let c0_680 : Index := 0#32
  let c0_681 : Index := 0#32
  ![v852.toNat, 0, 0]

def k0_chk9 (v850 : BitVec 32) : Prop :=
  (∀ a, (k0_off17 v850) a + S1x8x1024.size a ≤ S512x8x1024.size a)
theorem k0_off17_inb : ∀ (v850 : BitVec 32) (k0_hw9 : k0_chk9 v850), ∀ a, (k0_off17 v850) a + S1x8x1024.size a ≤ S512x8x1024.size a := fun v850 k0_hw9 => k0_hw9

def k0_off18 (k0_t1 : Fin k0_t1_loop.trips) : Fin 3 → Nat :=
  let c0_i32_687 : BitVec 32 := 0#32
  let c0_i32_112 : BitVec 32 := 0#32
  let c1_i32_113 : BitVec 32 := 1#32
  let arg17 : BitVec 32 := Scf.iv c0_i32_112 c1_i32_113 k0_t1
  let v863 : BitVec 32 := Scalar.addi c0_i32_687 arg17
  let v864 : Index := Scalar.indexCast v863
  let c0_688 : Index := 0#32
  let c0_689 : Index := 0#32
  ![v864.toNat, 0, 0]
def k0_off19 (d0 : Dev nD) : Fin 2 → Nat :=
  let c7_118 : Index := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_115 : BitVec 32 := 1#32
  let v136 : BitVec 32 := Scalar.addi v2 c1_i32_115
  let c1_i32_116 : BitVec 32 := 1#32
  let v137 : BitVec 32 := Scalar.addi v136 c1_i32_116
  let c8_i32_117 : BitVec 32 := 8#32
  let v138 : BitVec 32 := Scalar.remsi v137 c8_i32_117
  let v139 : Index := Scalar.indexCast v138
  ![7, v139.toNat]
@[reducible] def k0_t2_loop : Scf.Loop 32 :=
  let c0_i32_131 : BitVec 32 := 0#32
  let c80_i32_132 : BitVec 32 := 80#32
  let v159 : BitVec 32 := Scalar.addi c0_i32_131 c80_i32_132
  let c1_i32_133 : BitVec 32 := 1#32
  ⟨c0_i32_131, v159, c1_i32_133⟩
def k0_off20 (d0 : Dev nD) (v98 : BitVec 32) (v100 : BitVec 32) (v102 : BitVec 32) (v104 : BitVec 32) (v106 : BitVec 32) (v108 : BitVec 32) (v110 : BitVec 32) (v140 : BitVec 32) (k0_t2 : Fin k0_t2_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_115 : BitVec 32 := 1#32
  let v136 : BitVec 32 := Scalar.addi v2 c1_i32_115
  let c1_i32_116 : BitVec 32 := 1#32
  let v137 : BitVec 32 := Scalar.addi v136 c1_i32_116
  let c8_i32_117 : BitVec 32 := 8#32
  let v138 : BitVec 32 := Scalar.remsi v137 c8_i32_117
  let c7_i32_128 : BitVec 32 := 7#32
  let v155 : BitVec 1 := Scalar.cmpi .eq v138 c7_i32_128
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_127 : BitVec 32 := 6#32
  let v153 : BitVec 1 := Scalar.cmpi .eq v138 c6_i32_127
  let c5_i32_126 : BitVec 32 := 5#32
  let v151 : BitVec 1 := Scalar.cmpi .eq v138 c5_i32_126
  let c4_i32_125 : BitVec 32 := 4#32
  let v149 : BitVec 1 := Scalar.cmpi .eq v138 c4_i32_125
  let c3_i32_124 : BitVec 32 := 3#32
  let v147 : BitVec 1 := Scalar.cmpi .eq v138 c3_i32_124
  let c2_i32_123 : BitVec 32 := 2#32
  let v145 : BitVec 1 := Scalar.cmpi .eq v138 c2_i32_123
  let c1_i32_122 : BitVec 32 := 1#32
  let v143 : BitVec 1 := Scalar.cmpi .eq v138 c1_i32_122
  let c0_i32_119 : BitVec 32 := 0#32
  let v141 : BitVec 1 := Scalar.cmpi .eq v138 c0_i32_119
  let c0_i32_120 : BitVec 32 := 0#32
  let c0_i32_121 : BitVec 32 := 0#32
  let v142 : BitVec 32 := Scalar.select v141 c0_i32_120 c0_i32_121
  let v144 : BitVec 32 := Scalar.select v143 v99 v142
  let v146 : BitVec 32 := Scalar.select v145 v101 v144
  let v148 : BitVec 32 := Scalar.select v147 v103 v146
  let v150 : BitVec 32 := Scalar.select v149 v105 v148
  let v152 : BitVec 32 := Scalar.select v151 v107 v150
  let v154 : BitVec 32 := Scalar.select v153 v109 v152
  let v156 : BitVec 32 := Scalar.select v155 v111 v154
  let c0_i32_131 : BitVec 32 := 0#32
  let c1_i32_133 : BitVec 32 := 1#32
  let arg17 : BitVec 32 := Scf.iv c0_i32_131 c1_i32_133 k0_t2
  let c8_i32_600 : BitVec 32 := 8#32
  let v711 : BitVec 32 := Scalar.muli arg17 c8_i32_600
  let c0_i32_601 : BitVec 32 := 0#32
  let v712 : BitVec 32 := Scalar.addi v711 c0_i32_601
  let c1_i32_129 : BitVec 32 := 1#32
  let v157 : BitVec 32 := Scalar.subi v140 c1_i32_129
  let c0_i32_130 : BitVec 32 := 0#32
  let v158 : BitVec 32 := Scalar.maxsi v157 c0_i32_130
  let v713 : BitVec 32 := Scalar.minsi v712 v158
  let v714 : BitVec 32 := Scalar.addi v156 v713
  let c4095_i32 : BitVec 32 := 4095#32
  let v715 : BitVec 32 := Scalar.minsi v714 c4095_i32
  let v716 : Index := Scalar.indexCast v715
  ![v716.toNat]

def k0_off21 (v717 : BitVec 32) : Fin 3 → Nat :=
  let c8_i32_602 : BitVec 32 := 8#32
  let v718 : BitVec 32 := Scalar.divsi v717 c8_i32_602
  let v719 : Index := Scalar.indexCast v718
  let c0_603 : Index := 0#32
  let c0_604 : Index := 0#32
  ![v719.toNat, 0, 0]

def k0_chk11 (v717 : BitVec 32) : Prop :=
  (∀ a, (k0_off21 v717) a + S1x8x1024.size a ≤ S512x8x1024.size a)
theorem k0_off21_inb : ∀ (v717 : BitVec 32) (k0_hw11 : k0_chk11 v717), ∀ a, (k0_off21 v717) a + S1x8x1024.size a ≤ S512x8x1024.size a := fun v717 k0_hw11 => k0_hw11

def k0_off22 (d0 : Dev nD) (v98 : BitVec 32) (v100 : BitVec 32) (v102 : BitVec 32) (v104 : BitVec 32) (v106 : BitVec 32) (v108 : BitVec 32) (v110 : BitVec 32) (v140 : BitVec 32) (k0_t2 : Fin k0_t2_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_115 : BitVec 32 := 1#32
  let v136 : BitVec 32 := Scalar.addi v2 c1_i32_115
  let c1_i32_116 : BitVec 32 := 1#32
  let v137 : BitVec 32 := Scalar.addi v136 c1_i32_116
  let c8_i32_117 : BitVec 32 := 8#32
  let v138 : BitVec 32 := Scalar.remsi v137 c8_i32_117
  let c7_i32_128 : BitVec 32 := 7#32
  let v155 : BitVec 1 := Scalar.cmpi .eq v138 c7_i32_128
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_127 : BitVec 32 := 6#32
  let v153 : BitVec 1 := Scalar.cmpi .eq v138 c6_i32_127
  let c5_i32_126 : BitVec 32 := 5#32
  let v151 : BitVec 1 := Scalar.cmpi .eq v138 c5_i32_126
  let c4_i32_125 : BitVec 32 := 4#32
  let v149 : BitVec 1 := Scalar.cmpi .eq v138 c4_i32_125
  let c3_i32_124 : BitVec 32 := 3#32
  let v147 : BitVec 1 := Scalar.cmpi .eq v138 c3_i32_124
  let c2_i32_123 : BitVec 32 := 2#32
  let v145 : BitVec 1 := Scalar.cmpi .eq v138 c2_i32_123
  let c1_i32_122 : BitVec 32 := 1#32
  let v143 : BitVec 1 := Scalar.cmpi .eq v138 c1_i32_122
  let c0_i32_119 : BitVec 32 := 0#32
  let v141 : BitVec 1 := Scalar.cmpi .eq v138 c0_i32_119
  let c0_i32_120 : BitVec 32 := 0#32
  let c0_i32_121 : BitVec 32 := 0#32
  let v142 : BitVec 32 := Scalar.select v141 c0_i32_120 c0_i32_121
  let v144 : BitVec 32 := Scalar.select v143 v99 v142
  let v146 : BitVec 32 := Scalar.select v145 v101 v144
  let v148 : BitVec 32 := Scalar.select v147 v103 v146
  let v150 : BitVec 32 := Scalar.select v149 v105 v148
  let v152 : BitVec 32 := Scalar.select v151 v107 v150
  let v154 : BitVec 32 := Scalar.select v153 v109 v152
  let v156 : BitVec 32 := Scalar.select v155 v111 v154
  let c0_i32_131 : BitVec 32 := 0#32
  let c1_i32_133 : BitVec 32 := 1#32
  let arg17 : BitVec 32 := Scf.iv c0_i32_131 c1_i32_133 k0_t2
  let c8_i32_610 : BitVec 32 := 8#32
  let v730 : BitVec 32 := Scalar.muli arg17 c8_i32_610
  let c1_i32_611 : BitVec 32 := 1#32
  let v731 : BitVec 32 := Scalar.addi v730 c1_i32_611
  let c1_i32_129 : BitVec 32 := 1#32
  let v157 : BitVec 32 := Scalar.subi v140 c1_i32_129
  let c0_i32_130 : BitVec 32 := 0#32
  let v158 : BitVec 32 := Scalar.maxsi v157 c0_i32_130
  let v732 : BitVec 32 := Scalar.minsi v731 v158
  let v733 : BitVec 32 := Scalar.addi v156 v732
  let c4095_i32_612 : BitVec 32 := 4095#32
  let v734 : BitVec 32 := Scalar.minsi v733 c4095_i32_612
  let v735 : Index := Scalar.indexCast v734
  ![v735.toNat]
def k0_off23 (v736 : BitVec 32) : Fin 3 → Nat :=
  let c8_i32_613 : BitVec 32 := 8#32
  let v737 : BitVec 32 := Scalar.divsi v736 c8_i32_613
  let v738 : Index := Scalar.indexCast v737
  let c0_614 : Index := 0#32
  let c0_615 : Index := 0#32
  ![v738.toNat, 0, 0]

def k0_chk12 (v736 : BitVec 32) : Prop :=
  (∀ a, (k0_off23 v736) a + S1x8x1024.size a ≤ S512x8x1024.size a)
theorem k0_off23_inb : ∀ (v736 : BitVec 32) (k0_hw12 : k0_chk12 v736), ∀ a, (k0_off23 v736) a + S1x8x1024.size a ≤ S512x8x1024.size a := fun v736 k0_hw12 => k0_hw12

def k0_off24 (d0 : Dev nD) (v98 : BitVec 32) (v100 : BitVec 32) (v102 : BitVec 32) (v104 : BitVec 32) (v106 : BitVec 32) (v108 : BitVec 32) (v110 : BitVec 32) (v140 : BitVec 32) (k0_t2 : Fin k0_t2_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_115 : BitVec 32 := 1#32
  let v136 : BitVec 32 := Scalar.addi v2 c1_i32_115
  let c1_i32_116 : BitVec 32 := 1#32
  let v137 : BitVec 32 := Scalar.addi v136 c1_i32_116
  let c8_i32_117 : BitVec 32 := 8#32
  let v138 : BitVec 32 := Scalar.remsi v137 c8_i32_117
  let c7_i32_128 : BitVec 32 := 7#32
  let v155 : BitVec 1 := Scalar.cmpi .eq v138 c7_i32_128
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_127 : BitVec 32 := 6#32
  let v153 : BitVec 1 := Scalar.cmpi .eq v138 c6_i32_127
  let c5_i32_126 : BitVec 32 := 5#32
  let v151 : BitVec 1 := Scalar.cmpi .eq v138 c5_i32_126
  let c4_i32_125 : BitVec 32 := 4#32
  let v149 : BitVec 1 := Scalar.cmpi .eq v138 c4_i32_125
  let c3_i32_124 : BitVec 32 := 3#32
  let v147 : BitVec 1 := Scalar.cmpi .eq v138 c3_i32_124
  let c2_i32_123 : BitVec 32 := 2#32
  let v145 : BitVec 1 := Scalar.cmpi .eq v138 c2_i32_123
  let c1_i32_122 : BitVec 32 := 1#32
  let v143 : BitVec 1 := Scalar.cmpi .eq v138 c1_i32_122
  let c0_i32_119 : BitVec 32 := 0#32
  let v141 : BitVec 1 := Scalar.cmpi .eq v138 c0_i32_119
  let c0_i32_120 : BitVec 32 := 0#32
  let c0_i32_121 : BitVec 32 := 0#32
  let v142 : BitVec 32 := Scalar.select v141 c0_i32_120 c0_i32_121
  let v144 : BitVec 32 := Scalar.select v143 v99 v142
  let v146 : BitVec 32 := Scalar.select v145 v101 v144
  let v148 : BitVec 32 := Scalar.select v147 v103 v146
  let v150 : BitVec 32 := Scalar.select v149 v105 v148
  let v152 : BitVec 32 := Scalar.select v151 v107 v150
  let v154 : BitVec 32 := Scalar.select v153 v109 v152
  let v156 : BitVec 32 := Scalar.select v155 v111 v154
  let c0_i32_131 : BitVec 32 := 0#32
  let c1_i32_133 : BitVec 32 := 1#32
  let arg17 : BitVec 32 := Scf.iv c0_i32_131 c1_i32_133 k0_t2
  let c8_i32_621 : BitVec 32 := 8#32
  let v749 : BitVec 32 := Scalar.muli arg17 c8_i32_621
  let c2_i32_622 : BitVec 32 := 2#32
  let v750 : BitVec 32 := Scalar.addi v749 c2_i32_622
  let c1_i32_129 : BitVec 32 := 1#32
  let v157 : BitVec 32 := Scalar.subi v140 c1_i32_129
  let c0_i32_130 : BitVec 32 := 0#32
  let v158 : BitVec 32 := Scalar.maxsi v157 c0_i32_130
  let v751 : BitVec 32 := Scalar.minsi v750 v158
  let v752 : BitVec 32 := Scalar.addi v156 v751
  let c4095_i32_623 : BitVec 32 := 4095#32
  let v753 : BitVec 32 := Scalar.minsi v752 c4095_i32_623
  let v754 : Index := Scalar.indexCast v753
  ![v754.toNat]
def k0_off25 (v755 : BitVec 32) : Fin 3 → Nat :=
  let c8_i32_624 : BitVec 32 := 8#32
  let v756 : BitVec 32 := Scalar.divsi v755 c8_i32_624
  let v757 : Index := Scalar.indexCast v756
  let c0_625 : Index := 0#32
  let c0_626 : Index := 0#32
  ![v757.toNat, 0, 0]

def k0_chk13 (v755 : BitVec 32) : Prop :=
  (∀ a, (k0_off25 v755) a + S1x8x1024.size a ≤ S512x8x1024.size a)
theorem k0_off25_inb : ∀ (v755 : BitVec 32) (k0_hw13 : k0_chk13 v755), ∀ a, (k0_off25 v755) a + S1x8x1024.size a ≤ S512x8x1024.size a := fun v755 k0_hw13 => k0_hw13

def k0_off26 (d0 : Dev nD) (v98 : BitVec 32) (v100 : BitVec 32) (v102 : BitVec 32) (v104 : BitVec 32) (v106 : BitVec 32) (v108 : BitVec 32) (v110 : BitVec 32) (v140 : BitVec 32) (k0_t2 : Fin k0_t2_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_115 : BitVec 32 := 1#32
  let v136 : BitVec 32 := Scalar.addi v2 c1_i32_115
  let c1_i32_116 : BitVec 32 := 1#32
  let v137 : BitVec 32 := Scalar.addi v136 c1_i32_116
  let c8_i32_117 : BitVec 32 := 8#32
  let v138 : BitVec 32 := Scalar.remsi v137 c8_i32_117
  let c7_i32_128 : BitVec 32 := 7#32
  let v155 : BitVec 1 := Scalar.cmpi .eq v138 c7_i32_128
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_127 : BitVec 32 := 6#32
  let v153 : BitVec 1 := Scalar.cmpi .eq v138 c6_i32_127
  let c5_i32_126 : BitVec 32 := 5#32
  let v151 : BitVec 1 := Scalar.cmpi .eq v138 c5_i32_126
  let c4_i32_125 : BitVec 32 := 4#32
  let v149 : BitVec 1 := Scalar.cmpi .eq v138 c4_i32_125
  let c3_i32_124 : BitVec 32 := 3#32
  let v147 : BitVec 1 := Scalar.cmpi .eq v138 c3_i32_124
  let c2_i32_123 : BitVec 32 := 2#32
  let v145 : BitVec 1 := Scalar.cmpi .eq v138 c2_i32_123
  let c1_i32_122 : BitVec 32 := 1#32
  let v143 : BitVec 1 := Scalar.cmpi .eq v138 c1_i32_122
  let c0_i32_119 : BitVec 32 := 0#32
  let v141 : BitVec 1 := Scalar.cmpi .eq v138 c0_i32_119
  let c0_i32_120 : BitVec 32 := 0#32
  let c0_i32_121 : BitVec 32 := 0#32
  let v142 : BitVec 32 := Scalar.select v141 c0_i32_120 c0_i32_121
  let v144 : BitVec 32 := Scalar.select v143 v99 v142
  let v146 : BitVec 32 := Scalar.select v145 v101 v144
  let v148 : BitVec 32 := Scalar.select v147 v103 v146
  let v150 : BitVec 32 := Scalar.select v149 v105 v148
  let v152 : BitVec 32 := Scalar.select v151 v107 v150
  let v154 : BitVec 32 := Scalar.select v153 v109 v152
  let v156 : BitVec 32 := Scalar.select v155 v111 v154
  let c0_i32_131 : BitVec 32 := 0#32
  let c1_i32_133 : BitVec 32 := 1#32
  let arg17 : BitVec 32 := Scf.iv c0_i32_131 c1_i32_133 k0_t2
  let c8_i32_632 : BitVec 32 := 8#32
  let v768 : BitVec 32 := Scalar.muli arg17 c8_i32_632
  let c3_i32_633 : BitVec 32 := 3#32
  let v769 : BitVec 32 := Scalar.addi v768 c3_i32_633
  let c1_i32_129 : BitVec 32 := 1#32
  let v157 : BitVec 32 := Scalar.subi v140 c1_i32_129
  let c0_i32_130 : BitVec 32 := 0#32
  let v158 : BitVec 32 := Scalar.maxsi v157 c0_i32_130
  let v770 : BitVec 32 := Scalar.minsi v769 v158
  let v771 : BitVec 32 := Scalar.addi v156 v770
  let c4095_i32_634 : BitVec 32 := 4095#32
  let v772 : BitVec 32 := Scalar.minsi v771 c4095_i32_634
  let v773 : Index := Scalar.indexCast v772
  ![v773.toNat]
def k0_off27 (v774 : BitVec 32) : Fin 3 → Nat :=
  let c8_i32_635 : BitVec 32 := 8#32
  let v775 : BitVec 32 := Scalar.divsi v774 c8_i32_635
  let v776 : Index := Scalar.indexCast v775
  let c0_636 : Index := 0#32
  let c0_637 : Index := 0#32
  ![v776.toNat, 0, 0]

def k0_chk14 (v774 : BitVec 32) : Prop :=
  (∀ a, (k0_off27 v774) a + S1x8x1024.size a ≤ S512x8x1024.size a)
theorem k0_off27_inb : ∀ (v774 : BitVec 32) (k0_hw14 : k0_chk14 v774), ∀ a, (k0_off27 v774) a + S1x8x1024.size a ≤ S512x8x1024.size a := fun v774 k0_hw14 => k0_hw14

def k0_off28 (d0 : Dev nD) (v98 : BitVec 32) (v100 : BitVec 32) (v102 : BitVec 32) (v104 : BitVec 32) (v106 : BitVec 32) (v108 : BitVec 32) (v110 : BitVec 32) (v140 : BitVec 32) (k0_t2 : Fin k0_t2_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_115 : BitVec 32 := 1#32
  let v136 : BitVec 32 := Scalar.addi v2 c1_i32_115
  let c1_i32_116 : BitVec 32 := 1#32
  let v137 : BitVec 32 := Scalar.addi v136 c1_i32_116
  let c8_i32_117 : BitVec 32 := 8#32
  let v138 : BitVec 32 := Scalar.remsi v137 c8_i32_117
  let c7_i32_128 : BitVec 32 := 7#32
  let v155 : BitVec 1 := Scalar.cmpi .eq v138 c7_i32_128
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_127 : BitVec 32 := 6#32
  let v153 : BitVec 1 := Scalar.cmpi .eq v138 c6_i32_127
  let c5_i32_126 : BitVec 32 := 5#32
  let v151 : BitVec 1 := Scalar.cmpi .eq v138 c5_i32_126
  let c4_i32_125 : BitVec 32 := 4#32
  let v149 : BitVec 1 := Scalar.cmpi .eq v138 c4_i32_125
  let c3_i32_124 : BitVec 32 := 3#32
  let v147 : BitVec 1 := Scalar.cmpi .eq v138 c3_i32_124
  let c2_i32_123 : BitVec 32 := 2#32
  let v145 : BitVec 1 := Scalar.cmpi .eq v138 c2_i32_123
  let c1_i32_122 : BitVec 32 := 1#32
  let v143 : BitVec 1 := Scalar.cmpi .eq v138 c1_i32_122
  let c0_i32_119 : BitVec 32 := 0#32
  let v141 : BitVec 1 := Scalar.cmpi .eq v138 c0_i32_119
  let c0_i32_120 : BitVec 32 := 0#32
  let c0_i32_121 : BitVec 32 := 0#32
  let v142 : BitVec 32 := Scalar.select v141 c0_i32_120 c0_i32_121
  let v144 : BitVec 32 := Scalar.select v143 v99 v142
  let v146 : BitVec 32 := Scalar.select v145 v101 v144
  let v148 : BitVec 32 := Scalar.select v147 v103 v146
  let v150 : BitVec 32 := Scalar.select v149 v105 v148
  let v152 : BitVec 32 := Scalar.select v151 v107 v150
  let v154 : BitVec 32 := Scalar.select v153 v109 v152
  let v156 : BitVec 32 := Scalar.select v155 v111 v154
  let c0_i32_131 : BitVec 32 := 0#32
  let c1_i32_133 : BitVec 32 := 1#32
  let arg17 : BitVec 32 := Scf.iv c0_i32_131 c1_i32_133 k0_t2
  let c8_i32_643 : BitVec 32 := 8#32
  let v787 : BitVec 32 := Scalar.muli arg17 c8_i32_643
  let c4_i32_644 : BitVec 32 := 4#32
  let v788 : BitVec 32 := Scalar.addi v787 c4_i32_644
  let c1_i32_129 : BitVec 32 := 1#32
  let v157 : BitVec 32 := Scalar.subi v140 c1_i32_129
  let c0_i32_130 : BitVec 32 := 0#32
  let v158 : BitVec 32 := Scalar.maxsi v157 c0_i32_130
  let v789 : BitVec 32 := Scalar.minsi v788 v158
  let v790 : BitVec 32 := Scalar.addi v156 v789
  let c4095_i32_645 : BitVec 32 := 4095#32
  let v791 : BitVec 32 := Scalar.minsi v790 c4095_i32_645
  let v792 : Index := Scalar.indexCast v791
  ![v792.toNat]
def k0_off29 (v793 : BitVec 32) : Fin 3 → Nat :=
  let c8_i32_646 : BitVec 32 := 8#32
  let v794 : BitVec 32 := Scalar.divsi v793 c8_i32_646
  let v795 : Index := Scalar.indexCast v794
  let c0_647 : Index := 0#32
  let c0_648 : Index := 0#32
  ![v795.toNat, 0, 0]

def k0_chk15 (v793 : BitVec 32) : Prop :=
  (∀ a, (k0_off29 v793) a + S1x8x1024.size a ≤ S512x8x1024.size a)
theorem k0_off29_inb : ∀ (v793 : BitVec 32) (k0_hw15 : k0_chk15 v793), ∀ a, (k0_off29 v793) a + S1x8x1024.size a ≤ S512x8x1024.size a := fun v793 k0_hw15 => k0_hw15

def k0_off30 (d0 : Dev nD) (v98 : BitVec 32) (v100 : BitVec 32) (v102 : BitVec 32) (v104 : BitVec 32) (v106 : BitVec 32) (v108 : BitVec 32) (v110 : BitVec 32) (v140 : BitVec 32) (k0_t2 : Fin k0_t2_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_115 : BitVec 32 := 1#32
  let v136 : BitVec 32 := Scalar.addi v2 c1_i32_115
  let c1_i32_116 : BitVec 32 := 1#32
  let v137 : BitVec 32 := Scalar.addi v136 c1_i32_116
  let c8_i32_117 : BitVec 32 := 8#32
  let v138 : BitVec 32 := Scalar.remsi v137 c8_i32_117
  let c7_i32_128 : BitVec 32 := 7#32
  let v155 : BitVec 1 := Scalar.cmpi .eq v138 c7_i32_128
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_127 : BitVec 32 := 6#32
  let v153 : BitVec 1 := Scalar.cmpi .eq v138 c6_i32_127
  let c5_i32_126 : BitVec 32 := 5#32
  let v151 : BitVec 1 := Scalar.cmpi .eq v138 c5_i32_126
  let c4_i32_125 : BitVec 32 := 4#32
  let v149 : BitVec 1 := Scalar.cmpi .eq v138 c4_i32_125
  let c3_i32_124 : BitVec 32 := 3#32
  let v147 : BitVec 1 := Scalar.cmpi .eq v138 c3_i32_124
  let c2_i32_123 : BitVec 32 := 2#32
  let v145 : BitVec 1 := Scalar.cmpi .eq v138 c2_i32_123
  let c1_i32_122 : BitVec 32 := 1#32
  let v143 : BitVec 1 := Scalar.cmpi .eq v138 c1_i32_122
  let c0_i32_119 : BitVec 32 := 0#32
  let v141 : BitVec 1 := Scalar.cmpi .eq v138 c0_i32_119
  let c0_i32_120 : BitVec 32 := 0#32
  let c0_i32_121 : BitVec 32 := 0#32
  let v142 : BitVec 32 := Scalar.select v141 c0_i32_120 c0_i32_121
  let v144 : BitVec 32 := Scalar.select v143 v99 v142
  let v146 : BitVec 32 := Scalar.select v145 v101 v144
  let v148 : BitVec 32 := Scalar.select v147 v103 v146
  let v150 : BitVec 32 := Scalar.select v149 v105 v148
  let v152 : BitVec 32 := Scalar.select v151 v107 v150
  let v154 : BitVec 32 := Scalar.select v153 v109 v152
  let v156 : BitVec 32 := Scalar.select v155 v111 v154
  let c0_i32_131 : BitVec 32 := 0#32
  let c1_i32_133 : BitVec 32 := 1#32
  let arg17 : BitVec 32 := Scf.iv c0_i32_131 c1_i32_133 k0_t2
  let c8_i32_654 : BitVec 32 := 8#32
  let v806 : BitVec 32 := Scalar.muli arg17 c8_i32_654
  let c5_i32_655 : BitVec 32 := 5#32
  let v807 : BitVec 32 := Scalar.addi v806 c5_i32_655
  let c1_i32_129 : BitVec 32 := 1#32
  let v157 : BitVec 32 := Scalar.subi v140 c1_i32_129
  let c0_i32_130 : BitVec 32 := 0#32
  let v158 : BitVec 32 := Scalar.maxsi v157 c0_i32_130
  let v808 : BitVec 32 := Scalar.minsi v807 v158
  let v809 : BitVec 32 := Scalar.addi v156 v808
  let c4095_i32_656 : BitVec 32 := 4095#32
  let v810 : BitVec 32 := Scalar.minsi v809 c4095_i32_656
  let v811 : Index := Scalar.indexCast v810
  ![v811.toNat]
def k0_off31 (v812 : BitVec 32) : Fin 3 → Nat :=
  let c8_i32_657 : BitVec 32 := 8#32
  let v813 : BitVec 32 := Scalar.divsi v812 c8_i32_657
  let v814 : Index := Scalar.indexCast v813
  let c0_658 : Index := 0#32
  let c0_659 : Index := 0#32
  ![v814.toNat, 0, 0]

def k0_chk16 (v812 : BitVec 32) : Prop :=
  (∀ a, (k0_off31 v812) a + S1x8x1024.size a ≤ S512x8x1024.size a)
theorem k0_off31_inb : ∀ (v812 : BitVec 32) (k0_hw16 : k0_chk16 v812), ∀ a, (k0_off31 v812) a + S1x8x1024.size a ≤ S512x8x1024.size a := fun v812 k0_hw16 => k0_hw16

def k0_off32 (d0 : Dev nD) (v98 : BitVec 32) (v100 : BitVec 32) (v102 : BitVec 32) (v104 : BitVec 32) (v106 : BitVec 32) (v108 : BitVec 32) (v110 : BitVec 32) (v140 : BitVec 32) (k0_t2 : Fin k0_t2_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_115 : BitVec 32 := 1#32
  let v136 : BitVec 32 := Scalar.addi v2 c1_i32_115
  let c1_i32_116 : BitVec 32 := 1#32
  let v137 : BitVec 32 := Scalar.addi v136 c1_i32_116
  let c8_i32_117 : BitVec 32 := 8#32
  let v138 : BitVec 32 := Scalar.remsi v137 c8_i32_117
  let c7_i32_128 : BitVec 32 := 7#32
  let v155 : BitVec 1 := Scalar.cmpi .eq v138 c7_i32_128
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_127 : BitVec 32 := 6#32
  let v153 : BitVec 1 := Scalar.cmpi .eq v138 c6_i32_127
  let c5_i32_126 : BitVec 32 := 5#32
  let v151 : BitVec 1 := Scalar.cmpi .eq v138 c5_i32_126
  let c4_i32_125 : BitVec 32 := 4#32
  let v149 : BitVec 1 := Scalar.cmpi .eq v138 c4_i32_125
  let c3_i32_124 : BitVec 32 := 3#32
  let v147 : BitVec 1 := Scalar.cmpi .eq v138 c3_i32_124
  let c2_i32_123 : BitVec 32 := 2#32
  let v145 : BitVec 1 := Scalar.cmpi .eq v138 c2_i32_123
  let c1_i32_122 : BitVec 32 := 1#32
  let v143 : BitVec 1 := Scalar.cmpi .eq v138 c1_i32_122
  let c0_i32_119 : BitVec 32 := 0#32
  let v141 : BitVec 1 := Scalar.cmpi .eq v138 c0_i32_119
  let c0_i32_120 : BitVec 32 := 0#32
  let c0_i32_121 : BitVec 32 := 0#32
  let v142 : BitVec 32 := Scalar.select v141 c0_i32_120 c0_i32_121
  let v144 : BitVec 32 := Scalar.select v143 v99 v142
  let v146 : BitVec 32 := Scalar.select v145 v101 v144
  let v148 : BitVec 32 := Scalar.select v147 v103 v146
  let v150 : BitVec 32 := Scalar.select v149 v105 v148
  let v152 : BitVec 32 := Scalar.select v151 v107 v150
  let v154 : BitVec 32 := Scalar.select v153 v109 v152
  let v156 : BitVec 32 := Scalar.select v155 v111 v154
  let c0_i32_131 : BitVec 32 := 0#32
  let c1_i32_133 : BitVec 32 := 1#32
  let arg17 : BitVec 32 := Scf.iv c0_i32_131 c1_i32_133 k0_t2
  let c8_i32_665 : BitVec 32 := 8#32
  let v825 : BitVec 32 := Scalar.muli arg17 c8_i32_665
  let c6_i32_666 : BitVec 32 := 6#32
  let v826 : BitVec 32 := Scalar.addi v825 c6_i32_666
  let c1_i32_129 : BitVec 32 := 1#32
  let v157 : BitVec 32 := Scalar.subi v140 c1_i32_129
  let c0_i32_130 : BitVec 32 := 0#32
  let v158 : BitVec 32 := Scalar.maxsi v157 c0_i32_130
  let v827 : BitVec 32 := Scalar.minsi v826 v158
  let v828 : BitVec 32 := Scalar.addi v156 v827
  let c4095_i32_667 : BitVec 32 := 4095#32
  let v829 : BitVec 32 := Scalar.minsi v828 c4095_i32_667
  let v830 : Index := Scalar.indexCast v829
  ![v830.toNat]
def k0_off33 (v831 : BitVec 32) : Fin 3 → Nat :=
  let c8_i32_668 : BitVec 32 := 8#32
  let v832 : BitVec 32 := Scalar.divsi v831 c8_i32_668
  let v833 : Index := Scalar.indexCast v832
  let c0_669 : Index := 0#32
  let c0_670 : Index := 0#32
  ![v833.toNat, 0, 0]

def k0_chk17 (v831 : BitVec 32) : Prop :=
  (∀ a, (k0_off33 v831) a + S1x8x1024.size a ≤ S512x8x1024.size a)
theorem k0_off33_inb : ∀ (v831 : BitVec 32) (k0_hw17 : k0_chk17 v831), ∀ a, (k0_off33 v831) a + S1x8x1024.size a ≤ S512x8x1024.size a := fun v831 k0_hw17 => k0_hw17

def k0_off34 (d0 : Dev nD) (v98 : BitVec 32) (v100 : BitVec 32) (v102 : BitVec 32) (v104 : BitVec 32) (v106 : BitVec 32) (v108 : BitVec 32) (v110 : BitVec 32) (v140 : BitVec 32) (k0_t2 : Fin k0_t2_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_115 : BitVec 32 := 1#32
  let v136 : BitVec 32 := Scalar.addi v2 c1_i32_115
  let c1_i32_116 : BitVec 32 := 1#32
  let v137 : BitVec 32 := Scalar.addi v136 c1_i32_116
  let c8_i32_117 : BitVec 32 := 8#32
  let v138 : BitVec 32 := Scalar.remsi v137 c8_i32_117
  let c7_i32_128 : BitVec 32 := 7#32
  let v155 : BitVec 1 := Scalar.cmpi .eq v138 c7_i32_128
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_127 : BitVec 32 := 6#32
  let v153 : BitVec 1 := Scalar.cmpi .eq v138 c6_i32_127
  let c5_i32_126 : BitVec 32 := 5#32
  let v151 : BitVec 1 := Scalar.cmpi .eq v138 c5_i32_126
  let c4_i32_125 : BitVec 32 := 4#32
  let v149 : BitVec 1 := Scalar.cmpi .eq v138 c4_i32_125
  let c3_i32_124 : BitVec 32 := 3#32
  let v147 : BitVec 1 := Scalar.cmpi .eq v138 c3_i32_124
  let c2_i32_123 : BitVec 32 := 2#32
  let v145 : BitVec 1 := Scalar.cmpi .eq v138 c2_i32_123
  let c1_i32_122 : BitVec 32 := 1#32
  let v143 : BitVec 1 := Scalar.cmpi .eq v138 c1_i32_122
  let c0_i32_119 : BitVec 32 := 0#32
  let v141 : BitVec 1 := Scalar.cmpi .eq v138 c0_i32_119
  let c0_i32_120 : BitVec 32 := 0#32
  let c0_i32_121 : BitVec 32 := 0#32
  let v142 : BitVec 32 := Scalar.select v141 c0_i32_120 c0_i32_121
  let v144 : BitVec 32 := Scalar.select v143 v99 v142
  let v146 : BitVec 32 := Scalar.select v145 v101 v144
  let v148 : BitVec 32 := Scalar.select v147 v103 v146
  let v150 : BitVec 32 := Scalar.select v149 v105 v148
  let v152 : BitVec 32 := Scalar.select v151 v107 v150
  let v154 : BitVec 32 := Scalar.select v153 v109 v152
  let v156 : BitVec 32 := Scalar.select v155 v111 v154
  let c0_i32_131 : BitVec 32 := 0#32
  let c1_i32_133 : BitVec 32 := 1#32
  let arg17 : BitVec 32 := Scf.iv c0_i32_131 c1_i32_133 k0_t2
  let c8_i32_676 : BitVec 32 := 8#32
  let v844 : BitVec 32 := Scalar.muli arg17 c8_i32_676
  let c7_i32_677 : BitVec 32 := 7#32
  let v845 : BitVec 32 := Scalar.addi v844 c7_i32_677
  let c1_i32_129 : BitVec 32 := 1#32
  let v157 : BitVec 32 := Scalar.subi v140 c1_i32_129
  let c0_i32_130 : BitVec 32 := 0#32
  let v158 : BitVec 32 := Scalar.maxsi v157 c0_i32_130
  let v846 : BitVec 32 := Scalar.minsi v845 v158
  let v847 : BitVec 32 := Scalar.addi v156 v846
  let c4095_i32_678 : BitVec 32 := 4095#32
  let v848 : BitVec 32 := Scalar.minsi v847 c4095_i32_678
  let v849 : Index := Scalar.indexCast v848
  ![v849.toNat]

def k0_chk10 (d0 : Dev nD) (v98 : BitVec 32) (v100 : BitVec 32) (v102 : BitVec 32) (v104 : BitVec 32) (v106 : BitVec 32) (v108 : BitVec 32) (v110 : BitVec 32) (v140 : BitVec 32) : Prop :=
  (∀ k0_t2 : Fin k0_t2_loop.trips, ∀ a, (k0_off20 d0 v98 v100 v102 v104 v106 v108 v110 v140 k0_t2) a + S1.size a ≤ S4096.size a) ∧
  (∀ k0_t2 : Fin k0_t2_loop.trips, ∀ a, (k0_off22 d0 v98 v100 v102 v104 v106 v108 v110 v140 k0_t2) a + S1.size a ≤ S4096.size a) ∧
  (∀ k0_t2 : Fin k0_t2_loop.trips, ∀ a, (k0_off24 d0 v98 v100 v102 v104 v106 v108 v110 v140 k0_t2) a + S1.size a ≤ S4096.size a) ∧
  (∀ k0_t2 : Fin k0_t2_loop.trips, ∀ a, (k0_off26 d0 v98 v100 v102 v104 v106 v108 v110 v140 k0_t2) a + S1.size a ≤ S4096.size a) ∧
  (∀ k0_t2 : Fin k0_t2_loop.trips, ∀ a, (k0_off28 d0 v98 v100 v102 v104 v106 v108 v110 v140 k0_t2) a + S1.size a ≤ S4096.size a) ∧
  (∀ k0_t2 : Fin k0_t2_loop.trips, ∀ a, (k0_off30 d0 v98 v100 v102 v104 v106 v108 v110 v140 k0_t2) a + S1.size a ≤ S4096.size a) ∧
  (∀ k0_t2 : Fin k0_t2_loop.trips, ∀ a, (k0_off32 d0 v98 v100 v102 v104 v106 v108 v110 v140 k0_t2) a + S1.size a ≤ S4096.size a) ∧
  (∀ k0_t2 : Fin k0_t2_loop.trips, ∀ a, (k0_off34 d0 v98 v100 v102 v104 v106 v108 v110 v140 k0_t2) a + S1.size a ≤ S4096.size a)
theorem k0_off20_inb : ∀ (d0 : Dev nD) (v98 : BitVec 32) (v100 : BitVec 32) (v102 : BitVec 32) (v104 : BitVec 32) (v106 : BitVec 32) (v108 : BitVec 32) (v110 : BitVec 32) (v140 : BitVec 32) (k0_hw10 : k0_chk10 d0 v98 v100 v102 v104 v106 v108 v110 v140) (k0_t2 : Fin k0_t2_loop.trips), ∀ a, (k0_off20 d0 v98 v100 v102 v104 v106 v108 v110 v140 k0_t2) a + S1.size a ≤ S4096.size a := fun d0 v98 v100 v102 v104 v106 v108 v110 v140 k0_hw10 k0_t2 => k0_hw10.1 k0_t2
theorem k0_off22_inb : ∀ (d0 : Dev nD) (v98 : BitVec 32) (v100 : BitVec 32) (v102 : BitVec 32) (v104 : BitVec 32) (v106 : BitVec 32) (v108 : BitVec 32) (v110 : BitVec 32) (v140 : BitVec 32) (k0_hw10 : k0_chk10 d0 v98 v100 v102 v104 v106 v108 v110 v140) (k0_t2 : Fin k0_t2_loop.trips), ∀ a, (k0_off22 d0 v98 v100 v102 v104 v106 v108 v110 v140 k0_t2) a + S1.size a ≤ S4096.size a := fun d0 v98 v100 v102 v104 v106 v108 v110 v140 k0_hw10 k0_t2 => k0_hw10.2.1 k0_t2
theorem k0_off24_inb : ∀ (d0 : Dev nD) (v98 : BitVec 32) (v100 : BitVec 32) (v102 : BitVec 32) (v104 : BitVec 32) (v106 : BitVec 32) (v108 : BitVec 32) (v110 : BitVec 32) (v140 : BitVec 32) (k0_hw10 : k0_chk10 d0 v98 v100 v102 v104 v106 v108 v110 v140) (k0_t2 : Fin k0_t2_loop.trips), ∀ a, (k0_off24 d0 v98 v100 v102 v104 v106 v108 v110 v140 k0_t2) a + S1.size a ≤ S4096.size a := fun d0 v98 v100 v102 v104 v106 v108 v110 v140 k0_hw10 k0_t2 => k0_hw10.2.2.1 k0_t2
theorem k0_off26_inb : ∀ (d0 : Dev nD) (v98 : BitVec 32) (v100 : BitVec 32) (v102 : BitVec 32) (v104 : BitVec 32) (v106 : BitVec 32) (v108 : BitVec 32) (v110 : BitVec 32) (v140 : BitVec 32) (k0_hw10 : k0_chk10 d0 v98 v100 v102 v104 v106 v108 v110 v140) (k0_t2 : Fin k0_t2_loop.trips), ∀ a, (k0_off26 d0 v98 v100 v102 v104 v106 v108 v110 v140 k0_t2) a + S1.size a ≤ S4096.size a := fun d0 v98 v100 v102 v104 v106 v108 v110 v140 k0_hw10 k0_t2 => k0_hw10.2.2.2.1 k0_t2
theorem k0_off28_inb : ∀ (d0 : Dev nD) (v98 : BitVec 32) (v100 : BitVec 32) (v102 : BitVec 32) (v104 : BitVec 32) (v106 : BitVec 32) (v108 : BitVec 32) (v110 : BitVec 32) (v140 : BitVec 32) (k0_hw10 : k0_chk10 d0 v98 v100 v102 v104 v106 v108 v110 v140) (k0_t2 : Fin k0_t2_loop.trips), ∀ a, (k0_off28 d0 v98 v100 v102 v104 v106 v108 v110 v140 k0_t2) a + S1.size a ≤ S4096.size a := fun d0 v98 v100 v102 v104 v106 v108 v110 v140 k0_hw10 k0_t2 => k0_hw10.2.2.2.2.1 k0_t2
theorem k0_off30_inb : ∀ (d0 : Dev nD) (v98 : BitVec 32) (v100 : BitVec 32) (v102 : BitVec 32) (v104 : BitVec 32) (v106 : BitVec 32) (v108 : BitVec 32) (v110 : BitVec 32) (v140 : BitVec 32) (k0_hw10 : k0_chk10 d0 v98 v100 v102 v104 v106 v108 v110 v140) (k0_t2 : Fin k0_t2_loop.trips), ∀ a, (k0_off30 d0 v98 v100 v102 v104 v106 v108 v110 v140 k0_t2) a + S1.size a ≤ S4096.size a := fun d0 v98 v100 v102 v104 v106 v108 v110 v140 k0_hw10 k0_t2 => k0_hw10.2.2.2.2.2.1 k0_t2
theorem k0_off32_inb : ∀ (d0 : Dev nD) (v98 : BitVec 32) (v100 : BitVec 32) (v102 : BitVec 32) (v104 : BitVec 32) (v106 : BitVec 32) (v108 : BitVec 32) (v110 : BitVec 32) (v140 : BitVec 32) (k0_hw10 : k0_chk10 d0 v98 v100 v102 v104 v106 v108 v110 v140) (k0_t2 : Fin k0_t2_loop.trips), ∀ a, (k0_off32 d0 v98 v100 v102 v104 v106 v108 v110 v140 k0_t2) a + S1.size a ≤ S4096.size a := fun d0 v98 v100 v102 v104 v106 v108 v110 v140 k0_hw10 k0_t2 => k0_hw10.2.2.2.2.2.2.1 k0_t2
theorem k0_off34_inb : ∀ (d0 : Dev nD) (v98 : BitVec 32) (v100 : BitVec 32) (v102 : BitVec 32) (v104 : BitVec 32) (v106 : BitVec 32) (v108 : BitVec 32) (v110 : BitVec 32) (v140 : BitVec 32) (k0_hw10 : k0_chk10 d0 v98 v100 v102 v104 v106 v108 v110 v140) (k0_t2 : Fin k0_t2_loop.trips), ∀ a, (k0_off34 d0 v98 v100 v102 v104 v106 v108 v110 v140 k0_t2) a + S1.size a ≤ S4096.size a := fun d0 v98 v100 v102 v104 v106 v108 v110 v140 k0_hw10 k0_t2 => k0_hw10.2.2.2.2.2.2.2 k0_t2

def k0_off35 (v850 : BitVec 32) : Fin 3 → Nat :=
  let c8_i32_679 : BitVec 32 := 8#32
  let v851 : BitVec 32 := Scalar.divsi v850 c8_i32_679
  let v852 : Index := Scalar.indexCast v851
  let c0_680 : Index := 0#32
  let c0_681 : Index := 0#32
  ![v852.toNat, 0, 0]

def k0_chk18 (v850 : BitVec 32) : Prop :=
  (∀ a, (k0_off35 v850) a + S1x8x1024.size a ≤ S512x8x1024.size a)
theorem k0_off35_inb : ∀ (v850 : BitVec 32) (k0_hw18 : k0_chk18 v850), ∀ a, (k0_off35 v850) a + S1x8x1024.size a ≤ S512x8x1024.size a := fun v850 k0_hw18 => k0_hw18

def k0_off36 (k0_t2 : Fin k0_t2_loop.trips) : Fin 3 → Nat :=
  let c80_i32_687 : BitVec 32 := 80#32
  let c0_i32_131 : BitVec 32 := 0#32
  let c1_i32_133 : BitVec 32 := 1#32
  let arg17 : BitVec 32 := Scf.iv c0_i32_131 c1_i32_133 k0_t2
  let v863 : BitVec 32 := Scalar.addi c80_i32_687 arg17
  let v864 : Index := Scalar.indexCast v863
  let c0_688 : Index := 0#32
  let c0_689 : Index := 0#32
  ![v864.toNat, 0, 0]
def k0_off37 (d0 : Dev nD) : Fin 2 → Nat :=
  let c7_138 : Index := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v160 : BitVec 32 := Scalar.addi v2 c1_i32_135
  let c2_i32_136 : BitVec 32 := 2#32
  let v161 : BitVec 32 := Scalar.addi v160 c2_i32_136
  let c8_i32_137 : BitVec 32 := 8#32
  let v162 : BitVec 32 := Scalar.remsi v161 c8_i32_137
  let v163 : Index := Scalar.indexCast v162
  ![7, v163.toNat]
@[reducible] def k0_t3_loop : Scf.Loop 32 :=
  let c0_i32_151 : BitVec 32 := 0#32
  let c80_i32_152 : BitVec 32 := 80#32
  let v183 : BitVec 32 := Scalar.addi c0_i32_151 c80_i32_152
  let c1_i32_153 : BitVec 32 := 1#32
  ⟨c0_i32_151, v183, c1_i32_153⟩
def k0_off38 (d0 : Dev nD) (v98 : BitVec 32) (v100 : BitVec 32) (v102 : BitVec 32) (v104 : BitVec 32) (v106 : BitVec 32) (v108 : BitVec 32) (v110 : BitVec 32) (v164 : BitVec 32) (k0_t3 : Fin k0_t3_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v160 : BitVec 32 := Scalar.addi v2 c1_i32_135
  let c2_i32_136 : BitVec 32 := 2#32
  let v161 : BitVec 32 := Scalar.addi v160 c2_i32_136
  let c8_i32_137 : BitVec 32 := 8#32
  let v162 : BitVec 32 := Scalar.remsi v161 c8_i32_137
  let c7_i32_148 : BitVec 32 := 7#32
  let v179 : BitVec 1 := Scalar.cmpi .eq v162 c7_i32_148
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_147 : BitVec 32 := 6#32
  let v177 : BitVec 1 := Scalar.cmpi .eq v162 c6_i32_147
  let c5_i32_146 : BitVec 32 := 5#32
  let v175 : BitVec 1 := Scalar.cmpi .eq v162 c5_i32_146
  let c4_i32_145 : BitVec 32 := 4#32
  let v173 : BitVec 1 := Scalar.cmpi .eq v162 c4_i32_145
  let c3_i32_144 : BitVec 32 := 3#32
  let v171 : BitVec 1 := Scalar.cmpi .eq v162 c3_i32_144
  let c2_i32_143 : BitVec 32 := 2#32
  let v169 : BitVec 1 := Scalar.cmpi .eq v162 c2_i32_143
  let c1_i32_142 : BitVec 32 := 1#32
  let v167 : BitVec 1 := Scalar.cmpi .eq v162 c1_i32_142
  let c0_i32_139 : BitVec 32 := 0#32
  let v165 : BitVec 1 := Scalar.cmpi .eq v162 c0_i32_139
  let c0_i32_140 : BitVec 32 := 0#32
  let c0_i32_141 : BitVec 32 := 0#32
  let v166 : BitVec 32 := Scalar.select v165 c0_i32_140 c0_i32_141
  let v168 : BitVec 32 := Scalar.select v167 v99 v166
  let v170 : BitVec 32 := Scalar.select v169 v101 v168
  let v172 : BitVec 32 := Scalar.select v171 v103 v170
  let v174 : BitVec 32 := Scalar.select v173 v105 v172
  let v176 : BitVec 32 := Scalar.select v175 v107 v174
  let v178 : BitVec 32 := Scalar.select v177 v109 v176
  let v180 : BitVec 32 := Scalar.select v179 v111 v178
  let c0_i32_151 : BitVec 32 := 0#32
  let c1_i32_153 : BitVec 32 := 1#32
  let arg17 : BitVec 32 := Scf.iv c0_i32_151 c1_i32_153 k0_t3
  let c8_i32_600 : BitVec 32 := 8#32
  let v711 : BitVec 32 := Scalar.muli arg17 c8_i32_600
  let c0_i32_601 : BitVec 32 := 0#32
  let v712 : BitVec 32 := Scalar.addi v711 c0_i32_601
  let c1_i32_149 : BitVec 32 := 1#32
  let v181 : BitVec 32 := Scalar.subi v164 c1_i32_149
  let c0_i32_150 : BitVec 32 := 0#32
  let v182 : BitVec 32 := Scalar.maxsi v181 c0_i32_150
  let v713 : BitVec 32 := Scalar.minsi v712 v182
  let v714 : BitVec 32 := Scalar.addi v180 v713
  let c4095_i32 : BitVec 32 := 4095#32
  let v715 : BitVec 32 := Scalar.minsi v714 c4095_i32
  let v716 : Index := Scalar.indexCast v715
  ![v716.toNat]

def k0_off39 (v717 : BitVec 32) : Fin 3 → Nat :=
  let c8_i32_602 : BitVec 32 := 8#32
  let v718 : BitVec 32 := Scalar.divsi v717 c8_i32_602
  let v719 : Index := Scalar.indexCast v718
  let c0_603 : Index := 0#32
  let c0_604 : Index := 0#32
  ![v719.toNat, 0, 0]

def k0_chk20 (v717 : BitVec 32) : Prop :=
  (∀ a, (k0_off39 v717) a + S1x8x1024.size a ≤ S512x8x1024.size a)
theorem k0_off39_inb : ∀ (v717 : BitVec 32) (k0_hw20 : k0_chk20 v717), ∀ a, (k0_off39 v717) a + S1x8x1024.size a ≤ S512x8x1024.size a := fun v717 k0_hw20 => k0_hw20

def k0_off40 (d0 : Dev nD) (v98 : BitVec 32) (v100 : BitVec 32) (v102 : BitVec 32) (v104 : BitVec 32) (v106 : BitVec 32) (v108 : BitVec 32) (v110 : BitVec 32) (v164 : BitVec 32) (k0_t3 : Fin k0_t3_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v160 : BitVec 32 := Scalar.addi v2 c1_i32_135
  let c2_i32_136 : BitVec 32 := 2#32
  let v161 : BitVec 32 := Scalar.addi v160 c2_i32_136
  let c8_i32_137 : BitVec 32 := 8#32
  let v162 : BitVec 32 := Scalar.remsi v161 c8_i32_137
  let c7_i32_148 : BitVec 32 := 7#32
  let v179 : BitVec 1 := Scalar.cmpi .eq v162 c7_i32_148
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_147 : BitVec 32 := 6#32
  let v177 : BitVec 1 := Scalar.cmpi .eq v162 c6_i32_147
  let c5_i32_146 : BitVec 32 := 5#32
  let v175 : BitVec 1 := Scalar.cmpi .eq v162 c5_i32_146
  let c4_i32_145 : BitVec 32 := 4#32
  let v173 : BitVec 1 := Scalar.cmpi .eq v162 c4_i32_145
  let c3_i32_144 : BitVec 32 := 3#32
  let v171 : BitVec 1 := Scalar.cmpi .eq v162 c3_i32_144
  let c2_i32_143 : BitVec 32 := 2#32
  let v169 : BitVec 1 := Scalar.cmpi .eq v162 c2_i32_143
  let c1_i32_142 : BitVec 32 := 1#32
  let v167 : BitVec 1 := Scalar.cmpi .eq v162 c1_i32_142
  let c0_i32_139 : BitVec 32 := 0#32
  let v165 : BitVec 1 := Scalar.cmpi .eq v162 c0_i32_139
  let c0_i32_140 : BitVec 32 := 0#32
  let c0_i32_141 : BitVec 32 := 0#32
  let v166 : BitVec 32 := Scalar.select v165 c0_i32_140 c0_i32_141
  let v168 : BitVec 32 := Scalar.select v167 v99 v166
  let v170 : BitVec 32 := Scalar.select v169 v101 v168
  let v172 : BitVec 32 := Scalar.select v171 v103 v170
  let v174 : BitVec 32 := Scalar.select v173 v105 v172
  let v176 : BitVec 32 := Scalar.select v175 v107 v174
  let v178 : BitVec 32 := Scalar.select v177 v109 v176
  let v180 : BitVec 32 := Scalar.select v179 v111 v178
  let c0_i32_151 : BitVec 32 := 0#32
  let c1_i32_153 : BitVec 32 := 1#32
  let arg17 : BitVec 32 := Scf.iv c0_i32_151 c1_i32_153 k0_t3
  let c8_i32_610 : BitVec 32 := 8#32
  let v730 : BitVec 32 := Scalar.muli arg17 c8_i32_610
  let c1_i32_611 : BitVec 32 := 1#32
  let v731 : BitVec 32 := Scalar.addi v730 c1_i32_611
  let c1_i32_149 : BitVec 32 := 1#32
  let v181 : BitVec 32 := Scalar.subi v164 c1_i32_149
  let c0_i32_150 : BitVec 32 := 0#32
  let v182 : BitVec 32 := Scalar.maxsi v181 c0_i32_150
  let v732 : BitVec 32 := Scalar.minsi v731 v182
  let v733 : BitVec 32 := Scalar.addi v180 v732
  let c4095_i32_612 : BitVec 32 := 4095#32
  let v734 : BitVec 32 := Scalar.minsi v733 c4095_i32_612
  let v735 : Index := Scalar.indexCast v734
  ![v735.toNat]
def k0_off41 (v736 : BitVec 32) : Fin 3 → Nat :=
  let c8_i32_613 : BitVec 32 := 8#32
  let v737 : BitVec 32 := Scalar.divsi v736 c8_i32_613
  let v738 : Index := Scalar.indexCast v737
  let c0_614 : Index := 0#32
  let c0_615 : Index := 0#32
  ![v738.toNat, 0, 0]

def k0_chk21 (v736 : BitVec 32) : Prop :=
  (∀ a, (k0_off41 v736) a + S1x8x1024.size a ≤ S512x8x1024.size a)
theorem k0_off41_inb : ∀ (v736 : BitVec 32) (k0_hw21 : k0_chk21 v736), ∀ a, (k0_off41 v736) a + S1x8x1024.size a ≤ S512x8x1024.size a := fun v736 k0_hw21 => k0_hw21

def k0_off42 (d0 : Dev nD) (v98 : BitVec 32) (v100 : BitVec 32) (v102 : BitVec 32) (v104 : BitVec 32) (v106 : BitVec 32) (v108 : BitVec 32) (v110 : BitVec 32) (v164 : BitVec 32) (k0_t3 : Fin k0_t3_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v160 : BitVec 32 := Scalar.addi v2 c1_i32_135
  let c2_i32_136 : BitVec 32 := 2#32
  let v161 : BitVec 32 := Scalar.addi v160 c2_i32_136
  let c8_i32_137 : BitVec 32 := 8#32
  let v162 : BitVec 32 := Scalar.remsi v161 c8_i32_137
  let c7_i32_148 : BitVec 32 := 7#32
  let v179 : BitVec 1 := Scalar.cmpi .eq v162 c7_i32_148
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_147 : BitVec 32 := 6#32
  let v177 : BitVec 1 := Scalar.cmpi .eq v162 c6_i32_147
  let c5_i32_146 : BitVec 32 := 5#32
  let v175 : BitVec 1 := Scalar.cmpi .eq v162 c5_i32_146
  let c4_i32_145 : BitVec 32 := 4#32
  let v173 : BitVec 1 := Scalar.cmpi .eq v162 c4_i32_145
  let c3_i32_144 : BitVec 32 := 3#32
  let v171 : BitVec 1 := Scalar.cmpi .eq v162 c3_i32_144
  let c2_i32_143 : BitVec 32 := 2#32
  let v169 : BitVec 1 := Scalar.cmpi .eq v162 c2_i32_143
  let c1_i32_142 : BitVec 32 := 1#32
  let v167 : BitVec 1 := Scalar.cmpi .eq v162 c1_i32_142
  let c0_i32_139 : BitVec 32 := 0#32
  let v165 : BitVec 1 := Scalar.cmpi .eq v162 c0_i32_139
  let c0_i32_140 : BitVec 32 := 0#32
  let c0_i32_141 : BitVec 32 := 0#32
  let v166 : BitVec 32 := Scalar.select v165 c0_i32_140 c0_i32_141
  let v168 : BitVec 32 := Scalar.select v167 v99 v166
  let v170 : BitVec 32 := Scalar.select v169 v101 v168
  let v172 : BitVec 32 := Scalar.select v171 v103 v170
  let v174 : BitVec 32 := Scalar.select v173 v105 v172
  let v176 : BitVec 32 := Scalar.select v175 v107 v174
  let v178 : BitVec 32 := Scalar.select v177 v109 v176
  let v180 : BitVec 32 := Scalar.select v179 v111 v178
  let c0_i32_151 : BitVec 32 := 0#32
  let c1_i32_153 : BitVec 32 := 1#32
  let arg17 : BitVec 32 := Scf.iv c0_i32_151 c1_i32_153 k0_t3
  let c8_i32_621 : BitVec 32 := 8#32
  let v749 : BitVec 32 := Scalar.muli arg17 c8_i32_621
  let c2_i32_622 : BitVec 32 := 2#32
  let v750 : BitVec 32 := Scalar.addi v749 c2_i32_622
  let c1_i32_149 : BitVec 32 := 1#32
  let v181 : BitVec 32 := Scalar.subi v164 c1_i32_149
  let c0_i32_150 : BitVec 32 := 0#32
  let v182 : BitVec 32 := Scalar.maxsi v181 c0_i32_150
  let v751 : BitVec 32 := Scalar.minsi v750 v182
  let v752 : BitVec 32 := Scalar.addi v180 v751
  let c4095_i32_623 : BitVec 32 := 4095#32
  let v753 : BitVec 32 := Scalar.minsi v752 c4095_i32_623
  let v754 : Index := Scalar.indexCast v753
  ![v754.toNat]
def k0_off43 (v755 : BitVec 32) : Fin 3 → Nat :=
  let c8_i32_624 : BitVec 32 := 8#32
  let v756 : BitVec 32 := Scalar.divsi v755 c8_i32_624
  let v757 : Index := Scalar.indexCast v756
  let c0_625 : Index := 0#32
  let c0_626 : Index := 0#32
  ![v757.toNat, 0, 0]

def k0_chk22 (v755 : BitVec 32) : Prop :=
  (∀ a, (k0_off43 v755) a + S1x8x1024.size a ≤ S512x8x1024.size a)
theorem k0_off43_inb : ∀ (v755 : BitVec 32) (k0_hw22 : k0_chk22 v755), ∀ a, (k0_off43 v755) a + S1x8x1024.size a ≤ S512x8x1024.size a := fun v755 k0_hw22 => k0_hw22

def k0_off44 (d0 : Dev nD) (v98 : BitVec 32) (v100 : BitVec 32) (v102 : BitVec 32) (v104 : BitVec 32) (v106 : BitVec 32) (v108 : BitVec 32) (v110 : BitVec 32) (v164 : BitVec 32) (k0_t3 : Fin k0_t3_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v160 : BitVec 32 := Scalar.addi v2 c1_i32_135
  let c2_i32_136 : BitVec 32 := 2#32
  let v161 : BitVec 32 := Scalar.addi v160 c2_i32_136
  let c8_i32_137 : BitVec 32 := 8#32
  let v162 : BitVec 32 := Scalar.remsi v161 c8_i32_137
  let c7_i32_148 : BitVec 32 := 7#32
  let v179 : BitVec 1 := Scalar.cmpi .eq v162 c7_i32_148
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_147 : BitVec 32 := 6#32
  let v177 : BitVec 1 := Scalar.cmpi .eq v162 c6_i32_147
  let c5_i32_146 : BitVec 32 := 5#32
  let v175 : BitVec 1 := Scalar.cmpi .eq v162 c5_i32_146
  let c4_i32_145 : BitVec 32 := 4#32
  let v173 : BitVec 1 := Scalar.cmpi .eq v162 c4_i32_145
  let c3_i32_144 : BitVec 32 := 3#32
  let v171 : BitVec 1 := Scalar.cmpi .eq v162 c3_i32_144
  let c2_i32_143 : BitVec 32 := 2#32
  let v169 : BitVec 1 := Scalar.cmpi .eq v162 c2_i32_143
  let c1_i32_142 : BitVec 32 := 1#32
  let v167 : BitVec 1 := Scalar.cmpi .eq v162 c1_i32_142
  let c0_i32_139 : BitVec 32 := 0#32
  let v165 : BitVec 1 := Scalar.cmpi .eq v162 c0_i32_139
  let c0_i32_140 : BitVec 32 := 0#32
  let c0_i32_141 : BitVec 32 := 0#32
  let v166 : BitVec 32 := Scalar.select v165 c0_i32_140 c0_i32_141
  let v168 : BitVec 32 := Scalar.select v167 v99 v166
  let v170 : BitVec 32 := Scalar.select v169 v101 v168
  let v172 : BitVec 32 := Scalar.select v171 v103 v170
  let v174 : BitVec 32 := Scalar.select v173 v105 v172
  let v176 : BitVec 32 := Scalar.select v175 v107 v174
  let v178 : BitVec 32 := Scalar.select v177 v109 v176
  let v180 : BitVec 32 := Scalar.select v179 v111 v178
  let c0_i32_151 : BitVec 32 := 0#32
  let c1_i32_153 : BitVec 32 := 1#32
  let arg17 : BitVec 32 := Scf.iv c0_i32_151 c1_i32_153 k0_t3
  let c8_i32_632 : BitVec 32 := 8#32
  let v768 : BitVec 32 := Scalar.muli arg17 c8_i32_632
  let c3_i32_633 : BitVec 32 := 3#32
  let v769 : BitVec 32 := Scalar.addi v768 c3_i32_633
  let c1_i32_149 : BitVec 32 := 1#32
  let v181 : BitVec 32 := Scalar.subi v164 c1_i32_149
  let c0_i32_150 : BitVec 32 := 0#32
  let v182 : BitVec 32 := Scalar.maxsi v181 c0_i32_150
  let v770 : BitVec 32 := Scalar.minsi v769 v182
  let v771 : BitVec 32 := Scalar.addi v180 v770
  let c4095_i32_634 : BitVec 32 := 4095#32
  let v772 : BitVec 32 := Scalar.minsi v771 c4095_i32_634
  let v773 : Index := Scalar.indexCast v772
  ![v773.toNat]
def k0_off45 (v774 : BitVec 32) : Fin 3 → Nat :=
  let c8_i32_635 : BitVec 32 := 8#32
  let v775 : BitVec 32 := Scalar.divsi v774 c8_i32_635
  let v776 : Index := Scalar.indexCast v775
  let c0_636 : Index := 0#32
  let c0_637 : Index := 0#32
  ![v776.toNat, 0, 0]

def k0_chk23 (v774 : BitVec 32) : Prop :=
  (∀ a, (k0_off45 v774) a + S1x8x1024.size a ≤ S512x8x1024.size a)
theorem k0_off45_inb : ∀ (v774 : BitVec 32) (k0_hw23 : k0_chk23 v774), ∀ a, (k0_off45 v774) a + S1x8x1024.size a ≤ S512x8x1024.size a := fun v774 k0_hw23 => k0_hw23

def k0_off46 (d0 : Dev nD) (v98 : BitVec 32) (v100 : BitVec 32) (v102 : BitVec 32) (v104 : BitVec 32) (v106 : BitVec 32) (v108 : BitVec 32) (v110 : BitVec 32) (v164 : BitVec 32) (k0_t3 : Fin k0_t3_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v160 : BitVec 32 := Scalar.addi v2 c1_i32_135
  let c2_i32_136 : BitVec 32 := 2#32
  let v161 : BitVec 32 := Scalar.addi v160 c2_i32_136
  let c8_i32_137 : BitVec 32 := 8#32
  let v162 : BitVec 32 := Scalar.remsi v161 c8_i32_137
  let c7_i32_148 : BitVec 32 := 7#32
  let v179 : BitVec 1 := Scalar.cmpi .eq v162 c7_i32_148
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_147 : BitVec 32 := 6#32
  let v177 : BitVec 1 := Scalar.cmpi .eq v162 c6_i32_147
  let c5_i32_146 : BitVec 32 := 5#32
  let v175 : BitVec 1 := Scalar.cmpi .eq v162 c5_i32_146
  let c4_i32_145 : BitVec 32 := 4#32
  let v173 : BitVec 1 := Scalar.cmpi .eq v162 c4_i32_145
  let c3_i32_144 : BitVec 32 := 3#32
  let v171 : BitVec 1 := Scalar.cmpi .eq v162 c3_i32_144
  let c2_i32_143 : BitVec 32 := 2#32
  let v169 : BitVec 1 := Scalar.cmpi .eq v162 c2_i32_143
  let c1_i32_142 : BitVec 32 := 1#32
  let v167 : BitVec 1 := Scalar.cmpi .eq v162 c1_i32_142
  let c0_i32_139 : BitVec 32 := 0#32
  let v165 : BitVec 1 := Scalar.cmpi .eq v162 c0_i32_139
  let c0_i32_140 : BitVec 32 := 0#32
  let c0_i32_141 : BitVec 32 := 0#32
  let v166 : BitVec 32 := Scalar.select v165 c0_i32_140 c0_i32_141
  let v168 : BitVec 32 := Scalar.select v167 v99 v166
  let v170 : BitVec 32 := Scalar.select v169 v101 v168
  let v172 : BitVec 32 := Scalar.select v171 v103 v170
  let v174 : BitVec 32 := Scalar.select v173 v105 v172
  let v176 : BitVec 32 := Scalar.select v175 v107 v174
  let v178 : BitVec 32 := Scalar.select v177 v109 v176
  let v180 : BitVec 32 := Scalar.select v179 v111 v178
  let c0_i32_151 : BitVec 32 := 0#32
  let c1_i32_153 : BitVec 32 := 1#32
  let arg17 : BitVec 32 := Scf.iv c0_i32_151 c1_i32_153 k0_t3
  let c8_i32_643 : BitVec 32 := 8#32
  let v787 : BitVec 32 := Scalar.muli arg17 c8_i32_643
  let c4_i32_644 : BitVec 32 := 4#32
  let v788 : BitVec 32 := Scalar.addi v787 c4_i32_644
  let c1_i32_149 : BitVec 32 := 1#32
  let v181 : BitVec 32 := Scalar.subi v164 c1_i32_149
  let c0_i32_150 : BitVec 32 := 0#32
  let v182 : BitVec 32 := Scalar.maxsi v181 c0_i32_150
  let v789 : BitVec 32 := Scalar.minsi v788 v182
  let v790 : BitVec 32 := Scalar.addi v180 v789
  let c4095_i32_645 : BitVec 32 := 4095#32
  let v791 : BitVec 32 := Scalar.minsi v790 c4095_i32_645
  let v792 : Index := Scalar.indexCast v791
  ![v792.toNat]
def k0_off47 (v793 : BitVec 32) : Fin 3 → Nat :=
  let c8_i32_646 : BitVec 32 := 8#32
  let v794 : BitVec 32 := Scalar.divsi v793 c8_i32_646
  let v795 : Index := Scalar.indexCast v794
  let c0_647 : Index := 0#32
  let c0_648 : Index := 0#32
  ![v795.toNat, 0, 0]

def k0_chk24 (v793 : BitVec 32) : Prop :=
  (∀ a, (k0_off47 v793) a + S1x8x1024.size a ≤ S512x8x1024.size a)
theorem k0_off47_inb : ∀ (v793 : BitVec 32) (k0_hw24 : k0_chk24 v793), ∀ a, (k0_off47 v793) a + S1x8x1024.size a ≤ S512x8x1024.size a := fun v793 k0_hw24 => k0_hw24

def k0_off48 (d0 : Dev nD) (v98 : BitVec 32) (v100 : BitVec 32) (v102 : BitVec 32) (v104 : BitVec 32) (v106 : BitVec 32) (v108 : BitVec 32) (v110 : BitVec 32) (v164 : BitVec 32) (k0_t3 : Fin k0_t3_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v160 : BitVec 32 := Scalar.addi v2 c1_i32_135
  let c2_i32_136 : BitVec 32 := 2#32
  let v161 : BitVec 32 := Scalar.addi v160 c2_i32_136
  let c8_i32_137 : BitVec 32 := 8#32
  let v162 : BitVec 32 := Scalar.remsi v161 c8_i32_137
  let c7_i32_148 : BitVec 32 := 7#32
  let v179 : BitVec 1 := Scalar.cmpi .eq v162 c7_i32_148
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_147 : BitVec 32 := 6#32
  let v177 : BitVec 1 := Scalar.cmpi .eq v162 c6_i32_147
  let c5_i32_146 : BitVec 32 := 5#32
  let v175 : BitVec 1 := Scalar.cmpi .eq v162 c5_i32_146
  let c4_i32_145 : BitVec 32 := 4#32
  let v173 : BitVec 1 := Scalar.cmpi .eq v162 c4_i32_145
  let c3_i32_144 : BitVec 32 := 3#32
  let v171 : BitVec 1 := Scalar.cmpi .eq v162 c3_i32_144
  let c2_i32_143 : BitVec 32 := 2#32
  let v169 : BitVec 1 := Scalar.cmpi .eq v162 c2_i32_143
  let c1_i32_142 : BitVec 32 := 1#32
  let v167 : BitVec 1 := Scalar.cmpi .eq v162 c1_i32_142
  let c0_i32_139 : BitVec 32 := 0#32
  let v165 : BitVec 1 := Scalar.cmpi .eq v162 c0_i32_139
  let c0_i32_140 : BitVec 32 := 0#32
  let c0_i32_141 : BitVec 32 := 0#32
  let v166 : BitVec 32 := Scalar.select v165 c0_i32_140 c0_i32_141
  let v168 : BitVec 32 := Scalar.select v167 v99 v166
  let v170 : BitVec 32 := Scalar.select v169 v101 v168
  let v172 : BitVec 32 := Scalar.select v171 v103 v170
  let v174 : BitVec 32 := Scalar.select v173 v105 v172
  let v176 : BitVec 32 := Scalar.select v175 v107 v174
  let v178 : BitVec 32 := Scalar.select v177 v109 v176
  let v180 : BitVec 32 := Scalar.select v179 v111 v178
  let c0_i32_151 : BitVec 32 := 0#32
  let c1_i32_153 : BitVec 32 := 1#32
  let arg17 : BitVec 32 := Scf.iv c0_i32_151 c1_i32_153 k0_t3
  let c8_i32_654 : BitVec 32 := 8#32
  let v806 : BitVec 32 := Scalar.muli arg17 c8_i32_654
  let c5_i32_655 : BitVec 32 := 5#32
  let v807 : BitVec 32 := Scalar.addi v806 c5_i32_655
  let c1_i32_149 : BitVec 32 := 1#32
  let v181 : BitVec 32 := Scalar.subi v164 c1_i32_149
  let c0_i32_150 : BitVec 32 := 0#32
  let v182 : BitVec 32 := Scalar.maxsi v181 c0_i32_150
  let v808 : BitVec 32 := Scalar.minsi v807 v182
  let v809 : BitVec 32 := Scalar.addi v180 v808
  let c4095_i32_656 : BitVec 32 := 4095#32
  let v810 : BitVec 32 := Scalar.minsi v809 c4095_i32_656
  let v811 : Index := Scalar.indexCast v810
  ![v811.toNat]
def k0_off49 (v812 : BitVec 32) : Fin 3 → Nat :=
  let c8_i32_657 : BitVec 32 := 8#32
  let v813 : BitVec 32 := Scalar.divsi v812 c8_i32_657
  let v814 : Index := Scalar.indexCast v813
  let c0_658 : Index := 0#32
  let c0_659 : Index := 0#32
  ![v814.toNat, 0, 0]

def k0_chk25 (v812 : BitVec 32) : Prop :=
  (∀ a, (k0_off49 v812) a + S1x8x1024.size a ≤ S512x8x1024.size a)
theorem k0_off49_inb : ∀ (v812 : BitVec 32) (k0_hw25 : k0_chk25 v812), ∀ a, (k0_off49 v812) a + S1x8x1024.size a ≤ S512x8x1024.size a := fun v812 k0_hw25 => k0_hw25

def k0_off50 (d0 : Dev nD) (v98 : BitVec 32) (v100 : BitVec 32) (v102 : BitVec 32) (v104 : BitVec 32) (v106 : BitVec 32) (v108 : BitVec 32) (v110 : BitVec 32) (v164 : BitVec 32) (k0_t3 : Fin k0_t3_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v160 : BitVec 32 := Scalar.addi v2 c1_i32_135
  let c2_i32_136 : BitVec 32 := 2#32
  let v161 : BitVec 32 := Scalar.addi v160 c2_i32_136
  let c8_i32_137 : BitVec 32 := 8#32
  let v162 : BitVec 32 := Scalar.remsi v161 c8_i32_137
  let c7_i32_148 : BitVec 32 := 7#32
  let v179 : BitVec 1 := Scalar.cmpi .eq v162 c7_i32_148
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_147 : BitVec 32 := 6#32
  let v177 : BitVec 1 := Scalar.cmpi .eq v162 c6_i32_147
  let c5_i32_146 : BitVec 32 := 5#32
  let v175 : BitVec 1 := Scalar.cmpi .eq v162 c5_i32_146
  let c4_i32_145 : BitVec 32 := 4#32
  let v173 : BitVec 1 := Scalar.cmpi .eq v162 c4_i32_145
  let c3_i32_144 : BitVec 32 := 3#32
  let v171 : BitVec 1 := Scalar.cmpi .eq v162 c3_i32_144
  let c2_i32_143 : BitVec 32 := 2#32
  let v169 : BitVec 1 := Scalar.cmpi .eq v162 c2_i32_143
  let c1_i32_142 : BitVec 32 := 1#32
  let v167 : BitVec 1 := Scalar.cmpi .eq v162 c1_i32_142
  let c0_i32_139 : BitVec 32 := 0#32
  let v165 : BitVec 1 := Scalar.cmpi .eq v162 c0_i32_139
  let c0_i32_140 : BitVec 32 := 0#32
  let c0_i32_141 : BitVec 32 := 0#32
  let v166 : BitVec 32 := Scalar.select v165 c0_i32_140 c0_i32_141
  let v168 : BitVec 32 := Scalar.select v167 v99 v166
  let v170 : BitVec 32 := Scalar.select v169 v101 v168
  let v172 : BitVec 32 := Scalar.select v171 v103 v170
  let v174 : BitVec 32 := Scalar.select v173 v105 v172
  let v176 : BitVec 32 := Scalar.select v175 v107 v174
  let v178 : BitVec 32 := Scalar.select v177 v109 v176
  let v180 : BitVec 32 := Scalar.select v179 v111 v178
  let c0_i32_151 : BitVec 32 := 0#32
  let c1_i32_153 : BitVec 32 := 1#32
  let arg17 : BitVec 32 := Scf.iv c0_i32_151 c1_i32_153 k0_t3
  let c8_i32_665 : BitVec 32 := 8#32
  let v825 : BitVec 32 := Scalar.muli arg17 c8_i32_665
  let c6_i32_666 : BitVec 32 := 6#32
  let v826 : BitVec 32 := Scalar.addi v825 c6_i32_666
  let c1_i32_149 : BitVec 32 := 1#32
  let v181 : BitVec 32 := Scalar.subi v164 c1_i32_149
  let c0_i32_150 : BitVec 32 := 0#32
  let v182 : BitVec 32 := Scalar.maxsi v181 c0_i32_150
  let v827 : BitVec 32 := Scalar.minsi v826 v182
  let v828 : BitVec 32 := Scalar.addi v180 v827
  let c4095_i32_667 : BitVec 32 := 4095#32
  let v829 : BitVec 32 := Scalar.minsi v828 c4095_i32_667
  let v830 : Index := Scalar.indexCast v829
  ![v830.toNat]
def k0_off51 (v831 : BitVec 32) : Fin 3 → Nat :=
  let c8_i32_668 : BitVec 32 := 8#32
  let v832 : BitVec 32 := Scalar.divsi v831 c8_i32_668
  let v833 : Index := Scalar.indexCast v832
  let c0_669 : Index := 0#32
  let c0_670 : Index := 0#32
  ![v833.toNat, 0, 0]

def k0_chk26 (v831 : BitVec 32) : Prop :=
  (∀ a, (k0_off51 v831) a + S1x8x1024.size a ≤ S512x8x1024.size a)
theorem k0_off51_inb : ∀ (v831 : BitVec 32) (k0_hw26 : k0_chk26 v831), ∀ a, (k0_off51 v831) a + S1x8x1024.size a ≤ S512x8x1024.size a := fun v831 k0_hw26 => k0_hw26

def k0_off52 (d0 : Dev nD) (v98 : BitVec 32) (v100 : BitVec 32) (v102 : BitVec 32) (v104 : BitVec 32) (v106 : BitVec 32) (v108 : BitVec 32) (v110 : BitVec 32) (v164 : BitVec 32) (k0_t3 : Fin k0_t3_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v160 : BitVec 32 := Scalar.addi v2 c1_i32_135
  let c2_i32_136 : BitVec 32 := 2#32
  let v161 : BitVec 32 := Scalar.addi v160 c2_i32_136
  let c8_i32_137 : BitVec 32 := 8#32
  let v162 : BitVec 32 := Scalar.remsi v161 c8_i32_137
  let c7_i32_148 : BitVec 32 := 7#32
  let v179 : BitVec 1 := Scalar.cmpi .eq v162 c7_i32_148
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_147 : BitVec 32 := 6#32
  let v177 : BitVec 1 := Scalar.cmpi .eq v162 c6_i32_147
  let c5_i32_146 : BitVec 32 := 5#32
  let v175 : BitVec 1 := Scalar.cmpi .eq v162 c5_i32_146
  let c4_i32_145 : BitVec 32 := 4#32
  let v173 : BitVec 1 := Scalar.cmpi .eq v162 c4_i32_145
  let c3_i32_144 : BitVec 32 := 3#32
  let v171 : BitVec 1 := Scalar.cmpi .eq v162 c3_i32_144
  let c2_i32_143 : BitVec 32 := 2#32
  let v169 : BitVec 1 := Scalar.cmpi .eq v162 c2_i32_143
  let c1_i32_142 : BitVec 32 := 1#32
  let v167 : BitVec 1 := Scalar.cmpi .eq v162 c1_i32_142
  let c0_i32_139 : BitVec 32 := 0#32
  let v165 : BitVec 1 := Scalar.cmpi .eq v162 c0_i32_139
  let c0_i32_140 : BitVec 32 := 0#32
  let c0_i32_141 : BitVec 32 := 0#32
  let v166 : BitVec 32 := Scalar.select v165 c0_i32_140 c0_i32_141
  let v168 : BitVec 32 := Scalar.select v167 v99 v166
  let v170 : BitVec 32 := Scalar.select v169 v101 v168
  let v172 : BitVec 32 := Scalar.select v171 v103 v170
  let v174 : BitVec 32 := Scalar.select v173 v105 v172
  let v176 : BitVec 32 := Scalar.select v175 v107 v174
  let v178 : BitVec 32 := Scalar.select v177 v109 v176
  let v180 : BitVec 32 := Scalar.select v179 v111 v178
  let c0_i32_151 : BitVec 32 := 0#32
  let c1_i32_153 : BitVec 32 := 1#32
  let arg17 : BitVec 32 := Scf.iv c0_i32_151 c1_i32_153 k0_t3
  let c8_i32_676 : BitVec 32 := 8#32
  let v844 : BitVec 32 := Scalar.muli arg17 c8_i32_676
  let c7_i32_677 : BitVec 32 := 7#32
  let v845 : BitVec 32 := Scalar.addi v844 c7_i32_677
  let c1_i32_149 : BitVec 32 := 1#32
  let v181 : BitVec 32 := Scalar.subi v164 c1_i32_149
  let c0_i32_150 : BitVec 32 := 0#32
  let v182 : BitVec 32 := Scalar.maxsi v181 c0_i32_150
  let v846 : BitVec 32 := Scalar.minsi v845 v182
  let v847 : BitVec 32 := Scalar.addi v180 v846
  let c4095_i32_678 : BitVec 32 := 4095#32
  let v848 : BitVec 32 := Scalar.minsi v847 c4095_i32_678
  let v849 : Index := Scalar.indexCast v848
  ![v849.toNat]

def k0_chk19 (d0 : Dev nD) (v98 : BitVec 32) (v100 : BitVec 32) (v102 : BitVec 32) (v104 : BitVec 32) (v106 : BitVec 32) (v108 : BitVec 32) (v110 : BitVec 32) (v164 : BitVec 32) : Prop :=
  (∀ k0_t3 : Fin k0_t3_loop.trips, ∀ a, (k0_off38 d0 v98 v100 v102 v104 v106 v108 v110 v164 k0_t3) a + S1.size a ≤ S4096.size a) ∧
  (∀ k0_t3 : Fin k0_t3_loop.trips, ∀ a, (k0_off40 d0 v98 v100 v102 v104 v106 v108 v110 v164 k0_t3) a + S1.size a ≤ S4096.size a) ∧
  (∀ k0_t3 : Fin k0_t3_loop.trips, ∀ a, (k0_off42 d0 v98 v100 v102 v104 v106 v108 v110 v164 k0_t3) a + S1.size a ≤ S4096.size a) ∧
  (∀ k0_t3 : Fin k0_t3_loop.trips, ∀ a, (k0_off44 d0 v98 v100 v102 v104 v106 v108 v110 v164 k0_t3) a + S1.size a ≤ S4096.size a) ∧
  (∀ k0_t3 : Fin k0_t3_loop.trips, ∀ a, (k0_off46 d0 v98 v100 v102 v104 v106 v108 v110 v164 k0_t3) a + S1.size a ≤ S4096.size a) ∧
  (∀ k0_t3 : Fin k0_t3_loop.trips, ∀ a, (k0_off48 d0 v98 v100 v102 v104 v106 v108 v110 v164 k0_t3) a + S1.size a ≤ S4096.size a) ∧
  (∀ k0_t3 : Fin k0_t3_loop.trips, ∀ a, (k0_off50 d0 v98 v100 v102 v104 v106 v108 v110 v164 k0_t3) a + S1.size a ≤ S4096.size a) ∧
  (∀ k0_t3 : Fin k0_t3_loop.trips, ∀ a, (k0_off52 d0 v98 v100 v102 v104 v106 v108 v110 v164 k0_t3) a + S1.size a ≤ S4096.size a)
theorem k0_off38_inb : ∀ (d0 : Dev nD) (v98 : BitVec 32) (v100 : BitVec 32) (v102 : BitVec 32) (v104 : BitVec 32) (v106 : BitVec 32) (v108 : BitVec 32) (v110 : BitVec 32) (v164 : BitVec 32) (k0_hw19 : k0_chk19 d0 v98 v100 v102 v104 v106 v108 v110 v164) (k0_t3 : Fin k0_t3_loop.trips), ∀ a, (k0_off38 d0 v98 v100 v102 v104 v106 v108 v110 v164 k0_t3) a + S1.size a ≤ S4096.size a := fun d0 v98 v100 v102 v104 v106 v108 v110 v164 k0_hw19 k0_t3 => k0_hw19.1 k0_t3
theorem k0_off40_inb : ∀ (d0 : Dev nD) (v98 : BitVec 32) (v100 : BitVec 32) (v102 : BitVec 32) (v104 : BitVec 32) (v106 : BitVec 32) (v108 : BitVec 32) (v110 : BitVec 32) (v164 : BitVec 32) (k0_hw19 : k0_chk19 d0 v98 v100 v102 v104 v106 v108 v110 v164) (k0_t3 : Fin k0_t3_loop.trips), ∀ a, (k0_off40 d0 v98 v100 v102 v104 v106 v108 v110 v164 k0_t3) a + S1.size a ≤ S4096.size a := fun d0 v98 v100 v102 v104 v106 v108 v110 v164 k0_hw19 k0_t3 => k0_hw19.2.1 k0_t3
theorem k0_off42_inb : ∀ (d0 : Dev nD) (v98 : BitVec 32) (v100 : BitVec 32) (v102 : BitVec 32) (v104 : BitVec 32) (v106 : BitVec 32) (v108 : BitVec 32) (v110 : BitVec 32) (v164 : BitVec 32) (k0_hw19 : k0_chk19 d0 v98 v100 v102 v104 v106 v108 v110 v164) (k0_t3 : Fin k0_t3_loop.trips), ∀ a, (k0_off42 d0 v98 v100 v102 v104 v106 v108 v110 v164 k0_t3) a + S1.size a ≤ S4096.size a := fun d0 v98 v100 v102 v104 v106 v108 v110 v164 k0_hw19 k0_t3 => k0_hw19.2.2.1 k0_t3
theorem k0_off44_inb : ∀ (d0 : Dev nD) (v98 : BitVec 32) (v100 : BitVec 32) (v102 : BitVec 32) (v104 : BitVec 32) (v106 : BitVec 32) (v108 : BitVec 32) (v110 : BitVec 32) (v164 : BitVec 32) (k0_hw19 : k0_chk19 d0 v98 v100 v102 v104 v106 v108 v110 v164) (k0_t3 : Fin k0_t3_loop.trips), ∀ a, (k0_off44 d0 v98 v100 v102 v104 v106 v108 v110 v164 k0_t3) a + S1.size a ≤ S4096.size a := fun d0 v98 v100 v102 v104 v106 v108 v110 v164 k0_hw19 k0_t3 => k0_hw19.2.2.2.1 k0_t3
theorem k0_off46_inb : ∀ (d0 : Dev nD) (v98 : BitVec 32) (v100 : BitVec 32) (v102 : BitVec 32) (v104 : BitVec 32) (v106 : BitVec 32) (v108 : BitVec 32) (v110 : BitVec 32) (v164 : BitVec 32) (k0_hw19 : k0_chk19 d0 v98 v100 v102 v104 v106 v108 v110 v164) (k0_t3 : Fin k0_t3_loop.trips), ∀ a, (k0_off46 d0 v98 v100 v102 v104 v106 v108 v110 v164 k0_t3) a + S1.size a ≤ S4096.size a := fun d0 v98 v100 v102 v104 v106 v108 v110 v164 k0_hw19 k0_t3 => k0_hw19.2.2.2.2.1 k0_t3
theorem k0_off48_inb : ∀ (d0 : Dev nD) (v98 : BitVec 32) (v100 : BitVec 32) (v102 : BitVec 32) (v104 : BitVec 32) (v106 : BitVec 32) (v108 : BitVec 32) (v110 : BitVec 32) (v164 : BitVec 32) (k0_hw19 : k0_chk19 d0 v98 v100 v102 v104 v106 v108 v110 v164) (k0_t3 : Fin k0_t3_loop.trips), ∀ a, (k0_off48 d0 v98 v100 v102 v104 v106 v108 v110 v164 k0_t3) a + S1.size a ≤ S4096.size a := fun d0 v98 v100 v102 v104 v106 v108 v110 v164 k0_hw19 k0_t3 => k0_hw19.2.2.2.2.2.1 k0_t3
theorem k0_off50_inb : ∀ (d0 : Dev nD) (v98 : BitVec 32) (v100 : BitVec 32) (v102 : BitVec 32) (v104 : BitVec 32) (v106 : BitVec 32) (v108 : BitVec 32) (v110 : BitVec 32) (v164 : BitVec 32) (k0_hw19 : k0_chk19 d0 v98 v100 v102 v104 v106 v108 v110 v164) (k0_t3 : Fin k0_t3_loop.trips), ∀ a, (k0_off50 d0 v98 v100 v102 v104 v106 v108 v110 v164 k0_t3) a + S1.size a ≤ S4096.size a := fun d0 v98 v100 v102 v104 v106 v108 v110 v164 k0_hw19 k0_t3 => k0_hw19.2.2.2.2.2.2.1 k0_t3
theorem k0_off52_inb : ∀ (d0 : Dev nD) (v98 : BitVec 32) (v100 : BitVec 32) (v102 : BitVec 32) (v104 : BitVec 32) (v106 : BitVec 32) (v108 : BitVec 32) (v110 : BitVec 32) (v164 : BitVec 32) (k0_hw19 : k0_chk19 d0 v98 v100 v102 v104 v106 v108 v110 v164) (k0_t3 : Fin k0_t3_loop.trips), ∀ a, (k0_off52 d0 v98 v100 v102 v104 v106 v108 v110 v164 k0_t3) a + S1.size a ≤ S4096.size a := fun d0 v98 v100 v102 v104 v106 v108 v110 v164 k0_hw19 k0_t3 => k0_hw19.2.2.2.2.2.2.2 k0_t3

def k0_off53 (v850 : BitVec 32) : Fin 3 → Nat :=
  let c8_i32_679 : BitVec 32 := 8#32
  let v851 : BitVec 32 := Scalar.divsi v850 c8_i32_679
  let v852 : Index := Scalar.indexCast v851
  let c0_680 : Index := 0#32
  let c0_681 : Index := 0#32
  ![v852.toNat, 0, 0]

def k0_chk27 (v850 : BitVec 32) : Prop :=
  (∀ a, (k0_off53 v850) a + S1x8x1024.size a ≤ S512x8x1024.size a)
theorem k0_off53_inb : ∀ (v850 : BitVec 32) (k0_hw27 : k0_chk27 v850), ∀ a, (k0_off53 v850) a + S1x8x1024.size a ≤ S512x8x1024.size a := fun v850 k0_hw27 => k0_hw27

def k0_off54 (k0_t3 : Fin k0_t3_loop.trips) : Fin 3 → Nat :=
  let c160_i32_687 : BitVec 32 := 160#32
  let c0_i32_151 : BitVec 32 := 0#32
  let c1_i32_153 : BitVec 32 := 1#32
  let arg17 : BitVec 32 := Scf.iv c0_i32_151 c1_i32_153 k0_t3
  let v863 : BitVec 32 := Scalar.addi c160_i32_687 arg17
  let v864 : Index := Scalar.indexCast v863
  let c0_688 : Index := 0#32
  let c0_689 : Index := 0#32
  ![v864.toNat, 0, 0]
def k0_off55 (d0 : Dev nD) : Fin 2 → Nat :=
  let c7_158 : Index := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_155 : BitVec 32 := 1#32
  let v184 : BitVec 32 := Scalar.addi v2 c1_i32_155
  let c3_i32_156 : BitVec 32 := 3#32
  let v185 : BitVec 32 := Scalar.addi v184 c3_i32_156
  let c8_i32_157 : BitVec 32 := 8#32
  let v186 : BitVec 32 := Scalar.remsi v185 c8_i32_157
  let v187 : Index := Scalar.indexCast v186
  ![7, v187.toNat]
@[reducible] def k0_t4_loop : Scf.Loop 32 :=
  let c0_i32_171 : BitVec 32 := 0#32
  let c80_i32_172 : BitVec 32 := 80#32
  let v207 : BitVec 32 := Scalar.addi c0_i32_171 c80_i32_172
  let c1_i32_173 : BitVec 32 := 1#32
  ⟨c0_i32_171, v207, c1_i32_173⟩
def k0_off56 (d0 : Dev nD) (v98 : BitVec 32) (v100 : BitVec 32) (v102 : BitVec 32) (v104 : BitVec 32) (v106 : BitVec 32) (v108 : BitVec 32) (v110 : BitVec 32) (v188 : BitVec 32) (k0_t4 : Fin k0_t4_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_155 : BitVec 32 := 1#32
  let v184 : BitVec 32 := Scalar.addi v2 c1_i32_155
  let c3_i32_156 : BitVec 32 := 3#32
  let v185 : BitVec 32 := Scalar.addi v184 c3_i32_156
  let c8_i32_157 : BitVec 32 := 8#32
  let v186 : BitVec 32 := Scalar.remsi v185 c8_i32_157
  let c7_i32_168 : BitVec 32 := 7#32
  let v203 : BitVec 1 := Scalar.cmpi .eq v186 c7_i32_168
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_167 : BitVec 32 := 6#32
  let v201 : BitVec 1 := Scalar.cmpi .eq v186 c6_i32_167
  let c5_i32_166 : BitVec 32 := 5#32
  let v199 : BitVec 1 := Scalar.cmpi .eq v186 c5_i32_166
  let c4_i32_165 : BitVec 32 := 4#32
  let v197 : BitVec 1 := Scalar.cmpi .eq v186 c4_i32_165
  let c3_i32_164 : BitVec 32 := 3#32
  let v195 : BitVec 1 := Scalar.cmpi .eq v186 c3_i32_164
  let c2_i32_163 : BitVec 32 := 2#32
  let v193 : BitVec 1 := Scalar.cmpi .eq v186 c2_i32_163
  let c1_i32_162 : BitVec 32 := 1#32
  let v191 : BitVec 1 := Scalar.cmpi .eq v186 c1_i32_162
  let c0_i32_159 : BitVec 32 := 0#32
  let v189 : BitVec 1 := Scalar.cmpi .eq v186 c0_i32_159
  let c0_i32_160 : BitVec 32 := 0#32
  let c0_i32_161 : BitVec 32 := 0#32
  let v190 : BitVec 32 := Scalar.select v189 c0_i32_160 c0_i32_161
  let v192 : BitVec 32 := Scalar.select v191 v99 v190
  let v194 : BitVec 32 := Scalar.select v193 v101 v192
  let v196 : BitVec 32 := Scalar.select v195 v103 v194
  let v198 : BitVec 32 := Scalar.select v197 v105 v196
  let v200 : BitVec 32 := Scalar.select v199 v107 v198
  let v202 : BitVec 32 := Scalar.select v201 v109 v200
  let v204 : BitVec 32 := Scalar.select v203 v111 v202
  let c0_i32_171 : BitVec 32 := 0#32
  let c1_i32_173 : BitVec 32 := 1#32
  let arg17 : BitVec 32 := Scf.iv c0_i32_171 c1_i32_173 k0_t4
  let c8_i32_600 : BitVec 32 := 8#32
  let v711 : BitVec 32 := Scalar.muli arg17 c8_i32_600
  let c0_i32_601 : BitVec 32 := 0#32
  let v712 : BitVec 32 := Scalar.addi v711 c0_i32_601
  let c1_i32_169 : BitVec 32 := 1#32
  let v205 : BitVec 32 := Scalar.subi v188 c1_i32_169
  let c0_i32_170 : BitVec 32 := 0#32
  let v206 : BitVec 32 := Scalar.maxsi v205 c0_i32_170
  let v713 : BitVec 32 := Scalar.minsi v712 v206
  let v714 : BitVec 32 := Scalar.addi v204 v713
  let c4095_i32 : BitVec 32 := 4095#32
  let v715 : BitVec 32 := Scalar.minsi v714 c4095_i32
  let v716 : Index := Scalar.indexCast v715
  ![v716.toNat]

def k0_off57 (v717 : BitVec 32) : Fin 3 → Nat :=
  let c8_i32_602 : BitVec 32 := 8#32
  let v718 : BitVec 32 := Scalar.divsi v717 c8_i32_602
  let v719 : Index := Scalar.indexCast v718
  let c0_603 : Index := 0#32
  let c0_604 : Index := 0#32
  ![v719.toNat, 0, 0]

def k0_chk29 (v717 : BitVec 32) : Prop :=
  (∀ a, (k0_off57 v717) a + S1x8x1024.size a ≤ S512x8x1024.size a)
theorem k0_off57_inb : ∀ (v717 : BitVec 32) (k0_hw29 : k0_chk29 v717), ∀ a, (k0_off57 v717) a + S1x8x1024.size a ≤ S512x8x1024.size a := fun v717 k0_hw29 => k0_hw29

def k0_off58 (d0 : Dev nD) (v98 : BitVec 32) (v100 : BitVec 32) (v102 : BitVec 32) (v104 : BitVec 32) (v106 : BitVec 32) (v108 : BitVec 32) (v110 : BitVec 32) (v188 : BitVec 32) (k0_t4 : Fin k0_t4_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_155 : BitVec 32 := 1#32
  let v184 : BitVec 32 := Scalar.addi v2 c1_i32_155
  let c3_i32_156 : BitVec 32 := 3#32
  let v185 : BitVec 32 := Scalar.addi v184 c3_i32_156
  let c8_i32_157 : BitVec 32 := 8#32
  let v186 : BitVec 32 := Scalar.remsi v185 c8_i32_157
  let c7_i32_168 : BitVec 32 := 7#32
  let v203 : BitVec 1 := Scalar.cmpi .eq v186 c7_i32_168
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_167 : BitVec 32 := 6#32
  let v201 : BitVec 1 := Scalar.cmpi .eq v186 c6_i32_167
  let c5_i32_166 : BitVec 32 := 5#32
  let v199 : BitVec 1 := Scalar.cmpi .eq v186 c5_i32_166
  let c4_i32_165 : BitVec 32 := 4#32
  let v197 : BitVec 1 := Scalar.cmpi .eq v186 c4_i32_165
  let c3_i32_164 : BitVec 32 := 3#32
  let v195 : BitVec 1 := Scalar.cmpi .eq v186 c3_i32_164
  let c2_i32_163 : BitVec 32 := 2#32
  let v193 : BitVec 1 := Scalar.cmpi .eq v186 c2_i32_163
  let c1_i32_162 : BitVec 32 := 1#32
  let v191 : BitVec 1 := Scalar.cmpi .eq v186 c1_i32_162
  let c0_i32_159 : BitVec 32 := 0#32
  let v189 : BitVec 1 := Scalar.cmpi .eq v186 c0_i32_159
  let c0_i32_160 : BitVec 32 := 0#32
  let c0_i32_161 : BitVec 32 := 0#32
  let v190 : BitVec 32 := Scalar.select v189 c0_i32_160 c0_i32_161
  let v192 : BitVec 32 := Scalar.select v191 v99 v190
  let v194 : BitVec 32 := Scalar.select v193 v101 v192
  let v196 : BitVec 32 := Scalar.select v195 v103 v194
  let v198 : BitVec 32 := Scalar.select v197 v105 v196
  let v200 : BitVec 32 := Scalar.select v199 v107 v198
  let v202 : BitVec 32 := Scalar.select v201 v109 v200
  let v204 : BitVec 32 := Scalar.select v203 v111 v202
  let c0_i32_171 : BitVec 32 := 0#32
  let c1_i32_173 : BitVec 32 := 1#32
  let arg17 : BitVec 32 := Scf.iv c0_i32_171 c1_i32_173 k0_t4
  let c8_i32_610 : BitVec 32 := 8#32
  let v730 : BitVec 32 := Scalar.muli arg17 c8_i32_610
  let c1_i32_611 : BitVec 32 := 1#32
  let v731 : BitVec 32 := Scalar.addi v730 c1_i32_611
  let c1_i32_169 : BitVec 32 := 1#32
  let v205 : BitVec 32 := Scalar.subi v188 c1_i32_169
  let c0_i32_170 : BitVec 32 := 0#32
  let v206 : BitVec 32 := Scalar.maxsi v205 c0_i32_170
  let v732 : BitVec 32 := Scalar.minsi v731 v206
  let v733 : BitVec 32 := Scalar.addi v204 v732
  let c4095_i32_612 : BitVec 32 := 4095#32
  let v734 : BitVec 32 := Scalar.minsi v733 c4095_i32_612
  let v735 : Index := Scalar.indexCast v734
  ![v735.toNat]
def k0_off59 (v736 : BitVec 32) : Fin 3 → Nat :=
  let c8_i32_613 : BitVec 32 := 8#32
  let v737 : BitVec 32 := Scalar.divsi v736 c8_i32_613
  let v738 : Index := Scalar.indexCast v737
  let c0_614 : Index := 0#32
  let c0_615 : Index := 0#32
  ![v738.toNat, 0, 0]

def k0_chk30 (v736 : BitVec 32) : Prop :=
  (∀ a, (k0_off59 v736) a + S1x8x1024.size a ≤ S512x8x1024.size a)
theorem k0_off59_inb : ∀ (v736 : BitVec 32) (k0_hw30 : k0_chk30 v736), ∀ a, (k0_off59 v736) a + S1x8x1024.size a ≤ S512x8x1024.size a := fun v736 k0_hw30 => k0_hw30

def k0_off60 (d0 : Dev nD) (v98 : BitVec 32) (v100 : BitVec 32) (v102 : BitVec 32) (v104 : BitVec 32) (v106 : BitVec 32) (v108 : BitVec 32) (v110 : BitVec 32) (v188 : BitVec 32) (k0_t4 : Fin k0_t4_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_155 : BitVec 32 := 1#32
  let v184 : BitVec 32 := Scalar.addi v2 c1_i32_155
  let c3_i32_156 : BitVec 32 := 3#32
  let v185 : BitVec 32 := Scalar.addi v184 c3_i32_156
  let c8_i32_157 : BitVec 32 := 8#32
  let v186 : BitVec 32 := Scalar.remsi v185 c8_i32_157
  let c7_i32_168 : BitVec 32 := 7#32
  let v203 : BitVec 1 := Scalar.cmpi .eq v186 c7_i32_168
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_167 : BitVec 32 := 6#32
  let v201 : BitVec 1 := Scalar.cmpi .eq v186 c6_i32_167
  let c5_i32_166 : BitVec 32 := 5#32
  let v199 : BitVec 1 := Scalar.cmpi .eq v186 c5_i32_166
  let c4_i32_165 : BitVec 32 := 4#32
  let v197 : BitVec 1 := Scalar.cmpi .eq v186 c4_i32_165
  let c3_i32_164 : BitVec 32 := 3#32
  let v195 : BitVec 1 := Scalar.cmpi .eq v186 c3_i32_164
  let c2_i32_163 : BitVec 32 := 2#32
  let v193 : BitVec 1 := Scalar.cmpi .eq v186 c2_i32_163
  let c1_i32_162 : BitVec 32 := 1#32
  let v191 : BitVec 1 := Scalar.cmpi .eq v186 c1_i32_162
  let c0_i32_159 : BitVec 32 := 0#32
  let v189 : BitVec 1 := Scalar.cmpi .eq v186 c0_i32_159
  let c0_i32_160 : BitVec 32 := 0#32
  let c0_i32_161 : BitVec 32 := 0#32
  let v190 : BitVec 32 := Scalar.select v189 c0_i32_160 c0_i32_161
  let v192 : BitVec 32 := Scalar.select v191 v99 v190
  let v194 : BitVec 32 := Scalar.select v193 v101 v192
  let v196 : BitVec 32 := Scalar.select v195 v103 v194
  let v198 : BitVec 32 := Scalar.select v197 v105 v196
  let v200 : BitVec 32 := Scalar.select v199 v107 v198
  let v202 : BitVec 32 := Scalar.select v201 v109 v200
  let v204 : BitVec 32 := Scalar.select v203 v111 v202
  let c0_i32_171 : BitVec 32 := 0#32
  let c1_i32_173 : BitVec 32 := 1#32
  let arg17 : BitVec 32 := Scf.iv c0_i32_171 c1_i32_173 k0_t4
  let c8_i32_621 : BitVec 32 := 8#32
  let v749 : BitVec 32 := Scalar.muli arg17 c8_i32_621
  let c2_i32_622 : BitVec 32 := 2#32
  let v750 : BitVec 32 := Scalar.addi v749 c2_i32_622
  let c1_i32_169 : BitVec 32 := 1#32
  let v205 : BitVec 32 := Scalar.subi v188 c1_i32_169
  let c0_i32_170 : BitVec 32 := 0#32
  let v206 : BitVec 32 := Scalar.maxsi v205 c0_i32_170
  let v751 : BitVec 32 := Scalar.minsi v750 v206
  let v752 : BitVec 32 := Scalar.addi v204 v751
  let c4095_i32_623 : BitVec 32 := 4095#32
  let v753 : BitVec 32 := Scalar.minsi v752 c4095_i32_623
  let v754 : Index := Scalar.indexCast v753
  ![v754.toNat]
def k0_off61 (v755 : BitVec 32) : Fin 3 → Nat :=
  let c8_i32_624 : BitVec 32 := 8#32
  let v756 : BitVec 32 := Scalar.divsi v755 c8_i32_624
  let v757 : Index := Scalar.indexCast v756
  let c0_625 : Index := 0#32
  let c0_626 : Index := 0#32
  ![v757.toNat, 0, 0]

def k0_chk31 (v755 : BitVec 32) : Prop :=
  (∀ a, (k0_off61 v755) a + S1x8x1024.size a ≤ S512x8x1024.size a)
theorem k0_off61_inb : ∀ (v755 : BitVec 32) (k0_hw31 : k0_chk31 v755), ∀ a, (k0_off61 v755) a + S1x8x1024.size a ≤ S512x8x1024.size a := fun v755 k0_hw31 => k0_hw31

def k0_off62 (d0 : Dev nD) (v98 : BitVec 32) (v100 : BitVec 32) (v102 : BitVec 32) (v104 : BitVec 32) (v106 : BitVec 32) (v108 : BitVec 32) (v110 : BitVec 32) (v188 : BitVec 32) (k0_t4 : Fin k0_t4_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_155 : BitVec 32 := 1#32
  let v184 : BitVec 32 := Scalar.addi v2 c1_i32_155
  let c3_i32_156 : BitVec 32 := 3#32
  let v185 : BitVec 32 := Scalar.addi v184 c3_i32_156
  let c8_i32_157 : BitVec 32 := 8#32
  let v186 : BitVec 32 := Scalar.remsi v185 c8_i32_157
  let c7_i32_168 : BitVec 32 := 7#32
  let v203 : BitVec 1 := Scalar.cmpi .eq v186 c7_i32_168
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_167 : BitVec 32 := 6#32
  let v201 : BitVec 1 := Scalar.cmpi .eq v186 c6_i32_167
  let c5_i32_166 : BitVec 32 := 5#32
  let v199 : BitVec 1 := Scalar.cmpi .eq v186 c5_i32_166
  let c4_i32_165 : BitVec 32 := 4#32
  let v197 : BitVec 1 := Scalar.cmpi .eq v186 c4_i32_165
  let c3_i32_164 : BitVec 32 := 3#32
  let v195 : BitVec 1 := Scalar.cmpi .eq v186 c3_i32_164
  let c2_i32_163 : BitVec 32 := 2#32
  let v193 : BitVec 1 := Scalar.cmpi .eq v186 c2_i32_163
  let c1_i32_162 : BitVec 32 := 1#32
  let v191 : BitVec 1 := Scalar.cmpi .eq v186 c1_i32_162
  let c0_i32_159 : BitVec 32 := 0#32
  let v189 : BitVec 1 := Scalar.cmpi .eq v186 c0_i32_159
  let c0_i32_160 : BitVec 32 := 0#32
  let c0_i32_161 : BitVec 32 := 0#32
  let v190 : BitVec 32 := Scalar.select v189 c0_i32_160 c0_i32_161
  let v192 : BitVec 32 := Scalar.select v191 v99 v190
  let v194 : BitVec 32 := Scalar.select v193 v101 v192
  let v196 : BitVec 32 := Scalar.select v195 v103 v194
  let v198 : BitVec 32 := Scalar.select v197 v105 v196
  let v200 : BitVec 32 := Scalar.select v199 v107 v198
  let v202 : BitVec 32 := Scalar.select v201 v109 v200
  let v204 : BitVec 32 := Scalar.select v203 v111 v202
  let c0_i32_171 : BitVec 32 := 0#32
  let c1_i32_173 : BitVec 32 := 1#32
  let arg17 : BitVec 32 := Scf.iv c0_i32_171 c1_i32_173 k0_t4
  let c8_i32_632 : BitVec 32 := 8#32
  let v768 : BitVec 32 := Scalar.muli arg17 c8_i32_632
  let c3_i32_633 : BitVec 32 := 3#32
  let v769 : BitVec 32 := Scalar.addi v768 c3_i32_633
  let c1_i32_169 : BitVec 32 := 1#32
  let v205 : BitVec 32 := Scalar.subi v188 c1_i32_169
  let c0_i32_170 : BitVec 32 := 0#32
  let v206 : BitVec 32 := Scalar.maxsi v205 c0_i32_170
  let v770 : BitVec 32 := Scalar.minsi v769 v206
  let v771 : BitVec 32 := Scalar.addi v204 v770
  let c4095_i32_634 : BitVec 32 := 4095#32
  let v772 : BitVec 32 := Scalar.minsi v771 c4095_i32_634
  let v773 : Index := Scalar.indexCast v772
  ![v773.toNat]
def k0_off63 (v774 : BitVec 32) : Fin 3 → Nat :=
  let c8_i32_635 : BitVec 32 := 8#32
  let v775 : BitVec 32 := Scalar.divsi v774 c8_i32_635
  let v776 : Index := Scalar.indexCast v775
  let c0_636 : Index := 0#32
  let c0_637 : Index := 0#32
  ![v776.toNat, 0, 0]

def k0_chk32 (v774 : BitVec 32) : Prop :=
  (∀ a, (k0_off63 v774) a + S1x8x1024.size a ≤ S512x8x1024.size a)
theorem k0_off63_inb : ∀ (v774 : BitVec 32) (k0_hw32 : k0_chk32 v774), ∀ a, (k0_off63 v774) a + S1x8x1024.size a ≤ S512x8x1024.size a := fun v774 k0_hw32 => k0_hw32

def k0_off64 (d0 : Dev nD) (v98 : BitVec 32) (v100 : BitVec 32) (v102 : BitVec 32) (v104 : BitVec 32) (v106 : BitVec 32) (v108 : BitVec 32) (v110 : BitVec 32) (v188 : BitVec 32) (k0_t4 : Fin k0_t4_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_155 : BitVec 32 := 1#32
  let v184 : BitVec 32 := Scalar.addi v2 c1_i32_155
  let c3_i32_156 : BitVec 32 := 3#32
  let v185 : BitVec 32 := Scalar.addi v184 c3_i32_156
  let c8_i32_157 : BitVec 32 := 8#32
  let v186 : BitVec 32 := Scalar.remsi v185 c8_i32_157
  let c7_i32_168 : BitVec 32 := 7#32
  let v203 : BitVec 1 := Scalar.cmpi .eq v186 c7_i32_168
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_167 : BitVec 32 := 6#32
  let v201 : BitVec 1 := Scalar.cmpi .eq v186 c6_i32_167
  let c5_i32_166 : BitVec 32 := 5#32
  let v199 : BitVec 1 := Scalar.cmpi .eq v186 c5_i32_166
  let c4_i32_165 : BitVec 32 := 4#32
  let v197 : BitVec 1 := Scalar.cmpi .eq v186 c4_i32_165
  let c3_i32_164 : BitVec 32 := 3#32
  let v195 : BitVec 1 := Scalar.cmpi .eq v186 c3_i32_164
  let c2_i32_163 : BitVec 32 := 2#32
  let v193 : BitVec 1 := Scalar.cmpi .eq v186 c2_i32_163
  let c1_i32_162 : BitVec 32 := 1#32
  let v191 : BitVec 1 := Scalar.cmpi .eq v186 c1_i32_162
  let c0_i32_159 : BitVec 32 := 0#32
  let v189 : BitVec 1 := Scalar.cmpi .eq v186 c0_i32_159
  let c0_i32_160 : BitVec 32 := 0#32
  let c0_i32_161 : BitVec 32 := 0#32
  let v190 : BitVec 32 := Scalar.select v189 c0_i32_160 c0_i32_161
  let v192 : BitVec 32 := Scalar.select v191 v99 v190
  let v194 : BitVec 32 := Scalar.select v193 v101 v192
  let v196 : BitVec 32 := Scalar.select v195 v103 v194
  let v198 : BitVec 32 := Scalar.select v197 v105 v196
  let v200 : BitVec 32 := Scalar.select v199 v107 v198
  let v202 : BitVec 32 := Scalar.select v201 v109 v200
  let v204 : BitVec 32 := Scalar.select v203 v111 v202
  let c0_i32_171 : BitVec 32 := 0#32
  let c1_i32_173 : BitVec 32 := 1#32
  let arg17 : BitVec 32 := Scf.iv c0_i32_171 c1_i32_173 k0_t4
  let c8_i32_643 : BitVec 32 := 8#32
  let v787 : BitVec 32 := Scalar.muli arg17 c8_i32_643
  let c4_i32_644 : BitVec 32 := 4#32
  let v788 : BitVec 32 := Scalar.addi v787 c4_i32_644
  let c1_i32_169 : BitVec 32 := 1#32
  let v205 : BitVec 32 := Scalar.subi v188 c1_i32_169
  let c0_i32_170 : BitVec 32 := 0#32
  let v206 : BitVec 32 := Scalar.maxsi v205 c0_i32_170
  let v789 : BitVec 32 := Scalar.minsi v788 v206
  let v790 : BitVec 32 := Scalar.addi v204 v789
  let c4095_i32_645 : BitVec 32 := 4095#32
  let v791 : BitVec 32 := Scalar.minsi v790 c4095_i32_645
  let v792 : Index := Scalar.indexCast v791
  ![v792.toNat]
def k0_off65 (v793 : BitVec 32) : Fin 3 → Nat :=
  let c8_i32_646 : BitVec 32 := 8#32
  let v794 : BitVec 32 := Scalar.divsi v793 c8_i32_646
  let v795 : Index := Scalar.indexCast v794
  let c0_647 : Index := 0#32
  let c0_648 : Index := 0#32
  ![v795.toNat, 0, 0]

def k0_chk33 (v793 : BitVec 32) : Prop :=
  (∀ a, (k0_off65 v793) a + S1x8x1024.size a ≤ S512x8x1024.size a)
theorem k0_off65_inb : ∀ (v793 : BitVec 32) (k0_hw33 : k0_chk33 v793), ∀ a, (k0_off65 v793) a + S1x8x1024.size a ≤ S512x8x1024.size a := fun v793 k0_hw33 => k0_hw33

def k0_off66 (d0 : Dev nD) (v98 : BitVec 32) (v100 : BitVec 32) (v102 : BitVec 32) (v104 : BitVec 32) (v106 : BitVec 32) (v108 : BitVec 32) (v110 : BitVec 32) (v188 : BitVec 32) (k0_t4 : Fin k0_t4_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_155 : BitVec 32 := 1#32
  let v184 : BitVec 32 := Scalar.addi v2 c1_i32_155
  let c3_i32_156 : BitVec 32 := 3#32
  let v185 : BitVec 32 := Scalar.addi v184 c3_i32_156
  let c8_i32_157 : BitVec 32 := 8#32
  let v186 : BitVec 32 := Scalar.remsi v185 c8_i32_157
  let c7_i32_168 : BitVec 32 := 7#32
  let v203 : BitVec 1 := Scalar.cmpi .eq v186 c7_i32_168
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_167 : BitVec 32 := 6#32
  let v201 : BitVec 1 := Scalar.cmpi .eq v186 c6_i32_167
  let c5_i32_166 : BitVec 32 := 5#32
  let v199 : BitVec 1 := Scalar.cmpi .eq v186 c5_i32_166
  let c4_i32_165 : BitVec 32 := 4#32
  let v197 : BitVec 1 := Scalar.cmpi .eq v186 c4_i32_165
  let c3_i32_164 : BitVec 32 := 3#32
  let v195 : BitVec 1 := Scalar.cmpi .eq v186 c3_i32_164
  let c2_i32_163 : BitVec 32 := 2#32
  let v193 : BitVec 1 := Scalar.cmpi .eq v186 c2_i32_163
  let c1_i32_162 : BitVec 32 := 1#32
  let v191 : BitVec 1 := Scalar.cmpi .eq v186 c1_i32_162
  let c0_i32_159 : BitVec 32 := 0#32
  let v189 : BitVec 1 := Scalar.cmpi .eq v186 c0_i32_159
  let c0_i32_160 : BitVec 32 := 0#32
  let c0_i32_161 : BitVec 32 := 0#32
  let v190 : BitVec 32 := Scalar.select v189 c0_i32_160 c0_i32_161
  let v192 : BitVec 32 := Scalar.select v191 v99 v190
  let v194 : BitVec 32 := Scalar.select v193 v101 v192
  let v196 : BitVec 32 := Scalar.select v195 v103 v194
  let v198 : BitVec 32 := Scalar.select v197 v105 v196
  let v200 : BitVec 32 := Scalar.select v199 v107 v198
  let v202 : BitVec 32 := Scalar.select v201 v109 v200
  let v204 : BitVec 32 := Scalar.select v203 v111 v202
  let c0_i32_171 : BitVec 32 := 0#32
  let c1_i32_173 : BitVec 32 := 1#32
  let arg17 : BitVec 32 := Scf.iv c0_i32_171 c1_i32_173 k0_t4
  let c8_i32_654 : BitVec 32 := 8#32
  let v806 : BitVec 32 := Scalar.muli arg17 c8_i32_654
  let c5_i32_655 : BitVec 32 := 5#32
  let v807 : BitVec 32 := Scalar.addi v806 c5_i32_655
  let c1_i32_169 : BitVec 32 := 1#32
  let v205 : BitVec 32 := Scalar.subi v188 c1_i32_169
  let c0_i32_170 : BitVec 32 := 0#32
  let v206 : BitVec 32 := Scalar.maxsi v205 c0_i32_170
  let v808 : BitVec 32 := Scalar.minsi v807 v206
  let v809 : BitVec 32 := Scalar.addi v204 v808
  let c4095_i32_656 : BitVec 32 := 4095#32
  let v810 : BitVec 32 := Scalar.minsi v809 c4095_i32_656
  let v811 : Index := Scalar.indexCast v810
  ![v811.toNat]
def k0_off67 (v812 : BitVec 32) : Fin 3 → Nat :=
  let c8_i32_657 : BitVec 32 := 8#32
  let v813 : BitVec 32 := Scalar.divsi v812 c8_i32_657
  let v814 : Index := Scalar.indexCast v813
  let c0_658 : Index := 0#32
  let c0_659 : Index := 0#32
  ![v814.toNat, 0, 0]

def k0_chk34 (v812 : BitVec 32) : Prop :=
  (∀ a, (k0_off67 v812) a + S1x8x1024.size a ≤ S512x8x1024.size a)
theorem k0_off67_inb : ∀ (v812 : BitVec 32) (k0_hw34 : k0_chk34 v812), ∀ a, (k0_off67 v812) a + S1x8x1024.size a ≤ S512x8x1024.size a := fun v812 k0_hw34 => k0_hw34

def k0_off68 (d0 : Dev nD) (v98 : BitVec 32) (v100 : BitVec 32) (v102 : BitVec 32) (v104 : BitVec 32) (v106 : BitVec 32) (v108 : BitVec 32) (v110 : BitVec 32) (v188 : BitVec 32) (k0_t4 : Fin k0_t4_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_155 : BitVec 32 := 1#32
  let v184 : BitVec 32 := Scalar.addi v2 c1_i32_155
  let c3_i32_156 : BitVec 32 := 3#32
  let v185 : BitVec 32 := Scalar.addi v184 c3_i32_156
  let c8_i32_157 : BitVec 32 := 8#32
  let v186 : BitVec 32 := Scalar.remsi v185 c8_i32_157
  let c7_i32_168 : BitVec 32 := 7#32
  let v203 : BitVec 1 := Scalar.cmpi .eq v186 c7_i32_168
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_167 : BitVec 32 := 6#32
  let v201 : BitVec 1 := Scalar.cmpi .eq v186 c6_i32_167
  let c5_i32_166 : BitVec 32 := 5#32
  let v199 : BitVec 1 := Scalar.cmpi .eq v186 c5_i32_166
  let c4_i32_165 : BitVec 32 := 4#32
  let v197 : BitVec 1 := Scalar.cmpi .eq v186 c4_i32_165
  let c3_i32_164 : BitVec 32 := 3#32
  let v195 : BitVec 1 := Scalar.cmpi .eq v186 c3_i32_164
  let c2_i32_163 : BitVec 32 := 2#32
  let v193 : BitVec 1 := Scalar.cmpi .eq v186 c2_i32_163
  let c1_i32_162 : BitVec 32 := 1#32
  let v191 : BitVec 1 := Scalar.cmpi .eq v186 c1_i32_162
  let c0_i32_159 : BitVec 32 := 0#32
  let v189 : BitVec 1 := Scalar.cmpi .eq v186 c0_i32_159
  let c0_i32_160 : BitVec 32 := 0#32
  let c0_i32_161 : BitVec 32 := 0#32
  let v190 : BitVec 32 := Scalar.select v189 c0_i32_160 c0_i32_161
  let v192 : BitVec 32 := Scalar.select v191 v99 v190
  let v194 : BitVec 32 := Scalar.select v193 v101 v192
  let v196 : BitVec 32 := Scalar.select v195 v103 v194
  let v198 : BitVec 32 := Scalar.select v197 v105 v196
  let v200 : BitVec 32 := Scalar.select v199 v107 v198
  let v202 : BitVec 32 := Scalar.select v201 v109 v200
  let v204 : BitVec 32 := Scalar.select v203 v111 v202
  let c0_i32_171 : BitVec 32 := 0#32
  let c1_i32_173 : BitVec 32 := 1#32
  let arg17 : BitVec 32 := Scf.iv c0_i32_171 c1_i32_173 k0_t4
  let c8_i32_665 : BitVec 32 := 8#32
  let v825 : BitVec 32 := Scalar.muli arg17 c8_i32_665
  let c6_i32_666 : BitVec 32 := 6#32
  let v826 : BitVec 32 := Scalar.addi v825 c6_i32_666
  let c1_i32_169 : BitVec 32 := 1#32
  let v205 : BitVec 32 := Scalar.subi v188 c1_i32_169
  let c0_i32_170 : BitVec 32 := 0#32
  let v206 : BitVec 32 := Scalar.maxsi v205 c0_i32_170
  let v827 : BitVec 32 := Scalar.minsi v826 v206
  let v828 : BitVec 32 := Scalar.addi v204 v827
  let c4095_i32_667 : BitVec 32 := 4095#32
  let v829 : BitVec 32 := Scalar.minsi v828 c4095_i32_667
  let v830 : Index := Scalar.indexCast v829
  ![v830.toNat]
def k0_off69 (v831 : BitVec 32) : Fin 3 → Nat :=
  let c8_i32_668 : BitVec 32 := 8#32
  let v832 : BitVec 32 := Scalar.divsi v831 c8_i32_668
  let v833 : Index := Scalar.indexCast v832
  let c0_669 : Index := 0#32
  let c0_670 : Index := 0#32
  ![v833.toNat, 0, 0]

def k0_chk35 (v831 : BitVec 32) : Prop :=
  (∀ a, (k0_off69 v831) a + S1x8x1024.size a ≤ S512x8x1024.size a)
theorem k0_off69_inb : ∀ (v831 : BitVec 32) (k0_hw35 : k0_chk35 v831), ∀ a, (k0_off69 v831) a + S1x8x1024.size a ≤ S512x8x1024.size a := fun v831 k0_hw35 => k0_hw35

def k0_off70 (d0 : Dev nD) (v98 : BitVec 32) (v100 : BitVec 32) (v102 : BitVec 32) (v104 : BitVec 32) (v106 : BitVec 32) (v108 : BitVec 32) (v110 : BitVec 32) (v188 : BitVec 32) (k0_t4 : Fin k0_t4_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_155 : BitVec 32 := 1#32
  let v184 : BitVec 32 := Scalar.addi v2 c1_i32_155
  let c3_i32_156 : BitVec 32 := 3#32
  let v185 : BitVec 32 := Scalar.addi v184 c3_i32_156
  let c8_i32_157 : BitVec 32 := 8#32
  let v186 : BitVec 32 := Scalar.remsi v185 c8_i32_157
  let c7_i32_168 : BitVec 32 := 7#32
  let v203 : BitVec 1 := Scalar.cmpi .eq v186 c7_i32_168
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_167 : BitVec 32 := 6#32
  let v201 : BitVec 1 := Scalar.cmpi .eq v186 c6_i32_167
  let c5_i32_166 : BitVec 32 := 5#32
  let v199 : BitVec 1 := Scalar.cmpi .eq v186 c5_i32_166
  let c4_i32_165 : BitVec 32 := 4#32
  let v197 : BitVec 1 := Scalar.cmpi .eq v186 c4_i32_165
  let c3_i32_164 : BitVec 32 := 3#32
  let v195 : BitVec 1 := Scalar.cmpi .eq v186 c3_i32_164
  let c2_i32_163 : BitVec 32 := 2#32
  let v193 : BitVec 1 := Scalar.cmpi .eq v186 c2_i32_163
  let c1_i32_162 : BitVec 32 := 1#32
  let v191 : BitVec 1 := Scalar.cmpi .eq v186 c1_i32_162
  let c0_i32_159 : BitVec 32 := 0#32
  let v189 : BitVec 1 := Scalar.cmpi .eq v186 c0_i32_159
  let c0_i32_160 : BitVec 32 := 0#32
  let c0_i32_161 : BitVec 32 := 0#32
  let v190 : BitVec 32 := Scalar.select v189 c0_i32_160 c0_i32_161
  let v192 : BitVec 32 := Scalar.select v191 v99 v190
  let v194 : BitVec 32 := Scalar.select v193 v101 v192
  let v196 : BitVec 32 := Scalar.select v195 v103 v194
  let v198 : BitVec 32 := Scalar.select v197 v105 v196
  let v200 : BitVec 32 := Scalar.select v199 v107 v198
  let v202 : BitVec 32 := Scalar.select v201 v109 v200
  let v204 : BitVec 32 := Scalar.select v203 v111 v202
  let c0_i32_171 : BitVec 32 := 0#32
  let c1_i32_173 : BitVec 32 := 1#32
  let arg17 : BitVec 32 := Scf.iv c0_i32_171 c1_i32_173 k0_t4
  let c8_i32_676 : BitVec 32 := 8#32
  let v844 : BitVec 32 := Scalar.muli arg17 c8_i32_676
  let c7_i32_677 : BitVec 32 := 7#32
  let v845 : BitVec 32 := Scalar.addi v844 c7_i32_677
  let c1_i32_169 : BitVec 32 := 1#32
  let v205 : BitVec 32 := Scalar.subi v188 c1_i32_169
  let c0_i32_170 : BitVec 32 := 0#32
  let v206 : BitVec 32 := Scalar.maxsi v205 c0_i32_170
  let v846 : BitVec 32 := Scalar.minsi v845 v206
  let v847 : BitVec 32 := Scalar.addi v204 v846
  let c4095_i32_678 : BitVec 32 := 4095#32
  let v848 : BitVec 32 := Scalar.minsi v847 c4095_i32_678
  let v849 : Index := Scalar.indexCast v848
  ![v849.toNat]

def k0_chk28 (d0 : Dev nD) (v98 : BitVec 32) (v100 : BitVec 32) (v102 : BitVec 32) (v104 : BitVec 32) (v106 : BitVec 32) (v108 : BitVec 32) (v110 : BitVec 32) (v188 : BitVec 32) : Prop :=
  (∀ k0_t4 : Fin k0_t4_loop.trips, ∀ a, (k0_off56 d0 v98 v100 v102 v104 v106 v108 v110 v188 k0_t4) a + S1.size a ≤ S4096.size a) ∧
  (∀ k0_t4 : Fin k0_t4_loop.trips, ∀ a, (k0_off58 d0 v98 v100 v102 v104 v106 v108 v110 v188 k0_t4) a + S1.size a ≤ S4096.size a) ∧
  (∀ k0_t4 : Fin k0_t4_loop.trips, ∀ a, (k0_off60 d0 v98 v100 v102 v104 v106 v108 v110 v188 k0_t4) a + S1.size a ≤ S4096.size a) ∧
  (∀ k0_t4 : Fin k0_t4_loop.trips, ∀ a, (k0_off62 d0 v98 v100 v102 v104 v106 v108 v110 v188 k0_t4) a + S1.size a ≤ S4096.size a) ∧
  (∀ k0_t4 : Fin k0_t4_loop.trips, ∀ a, (k0_off64 d0 v98 v100 v102 v104 v106 v108 v110 v188 k0_t4) a + S1.size a ≤ S4096.size a) ∧
  (∀ k0_t4 : Fin k0_t4_loop.trips, ∀ a, (k0_off66 d0 v98 v100 v102 v104 v106 v108 v110 v188 k0_t4) a + S1.size a ≤ S4096.size a) ∧
  (∀ k0_t4 : Fin k0_t4_loop.trips, ∀ a, (k0_off68 d0 v98 v100 v102 v104 v106 v108 v110 v188 k0_t4) a + S1.size a ≤ S4096.size a) ∧
  (∀ k0_t4 : Fin k0_t4_loop.trips, ∀ a, (k0_off70 d0 v98 v100 v102 v104 v106 v108 v110 v188 k0_t4) a + S1.size a ≤ S4096.size a)
theorem k0_off56_inb : ∀ (d0 : Dev nD) (v98 : BitVec 32) (v100 : BitVec 32) (v102 : BitVec 32) (v104 : BitVec 32) (v106 : BitVec 32) (v108 : BitVec 32) (v110 : BitVec 32) (v188 : BitVec 32) (k0_hw28 : k0_chk28 d0 v98 v100 v102 v104 v106 v108 v110 v188) (k0_t4 : Fin k0_t4_loop.trips), ∀ a, (k0_off56 d0 v98 v100 v102 v104 v106 v108 v110 v188 k0_t4) a + S1.size a ≤ S4096.size a := fun d0 v98 v100 v102 v104 v106 v108 v110 v188 k0_hw28 k0_t4 => k0_hw28.1 k0_t4
theorem k0_off58_inb : ∀ (d0 : Dev nD) (v98 : BitVec 32) (v100 : BitVec 32) (v102 : BitVec 32) (v104 : BitVec 32) (v106 : BitVec 32) (v108 : BitVec 32) (v110 : BitVec 32) (v188 : BitVec 32) (k0_hw28 : k0_chk28 d0 v98 v100 v102 v104 v106 v108 v110 v188) (k0_t4 : Fin k0_t4_loop.trips), ∀ a, (k0_off58 d0 v98 v100 v102 v104 v106 v108 v110 v188 k0_t4) a + S1.size a ≤ S4096.size a := fun d0 v98 v100 v102 v104 v106 v108 v110 v188 k0_hw28 k0_t4 => k0_hw28.2.1 k0_t4
theorem k0_off60_inb : ∀ (d0 : Dev nD) (v98 : BitVec 32) (v100 : BitVec 32) (v102 : BitVec 32) (v104 : BitVec 32) (v106 : BitVec 32) (v108 : BitVec 32) (v110 : BitVec 32) (v188 : BitVec 32) (k0_hw28 : k0_chk28 d0 v98 v100 v102 v104 v106 v108 v110 v188) (k0_t4 : Fin k0_t4_loop.trips), ∀ a, (k0_off60 d0 v98 v100 v102 v104 v106 v108 v110 v188 k0_t4) a + S1.size a ≤ S4096.size a := fun d0 v98 v100 v102 v104 v106 v108 v110 v188 k0_hw28 k0_t4 => k0_hw28.2.2.1 k0_t4
theorem k0_off62_inb : ∀ (d0 : Dev nD) (v98 : BitVec 32) (v100 : BitVec 32) (v102 : BitVec 32) (v104 : BitVec 32) (v106 : BitVec 32) (v108 : BitVec 32) (v110 : BitVec 32) (v188 : BitVec 32) (k0_hw28 : k0_chk28 d0 v98 v100 v102 v104 v106 v108 v110 v188) (k0_t4 : Fin k0_t4_loop.trips), ∀ a, (k0_off62 d0 v98 v100 v102 v104 v106 v108 v110 v188 k0_t4) a + S1.size a ≤ S4096.size a := fun d0 v98 v100 v102 v104 v106 v108 v110 v188 k0_hw28 k0_t4 => k0_hw28.2.2.2.1 k0_t4
theorem k0_off64_inb : ∀ (d0 : Dev nD) (v98 : BitVec 32) (v100 : BitVec 32) (v102 : BitVec 32) (v104 : BitVec 32) (v106 : BitVec 32) (v108 : BitVec 32) (v110 : BitVec 32) (v188 : BitVec 32) (k0_hw28 : k0_chk28 d0 v98 v100 v102 v104 v106 v108 v110 v188) (k0_t4 : Fin k0_t4_loop.trips), ∀ a, (k0_off64 d0 v98 v100 v102 v104 v106 v108 v110 v188 k0_t4) a + S1.size a ≤ S4096.size a := fun d0 v98 v100 v102 v104 v106 v108 v110 v188 k0_hw28 k0_t4 => k0_hw28.2.2.2.2.1 k0_t4
theorem k0_off66_inb : ∀ (d0 : Dev nD) (v98 : BitVec 32) (v100 : BitVec 32) (v102 : BitVec 32) (v104 : BitVec 32) (v106 : BitVec 32) (v108 : BitVec 32) (v110 : BitVec 32) (v188 : BitVec 32) (k0_hw28 : k0_chk28 d0 v98 v100 v102 v104 v106 v108 v110 v188) (k0_t4 : Fin k0_t4_loop.trips), ∀ a, (k0_off66 d0 v98 v100 v102 v104 v106 v108 v110 v188 k0_t4) a + S1.size a ≤ S4096.size a := fun d0 v98 v100 v102 v104 v106 v108 v110 v188 k0_hw28 k0_t4 => k0_hw28.2.2.2.2.2.1 k0_t4
theorem k0_off68_inb : ∀ (d0 : Dev nD) (v98 : BitVec 32) (v100 : BitVec 32) (v102 : BitVec 32) (v104 : BitVec 32) (v106 : BitVec 32) (v108 : BitVec 32) (v110 : BitVec 32) (v188 : BitVec 32) (k0_hw28 : k0_chk28 d0 v98 v100 v102 v104 v106 v108 v110 v188) (k0_t4 : Fin k0_t4_loop.trips), ∀ a, (k0_off68 d0 v98 v100 v102 v104 v106 v108 v110 v188 k0_t4) a + S1.size a ≤ S4096.size a := fun d0 v98 v100 v102 v104 v106 v108 v110 v188 k0_hw28 k0_t4 => k0_hw28.2.2.2.2.2.2.1 k0_t4
theorem k0_off70_inb : ∀ (d0 : Dev nD) (v98 : BitVec 32) (v100 : BitVec 32) (v102 : BitVec 32) (v104 : BitVec 32) (v106 : BitVec 32) (v108 : BitVec 32) (v110 : BitVec 32) (v188 : BitVec 32) (k0_hw28 : k0_chk28 d0 v98 v100 v102 v104 v106 v108 v110 v188) (k0_t4 : Fin k0_t4_loop.trips), ∀ a, (k0_off70 d0 v98 v100 v102 v104 v106 v108 v110 v188 k0_t4) a + S1.size a ≤ S4096.size a := fun d0 v98 v100 v102 v104 v106 v108 v110 v188 k0_hw28 k0_t4 => k0_hw28.2.2.2.2.2.2.2 k0_t4

def k0_off71 (v850 : BitVec 32) : Fin 3 → Nat :=
  let c8_i32_679 : BitVec 32 := 8#32
  let v851 : BitVec 32 := Scalar.divsi v850 c8_i32_679
  let v852 : Index := Scalar.indexCast v851
  let c0_680 : Index := 0#32
  let c0_681 : Index := 0#32
  ![v852.toNat, 0, 0]

def k0_chk36 (v850 : BitVec 32) : Prop :=
  (∀ a, (k0_off71 v850) a + S1x8x1024.size a ≤ S512x8x1024.size a)
theorem k0_off71_inb : ∀ (v850 : BitVec 32) (k0_hw36 : k0_chk36 v850), ∀ a, (k0_off71 v850) a + S1x8x1024.size a ≤ S512x8x1024.size a := fun v850 k0_hw36 => k0_hw36

def k0_off72 (k0_t4 : Fin k0_t4_loop.trips) : Fin 3 → Nat :=
  let c240_i32_687 : BitVec 32 := 240#32
  let c0_i32_171 : BitVec 32 := 0#32
  let c1_i32_173 : BitVec 32 := 1#32
  let arg17 : BitVec 32 := Scf.iv c0_i32_171 c1_i32_173 k0_t4
  let v863 : BitVec 32 := Scalar.addi c240_i32_687 arg17
  let v864 : Index := Scalar.indexCast v863
  let c0_688 : Index := 0#32
  let c0_689 : Index := 0#32
  ![v864.toNat, 0, 0]
def k0_off73 (d0 : Dev nD) : Fin 2 → Nat :=
  let c7_178 : Index := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v208 : BitVec 32 := Scalar.addi v2 c1_i32_175
  let c4_i32_176 : BitVec 32 := 4#32
  let v209 : BitVec 32 := Scalar.addi v208 c4_i32_176
  let c8_i32_177 : BitVec 32 := 8#32
  let v210 : BitVec 32 := Scalar.remsi v209 c8_i32_177
  let v211 : Index := Scalar.indexCast v210
  ![7, v211.toNat]
@[reducible] def k0_t5_loop : Scf.Loop 32 :=
  let c0_i32_191 : BitVec 32 := 0#32
  let c80_i32_192 : BitVec 32 := 80#32
  let v231 : BitVec 32 := Scalar.addi c0_i32_191 c80_i32_192
  let c1_i32_193 : BitVec 32 := 1#32
  ⟨c0_i32_191, v231, c1_i32_193⟩
def k0_off74 (d0 : Dev nD) (v98 : BitVec 32) (v100 : BitVec 32) (v102 : BitVec 32) (v104 : BitVec 32) (v106 : BitVec 32) (v108 : BitVec 32) (v110 : BitVec 32) (v212 : BitVec 32) (k0_t5 : Fin k0_t5_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v208 : BitVec 32 := Scalar.addi v2 c1_i32_175
  let c4_i32_176 : BitVec 32 := 4#32
  let v209 : BitVec 32 := Scalar.addi v208 c4_i32_176
  let c8_i32_177 : BitVec 32 := 8#32
  let v210 : BitVec 32 := Scalar.remsi v209 c8_i32_177
  let c7_i32_188 : BitVec 32 := 7#32
  let v227 : BitVec 1 := Scalar.cmpi .eq v210 c7_i32_188
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_187 : BitVec 32 := 6#32
  let v225 : BitVec 1 := Scalar.cmpi .eq v210 c6_i32_187
  let c5_i32_186 : BitVec 32 := 5#32
  let v223 : BitVec 1 := Scalar.cmpi .eq v210 c5_i32_186
  let c4_i32_185 : BitVec 32 := 4#32
  let v221 : BitVec 1 := Scalar.cmpi .eq v210 c4_i32_185
  let c3_i32_184 : BitVec 32 := 3#32
  let v219 : BitVec 1 := Scalar.cmpi .eq v210 c3_i32_184
  let c2_i32_183 : BitVec 32 := 2#32
  let v217 : BitVec 1 := Scalar.cmpi .eq v210 c2_i32_183
  let c1_i32_182 : BitVec 32 := 1#32
  let v215 : BitVec 1 := Scalar.cmpi .eq v210 c1_i32_182
  let c0_i32_179 : BitVec 32 := 0#32
  let v213 : BitVec 1 := Scalar.cmpi .eq v210 c0_i32_179
  let c0_i32_180 : BitVec 32 := 0#32
  let c0_i32_181 : BitVec 32 := 0#32
  let v214 : BitVec 32 := Scalar.select v213 c0_i32_180 c0_i32_181
  let v216 : BitVec 32 := Scalar.select v215 v99 v214
  let v218 : BitVec 32 := Scalar.select v217 v101 v216
  let v220 : BitVec 32 := Scalar.select v219 v103 v218
  let v222 : BitVec 32 := Scalar.select v221 v105 v220
  let v224 : BitVec 32 := Scalar.select v223 v107 v222
  let v226 : BitVec 32 := Scalar.select v225 v109 v224
  let v228 : BitVec 32 := Scalar.select v227 v111 v226
  let c0_i32_191 : BitVec 32 := 0#32
  let c1_i32_193 : BitVec 32 := 1#32
  let arg17 : BitVec 32 := Scf.iv c0_i32_191 c1_i32_193 k0_t5
  let c8_i32_600 : BitVec 32 := 8#32
  let v711 : BitVec 32 := Scalar.muli arg17 c8_i32_600
  let c0_i32_601 : BitVec 32 := 0#32
  let v712 : BitVec 32 := Scalar.addi v711 c0_i32_601
  let c1_i32_189 : BitVec 32 := 1#32
  let v229 : BitVec 32 := Scalar.subi v212 c1_i32_189
  let c0_i32_190 : BitVec 32 := 0#32
  let v230 : BitVec 32 := Scalar.maxsi v229 c0_i32_190
  let v713 : BitVec 32 := Scalar.minsi v712 v230
  let v714 : BitVec 32 := Scalar.addi v228 v713
  let c4095_i32 : BitVec 32 := 4095#32
  let v715 : BitVec 32 := Scalar.minsi v714 c4095_i32
  let v716 : Index := Scalar.indexCast v715
  ![v716.toNat]

def k0_off75 (v717 : BitVec 32) : Fin 3 → Nat :=
  let c8_i32_602 : BitVec 32 := 8#32
  let v718 : BitVec 32 := Scalar.divsi v717 c8_i32_602
  let v719 : Index := Scalar.indexCast v718
  let c0_603 : Index := 0#32
  let c0_604 : Index := 0#32
  ![v719.toNat, 0, 0]

def k0_chk38 (v717 : BitVec 32) : Prop :=
  (∀ a, (k0_off75 v717) a + S1x8x1024.size a ≤ S512x8x1024.size a)
theorem k0_off75_inb : ∀ (v717 : BitVec 32) (k0_hw38 : k0_chk38 v717), ∀ a, (k0_off75 v717) a + S1x8x1024.size a ≤ S512x8x1024.size a := fun v717 k0_hw38 => k0_hw38

def k0_off76 (d0 : Dev nD) (v98 : BitVec 32) (v100 : BitVec 32) (v102 : BitVec 32) (v104 : BitVec 32) (v106 : BitVec 32) (v108 : BitVec 32) (v110 : BitVec 32) (v212 : BitVec 32) (k0_t5 : Fin k0_t5_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v208 : BitVec 32 := Scalar.addi v2 c1_i32_175
  let c4_i32_176 : BitVec 32 := 4#32
  let v209 : BitVec 32 := Scalar.addi v208 c4_i32_176
  let c8_i32_177 : BitVec 32 := 8#32
  let v210 : BitVec 32 := Scalar.remsi v209 c8_i32_177
  let c7_i32_188 : BitVec 32 := 7#32
  let v227 : BitVec 1 := Scalar.cmpi .eq v210 c7_i32_188
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_187 : BitVec 32 := 6#32
  let v225 : BitVec 1 := Scalar.cmpi .eq v210 c6_i32_187
  let c5_i32_186 : BitVec 32 := 5#32
  let v223 : BitVec 1 := Scalar.cmpi .eq v210 c5_i32_186
  let c4_i32_185 : BitVec 32 := 4#32
  let v221 : BitVec 1 := Scalar.cmpi .eq v210 c4_i32_185
  let c3_i32_184 : BitVec 32 := 3#32
  let v219 : BitVec 1 := Scalar.cmpi .eq v210 c3_i32_184
  let c2_i32_183 : BitVec 32 := 2#32
  let v217 : BitVec 1 := Scalar.cmpi .eq v210 c2_i32_183
  let c1_i32_182 : BitVec 32 := 1#32
  let v215 : BitVec 1 := Scalar.cmpi .eq v210 c1_i32_182
  let c0_i32_179 : BitVec 32 := 0#32
  let v213 : BitVec 1 := Scalar.cmpi .eq v210 c0_i32_179
  let c0_i32_180 : BitVec 32 := 0#32
  let c0_i32_181 : BitVec 32 := 0#32
  let v214 : BitVec 32 := Scalar.select v213 c0_i32_180 c0_i32_181
  let v216 : BitVec 32 := Scalar.select v215 v99 v214
  let v218 : BitVec 32 := Scalar.select v217 v101 v216
  let v220 : BitVec 32 := Scalar.select v219 v103 v218
  let v222 : BitVec 32 := Scalar.select v221 v105 v220
  let v224 : BitVec 32 := Scalar.select v223 v107 v222
  let v226 : BitVec 32 := Scalar.select v225 v109 v224
  let v228 : BitVec 32 := Scalar.select v227 v111 v226
  let c0_i32_191 : BitVec 32 := 0#32
  let c1_i32_193 : BitVec 32 := 1#32
  let arg17 : BitVec 32 := Scf.iv c0_i32_191 c1_i32_193 k0_t5
  let c8_i32_610 : BitVec 32 := 8#32
  let v730 : BitVec 32 := Scalar.muli arg17 c8_i32_610
  let c1_i32_611 : BitVec 32 := 1#32
  let v731 : BitVec 32 := Scalar.addi v730 c1_i32_611
  let c1_i32_189 : BitVec 32 := 1#32
  let v229 : BitVec 32 := Scalar.subi v212 c1_i32_189
  let c0_i32_190 : BitVec 32 := 0#32
  let v230 : BitVec 32 := Scalar.maxsi v229 c0_i32_190
  let v732 : BitVec 32 := Scalar.minsi v731 v230
  let v733 : BitVec 32 := Scalar.addi v228 v732
  let c4095_i32_612 : BitVec 32 := 4095#32
  let v734 : BitVec 32 := Scalar.minsi v733 c4095_i32_612
  let v735 : Index := Scalar.indexCast v734
  ![v735.toNat]
def k0_off77 (v736 : BitVec 32) : Fin 3 → Nat :=
  let c8_i32_613 : BitVec 32 := 8#32
  let v737 : BitVec 32 := Scalar.divsi v736 c8_i32_613
  let v738 : Index := Scalar.indexCast v737
  let c0_614 : Index := 0#32
  let c0_615 : Index := 0#32
  ![v738.toNat, 0, 0]

def k0_chk39 (v736 : BitVec 32) : Prop :=
  (∀ a, (k0_off77 v736) a + S1x8x1024.size a ≤ S512x8x1024.size a)
theorem k0_off77_inb : ∀ (v736 : BitVec 32) (k0_hw39 : k0_chk39 v736), ∀ a, (k0_off77 v736) a + S1x8x1024.size a ≤ S512x8x1024.size a := fun v736 k0_hw39 => k0_hw39

def k0_off78 (d0 : Dev nD) (v98 : BitVec 32) (v100 : BitVec 32) (v102 : BitVec 32) (v104 : BitVec 32) (v106 : BitVec 32) (v108 : BitVec 32) (v110 : BitVec 32) (v212 : BitVec 32) (k0_t5 : Fin k0_t5_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v208 : BitVec 32 := Scalar.addi v2 c1_i32_175
  let c4_i32_176 : BitVec 32 := 4#32
  let v209 : BitVec 32 := Scalar.addi v208 c4_i32_176
  let c8_i32_177 : BitVec 32 := 8#32
  let v210 : BitVec 32 := Scalar.remsi v209 c8_i32_177
  let c7_i32_188 : BitVec 32 := 7#32
  let v227 : BitVec 1 := Scalar.cmpi .eq v210 c7_i32_188
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_187 : BitVec 32 := 6#32
  let v225 : BitVec 1 := Scalar.cmpi .eq v210 c6_i32_187
  let c5_i32_186 : BitVec 32 := 5#32
  let v223 : BitVec 1 := Scalar.cmpi .eq v210 c5_i32_186
  let c4_i32_185 : BitVec 32 := 4#32
  let v221 : BitVec 1 := Scalar.cmpi .eq v210 c4_i32_185
  let c3_i32_184 : BitVec 32 := 3#32
  let v219 : BitVec 1 := Scalar.cmpi .eq v210 c3_i32_184
  let c2_i32_183 : BitVec 32 := 2#32
  let v217 : BitVec 1 := Scalar.cmpi .eq v210 c2_i32_183
  let c1_i32_182 : BitVec 32 := 1#32
  let v215 : BitVec 1 := Scalar.cmpi .eq v210 c1_i32_182
  let c0_i32_179 : BitVec 32 := 0#32
  let v213 : BitVec 1 := Scalar.cmpi .eq v210 c0_i32_179
  let c0_i32_180 : BitVec 32 := 0#32
  let c0_i32_181 : BitVec 32 := 0#32
  let v214 : BitVec 32 := Scalar.select v213 c0_i32_180 c0_i32_181
  let v216 : BitVec 32 := Scalar.select v215 v99 v214
  let v218 : BitVec 32 := Scalar.select v217 v101 v216
  let v220 : BitVec 32 := Scalar.select v219 v103 v218
  let v222 : BitVec 32 := Scalar.select v221 v105 v220
  let v224 : BitVec 32 := Scalar.select v223 v107 v222
  let v226 : BitVec 32 := Scalar.select v225 v109 v224
  let v228 : BitVec 32 := Scalar.select v227 v111 v226
  let c0_i32_191 : BitVec 32 := 0#32
  let c1_i32_193 : BitVec 32 := 1#32
  let arg17 : BitVec 32 := Scf.iv c0_i32_191 c1_i32_193 k0_t5
  let c8_i32_621 : BitVec 32 := 8#32
  let v749 : BitVec 32 := Scalar.muli arg17 c8_i32_621
  let c2_i32_622 : BitVec 32 := 2#32
  let v750 : BitVec 32 := Scalar.addi v749 c2_i32_622
  let c1_i32_189 : BitVec 32 := 1#32
  let v229 : BitVec 32 := Scalar.subi v212 c1_i32_189
  let c0_i32_190 : BitVec 32 := 0#32
  let v230 : BitVec 32 := Scalar.maxsi v229 c0_i32_190
  let v751 : BitVec 32 := Scalar.minsi v750 v230
  let v752 : BitVec 32 := Scalar.addi v228 v751
  let c4095_i32_623 : BitVec 32 := 4095#32
  let v753 : BitVec 32 := Scalar.minsi v752 c4095_i32_623
  let v754 : Index := Scalar.indexCast v753
  ![v754.toNat]
def k0_off79 (v755 : BitVec 32) : Fin 3 → Nat :=
  let c8_i32_624 : BitVec 32 := 8#32
  let v756 : BitVec 32 := Scalar.divsi v755 c8_i32_624
  let v757 : Index := Scalar.indexCast v756
  let c0_625 : Index := 0#32
  let c0_626 : Index := 0#32
  ![v757.toNat, 0, 0]

def k0_chk40 (v755 : BitVec 32) : Prop :=
  (∀ a, (k0_off79 v755) a + S1x8x1024.size a ≤ S512x8x1024.size a)
theorem k0_off79_inb : ∀ (v755 : BitVec 32) (k0_hw40 : k0_chk40 v755), ∀ a, (k0_off79 v755) a + S1x8x1024.size a ≤ S512x8x1024.size a := fun v755 k0_hw40 => k0_hw40

def k0_off80 (d0 : Dev nD) (v98 : BitVec 32) (v100 : BitVec 32) (v102 : BitVec 32) (v104 : BitVec 32) (v106 : BitVec 32) (v108 : BitVec 32) (v110 : BitVec 32) (v212 : BitVec 32) (k0_t5 : Fin k0_t5_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v208 : BitVec 32 := Scalar.addi v2 c1_i32_175
  let c4_i32_176 : BitVec 32 := 4#32
  let v209 : BitVec 32 := Scalar.addi v208 c4_i32_176
  let c8_i32_177 : BitVec 32 := 8#32
  let v210 : BitVec 32 := Scalar.remsi v209 c8_i32_177
  let c7_i32_188 : BitVec 32 := 7#32
  let v227 : BitVec 1 := Scalar.cmpi .eq v210 c7_i32_188
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_187 : BitVec 32 := 6#32
  let v225 : BitVec 1 := Scalar.cmpi .eq v210 c6_i32_187
  let c5_i32_186 : BitVec 32 := 5#32
  let v223 : BitVec 1 := Scalar.cmpi .eq v210 c5_i32_186
  let c4_i32_185 : BitVec 32 := 4#32
  let v221 : BitVec 1 := Scalar.cmpi .eq v210 c4_i32_185
  let c3_i32_184 : BitVec 32 := 3#32
  let v219 : BitVec 1 := Scalar.cmpi .eq v210 c3_i32_184
  let c2_i32_183 : BitVec 32 := 2#32
  let v217 : BitVec 1 := Scalar.cmpi .eq v210 c2_i32_183
  let c1_i32_182 : BitVec 32 := 1#32
  let v215 : BitVec 1 := Scalar.cmpi .eq v210 c1_i32_182
  let c0_i32_179 : BitVec 32 := 0#32
  let v213 : BitVec 1 := Scalar.cmpi .eq v210 c0_i32_179
  let c0_i32_180 : BitVec 32 := 0#32
  let c0_i32_181 : BitVec 32 := 0#32
  let v214 : BitVec 32 := Scalar.select v213 c0_i32_180 c0_i32_181
  let v216 : BitVec 32 := Scalar.select v215 v99 v214
  let v218 : BitVec 32 := Scalar.select v217 v101 v216
  let v220 : BitVec 32 := Scalar.select v219 v103 v218
  let v222 : BitVec 32 := Scalar.select v221 v105 v220
  let v224 : BitVec 32 := Scalar.select v223 v107 v222
  let v226 : BitVec 32 := Scalar.select v225 v109 v224
  let v228 : BitVec 32 := Scalar.select v227 v111 v226
  let c0_i32_191 : BitVec 32 := 0#32
  let c1_i32_193 : BitVec 32 := 1#32
  let arg17 : BitVec 32 := Scf.iv c0_i32_191 c1_i32_193 k0_t5
  let c8_i32_632 : BitVec 32 := 8#32
  let v768 : BitVec 32 := Scalar.muli arg17 c8_i32_632
  let c3_i32_633 : BitVec 32 := 3#32
  let v769 : BitVec 32 := Scalar.addi v768 c3_i32_633
  let c1_i32_189 : BitVec 32 := 1#32
  let v229 : BitVec 32 := Scalar.subi v212 c1_i32_189
  let c0_i32_190 : BitVec 32 := 0#32
  let v230 : BitVec 32 := Scalar.maxsi v229 c0_i32_190
  let v770 : BitVec 32 := Scalar.minsi v769 v230
  let v771 : BitVec 32 := Scalar.addi v228 v770
  let c4095_i32_634 : BitVec 32 := 4095#32
  let v772 : BitVec 32 := Scalar.minsi v771 c4095_i32_634
  let v773 : Index := Scalar.indexCast v772
  ![v773.toNat]
def k0_off81 (v774 : BitVec 32) : Fin 3 → Nat :=
  let c8_i32_635 : BitVec 32 := 8#32
  let v775 : BitVec 32 := Scalar.divsi v774 c8_i32_635
  let v776 : Index := Scalar.indexCast v775
  let c0_636 : Index := 0#32
  let c0_637 : Index := 0#32
  ![v776.toNat, 0, 0]

def k0_chk41 (v774 : BitVec 32) : Prop :=
  (∀ a, (k0_off81 v774) a + S1x8x1024.size a ≤ S512x8x1024.size a)
theorem k0_off81_inb : ∀ (v774 : BitVec 32) (k0_hw41 : k0_chk41 v774), ∀ a, (k0_off81 v774) a + S1x8x1024.size a ≤ S512x8x1024.size a := fun v774 k0_hw41 => k0_hw41

def k0_off82 (d0 : Dev nD) (v98 : BitVec 32) (v100 : BitVec 32) (v102 : BitVec 32) (v104 : BitVec 32) (v106 : BitVec 32) (v108 : BitVec 32) (v110 : BitVec 32) (v212 : BitVec 32) (k0_t5 : Fin k0_t5_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v208 : BitVec 32 := Scalar.addi v2 c1_i32_175
  let c4_i32_176 : BitVec 32 := 4#32
  let v209 : BitVec 32 := Scalar.addi v208 c4_i32_176
  let c8_i32_177 : BitVec 32 := 8#32
  let v210 : BitVec 32 := Scalar.remsi v209 c8_i32_177
  let c7_i32_188 : BitVec 32 := 7#32
  let v227 : BitVec 1 := Scalar.cmpi .eq v210 c7_i32_188
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_187 : BitVec 32 := 6#32
  let v225 : BitVec 1 := Scalar.cmpi .eq v210 c6_i32_187
  let c5_i32_186 : BitVec 32 := 5#32
  let v223 : BitVec 1 := Scalar.cmpi .eq v210 c5_i32_186
  let c4_i32_185 : BitVec 32 := 4#32
  let v221 : BitVec 1 := Scalar.cmpi .eq v210 c4_i32_185
  let c3_i32_184 : BitVec 32 := 3#32
  let v219 : BitVec 1 := Scalar.cmpi .eq v210 c3_i32_184
  let c2_i32_183 : BitVec 32 := 2#32
  let v217 : BitVec 1 := Scalar.cmpi .eq v210 c2_i32_183
  let c1_i32_182 : BitVec 32 := 1#32
  let v215 : BitVec 1 := Scalar.cmpi .eq v210 c1_i32_182
  let c0_i32_179 : BitVec 32 := 0#32
  let v213 : BitVec 1 := Scalar.cmpi .eq v210 c0_i32_179
  let c0_i32_180 : BitVec 32 := 0#32
  let c0_i32_181 : BitVec 32 := 0#32
  let v214 : BitVec 32 := Scalar.select v213 c0_i32_180 c0_i32_181
  let v216 : BitVec 32 := Scalar.select v215 v99 v214
  let v218 : BitVec 32 := Scalar.select v217 v101 v216
  let v220 : BitVec 32 := Scalar.select v219 v103 v218
  let v222 : BitVec 32 := Scalar.select v221 v105 v220
  let v224 : BitVec 32 := Scalar.select v223 v107 v222
  let v226 : BitVec 32 := Scalar.select v225 v109 v224
  let v228 : BitVec 32 := Scalar.select v227 v111 v226
  let c0_i32_191 : BitVec 32 := 0#32
  let c1_i32_193 : BitVec 32 := 1#32
  let arg17 : BitVec 32 := Scf.iv c0_i32_191 c1_i32_193 k0_t5
  let c8_i32_643 : BitVec 32 := 8#32
  let v787 : BitVec 32 := Scalar.muli arg17 c8_i32_643
  let c4_i32_644 : BitVec 32 := 4#32
  let v788 : BitVec 32 := Scalar.addi v787 c4_i32_644
  let c1_i32_189 : BitVec 32 := 1#32
  let v229 : BitVec 32 := Scalar.subi v212 c1_i32_189
  let c0_i32_190 : BitVec 32 := 0#32
  let v230 : BitVec 32 := Scalar.maxsi v229 c0_i32_190
  let v789 : BitVec 32 := Scalar.minsi v788 v230
  let v790 : BitVec 32 := Scalar.addi v228 v789
  let c4095_i32_645 : BitVec 32 := 4095#32
  let v791 : BitVec 32 := Scalar.minsi v790 c4095_i32_645
  let v792 : Index := Scalar.indexCast v791
  ![v792.toNat]
def k0_off83 (v793 : BitVec 32) : Fin 3 → Nat :=
  let c8_i32_646 : BitVec 32 := 8#32
  let v794 : BitVec 32 := Scalar.divsi v793 c8_i32_646
  let v795 : Index := Scalar.indexCast v794
  let c0_647 : Index := 0#32
  let c0_648 : Index := 0#32
  ![v795.toNat, 0, 0]

def k0_chk42 (v793 : BitVec 32) : Prop :=
  (∀ a, (k0_off83 v793) a + S1x8x1024.size a ≤ S512x8x1024.size a)
theorem k0_off83_inb : ∀ (v793 : BitVec 32) (k0_hw42 : k0_chk42 v793), ∀ a, (k0_off83 v793) a + S1x8x1024.size a ≤ S512x8x1024.size a := fun v793 k0_hw42 => k0_hw42

def k0_off84 (d0 : Dev nD) (v98 : BitVec 32) (v100 : BitVec 32) (v102 : BitVec 32) (v104 : BitVec 32) (v106 : BitVec 32) (v108 : BitVec 32) (v110 : BitVec 32) (v212 : BitVec 32) (k0_t5 : Fin k0_t5_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v208 : BitVec 32 := Scalar.addi v2 c1_i32_175
  let c4_i32_176 : BitVec 32 := 4#32
  let v209 : BitVec 32 := Scalar.addi v208 c4_i32_176
  let c8_i32_177 : BitVec 32 := 8#32
  let v210 : BitVec 32 := Scalar.remsi v209 c8_i32_177
  let c7_i32_188 : BitVec 32 := 7#32
  let v227 : BitVec 1 := Scalar.cmpi .eq v210 c7_i32_188
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_187 : BitVec 32 := 6#32
  let v225 : BitVec 1 := Scalar.cmpi .eq v210 c6_i32_187
  let c5_i32_186 : BitVec 32 := 5#32
  let v223 : BitVec 1 := Scalar.cmpi .eq v210 c5_i32_186
  let c4_i32_185 : BitVec 32 := 4#32
  let v221 : BitVec 1 := Scalar.cmpi .eq v210 c4_i32_185
  let c3_i32_184 : BitVec 32 := 3#32
  let v219 : BitVec 1 := Scalar.cmpi .eq v210 c3_i32_184
  let c2_i32_183 : BitVec 32 := 2#32
  let v217 : BitVec 1 := Scalar.cmpi .eq v210 c2_i32_183
  let c1_i32_182 : BitVec 32 := 1#32
  let v215 : BitVec 1 := Scalar.cmpi .eq v210 c1_i32_182
  let c0_i32_179 : BitVec 32 := 0#32
  let v213 : BitVec 1 := Scalar.cmpi .eq v210 c0_i32_179
  let c0_i32_180 : BitVec 32 := 0#32
  let c0_i32_181 : BitVec 32 := 0#32
  let v214 : BitVec 32 := Scalar.select v213 c0_i32_180 c0_i32_181
  let v216 : BitVec 32 := Scalar.select v215 v99 v214
  let v218 : BitVec 32 := Scalar.select v217 v101 v216
  let v220 : BitVec 32 := Scalar.select v219 v103 v218
  let v222 : BitVec 32 := Scalar.select v221 v105 v220
  let v224 : BitVec 32 := Scalar.select v223 v107 v222
  let v226 : BitVec 32 := Scalar.select v225 v109 v224
  let v228 : BitVec 32 := Scalar.select v227 v111 v226
  let c0_i32_191 : BitVec 32 := 0#32
  let c1_i32_193 : BitVec 32 := 1#32
  let arg17 : BitVec 32 := Scf.iv c0_i32_191 c1_i32_193 k0_t5
  let c8_i32_654 : BitVec 32 := 8#32
  let v806 : BitVec 32 := Scalar.muli arg17 c8_i32_654
  let c5_i32_655 : BitVec 32 := 5#32
  let v807 : BitVec 32 := Scalar.addi v806 c5_i32_655
  let c1_i32_189 : BitVec 32 := 1#32
  let v229 : BitVec 32 := Scalar.subi v212 c1_i32_189
  let c0_i32_190 : BitVec 32 := 0#32
  let v230 : BitVec 32 := Scalar.maxsi v229 c0_i32_190
  let v808 : BitVec 32 := Scalar.minsi v807 v230
  let v809 : BitVec 32 := Scalar.addi v228 v808
  let c4095_i32_656 : BitVec 32 := 4095#32
  let v810 : BitVec 32 := Scalar.minsi v809 c4095_i32_656
  let v811 : Index := Scalar.indexCast v810
  ![v811.toNat]
def k0_off85 (v812 : BitVec 32) : Fin 3 → Nat :=
  let c8_i32_657 : BitVec 32 := 8#32
  let v813 : BitVec 32 := Scalar.divsi v812 c8_i32_657
  let v814 : Index := Scalar.indexCast v813
  let c0_658 : Index := 0#32
  let c0_659 : Index := 0#32
  ![v814.toNat, 0, 0]

def k0_chk43 (v812 : BitVec 32) : Prop :=
  (∀ a, (k0_off85 v812) a + S1x8x1024.size a ≤ S512x8x1024.size a)
theorem k0_off85_inb : ∀ (v812 : BitVec 32) (k0_hw43 : k0_chk43 v812), ∀ a, (k0_off85 v812) a + S1x8x1024.size a ≤ S512x8x1024.size a := fun v812 k0_hw43 => k0_hw43

def k0_off86 (d0 : Dev nD) (v98 : BitVec 32) (v100 : BitVec 32) (v102 : BitVec 32) (v104 : BitVec 32) (v106 : BitVec 32) (v108 : BitVec 32) (v110 : BitVec 32) (v212 : BitVec 32) (k0_t5 : Fin k0_t5_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v208 : BitVec 32 := Scalar.addi v2 c1_i32_175
  let c4_i32_176 : BitVec 32 := 4#32
  let v209 : BitVec 32 := Scalar.addi v208 c4_i32_176
  let c8_i32_177 : BitVec 32 := 8#32
  let v210 : BitVec 32 := Scalar.remsi v209 c8_i32_177
  let c7_i32_188 : BitVec 32 := 7#32
  let v227 : BitVec 1 := Scalar.cmpi .eq v210 c7_i32_188
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_187 : BitVec 32 := 6#32
  let v225 : BitVec 1 := Scalar.cmpi .eq v210 c6_i32_187
  let c5_i32_186 : BitVec 32 := 5#32
  let v223 : BitVec 1 := Scalar.cmpi .eq v210 c5_i32_186
  let c4_i32_185 : BitVec 32 := 4#32
  let v221 : BitVec 1 := Scalar.cmpi .eq v210 c4_i32_185
  let c3_i32_184 : BitVec 32 := 3#32
  let v219 : BitVec 1 := Scalar.cmpi .eq v210 c3_i32_184
  let c2_i32_183 : BitVec 32 := 2#32
  let v217 : BitVec 1 := Scalar.cmpi .eq v210 c2_i32_183
  let c1_i32_182 : BitVec 32 := 1#32
  let v215 : BitVec 1 := Scalar.cmpi .eq v210 c1_i32_182
  let c0_i32_179 : BitVec 32 := 0#32
  let v213 : BitVec 1 := Scalar.cmpi .eq v210 c0_i32_179
  let c0_i32_180 : BitVec 32 := 0#32
  let c0_i32_181 : BitVec 32 := 0#32
  let v214 : BitVec 32 := Scalar.select v213 c0_i32_180 c0_i32_181
  let v216 : BitVec 32 := Scalar.select v215 v99 v214
  let v218 : BitVec 32 := Scalar.select v217 v101 v216
  let v220 : BitVec 32 := Scalar.select v219 v103 v218
  let v222 : BitVec 32 := Scalar.select v221 v105 v220
  let v224 : BitVec 32 := Scalar.select v223 v107 v222
  let v226 : BitVec 32 := Scalar.select v225 v109 v224
  let v228 : BitVec 32 := Scalar.select v227 v111 v226
  let c0_i32_191 : BitVec 32 := 0#32
  let c1_i32_193 : BitVec 32 := 1#32
  let arg17 : BitVec 32 := Scf.iv c0_i32_191 c1_i32_193 k0_t5
  let c8_i32_665 : BitVec 32 := 8#32
  let v825 : BitVec 32 := Scalar.muli arg17 c8_i32_665
  let c6_i32_666 : BitVec 32 := 6#32
  let v826 : BitVec 32 := Scalar.addi v825 c6_i32_666
  let c1_i32_189 : BitVec 32 := 1#32
  let v229 : BitVec 32 := Scalar.subi v212 c1_i32_189
  let c0_i32_190 : BitVec 32 := 0#32
  let v230 : BitVec 32 := Scalar.maxsi v229 c0_i32_190
  let v827 : BitVec 32 := Scalar.minsi v826 v230
  let v828 : BitVec 32 := Scalar.addi v228 v827
  let c4095_i32_667 : BitVec 32 := 4095#32
  let v829 : BitVec 32 := Scalar.minsi v828 c4095_i32_667
  let v830 : Index := Scalar.indexCast v829
  ![v830.toNat]
def k0_off87 (v831 : BitVec 32) : Fin 3 → Nat :=
  let c8_i32_668 : BitVec 32 := 8#32
  let v832 : BitVec 32 := Scalar.divsi v831 c8_i32_668
  let v833 : Index := Scalar.indexCast v832
  let c0_669 : Index := 0#32
  let c0_670 : Index := 0#32
  ![v833.toNat, 0, 0]

def k0_chk44 (v831 : BitVec 32) : Prop :=
  (∀ a, (k0_off87 v831) a + S1x8x1024.size a ≤ S512x8x1024.size a)
theorem k0_off87_inb : ∀ (v831 : BitVec 32) (k0_hw44 : k0_chk44 v831), ∀ a, (k0_off87 v831) a + S1x8x1024.size a ≤ S512x8x1024.size a := fun v831 k0_hw44 => k0_hw44

def k0_off88 (d0 : Dev nD) (v98 : BitVec 32) (v100 : BitVec 32) (v102 : BitVec 32) (v104 : BitVec 32) (v106 : BitVec 32) (v108 : BitVec 32) (v110 : BitVec 32) (v212 : BitVec 32) (k0_t5 : Fin k0_t5_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v208 : BitVec 32 := Scalar.addi v2 c1_i32_175
  let c4_i32_176 : BitVec 32 := 4#32
  let v209 : BitVec 32 := Scalar.addi v208 c4_i32_176
  let c8_i32_177 : BitVec 32 := 8#32
  let v210 : BitVec 32 := Scalar.remsi v209 c8_i32_177
  let c7_i32_188 : BitVec 32 := 7#32
  let v227 : BitVec 1 := Scalar.cmpi .eq v210 c7_i32_188
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_187 : BitVec 32 := 6#32
  let v225 : BitVec 1 := Scalar.cmpi .eq v210 c6_i32_187
  let c5_i32_186 : BitVec 32 := 5#32
  let v223 : BitVec 1 := Scalar.cmpi .eq v210 c5_i32_186
  let c4_i32_185 : BitVec 32 := 4#32
  let v221 : BitVec 1 := Scalar.cmpi .eq v210 c4_i32_185
  let c3_i32_184 : BitVec 32 := 3#32
  let v219 : BitVec 1 := Scalar.cmpi .eq v210 c3_i32_184
  let c2_i32_183 : BitVec 32 := 2#32
  let v217 : BitVec 1 := Scalar.cmpi .eq v210 c2_i32_183
  let c1_i32_182 : BitVec 32 := 1#32
  let v215 : BitVec 1 := Scalar.cmpi .eq v210 c1_i32_182
  let c0_i32_179 : BitVec 32 := 0#32
  let v213 : BitVec 1 := Scalar.cmpi .eq v210 c0_i32_179
  let c0_i32_180 : BitVec 32 := 0#32
  let c0_i32_181 : BitVec 32 := 0#32
  let v214 : BitVec 32 := Scalar.select v213 c0_i32_180 c0_i32_181
  let v216 : BitVec 32 := Scalar.select v215 v99 v214
  let v218 : BitVec 32 := Scalar.select v217 v101 v216
  let v220 : BitVec 32 := Scalar.select v219 v103 v218
  let v222 : BitVec 32 := Scalar.select v221 v105 v220
  let v224 : BitVec 32 := Scalar.select v223 v107 v222
  let v226 : BitVec 32 := Scalar.select v225 v109 v224
  let v228 : BitVec 32 := Scalar.select v227 v111 v226
  let c0_i32_191 : BitVec 32 := 0#32
  let c1_i32_193 : BitVec 32 := 1#32
  let arg17 : BitVec 32 := Scf.iv c0_i32_191 c1_i32_193 k0_t5
  let c8_i32_676 : BitVec 32 := 8#32
  let v844 : BitVec 32 := Scalar.muli arg17 c8_i32_676
  let c7_i32_677 : BitVec 32 := 7#32
  let v845 : BitVec 32 := Scalar.addi v844 c7_i32_677
  let c1_i32_189 : BitVec 32 := 1#32
  let v229 : BitVec 32 := Scalar.subi v212 c1_i32_189
  let c0_i32_190 : BitVec 32 := 0#32
  let v230 : BitVec 32 := Scalar.maxsi v229 c0_i32_190
  let v846 : BitVec 32 := Scalar.minsi v845 v230
  let v847 : BitVec 32 := Scalar.addi v228 v846
  let c4095_i32_678 : BitVec 32 := 4095#32
  let v848 : BitVec 32 := Scalar.minsi v847 c4095_i32_678
  let v849 : Index := Scalar.indexCast v848
  ![v849.toNat]

def k0_chk37 (d0 : Dev nD) (v98 : BitVec 32) (v100 : BitVec 32) (v102 : BitVec 32) (v104 : BitVec 32) (v106 : BitVec 32) (v108 : BitVec 32) (v110 : BitVec 32) (v212 : BitVec 32) : Prop :=
  (∀ k0_t5 : Fin k0_t5_loop.trips, ∀ a, (k0_off74 d0 v98 v100 v102 v104 v106 v108 v110 v212 k0_t5) a + S1.size a ≤ S4096.size a) ∧
  (∀ k0_t5 : Fin k0_t5_loop.trips, ∀ a, (k0_off76 d0 v98 v100 v102 v104 v106 v108 v110 v212 k0_t5) a + S1.size a ≤ S4096.size a) ∧
  (∀ k0_t5 : Fin k0_t5_loop.trips, ∀ a, (k0_off78 d0 v98 v100 v102 v104 v106 v108 v110 v212 k0_t5) a + S1.size a ≤ S4096.size a) ∧
  (∀ k0_t5 : Fin k0_t5_loop.trips, ∀ a, (k0_off80 d0 v98 v100 v102 v104 v106 v108 v110 v212 k0_t5) a + S1.size a ≤ S4096.size a) ∧
  (∀ k0_t5 : Fin k0_t5_loop.trips, ∀ a, (k0_off82 d0 v98 v100 v102 v104 v106 v108 v110 v212 k0_t5) a + S1.size a ≤ S4096.size a) ∧
  (∀ k0_t5 : Fin k0_t5_loop.trips, ∀ a, (k0_off84 d0 v98 v100 v102 v104 v106 v108 v110 v212 k0_t5) a + S1.size a ≤ S4096.size a) ∧
  (∀ k0_t5 : Fin k0_t5_loop.trips, ∀ a, (k0_off86 d0 v98 v100 v102 v104 v106 v108 v110 v212 k0_t5) a + S1.size a ≤ S4096.size a) ∧
  (∀ k0_t5 : Fin k0_t5_loop.trips, ∀ a, (k0_off88 d0 v98 v100 v102 v104 v106 v108 v110 v212 k0_t5) a + S1.size a ≤ S4096.size a)
theorem k0_off74_inb : ∀ (d0 : Dev nD) (v98 : BitVec 32) (v100 : BitVec 32) (v102 : BitVec 32) (v104 : BitVec 32) (v106 : BitVec 32) (v108 : BitVec 32) (v110 : BitVec 32) (v212 : BitVec 32) (k0_hw37 : k0_chk37 d0 v98 v100 v102 v104 v106 v108 v110 v212) (k0_t5 : Fin k0_t5_loop.trips), ∀ a, (k0_off74 d0 v98 v100 v102 v104 v106 v108 v110 v212 k0_t5) a + S1.size a ≤ S4096.size a := fun d0 v98 v100 v102 v104 v106 v108 v110 v212 k0_hw37 k0_t5 => k0_hw37.1 k0_t5
theorem k0_off76_inb : ∀ (d0 : Dev nD) (v98 : BitVec 32) (v100 : BitVec 32) (v102 : BitVec 32) (v104 : BitVec 32) (v106 : BitVec 32) (v108 : BitVec 32) (v110 : BitVec 32) (v212 : BitVec 32) (k0_hw37 : k0_chk37 d0 v98 v100 v102 v104 v106 v108 v110 v212) (k0_t5 : Fin k0_t5_loop.trips), ∀ a, (k0_off76 d0 v98 v100 v102 v104 v106 v108 v110 v212 k0_t5) a + S1.size a ≤ S4096.size a := fun d0 v98 v100 v102 v104 v106 v108 v110 v212 k0_hw37 k0_t5 => k0_hw37.2.1 k0_t5
theorem k0_off78_inb : ∀ (d0 : Dev nD) (v98 : BitVec 32) (v100 : BitVec 32) (v102 : BitVec 32) (v104 : BitVec 32) (v106 : BitVec 32) (v108 : BitVec 32) (v110 : BitVec 32) (v212 : BitVec 32) (k0_hw37 : k0_chk37 d0 v98 v100 v102 v104 v106 v108 v110 v212) (k0_t5 : Fin k0_t5_loop.trips), ∀ a, (k0_off78 d0 v98 v100 v102 v104 v106 v108 v110 v212 k0_t5) a + S1.size a ≤ S4096.size a := fun d0 v98 v100 v102 v104 v106 v108 v110 v212 k0_hw37 k0_t5 => k0_hw37.2.2.1 k0_t5
theorem k0_off80_inb : ∀ (d0 : Dev nD) (v98 : BitVec 32) (v100 : BitVec 32) (v102 : BitVec 32) (v104 : BitVec 32) (v106 : BitVec 32) (v108 : BitVec 32) (v110 : BitVec 32) (v212 : BitVec 32) (k0_hw37 : k0_chk37 d0 v98 v100 v102 v104 v106 v108 v110 v212) (k0_t5 : Fin k0_t5_loop.trips), ∀ a, (k0_off80 d0 v98 v100 v102 v104 v106 v108 v110 v212 k0_t5) a + S1.size a ≤ S4096.size a := fun d0 v98 v100 v102 v104 v106 v108 v110 v212 k0_hw37 k0_t5 => k0_hw37.2.2.2.1 k0_t5
theorem k0_off82_inb : ∀ (d0 : Dev nD) (v98 : BitVec 32) (v100 : BitVec 32) (v102 : BitVec 32) (v104 : BitVec 32) (v106 : BitVec 32) (v108 : BitVec 32) (v110 : BitVec 32) (v212 : BitVec 32) (k0_hw37 : k0_chk37 d0 v98 v100 v102 v104 v106 v108 v110 v212) (k0_t5 : Fin k0_t5_loop.trips), ∀ a, (k0_off82 d0 v98 v100 v102 v104 v106 v108 v110 v212 k0_t5) a + S1.size a ≤ S4096.size a := fun d0 v98 v100 v102 v104 v106 v108 v110 v212 k0_hw37 k0_t5 => k0_hw37.2.2.2.2.1 k0_t5
theorem k0_off84_inb : ∀ (d0 : Dev nD) (v98 : BitVec 32) (v100 : BitVec 32) (v102 : BitVec 32) (v104 : BitVec 32) (v106 : BitVec 32) (v108 : BitVec 32) (v110 : BitVec 32) (v212 : BitVec 32) (k0_hw37 : k0_chk37 d0 v98 v100 v102 v104 v106 v108 v110 v212) (k0_t5 : Fin k0_t5_loop.trips), ∀ a, (k0_off84 d0 v98 v100 v102 v104 v106 v108 v110 v212 k0_t5) a + S1.size a ≤ S4096.size a := fun d0 v98 v100 v102 v104 v106 v108 v110 v212 k0_hw37 k0_t5 => k0_hw37.2.2.2.2.2.1 k0_t5
theorem k0_off86_inb : ∀ (d0 : Dev nD) (v98 : BitVec 32) (v100 : BitVec 32) (v102 : BitVec 32) (v104 : BitVec 32) (v106 : BitVec 32) (v108 : BitVec 32) (v110 : BitVec 32) (v212 : BitVec 32) (k0_hw37 : k0_chk37 d0 v98 v100 v102 v104 v106 v108 v110 v212) (k0_t5 : Fin k0_t5_loop.trips), ∀ a, (k0_off86 d0 v98 v100 v102 v104 v106 v108 v110 v212 k0_t5) a + S1.size a ≤ S4096.size a := fun d0 v98 v100 v102 v104 v106 v108 v110 v212 k0_hw37 k0_t5 => k0_hw37.2.2.2.2.2.2.1 k0_t5
theorem k0_off88_inb : ∀ (d0 : Dev nD) (v98 : BitVec 32) (v100 : BitVec 32) (v102 : BitVec 32) (v104 : BitVec 32) (v106 : BitVec 32) (v108 : BitVec 32) (v110 : BitVec 32) (v212 : BitVec 32) (k0_hw37 : k0_chk37 d0 v98 v100 v102 v104 v106 v108 v110 v212) (k0_t5 : Fin k0_t5_loop.trips), ∀ a, (k0_off88 d0 v98 v100 v102 v104 v106 v108 v110 v212 k0_t5) a + S1.size a ≤ S4096.size a := fun d0 v98 v100 v102 v104 v106 v108 v110 v212 k0_hw37 k0_t5 => k0_hw37.2.2.2.2.2.2.2 k0_t5

def k0_off89 (v850 : BitVec 32) : Fin 3 → Nat :=
  let c8_i32_679 : BitVec 32 := 8#32
  let v851 : BitVec 32 := Scalar.divsi v850 c8_i32_679
  let v852 : Index := Scalar.indexCast v851
  let c0_680 : Index := 0#32
  let c0_681 : Index := 0#32
  ![v852.toNat, 0, 0]

def k0_chk45 (v850 : BitVec 32) : Prop :=
  (∀ a, (k0_off89 v850) a + S1x8x1024.size a ≤ S512x8x1024.size a)
theorem k0_off89_inb : ∀ (v850 : BitVec 32) (k0_hw45 : k0_chk45 v850), ∀ a, (k0_off89 v850) a + S1x8x1024.size a ≤ S512x8x1024.size a := fun v850 k0_hw45 => k0_hw45

def k0_off90 (k0_t5 : Fin k0_t5_loop.trips) : Fin 3 → Nat :=
  let c320_i32_687 : BitVec 32 := 320#32
  let c0_i32_191 : BitVec 32 := 0#32
  let c1_i32_193 : BitVec 32 := 1#32
  let arg17 : BitVec 32 := Scf.iv c0_i32_191 c1_i32_193 k0_t5
  let v863 : BitVec 32 := Scalar.addi c320_i32_687 arg17
  let v864 : Index := Scalar.indexCast v863
  let c0_688 : Index := 0#32
  let c0_689 : Index := 0#32
  ![v864.toNat, 0, 0]
def k0_off91 (d0 : Dev nD) : Fin 2 → Nat :=
  let c7_198 : Index := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_195 : BitVec 32 := 1#32
  let v232 : BitVec 32 := Scalar.addi v2 c1_i32_195
  let c5_i32_196 : BitVec 32 := 5#32
  let v233 : BitVec 32 := Scalar.addi v232 c5_i32_196
  let c8_i32_197 : BitVec 32 := 8#32
  let v234 : BitVec 32 := Scalar.remsi v233 c8_i32_197
  let v235 : Index := Scalar.indexCast v234
  ![7, v235.toNat]
@[reducible] def k0_t6_loop : Scf.Loop 32 :=
  let c0_i32_211 : BitVec 32 := 0#32
  let c80_i32_212 : BitVec 32 := 80#32
  let v255 : BitVec 32 := Scalar.addi c0_i32_211 c80_i32_212
  let c1_i32_213 : BitVec 32 := 1#32
  ⟨c0_i32_211, v255, c1_i32_213⟩
def k0_off92 (d0 : Dev nD) (v98 : BitVec 32) (v100 : BitVec 32) (v102 : BitVec 32) (v104 : BitVec 32) (v106 : BitVec 32) (v108 : BitVec 32) (v110 : BitVec 32) (v236 : BitVec 32) (k0_t6 : Fin k0_t6_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_195 : BitVec 32 := 1#32
  let v232 : BitVec 32 := Scalar.addi v2 c1_i32_195
  let c5_i32_196 : BitVec 32 := 5#32
  let v233 : BitVec 32 := Scalar.addi v232 c5_i32_196
  let c8_i32_197 : BitVec 32 := 8#32
  let v234 : BitVec 32 := Scalar.remsi v233 c8_i32_197
  let c7_i32_208 : BitVec 32 := 7#32
  let v251 : BitVec 1 := Scalar.cmpi .eq v234 c7_i32_208
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_207 : BitVec 32 := 6#32
  let v249 : BitVec 1 := Scalar.cmpi .eq v234 c6_i32_207
  let c5_i32_206 : BitVec 32 := 5#32
  let v247 : BitVec 1 := Scalar.cmpi .eq v234 c5_i32_206
  let c4_i32_205 : BitVec 32 := 4#32
  let v245 : BitVec 1 := Scalar.cmpi .eq v234 c4_i32_205
  let c3_i32_204 : BitVec 32 := 3#32
  let v243 : BitVec 1 := Scalar.cmpi .eq v234 c3_i32_204
  let c2_i32_203 : BitVec 32 := 2#32
  let v241 : BitVec 1 := Scalar.cmpi .eq v234 c2_i32_203
  let c1_i32_202 : BitVec 32 := 1#32
  let v239 : BitVec 1 := Scalar.cmpi .eq v234 c1_i32_202
  let c0_i32_199 : BitVec 32 := 0#32
  let v237 : BitVec 1 := Scalar.cmpi .eq v234 c0_i32_199
  let c0_i32_200 : BitVec 32 := 0#32
  let c0_i32_201 : BitVec 32 := 0#32
  let v238 : BitVec 32 := Scalar.select v237 c0_i32_200 c0_i32_201
  let v240 : BitVec 32 := Scalar.select v239 v99 v238
  let v242 : BitVec 32 := Scalar.select v241 v101 v240
  let v244 : BitVec 32 := Scalar.select v243 v103 v242
  let v246 : BitVec 32 := Scalar.select v245 v105 v244
  let v248 : BitVec 32 := Scalar.select v247 v107 v246
  let v250 : BitVec 32 := Scalar.select v249 v109 v248
  let v252 : BitVec 32 := Scalar.select v251 v111 v250
  let c0_i32_211 : BitVec 32 := 0#32
  let c1_i32_213 : BitVec 32 := 1#32
  let arg17 : BitVec 32 := Scf.iv c0_i32_211 c1_i32_213 k0_t6
  let c8_i32_600 : BitVec 32 := 8#32
  let v711 : BitVec 32 := Scalar.muli arg17 c8_i32_600
  let c0_i32_601 : BitVec 32 := 0#32
  let v712 : BitVec 32 := Scalar.addi v711 c0_i32_601
  let c1_i32_209 : BitVec 32 := 1#32
  let v253 : BitVec 32 := Scalar.subi v236 c1_i32_209
  let c0_i32_210 : BitVec 32 := 0#32
  let v254 : BitVec 32 := Scalar.maxsi v253 c0_i32_210
  let v713 : BitVec 32 := Scalar.minsi v712 v254
  let v714 : BitVec 32 := Scalar.addi v252 v713
  let c4095_i32 : BitVec 32 := 4095#32
  let v715 : BitVec 32 := Scalar.minsi v714 c4095_i32
  let v716 : Index := Scalar.indexCast v715
  ![v716.toNat]

def k0_off93 (v717 : BitVec 32) : Fin 3 → Nat :=
  let c8_i32_602 : BitVec 32 := 8#32
  let v718 : BitVec 32 := Scalar.divsi v717 c8_i32_602
  let v719 : Index := Scalar.indexCast v718
  let c0_603 : Index := 0#32
  let c0_604 : Index := 0#32
  ![v719.toNat, 0, 0]

def k0_chk47 (v717 : BitVec 32) : Prop :=
  (∀ a, (k0_off93 v717) a + S1x8x1024.size a ≤ S512x8x1024.size a)
theorem k0_off93_inb : ∀ (v717 : BitVec 32) (k0_hw47 : k0_chk47 v717), ∀ a, (k0_off93 v717) a + S1x8x1024.size a ≤ S512x8x1024.size a := fun v717 k0_hw47 => k0_hw47

def k0_off94 (d0 : Dev nD) (v98 : BitVec 32) (v100 : BitVec 32) (v102 : BitVec 32) (v104 : BitVec 32) (v106 : BitVec 32) (v108 : BitVec 32) (v110 : BitVec 32) (v236 : BitVec 32) (k0_t6 : Fin k0_t6_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_195 : BitVec 32 := 1#32
  let v232 : BitVec 32 := Scalar.addi v2 c1_i32_195
  let c5_i32_196 : BitVec 32 := 5#32
  let v233 : BitVec 32 := Scalar.addi v232 c5_i32_196
  let c8_i32_197 : BitVec 32 := 8#32
  let v234 : BitVec 32 := Scalar.remsi v233 c8_i32_197
  let c7_i32_208 : BitVec 32 := 7#32
  let v251 : BitVec 1 := Scalar.cmpi .eq v234 c7_i32_208
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_207 : BitVec 32 := 6#32
  let v249 : BitVec 1 := Scalar.cmpi .eq v234 c6_i32_207
  let c5_i32_206 : BitVec 32 := 5#32
  let v247 : BitVec 1 := Scalar.cmpi .eq v234 c5_i32_206
  let c4_i32_205 : BitVec 32 := 4#32
  let v245 : BitVec 1 := Scalar.cmpi .eq v234 c4_i32_205
  let c3_i32_204 : BitVec 32 := 3#32
  let v243 : BitVec 1 := Scalar.cmpi .eq v234 c3_i32_204
  let c2_i32_203 : BitVec 32 := 2#32
  let v241 : BitVec 1 := Scalar.cmpi .eq v234 c2_i32_203
  let c1_i32_202 : BitVec 32 := 1#32
  let v239 : BitVec 1 := Scalar.cmpi .eq v234 c1_i32_202
  let c0_i32_199 : BitVec 32 := 0#32
  let v237 : BitVec 1 := Scalar.cmpi .eq v234 c0_i32_199
  let c0_i32_200 : BitVec 32 := 0#32
  let c0_i32_201 : BitVec 32 := 0#32
  let v238 : BitVec 32 := Scalar.select v237 c0_i32_200 c0_i32_201
  let v240 : BitVec 32 := Scalar.select v239 v99 v238
  let v242 : BitVec 32 := Scalar.select v241 v101 v240
  let v244 : BitVec 32 := Scalar.select v243 v103 v242
  let v246 : BitVec 32 := Scalar.select v245 v105 v244
  let v248 : BitVec 32 := Scalar.select v247 v107 v246
  let v250 : BitVec 32 := Scalar.select v249 v109 v248
  let v252 : BitVec 32 := Scalar.select v251 v111 v250
  let c0_i32_211 : BitVec 32 := 0#32
  let c1_i32_213 : BitVec 32 := 1#32
  let arg17 : BitVec 32 := Scf.iv c0_i32_211 c1_i32_213 k0_t6
  let c8_i32_610 : BitVec 32 := 8#32
  let v730 : BitVec 32 := Scalar.muli arg17 c8_i32_610
  let c1_i32_611 : BitVec 32 := 1#32
  let v731 : BitVec 32 := Scalar.addi v730 c1_i32_611
  let c1_i32_209 : BitVec 32 := 1#32
  let v253 : BitVec 32 := Scalar.subi v236 c1_i32_209
  let c0_i32_210 : BitVec 32 := 0#32
  let v254 : BitVec 32 := Scalar.maxsi v253 c0_i32_210
  let v732 : BitVec 32 := Scalar.minsi v731 v254
  let v733 : BitVec 32 := Scalar.addi v252 v732
  let c4095_i32_612 : BitVec 32 := 4095#32
  let v734 : BitVec 32 := Scalar.minsi v733 c4095_i32_612
  let v735 : Index := Scalar.indexCast v734
  ![v735.toNat]
def k0_off95 (v736 : BitVec 32) : Fin 3 → Nat :=
  let c8_i32_613 : BitVec 32 := 8#32
  let v737 : BitVec 32 := Scalar.divsi v736 c8_i32_613
  let v738 : Index := Scalar.indexCast v737
  let c0_614 : Index := 0#32
  let c0_615 : Index := 0#32
  ![v738.toNat, 0, 0]

def k0_chk48 (v736 : BitVec 32) : Prop :=
  (∀ a, (k0_off95 v736) a + S1x8x1024.size a ≤ S512x8x1024.size a)
theorem k0_off95_inb : ∀ (v736 : BitVec 32) (k0_hw48 : k0_chk48 v736), ∀ a, (k0_off95 v736) a + S1x8x1024.size a ≤ S512x8x1024.size a := fun v736 k0_hw48 => k0_hw48

def k0_off96 (d0 : Dev nD) (v98 : BitVec 32) (v100 : BitVec 32) (v102 : BitVec 32) (v104 : BitVec 32) (v106 : BitVec 32) (v108 : BitVec 32) (v110 : BitVec 32) (v236 : BitVec 32) (k0_t6 : Fin k0_t6_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_195 : BitVec 32 := 1#32
  let v232 : BitVec 32 := Scalar.addi v2 c1_i32_195
  let c5_i32_196 : BitVec 32 := 5#32
  let v233 : BitVec 32 := Scalar.addi v232 c5_i32_196
  let c8_i32_197 : BitVec 32 := 8#32
  let v234 : BitVec 32 := Scalar.remsi v233 c8_i32_197
  let c7_i32_208 : BitVec 32 := 7#32
  let v251 : BitVec 1 := Scalar.cmpi .eq v234 c7_i32_208
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_207 : BitVec 32 := 6#32
  let v249 : BitVec 1 := Scalar.cmpi .eq v234 c6_i32_207
  let c5_i32_206 : BitVec 32 := 5#32
  let v247 : BitVec 1 := Scalar.cmpi .eq v234 c5_i32_206
  let c4_i32_205 : BitVec 32 := 4#32
  let v245 : BitVec 1 := Scalar.cmpi .eq v234 c4_i32_205
  let c3_i32_204 : BitVec 32 := 3#32
  let v243 : BitVec 1 := Scalar.cmpi .eq v234 c3_i32_204
  let c2_i32_203 : BitVec 32 := 2#32
  let v241 : BitVec 1 := Scalar.cmpi .eq v234 c2_i32_203
  let c1_i32_202 : BitVec 32 := 1#32
  let v239 : BitVec 1 := Scalar.cmpi .eq v234 c1_i32_202
  let c0_i32_199 : BitVec 32 := 0#32
  let v237 : BitVec 1 := Scalar.cmpi .eq v234 c0_i32_199
  let c0_i32_200 : BitVec 32 := 0#32
  let c0_i32_201 : BitVec 32 := 0#32
  let v238 : BitVec 32 := Scalar.select v237 c0_i32_200 c0_i32_201
  let v240 : BitVec 32 := Scalar.select v239 v99 v238
  let v242 : BitVec 32 := Scalar.select v241 v101 v240
  let v244 : BitVec 32 := Scalar.select v243 v103 v242
  let v246 : BitVec 32 := Scalar.select v245 v105 v244
  let v248 : BitVec 32 := Scalar.select v247 v107 v246
  let v250 : BitVec 32 := Scalar.select v249 v109 v248
  let v252 : BitVec 32 := Scalar.select v251 v111 v250
  let c0_i32_211 : BitVec 32 := 0#32
  let c1_i32_213 : BitVec 32 := 1#32
  let arg17 : BitVec 32 := Scf.iv c0_i32_211 c1_i32_213 k0_t6
  let c8_i32_621 : BitVec 32 := 8#32
  let v749 : BitVec 32 := Scalar.muli arg17 c8_i32_621
  let c2_i32_622 : BitVec 32 := 2#32
  let v750 : BitVec 32 := Scalar.addi v749 c2_i32_622
  let c1_i32_209 : BitVec 32 := 1#32
  let v253 : BitVec 32 := Scalar.subi v236 c1_i32_209
  let c0_i32_210 : BitVec 32 := 0#32
  let v254 : BitVec 32 := Scalar.maxsi v253 c0_i32_210
  let v751 : BitVec 32 := Scalar.minsi v750 v254
  let v752 : BitVec 32 := Scalar.addi v252 v751
  let c4095_i32_623 : BitVec 32 := 4095#32
  let v753 : BitVec 32 := Scalar.minsi v752 c4095_i32_623
  let v754 : Index := Scalar.indexCast v753
  ![v754.toNat]
def k0_off97 (v755 : BitVec 32) : Fin 3 → Nat :=
  let c8_i32_624 : BitVec 32 := 8#32
  let v756 : BitVec 32 := Scalar.divsi v755 c8_i32_624
  let v757 : Index := Scalar.indexCast v756
  let c0_625 : Index := 0#32
  let c0_626 : Index := 0#32
  ![v757.toNat, 0, 0]

def k0_chk49 (v755 : BitVec 32) : Prop :=
  (∀ a, (k0_off97 v755) a + S1x8x1024.size a ≤ S512x8x1024.size a)
theorem k0_off97_inb : ∀ (v755 : BitVec 32) (k0_hw49 : k0_chk49 v755), ∀ a, (k0_off97 v755) a + S1x8x1024.size a ≤ S512x8x1024.size a := fun v755 k0_hw49 => k0_hw49

def k0_off98 (d0 : Dev nD) (v98 : BitVec 32) (v100 : BitVec 32) (v102 : BitVec 32) (v104 : BitVec 32) (v106 : BitVec 32) (v108 : BitVec 32) (v110 : BitVec 32) (v236 : BitVec 32) (k0_t6 : Fin k0_t6_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_195 : BitVec 32 := 1#32
  let v232 : BitVec 32 := Scalar.addi v2 c1_i32_195
  let c5_i32_196 : BitVec 32 := 5#32
  let v233 : BitVec 32 := Scalar.addi v232 c5_i32_196
  let c8_i32_197 : BitVec 32 := 8#32
  let v234 : BitVec 32 := Scalar.remsi v233 c8_i32_197
  let c7_i32_208 : BitVec 32 := 7#32
  let v251 : BitVec 1 := Scalar.cmpi .eq v234 c7_i32_208
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_207 : BitVec 32 := 6#32
  let v249 : BitVec 1 := Scalar.cmpi .eq v234 c6_i32_207
  let c5_i32_206 : BitVec 32 := 5#32
  let v247 : BitVec 1 := Scalar.cmpi .eq v234 c5_i32_206
  let c4_i32_205 : BitVec 32 := 4#32
  let v245 : BitVec 1 := Scalar.cmpi .eq v234 c4_i32_205
  let c3_i32_204 : BitVec 32 := 3#32
  let v243 : BitVec 1 := Scalar.cmpi .eq v234 c3_i32_204
  let c2_i32_203 : BitVec 32 := 2#32
  let v241 : BitVec 1 := Scalar.cmpi .eq v234 c2_i32_203
  let c1_i32_202 : BitVec 32 := 1#32
  let v239 : BitVec 1 := Scalar.cmpi .eq v234 c1_i32_202
  let c0_i32_199 : BitVec 32 := 0#32
  let v237 : BitVec 1 := Scalar.cmpi .eq v234 c0_i32_199
  let c0_i32_200 : BitVec 32 := 0#32
  let c0_i32_201 : BitVec 32 := 0#32
  let v238 : BitVec 32 := Scalar.select v237 c0_i32_200 c0_i32_201
  let v240 : BitVec 32 := Scalar.select v239 v99 v238
  let v242 : BitVec 32 := Scalar.select v241 v101 v240
  let v244 : BitVec 32 := Scalar.select v243 v103 v242
  let v246 : BitVec 32 := Scalar.select v245 v105 v244
  let v248 : BitVec 32 := Scalar.select v247 v107 v246
  let v250 : BitVec 32 := Scalar.select v249 v109 v248
  let v252 : BitVec 32 := Scalar.select v251 v111 v250
  let c0_i32_211 : BitVec 32 := 0#32
  let c1_i32_213 : BitVec 32 := 1#32
  let arg17 : BitVec 32 := Scf.iv c0_i32_211 c1_i32_213 k0_t6
  let c8_i32_632 : BitVec 32 := 8#32
  let v768 : BitVec 32 := Scalar.muli arg17 c8_i32_632
  let c3_i32_633 : BitVec 32 := 3#32
  let v769 : BitVec 32 := Scalar.addi v768 c3_i32_633
  let c1_i32_209 : BitVec 32 := 1#32
  let v253 : BitVec 32 := Scalar.subi v236 c1_i32_209
  let c0_i32_210 : BitVec 32 := 0#32
  let v254 : BitVec 32 := Scalar.maxsi v253 c0_i32_210
  let v770 : BitVec 32 := Scalar.minsi v769 v254
  let v771 : BitVec 32 := Scalar.addi v252 v770
  let c4095_i32_634 : BitVec 32 := 4095#32
  let v772 : BitVec 32 := Scalar.minsi v771 c4095_i32_634
  let v773 : Index := Scalar.indexCast v772
  ![v773.toNat]
def k0_off99 (v774 : BitVec 32) : Fin 3 → Nat :=
  let c8_i32_635 : BitVec 32 := 8#32
  let v775 : BitVec 32 := Scalar.divsi v774 c8_i32_635
  let v776 : Index := Scalar.indexCast v775
  let c0_636 : Index := 0#32
  let c0_637 : Index := 0#32
  ![v776.toNat, 0, 0]

def k0_chk50 (v774 : BitVec 32) : Prop :=
  (∀ a, (k0_off99 v774) a + S1x8x1024.size a ≤ S512x8x1024.size a)
theorem k0_off99_inb : ∀ (v774 : BitVec 32) (k0_hw50 : k0_chk50 v774), ∀ a, (k0_off99 v774) a + S1x8x1024.size a ≤ S512x8x1024.size a := fun v774 k0_hw50 => k0_hw50

def k0_off100 (d0 : Dev nD) (v98 : BitVec 32) (v100 : BitVec 32) (v102 : BitVec 32) (v104 : BitVec 32) (v106 : BitVec 32) (v108 : BitVec 32) (v110 : BitVec 32) (v236 : BitVec 32) (k0_t6 : Fin k0_t6_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_195 : BitVec 32 := 1#32
  let v232 : BitVec 32 := Scalar.addi v2 c1_i32_195
  let c5_i32_196 : BitVec 32 := 5#32
  let v233 : BitVec 32 := Scalar.addi v232 c5_i32_196
  let c8_i32_197 : BitVec 32 := 8#32
  let v234 : BitVec 32 := Scalar.remsi v233 c8_i32_197
  let c7_i32_208 : BitVec 32 := 7#32
  let v251 : BitVec 1 := Scalar.cmpi .eq v234 c7_i32_208
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_207 : BitVec 32 := 6#32
  let v249 : BitVec 1 := Scalar.cmpi .eq v234 c6_i32_207
  let c5_i32_206 : BitVec 32 := 5#32
  let v247 : BitVec 1 := Scalar.cmpi .eq v234 c5_i32_206
  let c4_i32_205 : BitVec 32 := 4#32
  let v245 : BitVec 1 := Scalar.cmpi .eq v234 c4_i32_205
  let c3_i32_204 : BitVec 32 := 3#32
  let v243 : BitVec 1 := Scalar.cmpi .eq v234 c3_i32_204
  let c2_i32_203 : BitVec 32 := 2#32
  let v241 : BitVec 1 := Scalar.cmpi .eq v234 c2_i32_203
  let c1_i32_202 : BitVec 32 := 1#32
  let v239 : BitVec 1 := Scalar.cmpi .eq v234 c1_i32_202
  let c0_i32_199 : BitVec 32 := 0#32
  let v237 : BitVec 1 := Scalar.cmpi .eq v234 c0_i32_199
  let c0_i32_200 : BitVec 32 := 0#32
  let c0_i32_201 : BitVec 32 := 0#32
  let v238 : BitVec 32 := Scalar.select v237 c0_i32_200 c0_i32_201
  let v240 : BitVec 32 := Scalar.select v239 v99 v238
  let v242 : BitVec 32 := Scalar.select v241 v101 v240
  let v244 : BitVec 32 := Scalar.select v243 v103 v242
  let v246 : BitVec 32 := Scalar.select v245 v105 v244
  let v248 : BitVec 32 := Scalar.select v247 v107 v246
  let v250 : BitVec 32 := Scalar.select v249 v109 v248
  let v252 : BitVec 32 := Scalar.select v251 v111 v250
  let c0_i32_211 : BitVec 32 := 0#32
  let c1_i32_213 : BitVec 32 := 1#32
  let arg17 : BitVec 32 := Scf.iv c0_i32_211 c1_i32_213 k0_t6
  let c8_i32_643 : BitVec 32 := 8#32
  let v787 : BitVec 32 := Scalar.muli arg17 c8_i32_643
  let c4_i32_644 : BitVec 32 := 4#32
  let v788 : BitVec 32 := Scalar.addi v787 c4_i32_644
  let c1_i32_209 : BitVec 32 := 1#32
  let v253 : BitVec 32 := Scalar.subi v236 c1_i32_209
  let c0_i32_210 : BitVec 32 := 0#32
  let v254 : BitVec 32 := Scalar.maxsi v253 c0_i32_210
  let v789 : BitVec 32 := Scalar.minsi v788 v254
  let v790 : BitVec 32 := Scalar.addi v252 v789
  let c4095_i32_645 : BitVec 32 := 4095#32
  let v791 : BitVec 32 := Scalar.minsi v790 c4095_i32_645
  let v792 : Index := Scalar.indexCast v791
  ![v792.toNat]
def k0_off101 (v793 : BitVec 32) : Fin 3 → Nat :=
  let c8_i32_646 : BitVec 32 := 8#32
  let v794 : BitVec 32 := Scalar.divsi v793 c8_i32_646
  let v795 : Index := Scalar.indexCast v794
  let c0_647 : Index := 0#32
  let c0_648 : Index := 0#32
  ![v795.toNat, 0, 0]

def k0_chk51 (v793 : BitVec 32) : Prop :=
  (∀ a, (k0_off101 v793) a + S1x8x1024.size a ≤ S512x8x1024.size a)
theorem k0_off101_inb : ∀ (v793 : BitVec 32) (k0_hw51 : k0_chk51 v793), ∀ a, (k0_off101 v793) a + S1x8x1024.size a ≤ S512x8x1024.size a := fun v793 k0_hw51 => k0_hw51

def k0_off102 (d0 : Dev nD) (v98 : BitVec 32) (v100 : BitVec 32) (v102 : BitVec 32) (v104 : BitVec 32) (v106 : BitVec 32) (v108 : BitVec 32) (v110 : BitVec 32) (v236 : BitVec 32) (k0_t6 : Fin k0_t6_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_195 : BitVec 32 := 1#32
  let v232 : BitVec 32 := Scalar.addi v2 c1_i32_195
  let c5_i32_196 : BitVec 32 := 5#32
  let v233 : BitVec 32 := Scalar.addi v232 c5_i32_196
  let c8_i32_197 : BitVec 32 := 8#32
  let v234 : BitVec 32 := Scalar.remsi v233 c8_i32_197
  let c7_i32_208 : BitVec 32 := 7#32
  let v251 : BitVec 1 := Scalar.cmpi .eq v234 c7_i32_208
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_207 : BitVec 32 := 6#32
  let v249 : BitVec 1 := Scalar.cmpi .eq v234 c6_i32_207
  let c5_i32_206 : BitVec 32 := 5#32
  let v247 : BitVec 1 := Scalar.cmpi .eq v234 c5_i32_206
  let c4_i32_205 : BitVec 32 := 4#32
  let v245 : BitVec 1 := Scalar.cmpi .eq v234 c4_i32_205
  let c3_i32_204 : BitVec 32 := 3#32
  let v243 : BitVec 1 := Scalar.cmpi .eq v234 c3_i32_204
  let c2_i32_203 : BitVec 32 := 2#32
  let v241 : BitVec 1 := Scalar.cmpi .eq v234 c2_i32_203
  let c1_i32_202 : BitVec 32 := 1#32
  let v239 : BitVec 1 := Scalar.cmpi .eq v234 c1_i32_202
  let c0_i32_199 : BitVec 32 := 0#32
  let v237 : BitVec 1 := Scalar.cmpi .eq v234 c0_i32_199
  let c0_i32_200 : BitVec 32 := 0#32
  let c0_i32_201 : BitVec 32 := 0#32
  let v238 : BitVec 32 := Scalar.select v237 c0_i32_200 c0_i32_201
  let v240 : BitVec 32 := Scalar.select v239 v99 v238
  let v242 : BitVec 32 := Scalar.select v241 v101 v240
  let v244 : BitVec 32 := Scalar.select v243 v103 v242
  let v246 : BitVec 32 := Scalar.select v245 v105 v244
  let v248 : BitVec 32 := Scalar.select v247 v107 v246
  let v250 : BitVec 32 := Scalar.select v249 v109 v248
  let v252 : BitVec 32 := Scalar.select v251 v111 v250
  let c0_i32_211 : BitVec 32 := 0#32
  let c1_i32_213 : BitVec 32 := 1#32
  let arg17 : BitVec 32 := Scf.iv c0_i32_211 c1_i32_213 k0_t6
  let c8_i32_654 : BitVec 32 := 8#32
  let v806 : BitVec 32 := Scalar.muli arg17 c8_i32_654
  let c5_i32_655 : BitVec 32 := 5#32
  let v807 : BitVec 32 := Scalar.addi v806 c5_i32_655
  let c1_i32_209 : BitVec 32 := 1#32
  let v253 : BitVec 32 := Scalar.subi v236 c1_i32_209
  let c0_i32_210 : BitVec 32 := 0#32
  let v254 : BitVec 32 := Scalar.maxsi v253 c0_i32_210
  let v808 : BitVec 32 := Scalar.minsi v807 v254
  let v809 : BitVec 32 := Scalar.addi v252 v808
  let c4095_i32_656 : BitVec 32 := 4095#32
  let v810 : BitVec 32 := Scalar.minsi v809 c4095_i32_656
  let v811 : Index := Scalar.indexCast v810
  ![v811.toNat]
def k0_off103 (v812 : BitVec 32) : Fin 3 → Nat :=
  let c8_i32_657 : BitVec 32 := 8#32
  let v813 : BitVec 32 := Scalar.divsi v812 c8_i32_657
  let v814 : Index := Scalar.indexCast v813
  let c0_658 : Index := 0#32
  let c0_659 : Index := 0#32
  ![v814.toNat, 0, 0]

def k0_chk52 (v812 : BitVec 32) : Prop :=
  (∀ a, (k0_off103 v812) a + S1x8x1024.size a ≤ S512x8x1024.size a)
theorem k0_off103_inb : ∀ (v812 : BitVec 32) (k0_hw52 : k0_chk52 v812), ∀ a, (k0_off103 v812) a + S1x8x1024.size a ≤ S512x8x1024.size a := fun v812 k0_hw52 => k0_hw52

def k0_off104 (d0 : Dev nD) (v98 : BitVec 32) (v100 : BitVec 32) (v102 : BitVec 32) (v104 : BitVec 32) (v106 : BitVec 32) (v108 : BitVec 32) (v110 : BitVec 32) (v236 : BitVec 32) (k0_t6 : Fin k0_t6_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_195 : BitVec 32 := 1#32
  let v232 : BitVec 32 := Scalar.addi v2 c1_i32_195
  let c5_i32_196 : BitVec 32 := 5#32
  let v233 : BitVec 32 := Scalar.addi v232 c5_i32_196
  let c8_i32_197 : BitVec 32 := 8#32
  let v234 : BitVec 32 := Scalar.remsi v233 c8_i32_197
  let c7_i32_208 : BitVec 32 := 7#32
  let v251 : BitVec 1 := Scalar.cmpi .eq v234 c7_i32_208
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_207 : BitVec 32 := 6#32
  let v249 : BitVec 1 := Scalar.cmpi .eq v234 c6_i32_207
  let c5_i32_206 : BitVec 32 := 5#32
  let v247 : BitVec 1 := Scalar.cmpi .eq v234 c5_i32_206
  let c4_i32_205 : BitVec 32 := 4#32
  let v245 : BitVec 1 := Scalar.cmpi .eq v234 c4_i32_205
  let c3_i32_204 : BitVec 32 := 3#32
  let v243 : BitVec 1 := Scalar.cmpi .eq v234 c3_i32_204
  let c2_i32_203 : BitVec 32 := 2#32
  let v241 : BitVec 1 := Scalar.cmpi .eq v234 c2_i32_203
  let c1_i32_202 : BitVec 32 := 1#32
  let v239 : BitVec 1 := Scalar.cmpi .eq v234 c1_i32_202
  let c0_i32_199 : BitVec 32 := 0#32
  let v237 : BitVec 1 := Scalar.cmpi .eq v234 c0_i32_199
  let c0_i32_200 : BitVec 32 := 0#32
  let c0_i32_201 : BitVec 32 := 0#32
  let v238 : BitVec 32 := Scalar.select v237 c0_i32_200 c0_i32_201
  let v240 : BitVec 32 := Scalar.select v239 v99 v238
  let v242 : BitVec 32 := Scalar.select v241 v101 v240
  let v244 : BitVec 32 := Scalar.select v243 v103 v242
  let v246 : BitVec 32 := Scalar.select v245 v105 v244
  let v248 : BitVec 32 := Scalar.select v247 v107 v246
  let v250 : BitVec 32 := Scalar.select v249 v109 v248
  let v252 : BitVec 32 := Scalar.select v251 v111 v250
  let c0_i32_211 : BitVec 32 := 0#32
  let c1_i32_213 : BitVec 32 := 1#32
  let arg17 : BitVec 32 := Scf.iv c0_i32_211 c1_i32_213 k0_t6
  let c8_i32_665 : BitVec 32 := 8#32
  let v825 : BitVec 32 := Scalar.muli arg17 c8_i32_665
  let c6_i32_666 : BitVec 32 := 6#32
  let v826 : BitVec 32 := Scalar.addi v825 c6_i32_666
  let c1_i32_209 : BitVec 32 := 1#32
  let v253 : BitVec 32 := Scalar.subi v236 c1_i32_209
  let c0_i32_210 : BitVec 32 := 0#32
  let v254 : BitVec 32 := Scalar.maxsi v253 c0_i32_210
  let v827 : BitVec 32 := Scalar.minsi v826 v254
  let v828 : BitVec 32 := Scalar.addi v252 v827
  let c4095_i32_667 : BitVec 32 := 4095#32
  let v829 : BitVec 32 := Scalar.minsi v828 c4095_i32_667
  let v830 : Index := Scalar.indexCast v829
  ![v830.toNat]
def k0_off105 (v831 : BitVec 32) : Fin 3 → Nat :=
  let c8_i32_668 : BitVec 32 := 8#32
  let v832 : BitVec 32 := Scalar.divsi v831 c8_i32_668
  let v833 : Index := Scalar.indexCast v832
  let c0_669 : Index := 0#32
  let c0_670 : Index := 0#32
  ![v833.toNat, 0, 0]

def k0_chk53 (v831 : BitVec 32) : Prop :=
  (∀ a, (k0_off105 v831) a + S1x8x1024.size a ≤ S512x8x1024.size a)
theorem k0_off105_inb : ∀ (v831 : BitVec 32) (k0_hw53 : k0_chk53 v831), ∀ a, (k0_off105 v831) a + S1x8x1024.size a ≤ S512x8x1024.size a := fun v831 k0_hw53 => k0_hw53

def k0_off106 (d0 : Dev nD) (v98 : BitVec 32) (v100 : BitVec 32) (v102 : BitVec 32) (v104 : BitVec 32) (v106 : BitVec 32) (v108 : BitVec 32) (v110 : BitVec 32) (v236 : BitVec 32) (k0_t6 : Fin k0_t6_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_195 : BitVec 32 := 1#32
  let v232 : BitVec 32 := Scalar.addi v2 c1_i32_195
  let c5_i32_196 : BitVec 32 := 5#32
  let v233 : BitVec 32 := Scalar.addi v232 c5_i32_196
  let c8_i32_197 : BitVec 32 := 8#32
  let v234 : BitVec 32 := Scalar.remsi v233 c8_i32_197
  let c7_i32_208 : BitVec 32 := 7#32
  let v251 : BitVec 1 := Scalar.cmpi .eq v234 c7_i32_208
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_207 : BitVec 32 := 6#32
  let v249 : BitVec 1 := Scalar.cmpi .eq v234 c6_i32_207
  let c5_i32_206 : BitVec 32 := 5#32
  let v247 : BitVec 1 := Scalar.cmpi .eq v234 c5_i32_206
  let c4_i32_205 : BitVec 32 := 4#32
  let v245 : BitVec 1 := Scalar.cmpi .eq v234 c4_i32_205
  let c3_i32_204 : BitVec 32 := 3#32
  let v243 : BitVec 1 := Scalar.cmpi .eq v234 c3_i32_204
  let c2_i32_203 : BitVec 32 := 2#32
  let v241 : BitVec 1 := Scalar.cmpi .eq v234 c2_i32_203
  let c1_i32_202 : BitVec 32 := 1#32
  let v239 : BitVec 1 := Scalar.cmpi .eq v234 c1_i32_202
  let c0_i32_199 : BitVec 32 := 0#32
  let v237 : BitVec 1 := Scalar.cmpi .eq v234 c0_i32_199
  let c0_i32_200 : BitVec 32 := 0#32
  let c0_i32_201 : BitVec 32 := 0#32
  let v238 : BitVec 32 := Scalar.select v237 c0_i32_200 c0_i32_201
  let v240 : BitVec 32 := Scalar.select v239 v99 v238
  let v242 : BitVec 32 := Scalar.select v241 v101 v240
  let v244 : BitVec 32 := Scalar.select v243 v103 v242
  let v246 : BitVec 32 := Scalar.select v245 v105 v244
  let v248 : BitVec 32 := Scalar.select v247 v107 v246
  let v250 : BitVec 32 := Scalar.select v249 v109 v248
  let v252 : BitVec 32 := Scalar.select v251 v111 v250
  let c0_i32_211 : BitVec 32 := 0#32
  let c1_i32_213 : BitVec 32 := 1#32
  let arg17 : BitVec 32 := Scf.iv c0_i32_211 c1_i32_213 k0_t6
  let c8_i32_676 : BitVec 32 := 8#32
  let v844 : BitVec 32 := Scalar.muli arg17 c8_i32_676
  let c7_i32_677 : BitVec 32 := 7#32
  let v845 : BitVec 32 := Scalar.addi v844 c7_i32_677
  let c1_i32_209 : BitVec 32 := 1#32
  let v253 : BitVec 32 := Scalar.subi v236 c1_i32_209
  let c0_i32_210 : BitVec 32 := 0#32
  let v254 : BitVec 32 := Scalar.maxsi v253 c0_i32_210
  let v846 : BitVec 32 := Scalar.minsi v845 v254
  let v847 : BitVec 32 := Scalar.addi v252 v846
  let c4095_i32_678 : BitVec 32 := 4095#32
  let v848 : BitVec 32 := Scalar.minsi v847 c4095_i32_678
  let v849 : Index := Scalar.indexCast v848
  ![v849.toNat]

def k0_chk46 (d0 : Dev nD) (v98 : BitVec 32) (v100 : BitVec 32) (v102 : BitVec 32) (v104 : BitVec 32) (v106 : BitVec 32) (v108 : BitVec 32) (v110 : BitVec 32) (v236 : BitVec 32) : Prop :=
  (∀ k0_t6 : Fin k0_t6_loop.trips, ∀ a, (k0_off92 d0 v98 v100 v102 v104 v106 v108 v110 v236 k0_t6) a + S1.size a ≤ S4096.size a) ∧
  (∀ k0_t6 : Fin k0_t6_loop.trips, ∀ a, (k0_off94 d0 v98 v100 v102 v104 v106 v108 v110 v236 k0_t6) a + S1.size a ≤ S4096.size a) ∧
  (∀ k0_t6 : Fin k0_t6_loop.trips, ∀ a, (k0_off96 d0 v98 v100 v102 v104 v106 v108 v110 v236 k0_t6) a + S1.size a ≤ S4096.size a) ∧
  (∀ k0_t6 : Fin k0_t6_loop.trips, ∀ a, (k0_off98 d0 v98 v100 v102 v104 v106 v108 v110 v236 k0_t6) a + S1.size a ≤ S4096.size a) ∧
  (∀ k0_t6 : Fin k0_t6_loop.trips, ∀ a, (k0_off100 d0 v98 v100 v102 v104 v106 v108 v110 v236 k0_t6) a + S1.size a ≤ S4096.size a) ∧
  (∀ k0_t6 : Fin k0_t6_loop.trips, ∀ a, (k0_off102 d0 v98 v100 v102 v104 v106 v108 v110 v236 k0_t6) a + S1.size a ≤ S4096.size a) ∧
  (∀ k0_t6 : Fin k0_t6_loop.trips, ∀ a, (k0_off104 d0 v98 v100 v102 v104 v106 v108 v110 v236 k0_t6) a + S1.size a ≤ S4096.size a) ∧
  (∀ k0_t6 : Fin k0_t6_loop.trips, ∀ a, (k0_off106 d0 v98 v100 v102 v104 v106 v108 v110 v236 k0_t6) a + S1.size a ≤ S4096.size a)
theorem k0_off92_inb : ∀ (d0 : Dev nD) (v98 : BitVec 32) (v100 : BitVec 32) (v102 : BitVec 32) (v104 : BitVec 32) (v106 : BitVec 32) (v108 : BitVec 32) (v110 : BitVec 32) (v236 : BitVec 32) (k0_hw46 : k0_chk46 d0 v98 v100 v102 v104 v106 v108 v110 v236) (k0_t6 : Fin k0_t6_loop.trips), ∀ a, (k0_off92 d0 v98 v100 v102 v104 v106 v108 v110 v236 k0_t6) a + S1.size a ≤ S4096.size a := fun d0 v98 v100 v102 v104 v106 v108 v110 v236 k0_hw46 k0_t6 => k0_hw46.1 k0_t6
theorem k0_off94_inb : ∀ (d0 : Dev nD) (v98 : BitVec 32) (v100 : BitVec 32) (v102 : BitVec 32) (v104 : BitVec 32) (v106 : BitVec 32) (v108 : BitVec 32) (v110 : BitVec 32) (v236 : BitVec 32) (k0_hw46 : k0_chk46 d0 v98 v100 v102 v104 v106 v108 v110 v236) (k0_t6 : Fin k0_t6_loop.trips), ∀ a, (k0_off94 d0 v98 v100 v102 v104 v106 v108 v110 v236 k0_t6) a + S1.size a ≤ S4096.size a := fun d0 v98 v100 v102 v104 v106 v108 v110 v236 k0_hw46 k0_t6 => k0_hw46.2.1 k0_t6
theorem k0_off96_inb : ∀ (d0 : Dev nD) (v98 : BitVec 32) (v100 : BitVec 32) (v102 : BitVec 32) (v104 : BitVec 32) (v106 : BitVec 32) (v108 : BitVec 32) (v110 : BitVec 32) (v236 : BitVec 32) (k0_hw46 : k0_chk46 d0 v98 v100 v102 v104 v106 v108 v110 v236) (k0_t6 : Fin k0_t6_loop.trips), ∀ a, (k0_off96 d0 v98 v100 v102 v104 v106 v108 v110 v236 k0_t6) a + S1.size a ≤ S4096.size a := fun d0 v98 v100 v102 v104 v106 v108 v110 v236 k0_hw46 k0_t6 => k0_hw46.2.2.1 k0_t6
theorem k0_off98_inb : ∀ (d0 : Dev nD) (v98 : BitVec 32) (v100 : BitVec 32) (v102 : BitVec 32) (v104 : BitVec 32) (v106 : BitVec 32) (v108 : BitVec 32) (v110 : BitVec 32) (v236 : BitVec 32) (k0_hw46 : k0_chk46 d0 v98 v100 v102 v104 v106 v108 v110 v236) (k0_t6 : Fin k0_t6_loop.trips), ∀ a, (k0_off98 d0 v98 v100 v102 v104 v106 v108 v110 v236 k0_t6) a + S1.size a ≤ S4096.size a := fun d0 v98 v100 v102 v104 v106 v108 v110 v236 k0_hw46 k0_t6 => k0_hw46.2.2.2.1 k0_t6
theorem k0_off100_inb : ∀ (d0 : Dev nD) (v98 : BitVec 32) (v100 : BitVec 32) (v102 : BitVec 32) (v104 : BitVec 32) (v106 : BitVec 32) (v108 : BitVec 32) (v110 : BitVec 32) (v236 : BitVec 32) (k0_hw46 : k0_chk46 d0 v98 v100 v102 v104 v106 v108 v110 v236) (k0_t6 : Fin k0_t6_loop.trips), ∀ a, (k0_off100 d0 v98 v100 v102 v104 v106 v108 v110 v236 k0_t6) a + S1.size a ≤ S4096.size a := fun d0 v98 v100 v102 v104 v106 v108 v110 v236 k0_hw46 k0_t6 => k0_hw46.2.2.2.2.1 k0_t6
theorem k0_off102_inb : ∀ (d0 : Dev nD) (v98 : BitVec 32) (v100 : BitVec 32) (v102 : BitVec 32) (v104 : BitVec 32) (v106 : BitVec 32) (v108 : BitVec 32) (v110 : BitVec 32) (v236 : BitVec 32) (k0_hw46 : k0_chk46 d0 v98 v100 v102 v104 v106 v108 v110 v236) (k0_t6 : Fin k0_t6_loop.trips), ∀ a, (k0_off102 d0 v98 v100 v102 v104 v106 v108 v110 v236 k0_t6) a + S1.size a ≤ S4096.size a := fun d0 v98 v100 v102 v104 v106 v108 v110 v236 k0_hw46 k0_t6 => k0_hw46.2.2.2.2.2.1 k0_t6
theorem k0_off104_inb : ∀ (d0 : Dev nD) (v98 : BitVec 32) (v100 : BitVec 32) (v102 : BitVec 32) (v104 : BitVec 32) (v106 : BitVec 32) (v108 : BitVec 32) (v110 : BitVec 32) (v236 : BitVec 32) (k0_hw46 : k0_chk46 d0 v98 v100 v102 v104 v106 v108 v110 v236) (k0_t6 : Fin k0_t6_loop.trips), ∀ a, (k0_off104 d0 v98 v100 v102 v104 v106 v108 v110 v236 k0_t6) a + S1.size a ≤ S4096.size a := fun d0 v98 v100 v102 v104 v106 v108 v110 v236 k0_hw46 k0_t6 => k0_hw46.2.2.2.2.2.2.1 k0_t6
theorem k0_off106_inb : ∀ (d0 : Dev nD) (v98 : BitVec 32) (v100 : BitVec 32) (v102 : BitVec 32) (v104 : BitVec 32) (v106 : BitVec 32) (v108 : BitVec 32) (v110 : BitVec 32) (v236 : BitVec 32) (k0_hw46 : k0_chk46 d0 v98 v100 v102 v104 v106 v108 v110 v236) (k0_t6 : Fin k0_t6_loop.trips), ∀ a, (k0_off106 d0 v98 v100 v102 v104 v106 v108 v110 v236 k0_t6) a + S1.size a ≤ S4096.size a := fun d0 v98 v100 v102 v104 v106 v108 v110 v236 k0_hw46 k0_t6 => k0_hw46.2.2.2.2.2.2.2 k0_t6

def k0_off107 (v850 : BitVec 32) : Fin 3 → Nat :=
  let c8_i32_679 : BitVec 32 := 8#32
  let v851 : BitVec 32 := Scalar.divsi v850 c8_i32_679
  let v852 : Index := Scalar.indexCast v851
  let c0_680 : Index := 0#32
  let c0_681 : Index := 0#32
  ![v852.toNat, 0, 0]

def k0_chk54 (v850 : BitVec 32) : Prop :=
  (∀ a, (k0_off107 v850) a + S1x8x1024.size a ≤ S512x8x1024.size a)
theorem k0_off107_inb : ∀ (v850 : BitVec 32) (k0_hw54 : k0_chk54 v850), ∀ a, (k0_off107 v850) a + S1x8x1024.size a ≤ S512x8x1024.size a := fun v850 k0_hw54 => k0_hw54

def k0_off108 (k0_t6 : Fin k0_t6_loop.trips) : Fin 3 → Nat :=
  let c400_i32_687 : BitVec 32 := 400#32
  let c0_i32_211 : BitVec 32 := 0#32
  let c1_i32_213 : BitVec 32 := 1#32
  let arg17 : BitVec 32 := Scf.iv c0_i32_211 c1_i32_213 k0_t6
  let v863 : BitVec 32 := Scalar.addi c400_i32_687 arg17
  let v864 : Index := Scalar.indexCast v863
  let c0_688 : Index := 0#32
  let c0_689 : Index := 0#32
  ![v864.toNat, 0, 0]
def k0_off109 (d0 : Dev nD) : Fin 2 → Nat :=
  let c7_218 : Index := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_215 : BitVec 32 := 1#32
  let v256 : BitVec 32 := Scalar.addi v2 c1_i32_215
  let c6_i32_216 : BitVec 32 := 6#32
  let v257 : BitVec 32 := Scalar.addi v256 c6_i32_216
  let c8_i32_217 : BitVec 32 := 8#32
  let v258 : BitVec 32 := Scalar.remsi v257 c8_i32_217
  let v259 : Index := Scalar.indexCast v258
  ![7, v259.toNat]
@[reducible] def k0_t7_loop : Scf.Loop 32 :=
  let c0_i32_231 : BitVec 32 := 0#32
  let c80_i32_232 : BitVec 32 := 80#32
  let v279 : BitVec 32 := Scalar.addi c0_i32_231 c80_i32_232
  let c1_i32_233 : BitVec 32 := 1#32
  ⟨c0_i32_231, v279, c1_i32_233⟩
def k0_off110 (d0 : Dev nD) (v98 : BitVec 32) (v100 : BitVec 32) (v102 : BitVec 32) (v104 : BitVec 32) (v106 : BitVec 32) (v108 : BitVec 32) (v110 : BitVec 32) (v260 : BitVec 32) (k0_t7 : Fin k0_t7_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_215 : BitVec 32 := 1#32
  let v256 : BitVec 32 := Scalar.addi v2 c1_i32_215
  let c6_i32_216 : BitVec 32 := 6#32
  let v257 : BitVec 32 := Scalar.addi v256 c6_i32_216
  let c8_i32_217 : BitVec 32 := 8#32
  let v258 : BitVec 32 := Scalar.remsi v257 c8_i32_217
  let c7_i32_228 : BitVec 32 := 7#32
  let v275 : BitVec 1 := Scalar.cmpi .eq v258 c7_i32_228
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_227 : BitVec 32 := 6#32
  let v273 : BitVec 1 := Scalar.cmpi .eq v258 c6_i32_227
  let c5_i32_226 : BitVec 32 := 5#32
  let v271 : BitVec 1 := Scalar.cmpi .eq v258 c5_i32_226
  let c4_i32_225 : BitVec 32 := 4#32
  let v269 : BitVec 1 := Scalar.cmpi .eq v258 c4_i32_225
  let c3_i32_224 : BitVec 32 := 3#32
  let v267 : BitVec 1 := Scalar.cmpi .eq v258 c3_i32_224
  let c2_i32_223 : BitVec 32 := 2#32
  let v265 : BitVec 1 := Scalar.cmpi .eq v258 c2_i32_223
  let c1_i32_222 : BitVec 32 := 1#32
  let v263 : BitVec 1 := Scalar.cmpi .eq v258 c1_i32_222
  let c0_i32_219 : BitVec 32 := 0#32
  let v261 : BitVec 1 := Scalar.cmpi .eq v258 c0_i32_219
  let c0_i32_220 : BitVec 32 := 0#32
  let c0_i32_221 : BitVec 32 := 0#32
  let v262 : BitVec 32 := Scalar.select v261 c0_i32_220 c0_i32_221
  let v264 : BitVec 32 := Scalar.select v263 v99 v262
  let v266 : BitVec 32 := Scalar.select v265 v101 v264
  let v268 : BitVec 32 := Scalar.select v267 v103 v266
  let v270 : BitVec 32 := Scalar.select v269 v105 v268
  let v272 : BitVec 32 := Scalar.select v271 v107 v270
  let v274 : BitVec 32 := Scalar.select v273 v109 v272
  let v276 : BitVec 32 := Scalar.select v275 v111 v274
  let c0_i32_231 : BitVec 32 := 0#32
  let c1_i32_233 : BitVec 32 := 1#32
  let arg17 : BitVec 32 := Scf.iv c0_i32_231 c1_i32_233 k0_t7
  let c8_i32_600 : BitVec 32 := 8#32
  let v711 : BitVec 32 := Scalar.muli arg17 c8_i32_600
  let c0_i32_601 : BitVec 32 := 0#32
  let v712 : BitVec 32 := Scalar.addi v711 c0_i32_601
  let c1_i32_229 : BitVec 32 := 1#32
  let v277 : BitVec 32 := Scalar.subi v260 c1_i32_229
  let c0_i32_230 : BitVec 32 := 0#32
  let v278 : BitVec 32 := Scalar.maxsi v277 c0_i32_230
  let v713 : BitVec 32 := Scalar.minsi v712 v278
  let v714 : BitVec 32 := Scalar.addi v276 v713
  let c4095_i32 : BitVec 32 := 4095#32
  let v715 : BitVec 32 := Scalar.minsi v714 c4095_i32
  let v716 : Index := Scalar.indexCast v715
  ![v716.toNat]

def k0_off111 (v717 : BitVec 32) : Fin 3 → Nat :=
  let c8_i32_602 : BitVec 32 := 8#32
  let v718 : BitVec 32 := Scalar.divsi v717 c8_i32_602
  let v719 : Index := Scalar.indexCast v718
  let c0_603 : Index := 0#32
  let c0_604 : Index := 0#32
  ![v719.toNat, 0, 0]

def k0_chk56 (v717 : BitVec 32) : Prop :=
  (∀ a, (k0_off111 v717) a + S1x8x1024.size a ≤ S512x8x1024.size a)
theorem k0_off111_inb : ∀ (v717 : BitVec 32) (k0_hw56 : k0_chk56 v717), ∀ a, (k0_off111 v717) a + S1x8x1024.size a ≤ S512x8x1024.size a := fun v717 k0_hw56 => k0_hw56

def k0_off112 (d0 : Dev nD) (v98 : BitVec 32) (v100 : BitVec 32) (v102 : BitVec 32) (v104 : BitVec 32) (v106 : BitVec 32) (v108 : BitVec 32) (v110 : BitVec 32) (v260 : BitVec 32) (k0_t7 : Fin k0_t7_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_215 : BitVec 32 := 1#32
  let v256 : BitVec 32 := Scalar.addi v2 c1_i32_215
  let c6_i32_216 : BitVec 32 := 6#32
  let v257 : BitVec 32 := Scalar.addi v256 c6_i32_216
  let c8_i32_217 : BitVec 32 := 8#32
  let v258 : BitVec 32 := Scalar.remsi v257 c8_i32_217
  let c7_i32_228 : BitVec 32 := 7#32
  let v275 : BitVec 1 := Scalar.cmpi .eq v258 c7_i32_228
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_227 : BitVec 32 := 6#32
  let v273 : BitVec 1 := Scalar.cmpi .eq v258 c6_i32_227
  let c5_i32_226 : BitVec 32 := 5#32
  let v271 : BitVec 1 := Scalar.cmpi .eq v258 c5_i32_226
  let c4_i32_225 : BitVec 32 := 4#32
  let v269 : BitVec 1 := Scalar.cmpi .eq v258 c4_i32_225
  let c3_i32_224 : BitVec 32 := 3#32
  let v267 : BitVec 1 := Scalar.cmpi .eq v258 c3_i32_224
  let c2_i32_223 : BitVec 32 := 2#32
  let v265 : BitVec 1 := Scalar.cmpi .eq v258 c2_i32_223
  let c1_i32_222 : BitVec 32 := 1#32
  let v263 : BitVec 1 := Scalar.cmpi .eq v258 c1_i32_222
  let c0_i32_219 : BitVec 32 := 0#32
  let v261 : BitVec 1 := Scalar.cmpi .eq v258 c0_i32_219
  let c0_i32_220 : BitVec 32 := 0#32
  let c0_i32_221 : BitVec 32 := 0#32
  let v262 : BitVec 32 := Scalar.select v261 c0_i32_220 c0_i32_221
  let v264 : BitVec 32 := Scalar.select v263 v99 v262
  let v266 : BitVec 32 := Scalar.select v265 v101 v264
  let v268 : BitVec 32 := Scalar.select v267 v103 v266
  let v270 : BitVec 32 := Scalar.select v269 v105 v268
  let v272 : BitVec 32 := Scalar.select v271 v107 v270
  let v274 : BitVec 32 := Scalar.select v273 v109 v272
  let v276 : BitVec 32 := Scalar.select v275 v111 v274
  let c0_i32_231 : BitVec 32 := 0#32
  let c1_i32_233 : BitVec 32 := 1#32
  let arg17 : BitVec 32 := Scf.iv c0_i32_231 c1_i32_233 k0_t7
  let c8_i32_610 : BitVec 32 := 8#32
  let v730 : BitVec 32 := Scalar.muli arg17 c8_i32_610
  let c1_i32_611 : BitVec 32 := 1#32
  let v731 : BitVec 32 := Scalar.addi v730 c1_i32_611
  let c1_i32_229 : BitVec 32 := 1#32
  let v277 : BitVec 32 := Scalar.subi v260 c1_i32_229
  let c0_i32_230 : BitVec 32 := 0#32
  let v278 : BitVec 32 := Scalar.maxsi v277 c0_i32_230
  let v732 : BitVec 32 := Scalar.minsi v731 v278
  let v733 : BitVec 32 := Scalar.addi v276 v732
  let c4095_i32_612 : BitVec 32 := 4095#32
  let v734 : BitVec 32 := Scalar.minsi v733 c4095_i32_612
  let v735 : Index := Scalar.indexCast v734
  ![v735.toNat]
def k0_off113 (v736 : BitVec 32) : Fin 3 → Nat :=
  let c8_i32_613 : BitVec 32 := 8#32
  let v737 : BitVec 32 := Scalar.divsi v736 c8_i32_613
  let v738 : Index := Scalar.indexCast v737
  let c0_614 : Index := 0#32
  let c0_615 : Index := 0#32
  ![v738.toNat, 0, 0]

def k0_chk57 (v736 : BitVec 32) : Prop :=
  (∀ a, (k0_off113 v736) a + S1x8x1024.size a ≤ S512x8x1024.size a)
theorem k0_off113_inb : ∀ (v736 : BitVec 32) (k0_hw57 : k0_chk57 v736), ∀ a, (k0_off113 v736) a + S1x8x1024.size a ≤ S512x8x1024.size a := fun v736 k0_hw57 => k0_hw57

def k0_off114 (d0 : Dev nD) (v98 : BitVec 32) (v100 : BitVec 32) (v102 : BitVec 32) (v104 : BitVec 32) (v106 : BitVec 32) (v108 : BitVec 32) (v110 : BitVec 32) (v260 : BitVec 32) (k0_t7 : Fin k0_t7_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_215 : BitVec 32 := 1#32
  let v256 : BitVec 32 := Scalar.addi v2 c1_i32_215
  let c6_i32_216 : BitVec 32 := 6#32
  let v257 : BitVec 32 := Scalar.addi v256 c6_i32_216
  let c8_i32_217 : BitVec 32 := 8#32
  let v258 : BitVec 32 := Scalar.remsi v257 c8_i32_217
  let c7_i32_228 : BitVec 32 := 7#32
  let v275 : BitVec 1 := Scalar.cmpi .eq v258 c7_i32_228
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_227 : BitVec 32 := 6#32
  let v273 : BitVec 1 := Scalar.cmpi .eq v258 c6_i32_227
  let c5_i32_226 : BitVec 32 := 5#32
  let v271 : BitVec 1 := Scalar.cmpi .eq v258 c5_i32_226
  let c4_i32_225 : BitVec 32 := 4#32
  let v269 : BitVec 1 := Scalar.cmpi .eq v258 c4_i32_225
  let c3_i32_224 : BitVec 32 := 3#32
  let v267 : BitVec 1 := Scalar.cmpi .eq v258 c3_i32_224
  let c2_i32_223 : BitVec 32 := 2#32
  let v265 : BitVec 1 := Scalar.cmpi .eq v258 c2_i32_223
  let c1_i32_222 : BitVec 32 := 1#32
  let v263 : BitVec 1 := Scalar.cmpi .eq v258 c1_i32_222
  let c0_i32_219 : BitVec 32 := 0#32
  let v261 : BitVec 1 := Scalar.cmpi .eq v258 c0_i32_219
  let c0_i32_220 : BitVec 32 := 0#32
  let c0_i32_221 : BitVec 32 := 0#32
  let v262 : BitVec 32 := Scalar.select v261 c0_i32_220 c0_i32_221
  let v264 : BitVec 32 := Scalar.select v263 v99 v262
  let v266 : BitVec 32 := Scalar.select v265 v101 v264
  let v268 : BitVec 32 := Scalar.select v267 v103 v266
  let v270 : BitVec 32 := Scalar.select v269 v105 v268
  let v272 : BitVec 32 := Scalar.select v271 v107 v270
  let v274 : BitVec 32 := Scalar.select v273 v109 v272
  let v276 : BitVec 32 := Scalar.select v275 v111 v274
  let c0_i32_231 : BitVec 32 := 0#32
  let c1_i32_233 : BitVec 32 := 1#32
  let arg17 : BitVec 32 := Scf.iv c0_i32_231 c1_i32_233 k0_t7
  let c8_i32_621 : BitVec 32 := 8#32
  let v749 : BitVec 32 := Scalar.muli arg17 c8_i32_621
  let c2_i32_622 : BitVec 32 := 2#32
  let v750 : BitVec 32 := Scalar.addi v749 c2_i32_622
  let c1_i32_229 : BitVec 32 := 1#32
  let v277 : BitVec 32 := Scalar.subi v260 c1_i32_229
  let c0_i32_230 : BitVec 32 := 0#32
  let v278 : BitVec 32 := Scalar.maxsi v277 c0_i32_230
  let v751 : BitVec 32 := Scalar.minsi v750 v278
  let v752 : BitVec 32 := Scalar.addi v276 v751
  let c4095_i32_623 : BitVec 32 := 4095#32
  let v753 : BitVec 32 := Scalar.minsi v752 c4095_i32_623
  let v754 : Index := Scalar.indexCast v753
  ![v754.toNat]
def k0_off115 (v755 : BitVec 32) : Fin 3 → Nat :=
  let c8_i32_624 : BitVec 32 := 8#32
  let v756 : BitVec 32 := Scalar.divsi v755 c8_i32_624
  let v757 : Index := Scalar.indexCast v756
  let c0_625 : Index := 0#32
  let c0_626 : Index := 0#32
  ![v757.toNat, 0, 0]

def k0_chk58 (v755 : BitVec 32) : Prop :=
  (∀ a, (k0_off115 v755) a + S1x8x1024.size a ≤ S512x8x1024.size a)
theorem k0_off115_inb : ∀ (v755 : BitVec 32) (k0_hw58 : k0_chk58 v755), ∀ a, (k0_off115 v755) a + S1x8x1024.size a ≤ S512x8x1024.size a := fun v755 k0_hw58 => k0_hw58

def k0_off116 (d0 : Dev nD) (v98 : BitVec 32) (v100 : BitVec 32) (v102 : BitVec 32) (v104 : BitVec 32) (v106 : BitVec 32) (v108 : BitVec 32) (v110 : BitVec 32) (v260 : BitVec 32) (k0_t7 : Fin k0_t7_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_215 : BitVec 32 := 1#32
  let v256 : BitVec 32 := Scalar.addi v2 c1_i32_215
  let c6_i32_216 : BitVec 32 := 6#32
  let v257 : BitVec 32 := Scalar.addi v256 c6_i32_216
  let c8_i32_217 : BitVec 32 := 8#32
  let v258 : BitVec 32 := Scalar.remsi v257 c8_i32_217
  let c7_i32_228 : BitVec 32 := 7#32
  let v275 : BitVec 1 := Scalar.cmpi .eq v258 c7_i32_228
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_227 : BitVec 32 := 6#32
  let v273 : BitVec 1 := Scalar.cmpi .eq v258 c6_i32_227
  let c5_i32_226 : BitVec 32 := 5#32
  let v271 : BitVec 1 := Scalar.cmpi .eq v258 c5_i32_226
  let c4_i32_225 : BitVec 32 := 4#32
  let v269 : BitVec 1 := Scalar.cmpi .eq v258 c4_i32_225
  let c3_i32_224 : BitVec 32 := 3#32
  let v267 : BitVec 1 := Scalar.cmpi .eq v258 c3_i32_224
  let c2_i32_223 : BitVec 32 := 2#32
  let v265 : BitVec 1 := Scalar.cmpi .eq v258 c2_i32_223
  let c1_i32_222 : BitVec 32 := 1#32
  let v263 : BitVec 1 := Scalar.cmpi .eq v258 c1_i32_222
  let c0_i32_219 : BitVec 32 := 0#32
  let v261 : BitVec 1 := Scalar.cmpi .eq v258 c0_i32_219
  let c0_i32_220 : BitVec 32 := 0#32
  let c0_i32_221 : BitVec 32 := 0#32
  let v262 : BitVec 32 := Scalar.select v261 c0_i32_220 c0_i32_221
  let v264 : BitVec 32 := Scalar.select v263 v99 v262
  let v266 : BitVec 32 := Scalar.select v265 v101 v264
  let v268 : BitVec 32 := Scalar.select v267 v103 v266
  let v270 : BitVec 32 := Scalar.select v269 v105 v268
  let v272 : BitVec 32 := Scalar.select v271 v107 v270
  let v274 : BitVec 32 := Scalar.select v273 v109 v272
  let v276 : BitVec 32 := Scalar.select v275 v111 v274
  let c0_i32_231 : BitVec 32 := 0#32
  let c1_i32_233 : BitVec 32 := 1#32
  let arg17 : BitVec 32 := Scf.iv c0_i32_231 c1_i32_233 k0_t7
  let c8_i32_632 : BitVec 32 := 8#32
  let v768 : BitVec 32 := Scalar.muli arg17 c8_i32_632
  let c3_i32_633 : BitVec 32 := 3#32
  let v769 : BitVec 32 := Scalar.addi v768 c3_i32_633
  let c1_i32_229 : BitVec 32 := 1#32
  let v277 : BitVec 32 := Scalar.subi v260 c1_i32_229
  let c0_i32_230 : BitVec 32 := 0#32
  let v278 : BitVec 32 := Scalar.maxsi v277 c0_i32_230
  let v770 : BitVec 32 := Scalar.minsi v769 v278
  let v771 : BitVec 32 := Scalar.addi v276 v770
  let c4095_i32_634 : BitVec 32 := 4095#32
  let v772 : BitVec 32 := Scalar.minsi v771 c4095_i32_634
  let v773 : Index := Scalar.indexCast v772
  ![v773.toNat]
def k0_off117 (v774 : BitVec 32) : Fin 3 → Nat :=
  let c8_i32_635 : BitVec 32 := 8#32
  let v775 : BitVec 32 := Scalar.divsi v774 c8_i32_635
  let v776 : Index := Scalar.indexCast v775
  let c0_636 : Index := 0#32
  let c0_637 : Index := 0#32
  ![v776.toNat, 0, 0]

def k0_chk59 (v774 : BitVec 32) : Prop :=
  (∀ a, (k0_off117 v774) a + S1x8x1024.size a ≤ S512x8x1024.size a)
theorem k0_off117_inb : ∀ (v774 : BitVec 32) (k0_hw59 : k0_chk59 v774), ∀ a, (k0_off117 v774) a + S1x8x1024.size a ≤ S512x8x1024.size a := fun v774 k0_hw59 => k0_hw59

def k0_off118 (d0 : Dev nD) (v98 : BitVec 32) (v100 : BitVec 32) (v102 : BitVec 32) (v104 : BitVec 32) (v106 : BitVec 32) (v108 : BitVec 32) (v110 : BitVec 32) (v260 : BitVec 32) (k0_t7 : Fin k0_t7_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_215 : BitVec 32 := 1#32
  let v256 : BitVec 32 := Scalar.addi v2 c1_i32_215
  let c6_i32_216 : BitVec 32 := 6#32
  let v257 : BitVec 32 := Scalar.addi v256 c6_i32_216
  let c8_i32_217 : BitVec 32 := 8#32
  let v258 : BitVec 32 := Scalar.remsi v257 c8_i32_217
  let c7_i32_228 : BitVec 32 := 7#32
  let v275 : BitVec 1 := Scalar.cmpi .eq v258 c7_i32_228
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_227 : BitVec 32 := 6#32
  let v273 : BitVec 1 := Scalar.cmpi .eq v258 c6_i32_227
  let c5_i32_226 : BitVec 32 := 5#32
  let v271 : BitVec 1 := Scalar.cmpi .eq v258 c5_i32_226
  let c4_i32_225 : BitVec 32 := 4#32
  let v269 : BitVec 1 := Scalar.cmpi .eq v258 c4_i32_225
  let c3_i32_224 : BitVec 32 := 3#32
  let v267 : BitVec 1 := Scalar.cmpi .eq v258 c3_i32_224
  let c2_i32_223 : BitVec 32 := 2#32
  let v265 : BitVec 1 := Scalar.cmpi .eq v258 c2_i32_223
  let c1_i32_222 : BitVec 32 := 1#32
  let v263 : BitVec 1 := Scalar.cmpi .eq v258 c1_i32_222
  let c0_i32_219 : BitVec 32 := 0#32
  let v261 : BitVec 1 := Scalar.cmpi .eq v258 c0_i32_219
  let c0_i32_220 : BitVec 32 := 0#32
  let c0_i32_221 : BitVec 32 := 0#32
  let v262 : BitVec 32 := Scalar.select v261 c0_i32_220 c0_i32_221
  let v264 : BitVec 32 := Scalar.select v263 v99 v262
  let v266 : BitVec 32 := Scalar.select v265 v101 v264
  let v268 : BitVec 32 := Scalar.select v267 v103 v266
  let v270 : BitVec 32 := Scalar.select v269 v105 v268
  let v272 : BitVec 32 := Scalar.select v271 v107 v270
  let v274 : BitVec 32 := Scalar.select v273 v109 v272
  let v276 : BitVec 32 := Scalar.select v275 v111 v274
  let c0_i32_231 : BitVec 32 := 0#32
  let c1_i32_233 : BitVec 32 := 1#32
  let arg17 : BitVec 32 := Scf.iv c0_i32_231 c1_i32_233 k0_t7
  let c8_i32_643 : BitVec 32 := 8#32
  let v787 : BitVec 32 := Scalar.muli arg17 c8_i32_643
  let c4_i32_644 : BitVec 32 := 4#32
  let v788 : BitVec 32 := Scalar.addi v787 c4_i32_644
  let c1_i32_229 : BitVec 32 := 1#32
  let v277 : BitVec 32 := Scalar.subi v260 c1_i32_229
  let c0_i32_230 : BitVec 32 := 0#32
  let v278 : BitVec 32 := Scalar.maxsi v277 c0_i32_230
  let v789 : BitVec 32 := Scalar.minsi v788 v278
  let v790 : BitVec 32 := Scalar.addi v276 v789
  let c4095_i32_645 : BitVec 32 := 4095#32
  let v791 : BitVec 32 := Scalar.minsi v790 c4095_i32_645
  let v792 : Index := Scalar.indexCast v791
  ![v792.toNat]
def k0_off119 (v793 : BitVec 32) : Fin 3 → Nat :=
  let c8_i32_646 : BitVec 32 := 8#32
  let v794 : BitVec 32 := Scalar.divsi v793 c8_i32_646
  let v795 : Index := Scalar.indexCast v794
  let c0_647 : Index := 0#32
  let c0_648 : Index := 0#32
  ![v795.toNat, 0, 0]

def k0_chk60 (v793 : BitVec 32) : Prop :=
  (∀ a, (k0_off119 v793) a + S1x8x1024.size a ≤ S512x8x1024.size a)
theorem k0_off119_inb : ∀ (v793 : BitVec 32) (k0_hw60 : k0_chk60 v793), ∀ a, (k0_off119 v793) a + S1x8x1024.size a ≤ S512x8x1024.size a := fun v793 k0_hw60 => k0_hw60

def k0_off120 (d0 : Dev nD) (v98 : BitVec 32) (v100 : BitVec 32) (v102 : BitVec 32) (v104 : BitVec 32) (v106 : BitVec 32) (v108 : BitVec 32) (v110 : BitVec 32) (v260 : BitVec 32) (k0_t7 : Fin k0_t7_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_215 : BitVec 32 := 1#32
  let v256 : BitVec 32 := Scalar.addi v2 c1_i32_215
  let c6_i32_216 : BitVec 32 := 6#32
  let v257 : BitVec 32 := Scalar.addi v256 c6_i32_216
  let c8_i32_217 : BitVec 32 := 8#32
  let v258 : BitVec 32 := Scalar.remsi v257 c8_i32_217
  let c7_i32_228 : BitVec 32 := 7#32
  let v275 : BitVec 1 := Scalar.cmpi .eq v258 c7_i32_228
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_227 : BitVec 32 := 6#32
  let v273 : BitVec 1 := Scalar.cmpi .eq v258 c6_i32_227
  let c5_i32_226 : BitVec 32 := 5#32
  let v271 : BitVec 1 := Scalar.cmpi .eq v258 c5_i32_226
  let c4_i32_225 : BitVec 32 := 4#32
  let v269 : BitVec 1 := Scalar.cmpi .eq v258 c4_i32_225
  let c3_i32_224 : BitVec 32 := 3#32
  let v267 : BitVec 1 := Scalar.cmpi .eq v258 c3_i32_224
  let c2_i32_223 : BitVec 32 := 2#32
  let v265 : BitVec 1 := Scalar.cmpi .eq v258 c2_i32_223
  let c1_i32_222 : BitVec 32 := 1#32
  let v263 : BitVec 1 := Scalar.cmpi .eq v258 c1_i32_222
  let c0_i32_219 : BitVec 32 := 0#32
  let v261 : BitVec 1 := Scalar.cmpi .eq v258 c0_i32_219
  let c0_i32_220 : BitVec 32 := 0#32
  let c0_i32_221 : BitVec 32 := 0#32
  let v262 : BitVec 32 := Scalar.select v261 c0_i32_220 c0_i32_221
  let v264 : BitVec 32 := Scalar.select v263 v99 v262
  let v266 : BitVec 32 := Scalar.select v265 v101 v264
  let v268 : BitVec 32 := Scalar.select v267 v103 v266
  let v270 : BitVec 32 := Scalar.select v269 v105 v268
  let v272 : BitVec 32 := Scalar.select v271 v107 v270
  let v274 : BitVec 32 := Scalar.select v273 v109 v272
  let v276 : BitVec 32 := Scalar.select v275 v111 v274
  let c0_i32_231 : BitVec 32 := 0#32
  let c1_i32_233 : BitVec 32 := 1#32
  let arg17 : BitVec 32 := Scf.iv c0_i32_231 c1_i32_233 k0_t7
  let c8_i32_654 : BitVec 32 := 8#32
  let v806 : BitVec 32 := Scalar.muli arg17 c8_i32_654
  let c5_i32_655 : BitVec 32 := 5#32
  let v807 : BitVec 32 := Scalar.addi v806 c5_i32_655
  let c1_i32_229 : BitVec 32 := 1#32
  let v277 : BitVec 32 := Scalar.subi v260 c1_i32_229
  let c0_i32_230 : BitVec 32 := 0#32
  let v278 : BitVec 32 := Scalar.maxsi v277 c0_i32_230
  let v808 : BitVec 32 := Scalar.minsi v807 v278
  let v809 : BitVec 32 := Scalar.addi v276 v808
  let c4095_i32_656 : BitVec 32 := 4095#32
  let v810 : BitVec 32 := Scalar.minsi v809 c4095_i32_656
  let v811 : Index := Scalar.indexCast v810
  ![v811.toNat]
def k0_off121 (v812 : BitVec 32) : Fin 3 → Nat :=
  let c8_i32_657 : BitVec 32 := 8#32
  let v813 : BitVec 32 := Scalar.divsi v812 c8_i32_657
  let v814 : Index := Scalar.indexCast v813
  let c0_658 : Index := 0#32
  let c0_659 : Index := 0#32
  ![v814.toNat, 0, 0]

def k0_chk61 (v812 : BitVec 32) : Prop :=
  (∀ a, (k0_off121 v812) a + S1x8x1024.size a ≤ S512x8x1024.size a)
theorem k0_off121_inb : ∀ (v812 : BitVec 32) (k0_hw61 : k0_chk61 v812), ∀ a, (k0_off121 v812) a + S1x8x1024.size a ≤ S512x8x1024.size a := fun v812 k0_hw61 => k0_hw61

def k0_off122 (d0 : Dev nD) (v98 : BitVec 32) (v100 : BitVec 32) (v102 : BitVec 32) (v104 : BitVec 32) (v106 : BitVec 32) (v108 : BitVec 32) (v110 : BitVec 32) (v260 : BitVec 32) (k0_t7 : Fin k0_t7_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_215 : BitVec 32 := 1#32
  let v256 : BitVec 32 := Scalar.addi v2 c1_i32_215
  let c6_i32_216 : BitVec 32 := 6#32
  let v257 : BitVec 32 := Scalar.addi v256 c6_i32_216
  let c8_i32_217 : BitVec 32 := 8#32
  let v258 : BitVec 32 := Scalar.remsi v257 c8_i32_217
  let c7_i32_228 : BitVec 32 := 7#32
  let v275 : BitVec 1 := Scalar.cmpi .eq v258 c7_i32_228
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_227 : BitVec 32 := 6#32
  let v273 : BitVec 1 := Scalar.cmpi .eq v258 c6_i32_227
  let c5_i32_226 : BitVec 32 := 5#32
  let v271 : BitVec 1 := Scalar.cmpi .eq v258 c5_i32_226
  let c4_i32_225 : BitVec 32 := 4#32
  let v269 : BitVec 1 := Scalar.cmpi .eq v258 c4_i32_225
  let c3_i32_224 : BitVec 32 := 3#32
  let v267 : BitVec 1 := Scalar.cmpi .eq v258 c3_i32_224
  let c2_i32_223 : BitVec 32 := 2#32
  let v265 : BitVec 1 := Scalar.cmpi .eq v258 c2_i32_223
  let c1_i32_222 : BitVec 32 := 1#32
  let v263 : BitVec 1 := Scalar.cmpi .eq v258 c1_i32_222
  let c0_i32_219 : BitVec 32 := 0#32
  let v261 : BitVec 1 := Scalar.cmpi .eq v258 c0_i32_219
  let c0_i32_220 : BitVec 32 := 0#32
  let c0_i32_221 : BitVec 32 := 0#32
  let v262 : BitVec 32 := Scalar.select v261 c0_i32_220 c0_i32_221
  let v264 : BitVec 32 := Scalar.select v263 v99 v262
  let v266 : BitVec 32 := Scalar.select v265 v101 v264
  let v268 : BitVec 32 := Scalar.select v267 v103 v266
  let v270 : BitVec 32 := Scalar.select v269 v105 v268
  let v272 : BitVec 32 := Scalar.select v271 v107 v270
  let v274 : BitVec 32 := Scalar.select v273 v109 v272
  let v276 : BitVec 32 := Scalar.select v275 v111 v274
  let c0_i32_231 : BitVec 32 := 0#32
  let c1_i32_233 : BitVec 32 := 1#32
  let arg17 : BitVec 32 := Scf.iv c0_i32_231 c1_i32_233 k0_t7
  let c8_i32_665 : BitVec 32 := 8#32
  let v825 : BitVec 32 := Scalar.muli arg17 c8_i32_665
  let c6_i32_666 : BitVec 32 := 6#32
  let v826 : BitVec 32 := Scalar.addi v825 c6_i32_666
  let c1_i32_229 : BitVec 32 := 1#32
  let v277 : BitVec 32 := Scalar.subi v260 c1_i32_229
  let c0_i32_230 : BitVec 32 := 0#32
  let v278 : BitVec 32 := Scalar.maxsi v277 c0_i32_230
  let v827 : BitVec 32 := Scalar.minsi v826 v278
  let v828 : BitVec 32 := Scalar.addi v276 v827
  let c4095_i32_667 : BitVec 32 := 4095#32
  let v829 : BitVec 32 := Scalar.minsi v828 c4095_i32_667
  let v830 : Index := Scalar.indexCast v829
  ![v830.toNat]
def k0_off123 (v831 : BitVec 32) : Fin 3 → Nat :=
  let c8_i32_668 : BitVec 32 := 8#32
  let v832 : BitVec 32 := Scalar.divsi v831 c8_i32_668
  let v833 : Index := Scalar.indexCast v832
  let c0_669 : Index := 0#32
  let c0_670 : Index := 0#32
  ![v833.toNat, 0, 0]

def k0_chk62 (v831 : BitVec 32) : Prop :=
  (∀ a, (k0_off123 v831) a + S1x8x1024.size a ≤ S512x8x1024.size a)
theorem k0_off123_inb : ∀ (v831 : BitVec 32) (k0_hw62 : k0_chk62 v831), ∀ a, (k0_off123 v831) a + S1x8x1024.size a ≤ S512x8x1024.size a := fun v831 k0_hw62 => k0_hw62

def k0_off124 (d0 : Dev nD) (v98 : BitVec 32) (v100 : BitVec 32) (v102 : BitVec 32) (v104 : BitVec 32) (v106 : BitVec 32) (v108 : BitVec 32) (v110 : BitVec 32) (v260 : BitVec 32) (k0_t7 : Fin k0_t7_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_215 : BitVec 32 := 1#32
  let v256 : BitVec 32 := Scalar.addi v2 c1_i32_215
  let c6_i32_216 : BitVec 32 := 6#32
  let v257 : BitVec 32 := Scalar.addi v256 c6_i32_216
  let c8_i32_217 : BitVec 32 := 8#32
  let v258 : BitVec 32 := Scalar.remsi v257 c8_i32_217
  let c7_i32_228 : BitVec 32 := 7#32
  let v275 : BitVec 1 := Scalar.cmpi .eq v258 c7_i32_228
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_227 : BitVec 32 := 6#32
  let v273 : BitVec 1 := Scalar.cmpi .eq v258 c6_i32_227
  let c5_i32_226 : BitVec 32 := 5#32
  let v271 : BitVec 1 := Scalar.cmpi .eq v258 c5_i32_226
  let c4_i32_225 : BitVec 32 := 4#32
  let v269 : BitVec 1 := Scalar.cmpi .eq v258 c4_i32_225
  let c3_i32_224 : BitVec 32 := 3#32
  let v267 : BitVec 1 := Scalar.cmpi .eq v258 c3_i32_224
  let c2_i32_223 : BitVec 32 := 2#32
  let v265 : BitVec 1 := Scalar.cmpi .eq v258 c2_i32_223
  let c1_i32_222 : BitVec 32 := 1#32
  let v263 : BitVec 1 := Scalar.cmpi .eq v258 c1_i32_222
  let c0_i32_219 : BitVec 32 := 0#32
  let v261 : BitVec 1 := Scalar.cmpi .eq v258 c0_i32_219
  let c0_i32_220 : BitVec 32 := 0#32
  let c0_i32_221 : BitVec 32 := 0#32
  let v262 : BitVec 32 := Scalar.select v261 c0_i32_220 c0_i32_221
  let v264 : BitVec 32 := Scalar.select v263 v99 v262
  let v266 : BitVec 32 := Scalar.select v265 v101 v264
  let v268 : BitVec 32 := Scalar.select v267 v103 v266
  let v270 : BitVec 32 := Scalar.select v269 v105 v268
  let v272 : BitVec 32 := Scalar.select v271 v107 v270
  let v274 : BitVec 32 := Scalar.select v273 v109 v272
  let v276 : BitVec 32 := Scalar.select v275 v111 v274
  let c0_i32_231 : BitVec 32 := 0#32
  let c1_i32_233 : BitVec 32 := 1#32
  let arg17 : BitVec 32 := Scf.iv c0_i32_231 c1_i32_233 k0_t7
  let c8_i32_676 : BitVec 32 := 8#32
  let v844 : BitVec 32 := Scalar.muli arg17 c8_i32_676
  let c7_i32_677 : BitVec 32 := 7#32
  let v845 : BitVec 32 := Scalar.addi v844 c7_i32_677
  let c1_i32_229 : BitVec 32 := 1#32
  let v277 : BitVec 32 := Scalar.subi v260 c1_i32_229
  let c0_i32_230 : BitVec 32 := 0#32
  let v278 : BitVec 32 := Scalar.maxsi v277 c0_i32_230
  let v846 : BitVec 32 := Scalar.minsi v845 v278
  let v847 : BitVec 32 := Scalar.addi v276 v846
  let c4095_i32_678 : BitVec 32 := 4095#32
  let v848 : BitVec 32 := Scalar.minsi v847 c4095_i32_678
  let v849 : Index := Scalar.indexCast v848
  ![v849.toNat]

def k0_chk55 (d0 : Dev nD) (v98 : BitVec 32) (v100 : BitVec 32) (v102 : BitVec 32) (v104 : BitVec 32) (v106 : BitVec 32) (v108 : BitVec 32) (v110 : BitVec 32) (v260 : BitVec 32) : Prop :=
  (∀ k0_t7 : Fin k0_t7_loop.trips, ∀ a, (k0_off110 d0 v98 v100 v102 v104 v106 v108 v110 v260 k0_t7) a + S1.size a ≤ S4096.size a) ∧
  (∀ k0_t7 : Fin k0_t7_loop.trips, ∀ a, (k0_off112 d0 v98 v100 v102 v104 v106 v108 v110 v260 k0_t7) a + S1.size a ≤ S4096.size a) ∧
  (∀ k0_t7 : Fin k0_t7_loop.trips, ∀ a, (k0_off114 d0 v98 v100 v102 v104 v106 v108 v110 v260 k0_t7) a + S1.size a ≤ S4096.size a) ∧
  (∀ k0_t7 : Fin k0_t7_loop.trips, ∀ a, (k0_off116 d0 v98 v100 v102 v104 v106 v108 v110 v260 k0_t7) a + S1.size a ≤ S4096.size a) ∧
  (∀ k0_t7 : Fin k0_t7_loop.trips, ∀ a, (k0_off118 d0 v98 v100 v102 v104 v106 v108 v110 v260 k0_t7) a + S1.size a ≤ S4096.size a) ∧
  (∀ k0_t7 : Fin k0_t7_loop.trips, ∀ a, (k0_off120 d0 v98 v100 v102 v104 v106 v108 v110 v260 k0_t7) a + S1.size a ≤ S4096.size a) ∧
  (∀ k0_t7 : Fin k0_t7_loop.trips, ∀ a, (k0_off122 d0 v98 v100 v102 v104 v106 v108 v110 v260 k0_t7) a + S1.size a ≤ S4096.size a) ∧
  (∀ k0_t7 : Fin k0_t7_loop.trips, ∀ a, (k0_off124 d0 v98 v100 v102 v104 v106 v108 v110 v260 k0_t7) a + S1.size a ≤ S4096.size a)
theorem k0_off110_inb : ∀ (d0 : Dev nD) (v98 : BitVec 32) (v100 : BitVec 32) (v102 : BitVec 32) (v104 : BitVec 32) (v106 : BitVec 32) (v108 : BitVec 32) (v110 : BitVec 32) (v260 : BitVec 32) (k0_hw55 : k0_chk55 d0 v98 v100 v102 v104 v106 v108 v110 v260) (k0_t7 : Fin k0_t7_loop.trips), ∀ a, (k0_off110 d0 v98 v100 v102 v104 v106 v108 v110 v260 k0_t7) a + S1.size a ≤ S4096.size a := fun d0 v98 v100 v102 v104 v106 v108 v110 v260 k0_hw55 k0_t7 => k0_hw55.1 k0_t7
theorem k0_off112_inb : ∀ (d0 : Dev nD) (v98 : BitVec 32) (v100 : BitVec 32) (v102 : BitVec 32) (v104 : BitVec 32) (v106 : BitVec 32) (v108 : BitVec 32) (v110 : BitVec 32) (v260 : BitVec 32) (k0_hw55 : k0_chk55 d0 v98 v100 v102 v104 v106 v108 v110 v260) (k0_t7 : Fin k0_t7_loop.trips), ∀ a, (k0_off112 d0 v98 v100 v102 v104 v106 v108 v110 v260 k0_t7) a + S1.size a ≤ S4096.size a := fun d0 v98 v100 v102 v104 v106 v108 v110 v260 k0_hw55 k0_t7 => k0_hw55.2.1 k0_t7
theorem k0_off114_inb : ∀ (d0 : Dev nD) (v98 : BitVec 32) (v100 : BitVec 32) (v102 : BitVec 32) (v104 : BitVec 32) (v106 : BitVec 32) (v108 : BitVec 32) (v110 : BitVec 32) (v260 : BitVec 32) (k0_hw55 : k0_chk55 d0 v98 v100 v102 v104 v106 v108 v110 v260) (k0_t7 : Fin k0_t7_loop.trips), ∀ a, (k0_off114 d0 v98 v100 v102 v104 v106 v108 v110 v260 k0_t7) a + S1.size a ≤ S4096.size a := fun d0 v98 v100 v102 v104 v106 v108 v110 v260 k0_hw55 k0_t7 => k0_hw55.2.2.1 k0_t7
theorem k0_off116_inb : ∀ (d0 : Dev nD) (v98 : BitVec 32) (v100 : BitVec 32) (v102 : BitVec 32) (v104 : BitVec 32) (v106 : BitVec 32) (v108 : BitVec 32) (v110 : BitVec 32) (v260 : BitVec 32) (k0_hw55 : k0_chk55 d0 v98 v100 v102 v104 v106 v108 v110 v260) (k0_t7 : Fin k0_t7_loop.trips), ∀ a, (k0_off116 d0 v98 v100 v102 v104 v106 v108 v110 v260 k0_t7) a + S1.size a ≤ S4096.size a := fun d0 v98 v100 v102 v104 v106 v108 v110 v260 k0_hw55 k0_t7 => k0_hw55.2.2.2.1 k0_t7
theorem k0_off118_inb : ∀ (d0 : Dev nD) (v98 : BitVec 32) (v100 : BitVec 32) (v102 : BitVec 32) (v104 : BitVec 32) (v106 : BitVec 32) (v108 : BitVec 32) (v110 : BitVec 32) (v260 : BitVec 32) (k0_hw55 : k0_chk55 d0 v98 v100 v102 v104 v106 v108 v110 v260) (k0_t7 : Fin k0_t7_loop.trips), ∀ a, (k0_off118 d0 v98 v100 v102 v104 v106 v108 v110 v260 k0_t7) a + S1.size a ≤ S4096.size a := fun d0 v98 v100 v102 v104 v106 v108 v110 v260 k0_hw55 k0_t7 => k0_hw55.2.2.2.2.1 k0_t7
theorem k0_off120_inb : ∀ (d0 : Dev nD) (v98 : BitVec 32) (v100 : BitVec 32) (v102 : BitVec 32) (v104 : BitVec 32) (v106 : BitVec 32) (v108 : BitVec 32) (v110 : BitVec 32) (v260 : BitVec 32) (k0_hw55 : k0_chk55 d0 v98 v100 v102 v104 v106 v108 v110 v260) (k0_t7 : Fin k0_t7_loop.trips), ∀ a, (k0_off120 d0 v98 v100 v102 v104 v106 v108 v110 v260 k0_t7) a + S1.size a ≤ S4096.size a := fun d0 v98 v100 v102 v104 v106 v108 v110 v260 k0_hw55 k0_t7 => k0_hw55.2.2.2.2.2.1 k0_t7
theorem k0_off122_inb : ∀ (d0 : Dev nD) (v98 : BitVec 32) (v100 : BitVec 32) (v102 : BitVec 32) (v104 : BitVec 32) (v106 : BitVec 32) (v108 : BitVec 32) (v110 : BitVec 32) (v260 : BitVec 32) (k0_hw55 : k0_chk55 d0 v98 v100 v102 v104 v106 v108 v110 v260) (k0_t7 : Fin k0_t7_loop.trips), ∀ a, (k0_off122 d0 v98 v100 v102 v104 v106 v108 v110 v260 k0_t7) a + S1.size a ≤ S4096.size a := fun d0 v98 v100 v102 v104 v106 v108 v110 v260 k0_hw55 k0_t7 => k0_hw55.2.2.2.2.2.2.1 k0_t7
theorem k0_off124_inb : ∀ (d0 : Dev nD) (v98 : BitVec 32) (v100 : BitVec 32) (v102 : BitVec 32) (v104 : BitVec 32) (v106 : BitVec 32) (v108 : BitVec 32) (v110 : BitVec 32) (v260 : BitVec 32) (k0_hw55 : k0_chk55 d0 v98 v100 v102 v104 v106 v108 v110 v260) (k0_t7 : Fin k0_t7_loop.trips), ∀ a, (k0_off124 d0 v98 v100 v102 v104 v106 v108 v110 v260 k0_t7) a + S1.size a ≤ S4096.size a := fun d0 v98 v100 v102 v104 v106 v108 v110 v260 k0_hw55 k0_t7 => k0_hw55.2.2.2.2.2.2.2 k0_t7

def k0_off125 (v850 : BitVec 32) : Fin 3 → Nat :=
  let c8_i32_679 : BitVec 32 := 8#32
  let v851 : BitVec 32 := Scalar.divsi v850 c8_i32_679
  let v852 : Index := Scalar.indexCast v851
  let c0_680 : Index := 0#32
  let c0_681 : Index := 0#32
  ![v852.toNat, 0, 0]

def k0_chk63 (v850 : BitVec 32) : Prop :=
  (∀ a, (k0_off125 v850) a + S1x8x1024.size a ≤ S512x8x1024.size a)
theorem k0_off125_inb : ∀ (v850 : BitVec 32) (k0_hw63 : k0_chk63 v850), ∀ a, (k0_off125 v850) a + S1x8x1024.size a ≤ S512x8x1024.size a := fun v850 k0_hw63 => k0_hw63

def k0_off126 (k0_t7 : Fin k0_t7_loop.trips) : Fin 3 → Nat :=
  let c480_i32_687 : BitVec 32 := 480#32
  let c0_i32_231 : BitVec 32 := 0#32
  let c1_i32_233 : BitVec 32 := 1#32
  let arg17 : BitVec 32 := Scf.iv c0_i32_231 c1_i32_233 k0_t7
  let v863 : BitVec 32 := Scalar.addi c480_i32_687 arg17
  let v864 : Index := Scalar.indexCast v863
  let c0_688 : Index := 0#32
  let c0_689 : Index := 0#32
  ![v864.toNat, 0, 0]
def k0_off127 (d0 : Dev nD) : Fin 2 → Nat :=
  let c7_238 : Index := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v280 : BitVec 32 := Scalar.addi v2 c1_i32_235
  let c7_i32_236 : BitVec 32 := 7#32
  let v281 : BitVec 32 := Scalar.addi v280 c7_i32_236
  let c8_i32_237 : BitVec 32 := 8#32
  let v282 : BitVec 32 := Scalar.remsi v281 c8_i32_237
  let v283 : Index := Scalar.indexCast v282
  ![7, v283.toNat]
@[reducible] def k0_t8_loop : Scf.Loop 32 :=
  let c0_i32_251 : BitVec 32 := 0#32
  let c80_i32_252 : BitVec 32 := 80#32
  let v303 : BitVec 32 := Scalar.addi c0_i32_251 c80_i32_252
  let c1_i32_253 : BitVec 32 := 1#32
  ⟨c0_i32_251, v303, c1_i32_253⟩
def k0_off128 (d0 : Dev nD) (v98 : BitVec 32) (v100 : BitVec 32) (v102 : BitVec 32) (v104 : BitVec 32) (v106 : BitVec 32) (v108 : BitVec 32) (v110 : BitVec 32) (v284 : BitVec 32) (k0_t8 : Fin k0_t8_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v280 : BitVec 32 := Scalar.addi v2 c1_i32_235
  let c7_i32_236 : BitVec 32 := 7#32
  let v281 : BitVec 32 := Scalar.addi v280 c7_i32_236
  let c8_i32_237 : BitVec 32 := 8#32
  let v282 : BitVec 32 := Scalar.remsi v281 c8_i32_237
  let c7_i32_248 : BitVec 32 := 7#32
  let v299 : BitVec 1 := Scalar.cmpi .eq v282 c7_i32_248
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_247 : BitVec 32 := 6#32
  let v297 : BitVec 1 := Scalar.cmpi .eq v282 c6_i32_247
  let c5_i32_246 : BitVec 32 := 5#32
  let v295 : BitVec 1 := Scalar.cmpi .eq v282 c5_i32_246
  let c4_i32_245 : BitVec 32 := 4#32
  let v293 : BitVec 1 := Scalar.cmpi .eq v282 c4_i32_245
  let c3_i32_244 : BitVec 32 := 3#32
  let v291 : BitVec 1 := Scalar.cmpi .eq v282 c3_i32_244
  let c2_i32_243 : BitVec 32 := 2#32
  let v289 : BitVec 1 := Scalar.cmpi .eq v282 c2_i32_243
  let c1_i32_242 : BitVec 32 := 1#32
  let v287 : BitVec 1 := Scalar.cmpi .eq v282 c1_i32_242
  let c0_i32_239 : BitVec 32 := 0#32
  let v285 : BitVec 1 := Scalar.cmpi .eq v282 c0_i32_239
  let c0_i32_240 : BitVec 32 := 0#32
  let c0_i32_241 : BitVec 32 := 0#32
  let v286 : BitVec 32 := Scalar.select v285 c0_i32_240 c0_i32_241
  let v288 : BitVec 32 := Scalar.select v287 v99 v286
  let v290 : BitVec 32 := Scalar.select v289 v101 v288
  let v292 : BitVec 32 := Scalar.select v291 v103 v290
  let v294 : BitVec 32 := Scalar.select v293 v105 v292
  let v296 : BitVec 32 := Scalar.select v295 v107 v294
  let v298 : BitVec 32 := Scalar.select v297 v109 v296
  let v300 : BitVec 32 := Scalar.select v299 v111 v298
  let c0_i32_251 : BitVec 32 := 0#32
  let c1_i32_253 : BitVec 32 := 1#32
  let arg17 : BitVec 32 := Scf.iv c0_i32_251 c1_i32_253 k0_t8
  let c8_i32_600 : BitVec 32 := 8#32
  let v711 : BitVec 32 := Scalar.muli arg17 c8_i32_600
  let c0_i32_601 : BitVec 32 := 0#32
  let v712 : BitVec 32 := Scalar.addi v711 c0_i32_601
  let c1_i32_249 : BitVec 32 := 1#32
  let v301 : BitVec 32 := Scalar.subi v284 c1_i32_249
  let c0_i32_250 : BitVec 32 := 0#32
  let v302 : BitVec 32 := Scalar.maxsi v301 c0_i32_250
  let v713 : BitVec 32 := Scalar.minsi v712 v302
  let v714 : BitVec 32 := Scalar.addi v300 v713
  let c4095_i32 : BitVec 32 := 4095#32
  let v715 : BitVec 32 := Scalar.minsi v714 c4095_i32
  let v716 : Index := Scalar.indexCast v715
  ![v716.toNat]

def k0_off129 (v717 : BitVec 32) : Fin 3 → Nat :=
  let c8_i32_602 : BitVec 32 := 8#32
  let v718 : BitVec 32 := Scalar.divsi v717 c8_i32_602
  let v719 : Index := Scalar.indexCast v718
  let c0_603 : Index := 0#32
  let c0_604 : Index := 0#32
  ![v719.toNat, 0, 0]

def k0_chk65 (v717 : BitVec 32) : Prop :=
  (∀ a, (k0_off129 v717) a + S1x8x1024.size a ≤ S512x8x1024.size a)
theorem k0_off129_inb : ∀ (v717 : BitVec 32) (k0_hw65 : k0_chk65 v717), ∀ a, (k0_off129 v717) a + S1x8x1024.size a ≤ S512x8x1024.size a := fun v717 k0_hw65 => k0_hw65

def k0_off130 (d0 : Dev nD) (v98 : BitVec 32) (v100 : BitVec 32) (v102 : BitVec 32) (v104 : BitVec 32) (v106 : BitVec 32) (v108 : BitVec 32) (v110 : BitVec 32) (v284 : BitVec 32) (k0_t8 : Fin k0_t8_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v280 : BitVec 32 := Scalar.addi v2 c1_i32_235
  let c7_i32_236 : BitVec 32 := 7#32
  let v281 : BitVec 32 := Scalar.addi v280 c7_i32_236
  let c8_i32_237 : BitVec 32 := 8#32
  let v282 : BitVec 32 := Scalar.remsi v281 c8_i32_237
  let c7_i32_248 : BitVec 32 := 7#32
  let v299 : BitVec 1 := Scalar.cmpi .eq v282 c7_i32_248
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_247 : BitVec 32 := 6#32
  let v297 : BitVec 1 := Scalar.cmpi .eq v282 c6_i32_247
  let c5_i32_246 : BitVec 32 := 5#32
  let v295 : BitVec 1 := Scalar.cmpi .eq v282 c5_i32_246
  let c4_i32_245 : BitVec 32 := 4#32
  let v293 : BitVec 1 := Scalar.cmpi .eq v282 c4_i32_245
  let c3_i32_244 : BitVec 32 := 3#32
  let v291 : BitVec 1 := Scalar.cmpi .eq v282 c3_i32_244
  let c2_i32_243 : BitVec 32 := 2#32
  let v289 : BitVec 1 := Scalar.cmpi .eq v282 c2_i32_243
  let c1_i32_242 : BitVec 32 := 1#32
  let v287 : BitVec 1 := Scalar.cmpi .eq v282 c1_i32_242
  let c0_i32_239 : BitVec 32 := 0#32
  let v285 : BitVec 1 := Scalar.cmpi .eq v282 c0_i32_239
  let c0_i32_240 : BitVec 32 := 0#32
  let c0_i32_241 : BitVec 32 := 0#32
  let v286 : BitVec 32 := Scalar.select v285 c0_i32_240 c0_i32_241
  let v288 : BitVec 32 := Scalar.select v287 v99 v286
  let v290 : BitVec 32 := Scalar.select v289 v101 v288
  let v292 : BitVec 32 := Scalar.select v291 v103 v290
  let v294 : BitVec 32 := Scalar.select v293 v105 v292
  let v296 : BitVec 32 := Scalar.select v295 v107 v294
  let v298 : BitVec 32 := Scalar.select v297 v109 v296
  let v300 : BitVec 32 := Scalar.select v299 v111 v298
  let c0_i32_251 : BitVec 32 := 0#32
  let c1_i32_253 : BitVec 32 := 1#32
  let arg17 : BitVec 32 := Scf.iv c0_i32_251 c1_i32_253 k0_t8
  let c8_i32_610 : BitVec 32 := 8#32
  let v730 : BitVec 32 := Scalar.muli arg17 c8_i32_610
  let c1_i32_611 : BitVec 32 := 1#32
  let v731 : BitVec 32 := Scalar.addi v730 c1_i32_611
  let c1_i32_249 : BitVec 32 := 1#32
  let v301 : BitVec 32 := Scalar.subi v284 c1_i32_249
  let c0_i32_250 : BitVec 32 := 0#32
  let v302 : BitVec 32 := Scalar.maxsi v301 c0_i32_250
  let v732 : BitVec 32 := Scalar.minsi v731 v302
  let v733 : BitVec 32 := Scalar.addi v300 v732
  let c4095_i32_612 : BitVec 32 := 4095#32
  let v734 : BitVec 32 := Scalar.minsi v733 c4095_i32_612
  let v735 : Index := Scalar.indexCast v734
  ![v735.toNat]
def k0_off131 (v736 : BitVec 32) : Fin 3 → Nat :=
  let c8_i32_613 : BitVec 32 := 8#32
  let v737 : BitVec 32 := Scalar.divsi v736 c8_i32_613
  let v738 : Index := Scalar.indexCast v737
  let c0_614 : Index := 0#32
  let c0_615 : Index := 0#32
  ![v738.toNat, 0, 0]

def k0_chk66 (v736 : BitVec 32) : Prop :=
  (∀ a, (k0_off131 v736) a + S1x8x1024.size a ≤ S512x8x1024.size a)
theorem k0_off131_inb : ∀ (v736 : BitVec 32) (k0_hw66 : k0_chk66 v736), ∀ a, (k0_off131 v736) a + S1x8x1024.size a ≤ S512x8x1024.size a := fun v736 k0_hw66 => k0_hw66

def k0_off132 (d0 : Dev nD) (v98 : BitVec 32) (v100 : BitVec 32) (v102 : BitVec 32) (v104 : BitVec 32) (v106 : BitVec 32) (v108 : BitVec 32) (v110 : BitVec 32) (v284 : BitVec 32) (k0_t8 : Fin k0_t8_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v280 : BitVec 32 := Scalar.addi v2 c1_i32_235
  let c7_i32_236 : BitVec 32 := 7#32
  let v281 : BitVec 32 := Scalar.addi v280 c7_i32_236
  let c8_i32_237 : BitVec 32 := 8#32
  let v282 : BitVec 32 := Scalar.remsi v281 c8_i32_237
  let c7_i32_248 : BitVec 32 := 7#32
  let v299 : BitVec 1 := Scalar.cmpi .eq v282 c7_i32_248
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_247 : BitVec 32 := 6#32
  let v297 : BitVec 1 := Scalar.cmpi .eq v282 c6_i32_247
  let c5_i32_246 : BitVec 32 := 5#32
  let v295 : BitVec 1 := Scalar.cmpi .eq v282 c5_i32_246
  let c4_i32_245 : BitVec 32 := 4#32
  let v293 : BitVec 1 := Scalar.cmpi .eq v282 c4_i32_245
  let c3_i32_244 : BitVec 32 := 3#32
  let v291 : BitVec 1 := Scalar.cmpi .eq v282 c3_i32_244
  let c2_i32_243 : BitVec 32 := 2#32
  let v289 : BitVec 1 := Scalar.cmpi .eq v282 c2_i32_243
  let c1_i32_242 : BitVec 32 := 1#32
  let v287 : BitVec 1 := Scalar.cmpi .eq v282 c1_i32_242
  let c0_i32_239 : BitVec 32 := 0#32
  let v285 : BitVec 1 := Scalar.cmpi .eq v282 c0_i32_239
  let c0_i32_240 : BitVec 32 := 0#32
  let c0_i32_241 : BitVec 32 := 0#32
  let v286 : BitVec 32 := Scalar.select v285 c0_i32_240 c0_i32_241
  let v288 : BitVec 32 := Scalar.select v287 v99 v286
  let v290 : BitVec 32 := Scalar.select v289 v101 v288
  let v292 : BitVec 32 := Scalar.select v291 v103 v290
  let v294 : BitVec 32 := Scalar.select v293 v105 v292
  let v296 : BitVec 32 := Scalar.select v295 v107 v294
  let v298 : BitVec 32 := Scalar.select v297 v109 v296
  let v300 : BitVec 32 := Scalar.select v299 v111 v298
  let c0_i32_251 : BitVec 32 := 0#32
  let c1_i32_253 : BitVec 32 := 1#32
  let arg17 : BitVec 32 := Scf.iv c0_i32_251 c1_i32_253 k0_t8
  let c8_i32_621 : BitVec 32 := 8#32
  let v749 : BitVec 32 := Scalar.muli arg17 c8_i32_621
  let c2_i32_622 : BitVec 32 := 2#32
  let v750 : BitVec 32 := Scalar.addi v749 c2_i32_622
  let c1_i32_249 : BitVec 32 := 1#32
  let v301 : BitVec 32 := Scalar.subi v284 c1_i32_249
  let c0_i32_250 : BitVec 32 := 0#32
  let v302 : BitVec 32 := Scalar.maxsi v301 c0_i32_250
  let v751 : BitVec 32 := Scalar.minsi v750 v302
  let v752 : BitVec 32 := Scalar.addi v300 v751
  let c4095_i32_623 : BitVec 32 := 4095#32
  let v753 : BitVec 32 := Scalar.minsi v752 c4095_i32_623
  let v754 : Index := Scalar.indexCast v753
  ![v754.toNat]
def k0_off133 (v755 : BitVec 32) : Fin 3 → Nat :=
  let c8_i32_624 : BitVec 32 := 8#32
  let v756 : BitVec 32 := Scalar.divsi v755 c8_i32_624
  let v757 : Index := Scalar.indexCast v756
  let c0_625 : Index := 0#32
  let c0_626 : Index := 0#32
  ![v757.toNat, 0, 0]

def k0_chk67 (v755 : BitVec 32) : Prop :=
  (∀ a, (k0_off133 v755) a + S1x8x1024.size a ≤ S512x8x1024.size a)
theorem k0_off133_inb : ∀ (v755 : BitVec 32) (k0_hw67 : k0_chk67 v755), ∀ a, (k0_off133 v755) a + S1x8x1024.size a ≤ S512x8x1024.size a := fun v755 k0_hw67 => k0_hw67

def k0_off134 (d0 : Dev nD) (v98 : BitVec 32) (v100 : BitVec 32) (v102 : BitVec 32) (v104 : BitVec 32) (v106 : BitVec 32) (v108 : BitVec 32) (v110 : BitVec 32) (v284 : BitVec 32) (k0_t8 : Fin k0_t8_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v280 : BitVec 32 := Scalar.addi v2 c1_i32_235
  let c7_i32_236 : BitVec 32 := 7#32
  let v281 : BitVec 32 := Scalar.addi v280 c7_i32_236
  let c8_i32_237 : BitVec 32 := 8#32
  let v282 : BitVec 32 := Scalar.remsi v281 c8_i32_237
  let c7_i32_248 : BitVec 32 := 7#32
  let v299 : BitVec 1 := Scalar.cmpi .eq v282 c7_i32_248
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_247 : BitVec 32 := 6#32
  let v297 : BitVec 1 := Scalar.cmpi .eq v282 c6_i32_247
  let c5_i32_246 : BitVec 32 := 5#32
  let v295 : BitVec 1 := Scalar.cmpi .eq v282 c5_i32_246
  let c4_i32_245 : BitVec 32 := 4#32
  let v293 : BitVec 1 := Scalar.cmpi .eq v282 c4_i32_245
  let c3_i32_244 : BitVec 32 := 3#32
  let v291 : BitVec 1 := Scalar.cmpi .eq v282 c3_i32_244
  let c2_i32_243 : BitVec 32 := 2#32
  let v289 : BitVec 1 := Scalar.cmpi .eq v282 c2_i32_243
  let c1_i32_242 : BitVec 32 := 1#32
  let v287 : BitVec 1 := Scalar.cmpi .eq v282 c1_i32_242
  let c0_i32_239 : BitVec 32 := 0#32
  let v285 : BitVec 1 := Scalar.cmpi .eq v282 c0_i32_239
  let c0_i32_240 : BitVec 32 := 0#32
  let c0_i32_241 : BitVec 32 := 0#32
  let v286 : BitVec 32 := Scalar.select v285 c0_i32_240 c0_i32_241
  let v288 : BitVec 32 := Scalar.select v287 v99 v286
  let v290 : BitVec 32 := Scalar.select v289 v101 v288
  let v292 : BitVec 32 := Scalar.select v291 v103 v290
  let v294 : BitVec 32 := Scalar.select v293 v105 v292
  let v296 : BitVec 32 := Scalar.select v295 v107 v294
  let v298 : BitVec 32 := Scalar.select v297 v109 v296
  let v300 : BitVec 32 := Scalar.select v299 v111 v298
  let c0_i32_251 : BitVec 32 := 0#32
  let c1_i32_253 : BitVec 32 := 1#32
  let arg17 : BitVec 32 := Scf.iv c0_i32_251 c1_i32_253 k0_t8
  let c8_i32_632 : BitVec 32 := 8#32
  let v768 : BitVec 32 := Scalar.muli arg17 c8_i32_632
  let c3_i32_633 : BitVec 32 := 3#32
  let v769 : BitVec 32 := Scalar.addi v768 c3_i32_633
  let c1_i32_249 : BitVec 32 := 1#32
  let v301 : BitVec 32 := Scalar.subi v284 c1_i32_249
  let c0_i32_250 : BitVec 32 := 0#32
  let v302 : BitVec 32 := Scalar.maxsi v301 c0_i32_250
  let v770 : BitVec 32 := Scalar.minsi v769 v302
  let v771 : BitVec 32 := Scalar.addi v300 v770
  let c4095_i32_634 : BitVec 32 := 4095#32
  let v772 : BitVec 32 := Scalar.minsi v771 c4095_i32_634
  let v773 : Index := Scalar.indexCast v772
  ![v773.toNat]
def k0_off135 (v774 : BitVec 32) : Fin 3 → Nat :=
  let c8_i32_635 : BitVec 32 := 8#32
  let v775 : BitVec 32 := Scalar.divsi v774 c8_i32_635
  let v776 : Index := Scalar.indexCast v775
  let c0_636 : Index := 0#32
  let c0_637 : Index := 0#32
  ![v776.toNat, 0, 0]

def k0_chk68 (v774 : BitVec 32) : Prop :=
  (∀ a, (k0_off135 v774) a + S1x8x1024.size a ≤ S512x8x1024.size a)
theorem k0_off135_inb : ∀ (v774 : BitVec 32) (k0_hw68 : k0_chk68 v774), ∀ a, (k0_off135 v774) a + S1x8x1024.size a ≤ S512x8x1024.size a := fun v774 k0_hw68 => k0_hw68

def k0_off136 (d0 : Dev nD) (v98 : BitVec 32) (v100 : BitVec 32) (v102 : BitVec 32) (v104 : BitVec 32) (v106 : BitVec 32) (v108 : BitVec 32) (v110 : BitVec 32) (v284 : BitVec 32) (k0_t8 : Fin k0_t8_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v280 : BitVec 32 := Scalar.addi v2 c1_i32_235
  let c7_i32_236 : BitVec 32 := 7#32
  let v281 : BitVec 32 := Scalar.addi v280 c7_i32_236
  let c8_i32_237 : BitVec 32 := 8#32
  let v282 : BitVec 32 := Scalar.remsi v281 c8_i32_237
  let c7_i32_248 : BitVec 32 := 7#32
  let v299 : BitVec 1 := Scalar.cmpi .eq v282 c7_i32_248
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_247 : BitVec 32 := 6#32
  let v297 : BitVec 1 := Scalar.cmpi .eq v282 c6_i32_247
  let c5_i32_246 : BitVec 32 := 5#32
  let v295 : BitVec 1 := Scalar.cmpi .eq v282 c5_i32_246
  let c4_i32_245 : BitVec 32 := 4#32
  let v293 : BitVec 1 := Scalar.cmpi .eq v282 c4_i32_245
  let c3_i32_244 : BitVec 32 := 3#32
  let v291 : BitVec 1 := Scalar.cmpi .eq v282 c3_i32_244
  let c2_i32_243 : BitVec 32 := 2#32
  let v289 : BitVec 1 := Scalar.cmpi .eq v282 c2_i32_243
  let c1_i32_242 : BitVec 32 := 1#32
  let v287 : BitVec 1 := Scalar.cmpi .eq v282 c1_i32_242
  let c0_i32_239 : BitVec 32 := 0#32
  let v285 : BitVec 1 := Scalar.cmpi .eq v282 c0_i32_239
  let c0_i32_240 : BitVec 32 := 0#32
  let c0_i32_241 : BitVec 32 := 0#32
  let v286 : BitVec 32 := Scalar.select v285 c0_i32_240 c0_i32_241
  let v288 : BitVec 32 := Scalar.select v287 v99 v286
  let v290 : BitVec 32 := Scalar.select v289 v101 v288
  let v292 : BitVec 32 := Scalar.select v291 v103 v290
  let v294 : BitVec 32 := Scalar.select v293 v105 v292
  let v296 : BitVec 32 := Scalar.select v295 v107 v294
  let v298 : BitVec 32 := Scalar.select v297 v109 v296
  let v300 : BitVec 32 := Scalar.select v299 v111 v298
  let c0_i32_251 : BitVec 32 := 0#32
  let c1_i32_253 : BitVec 32 := 1#32
  let arg17 : BitVec 32 := Scf.iv c0_i32_251 c1_i32_253 k0_t8
  let c8_i32_643 : BitVec 32 := 8#32
  let v787 : BitVec 32 := Scalar.muli arg17 c8_i32_643
  let c4_i32_644 : BitVec 32 := 4#32
  let v788 : BitVec 32 := Scalar.addi v787 c4_i32_644
  let c1_i32_249 : BitVec 32 := 1#32
  let v301 : BitVec 32 := Scalar.subi v284 c1_i32_249
  let c0_i32_250 : BitVec 32 := 0#32
  let v302 : BitVec 32 := Scalar.maxsi v301 c0_i32_250
  let v789 : BitVec 32 := Scalar.minsi v788 v302
  let v790 : BitVec 32 := Scalar.addi v300 v789
  let c4095_i32_645 : BitVec 32 := 4095#32
  let v791 : BitVec 32 := Scalar.minsi v790 c4095_i32_645
  let v792 : Index := Scalar.indexCast v791
  ![v792.toNat]
def k0_off137 (v793 : BitVec 32) : Fin 3 → Nat :=
  let c8_i32_646 : BitVec 32 := 8#32
  let v794 : BitVec 32 := Scalar.divsi v793 c8_i32_646
  let v795 : Index := Scalar.indexCast v794
  let c0_647 : Index := 0#32
  let c0_648 : Index := 0#32
  ![v795.toNat, 0, 0]

def k0_chk69 (v793 : BitVec 32) : Prop :=
  (∀ a, (k0_off137 v793) a + S1x8x1024.size a ≤ S512x8x1024.size a)
theorem k0_off137_inb : ∀ (v793 : BitVec 32) (k0_hw69 : k0_chk69 v793), ∀ a, (k0_off137 v793) a + S1x8x1024.size a ≤ S512x8x1024.size a := fun v793 k0_hw69 => k0_hw69

def k0_off138 (d0 : Dev nD) (v98 : BitVec 32) (v100 : BitVec 32) (v102 : BitVec 32) (v104 : BitVec 32) (v106 : BitVec 32) (v108 : BitVec 32) (v110 : BitVec 32) (v284 : BitVec 32) (k0_t8 : Fin k0_t8_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v280 : BitVec 32 := Scalar.addi v2 c1_i32_235
  let c7_i32_236 : BitVec 32 := 7#32
  let v281 : BitVec 32 := Scalar.addi v280 c7_i32_236
  let c8_i32_237 : BitVec 32 := 8#32
  let v282 : BitVec 32 := Scalar.remsi v281 c8_i32_237
  let c7_i32_248 : BitVec 32 := 7#32
  let v299 : BitVec 1 := Scalar.cmpi .eq v282 c7_i32_248
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_247 : BitVec 32 := 6#32
  let v297 : BitVec 1 := Scalar.cmpi .eq v282 c6_i32_247
  let c5_i32_246 : BitVec 32 := 5#32
  let v295 : BitVec 1 := Scalar.cmpi .eq v282 c5_i32_246
  let c4_i32_245 : BitVec 32 := 4#32
  let v293 : BitVec 1 := Scalar.cmpi .eq v282 c4_i32_245
  let c3_i32_244 : BitVec 32 := 3#32
  let v291 : BitVec 1 := Scalar.cmpi .eq v282 c3_i32_244
  let c2_i32_243 : BitVec 32 := 2#32
  let v289 : BitVec 1 := Scalar.cmpi .eq v282 c2_i32_243
  let c1_i32_242 : BitVec 32 := 1#32
  let v287 : BitVec 1 := Scalar.cmpi .eq v282 c1_i32_242
  let c0_i32_239 : BitVec 32 := 0#32
  let v285 : BitVec 1 := Scalar.cmpi .eq v282 c0_i32_239
  let c0_i32_240 : BitVec 32 := 0#32
  let c0_i32_241 : BitVec 32 := 0#32
  let v286 : BitVec 32 := Scalar.select v285 c0_i32_240 c0_i32_241
  let v288 : BitVec 32 := Scalar.select v287 v99 v286
  let v290 : BitVec 32 := Scalar.select v289 v101 v288
  let v292 : BitVec 32 := Scalar.select v291 v103 v290
  let v294 : BitVec 32 := Scalar.select v293 v105 v292
  let v296 : BitVec 32 := Scalar.select v295 v107 v294
  let v298 : BitVec 32 := Scalar.select v297 v109 v296
  let v300 : BitVec 32 := Scalar.select v299 v111 v298
  let c0_i32_251 : BitVec 32 := 0#32
  let c1_i32_253 : BitVec 32 := 1#32
  let arg17 : BitVec 32 := Scf.iv c0_i32_251 c1_i32_253 k0_t8
  let c8_i32_654 : BitVec 32 := 8#32
  let v806 : BitVec 32 := Scalar.muli arg17 c8_i32_654
  let c5_i32_655 : BitVec 32 := 5#32
  let v807 : BitVec 32 := Scalar.addi v806 c5_i32_655
  let c1_i32_249 : BitVec 32 := 1#32
  let v301 : BitVec 32 := Scalar.subi v284 c1_i32_249
  let c0_i32_250 : BitVec 32 := 0#32
  let v302 : BitVec 32 := Scalar.maxsi v301 c0_i32_250
  let v808 : BitVec 32 := Scalar.minsi v807 v302
  let v809 : BitVec 32 := Scalar.addi v300 v808
  let c4095_i32_656 : BitVec 32 := 4095#32
  let v810 : BitVec 32 := Scalar.minsi v809 c4095_i32_656
  let v811 : Index := Scalar.indexCast v810
  ![v811.toNat]
def k0_off139 (v812 : BitVec 32) : Fin 3 → Nat :=
  let c8_i32_657 : BitVec 32 := 8#32
  let v813 : BitVec 32 := Scalar.divsi v812 c8_i32_657
  let v814 : Index := Scalar.indexCast v813
  let c0_658 : Index := 0#32
  let c0_659 : Index := 0#32
  ![v814.toNat, 0, 0]

def k0_chk70 (v812 : BitVec 32) : Prop :=
  (∀ a, (k0_off139 v812) a + S1x8x1024.size a ≤ S512x8x1024.size a)
theorem k0_off139_inb : ∀ (v812 : BitVec 32) (k0_hw70 : k0_chk70 v812), ∀ a, (k0_off139 v812) a + S1x8x1024.size a ≤ S512x8x1024.size a := fun v812 k0_hw70 => k0_hw70

def k0_off140 (d0 : Dev nD) (v98 : BitVec 32) (v100 : BitVec 32) (v102 : BitVec 32) (v104 : BitVec 32) (v106 : BitVec 32) (v108 : BitVec 32) (v110 : BitVec 32) (v284 : BitVec 32) (k0_t8 : Fin k0_t8_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v280 : BitVec 32 := Scalar.addi v2 c1_i32_235
  let c7_i32_236 : BitVec 32 := 7#32
  let v281 : BitVec 32 := Scalar.addi v280 c7_i32_236
  let c8_i32_237 : BitVec 32 := 8#32
  let v282 : BitVec 32 := Scalar.remsi v281 c8_i32_237
  let c7_i32_248 : BitVec 32 := 7#32
  let v299 : BitVec 1 := Scalar.cmpi .eq v282 c7_i32_248
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_247 : BitVec 32 := 6#32
  let v297 : BitVec 1 := Scalar.cmpi .eq v282 c6_i32_247
  let c5_i32_246 : BitVec 32 := 5#32
  let v295 : BitVec 1 := Scalar.cmpi .eq v282 c5_i32_246
  let c4_i32_245 : BitVec 32 := 4#32
  let v293 : BitVec 1 := Scalar.cmpi .eq v282 c4_i32_245
  let c3_i32_244 : BitVec 32 := 3#32
  let v291 : BitVec 1 := Scalar.cmpi .eq v282 c3_i32_244
  let c2_i32_243 : BitVec 32 := 2#32
  let v289 : BitVec 1 := Scalar.cmpi .eq v282 c2_i32_243
  let c1_i32_242 : BitVec 32 := 1#32
  let v287 : BitVec 1 := Scalar.cmpi .eq v282 c1_i32_242
  let c0_i32_239 : BitVec 32 := 0#32
  let v285 : BitVec 1 := Scalar.cmpi .eq v282 c0_i32_239
  let c0_i32_240 : BitVec 32 := 0#32
  let c0_i32_241 : BitVec 32 := 0#32
  let v286 : BitVec 32 := Scalar.select v285 c0_i32_240 c0_i32_241
  let v288 : BitVec 32 := Scalar.select v287 v99 v286
  let v290 : BitVec 32 := Scalar.select v289 v101 v288
  let v292 : BitVec 32 := Scalar.select v291 v103 v290
  let v294 : BitVec 32 := Scalar.select v293 v105 v292
  let v296 : BitVec 32 := Scalar.select v295 v107 v294
  let v298 : BitVec 32 := Scalar.select v297 v109 v296
  let v300 : BitVec 32 := Scalar.select v299 v111 v298
  let c0_i32_251 : BitVec 32 := 0#32
  let c1_i32_253 : BitVec 32 := 1#32
  let arg17 : BitVec 32 := Scf.iv c0_i32_251 c1_i32_253 k0_t8
  let c8_i32_665 : BitVec 32 := 8#32
  let v825 : BitVec 32 := Scalar.muli arg17 c8_i32_665
  let c6_i32_666 : BitVec 32 := 6#32
  let v826 : BitVec 32 := Scalar.addi v825 c6_i32_666
  let c1_i32_249 : BitVec 32 := 1#32
  let v301 : BitVec 32 := Scalar.subi v284 c1_i32_249
  let c0_i32_250 : BitVec 32 := 0#32
  let v302 : BitVec 32 := Scalar.maxsi v301 c0_i32_250
  let v827 : BitVec 32 := Scalar.minsi v826 v302
  let v828 : BitVec 32 := Scalar.addi v300 v827
  let c4095_i32_667 : BitVec 32 := 4095#32
  let v829 : BitVec 32 := Scalar.minsi v828 c4095_i32_667
  let v830 : Index := Scalar.indexCast v829
  ![v830.toNat]
def k0_off141 (v831 : BitVec 32) : Fin 3 → Nat :=
  let c8_i32_668 : BitVec 32 := 8#32
  let v832 : BitVec 32 := Scalar.divsi v831 c8_i32_668
  let v833 : Index := Scalar.indexCast v832
  let c0_669 : Index := 0#32
  let c0_670 : Index := 0#32
  ![v833.toNat, 0, 0]

def k0_chk71 (v831 : BitVec 32) : Prop :=
  (∀ a, (k0_off141 v831) a + S1x8x1024.size a ≤ S512x8x1024.size a)
theorem k0_off141_inb : ∀ (v831 : BitVec 32) (k0_hw71 : k0_chk71 v831), ∀ a, (k0_off141 v831) a + S1x8x1024.size a ≤ S512x8x1024.size a := fun v831 k0_hw71 => k0_hw71

def k0_off142 (d0 : Dev nD) (v98 : BitVec 32) (v100 : BitVec 32) (v102 : BitVec 32) (v104 : BitVec 32) (v106 : BitVec 32) (v108 : BitVec 32) (v110 : BitVec 32) (v284 : BitVec 32) (k0_t8 : Fin k0_t8_loop.trips) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v280 : BitVec 32 := Scalar.addi v2 c1_i32_235
  let c7_i32_236 : BitVec 32 := 7#32
  let v281 : BitVec 32 := Scalar.addi v280 c7_i32_236
  let c8_i32_237 : BitVec 32 := 8#32
  let v282 : BitVec 32 := Scalar.remsi v281 c8_i32_237
  let c7_i32_248 : BitVec 32 := 7#32
  let v299 : BitVec 1 := Scalar.cmpi .eq v282 c7_i32_248
  let c0_i32_89 : BitVec 32 := 0#32
  let v99 : BitVec 32 := Scalar.addi c0_i32_89 v98
  let v101 : BitVec 32 := Scalar.addi v99 v100
  let v103 : BitVec 32 := Scalar.addi v101 v102
  let v105 : BitVec 32 := Scalar.addi v103 v104
  let v107 : BitVec 32 := Scalar.addi v105 v106
  let v109 : BitVec 32 := Scalar.addi v107 v108
  let v111 : BitVec 32 := Scalar.addi v109 v110
  let c6_i32_247 : BitVec 32 := 6#32
  let v297 : BitVec 1 := Scalar.cmpi .eq v282 c6_i32_247
  let c5_i32_246 : BitVec 32 := 5#32
  let v295 : BitVec 1 := Scalar.cmpi .eq v282 c5_i32_246
  let c4_i32_245 : BitVec 32 := 4#32
  let v293 : BitVec 1 := Scalar.cmpi .eq v282 c4_i32_245
  let c3_i32_244 : BitVec 32 := 3#32
  let v291 : BitVec 1 := Scalar.cmpi .eq v282 c3_i32_244
  let c2_i32_243 : BitVec 32 := 2#32
  let v289 : BitVec 1 := Scalar.cmpi .eq v282 c2_i32_243
  let c1_i32_242 : BitVec 32 := 1#32
  let v287 : BitVec 1 := Scalar.cmpi .eq v282 c1_i32_242
  let c0_i32_239 : BitVec 32 := 0#32
  let v285 : BitVec 1 := Scalar.cmpi .eq v282 c0_i32_239
  let c0_i32_240 : BitVec 32 := 0#32
  let c0_i32_241 : BitVec 32 := 0#32
  let v286 : BitVec 32 := Scalar.select v285 c0_i32_240 c0_i32_241
  let v288 : BitVec 32 := Scalar.select v287 v99 v286
  let v290 : BitVec 32 := Scalar.select v289 v101 v288
  let v292 : BitVec 32 := Scalar.select v291 v103 v290
  let v294 : BitVec 32 := Scalar.select v293 v105 v292
  let v296 : BitVec 32 := Scalar.select v295 v107 v294
  let v298 : BitVec 32 := Scalar.select v297 v109 v296
  let v300 : BitVec 32 := Scalar.select v299 v111 v298
  let c0_i32_251 : BitVec 32 := 0#32
  let c1_i32_253 : BitVec 32 := 1#32
  let arg17 : BitVec 32 := Scf.iv c0_i32_251 c1_i32_253 k0_t8
  let c8_i32_676 : BitVec 32 := 8#32
  let v844 : BitVec 32 := Scalar.muli arg17 c8_i32_676
  let c7_i32_677 : BitVec 32 := 7#32
  let v845 : BitVec 32 := Scalar.addi v844 c7_i32_677
  let c1_i32_249 : BitVec 32 := 1#32
  let v301 : BitVec 32 := Scalar.subi v284 c1_i32_249
  let c0_i32_250 : BitVec 32 := 0#32
  let v302 : BitVec 32 := Scalar.maxsi v301 c0_i32_250
  let v846 : BitVec 32 := Scalar.minsi v845 v302
  let v847 : BitVec 32 := Scalar.addi v300 v846
  let c4095_i32_678 : BitVec 32 := 4095#32
  let v848 : BitVec 32 := Scalar.minsi v847 c4095_i32_678
  let v849 : Index := Scalar.indexCast v848
  ![v849.toNat]

def k0_chk64 (d0 : Dev nD) (v98 : BitVec 32) (v100 : BitVec 32) (v102 : BitVec 32) (v104 : BitVec 32) (v106 : BitVec 32) (v108 : BitVec 32) (v110 : BitVec 32) (v284 : BitVec 32) : Prop :=
  (∀ k0_t8 : Fin k0_t8_loop.trips, ∀ a, (k0_off128 d0 v98 v100 v102 v104 v106 v108 v110 v284 k0_t8) a + S1.size a ≤ S4096.size a) ∧
  (∀ k0_t8 : Fin k0_t8_loop.trips, ∀ a, (k0_off130 d0 v98 v100 v102 v104 v106 v108 v110 v284 k0_t8) a + S1.size a ≤ S4096.size a) ∧
  (∀ k0_t8 : Fin k0_t8_loop.trips, ∀ a, (k0_off132 d0 v98 v100 v102 v104 v106 v108 v110 v284 k0_t8) a + S1.size a ≤ S4096.size a) ∧
  (∀ k0_t8 : Fin k0_t8_loop.trips, ∀ a, (k0_off134 d0 v98 v100 v102 v104 v106 v108 v110 v284 k0_t8) a + S1.size a ≤ S4096.size a) ∧
  (∀ k0_t8 : Fin k0_t8_loop.trips, ∀ a, (k0_off136 d0 v98 v100 v102 v104 v106 v108 v110 v284 k0_t8) a + S1.size a ≤ S4096.size a) ∧
  (∀ k0_t8 : Fin k0_t8_loop.trips, ∀ a, (k0_off138 d0 v98 v100 v102 v104 v106 v108 v110 v284 k0_t8) a + S1.size a ≤ S4096.size a) ∧
  (∀ k0_t8 : Fin k0_t8_loop.trips, ∀ a, (k0_off140 d0 v98 v100 v102 v104 v106 v108 v110 v284 k0_t8) a + S1.size a ≤ S4096.size a) ∧
  (∀ k0_t8 : Fin k0_t8_loop.trips, ∀ a, (k0_off142 d0 v98 v100 v102 v104 v106 v108 v110 v284 k0_t8) a + S1.size a ≤ S4096.size a)
theorem k0_off128_inb : ∀ (d0 : Dev nD) (v98 : BitVec 32) (v100 : BitVec 32) (v102 : BitVec 32) (v104 : BitVec 32) (v106 : BitVec 32) (v108 : BitVec 32) (v110 : BitVec 32) (v284 : BitVec 32) (k0_hw64 : k0_chk64 d0 v98 v100 v102 v104 v106 v108 v110 v284) (k0_t8 : Fin k0_t8_loop.trips), ∀ a, (k0_off128 d0 v98 v100 v102 v104 v106 v108 v110 v284 k0_t8) a + S1.size a ≤ S4096.size a := fun d0 v98 v100 v102 v104 v106 v108 v110 v284 k0_hw64 k0_t8 => k0_hw64.1 k0_t8
theorem k0_off130_inb : ∀ (d0 : Dev nD) (v98 : BitVec 32) (v100 : BitVec 32) (v102 : BitVec 32) (v104 : BitVec 32) (v106 : BitVec 32) (v108 : BitVec 32) (v110 : BitVec 32) (v284 : BitVec 32) (k0_hw64 : k0_chk64 d0 v98 v100 v102 v104 v106 v108 v110 v284) (k0_t8 : Fin k0_t8_loop.trips), ∀ a, (k0_off130 d0 v98 v100 v102 v104 v106 v108 v110 v284 k0_t8) a + S1.size a ≤ S4096.size a := fun d0 v98 v100 v102 v104 v106 v108 v110 v284 k0_hw64 k0_t8 => k0_hw64.2.1 k0_t8
theorem k0_off132_inb : ∀ (d0 : Dev nD) (v98 : BitVec 32) (v100 : BitVec 32) (v102 : BitVec 32) (v104 : BitVec 32) (v106 : BitVec 32) (v108 : BitVec 32) (v110 : BitVec 32) (v284 : BitVec 32) (k0_hw64 : k0_chk64 d0 v98 v100 v102 v104 v106 v108 v110 v284) (k0_t8 : Fin k0_t8_loop.trips), ∀ a, (k0_off132 d0 v98 v100 v102 v104 v106 v108 v110 v284 k0_t8) a + S1.size a ≤ S4096.size a := fun d0 v98 v100 v102 v104 v106 v108 v110 v284 k0_hw64 k0_t8 => k0_hw64.2.2.1 k0_t8
theorem k0_off134_inb : ∀ (d0 : Dev nD) (v98 : BitVec 32) (v100 : BitVec 32) (v102 : BitVec 32) (v104 : BitVec 32) (v106 : BitVec 32) (v108 : BitVec 32) (v110 : BitVec 32) (v284 : BitVec 32) (k0_hw64 : k0_chk64 d0 v98 v100 v102 v104 v106 v108 v110 v284) (k0_t8 : Fin k0_t8_loop.trips), ∀ a, (k0_off134 d0 v98 v100 v102 v104 v106 v108 v110 v284 k0_t8) a + S1.size a ≤ S4096.size a := fun d0 v98 v100 v102 v104 v106 v108 v110 v284 k0_hw64 k0_t8 => k0_hw64.2.2.2.1 k0_t8
theorem k0_off136_inb : ∀ (d0 : Dev nD) (v98 : BitVec 32) (v100 : BitVec 32) (v102 : BitVec 32) (v104 : BitVec 32) (v106 : BitVec 32) (v108 : BitVec 32) (v110 : BitVec 32) (v284 : BitVec 32) (k0_hw64 : k0_chk64 d0 v98 v100 v102 v104 v106 v108 v110 v284) (k0_t8 : Fin k0_t8_loop.trips), ∀ a, (k0_off136 d0 v98 v100 v102 v104 v106 v108 v110 v284 k0_t8) a + S1.size a ≤ S4096.size a := fun d0 v98 v100 v102 v104 v106 v108 v110 v284 k0_hw64 k0_t8 => k0_hw64.2.2.2.2.1 k0_t8
theorem k0_off138_inb : ∀ (d0 : Dev nD) (v98 : BitVec 32) (v100 : BitVec 32) (v102 : BitVec 32) (v104 : BitVec 32) (v106 : BitVec 32) (v108 : BitVec 32) (v110 : BitVec 32) (v284 : BitVec 32) (k0_hw64 : k0_chk64 d0 v98 v100 v102 v104 v106 v108 v110 v284) (k0_t8 : Fin k0_t8_loop.trips), ∀ a, (k0_off138 d0 v98 v100 v102 v104 v106 v108 v110 v284 k0_t8) a + S1.size a ≤ S4096.size a := fun d0 v98 v100 v102 v104 v106 v108 v110 v284 k0_hw64 k0_t8 => k0_hw64.2.2.2.2.2.1 k0_t8
theorem k0_off140_inb : ∀ (d0 : Dev nD) (v98 : BitVec 32) (v100 : BitVec 32) (v102 : BitVec 32) (v104 : BitVec 32) (v106 : BitVec 32) (v108 : BitVec 32) (v110 : BitVec 32) (v284 : BitVec 32) (k0_hw64 : k0_chk64 d0 v98 v100 v102 v104 v106 v108 v110 v284) (k0_t8 : Fin k0_t8_loop.trips), ∀ a, (k0_off140 d0 v98 v100 v102 v104 v106 v108 v110 v284 k0_t8) a + S1.size a ≤ S4096.size a := fun d0 v98 v100 v102 v104 v106 v108 v110 v284 k0_hw64 k0_t8 => k0_hw64.2.2.2.2.2.2.1 k0_t8
theorem k0_off142_inb : ∀ (d0 : Dev nD) (v98 : BitVec 32) (v100 : BitVec 32) (v102 : BitVec 32) (v104 : BitVec 32) (v106 : BitVec 32) (v108 : BitVec 32) (v110 : BitVec 32) (v284 : BitVec 32) (k0_hw64 : k0_chk64 d0 v98 v100 v102 v104 v106 v108 v110 v284) (k0_t8 : Fin k0_t8_loop.trips), ∀ a, (k0_off142 d0 v98 v100 v102 v104 v106 v108 v110 v284 k0_t8) a + S1.size a ≤ S4096.size a := fun d0 v98 v100 v102 v104 v106 v108 v110 v284 k0_hw64 k0_t8 => k0_hw64.2.2.2.2.2.2.2 k0_t8

def k0_off143 (v850 : BitVec 32) : Fin 3 → Nat :=
  let c8_i32_679 : BitVec 32 := 8#32
  let v851 : BitVec 32 := Scalar.divsi v850 c8_i32_679
  let v852 : Index := Scalar.indexCast v851
  let c0_680 : Index := 0#32
  let c0_681 : Index := 0#32
  ![v852.toNat, 0, 0]

def k0_chk72 (v850 : BitVec 32) : Prop :=
  (∀ a, (k0_off143 v850) a + S1x8x1024.size a ≤ S512x8x1024.size a)
theorem k0_off143_inb : ∀ (v850 : BitVec 32) (k0_hw72 : k0_chk72 v850), ∀ a, (k0_off143 v850) a + S1x8x1024.size a ≤ S512x8x1024.size a := fun v850 k0_hw72 => k0_hw72

def k0_off144 (k0_t8 : Fin k0_t8_loop.trips) : Fin 3 → Nat :=
  let c560_i32_687 : BitVec 32 := 560#32
  let c0_i32_251 : BitVec 32 := 0#32
  let c1_i32_253 : BitVec 32 := 1#32
  let arg17 : BitVec 32 := Scf.iv c0_i32_251 c1_i32_253 k0_t8
  let v863 : BitVec 32 := Scalar.addi c560_i32_687 arg17
  let v864 : Index := Scalar.indexCast v863
  let c0_688 : Index := 0#32
  let c0_689 : Index := 0#32
  ![v864.toNat, 0, 0]
def k0_dev15 (d0 : Dev nD) : Nat :=
  let c0_i32_265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_260 : BitVec 32 := 1#32
  let v306 : BitVec 32 := Scalar.addi v2 c1_i32_260
  let c8_i32_261 : BitVec 32 := 8#32
  let v307 : BitVec 32 := Scalar.remsi v306 c8_i32_261
  let c1_i32_264 : BitVec 32 := 1#32
  let v308 : BitVec 32 := Scalar.muli v307 c1_i32_264
  let v309 : BitVec 32 := Scalar.addi c0_i32_265 v308
  v309.toNat
def k0_dev16 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_272 : BitVec 32 := 2#32
  let v316 : BitVec 32 := Scalar.addi v2 c2_i32_272
  let c8_i32_273 : BitVec 32 := 8#32
  let v317 : BitVec 32 := Scalar.remsi v316 c8_i32_273
  let c1_i32_276 : BitVec 32 := 1#32
  let v318 : BitVec 32 := Scalar.muli v317 c1_i32_276
  let v319 : BitVec 32 := Scalar.addi c0_i32_277 v318
  v319.toNat
def k0_dev17 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_284 : BitVec 32 := 3#32
  let v326 : BitVec 32 := Scalar.addi v2 c3_i32_284
  let c8_i32_285 : BitVec 32 := 8#32
  let v327 : BitVec 32 := Scalar.remsi v326 c8_i32_285
  let c1_i32_288 : BitVec 32 := 1#32
  let v328 : BitVec 32 := Scalar.muli v327 c1_i32_288
  let v329 : BitVec 32 := Scalar.addi c0_i32_289 v328
  v329.toNat
def k0_dev18 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_295 : BitVec 32 := 4#32
  let v336 : BitVec 32 := Scalar.addi v2 c4_i32_295
  let c8_i32_296 : BitVec 32 := 8#32
  let v337 : BitVec 32 := Scalar.remsi v336 c8_i32_296
  let c1_i32_299 : BitVec 32 := 1#32
  let v338 : BitVec 32 := Scalar.muli v337 c1_i32_299
  let v339 : BitVec 32 := Scalar.addi c0_i32_300 v338
  v339.toNat
def k0_dev19 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_306 : BitVec 32 := 5#32
  let v346 : BitVec 32 := Scalar.addi v2 c5_i32_306
  let c8_i32_307 : BitVec 32 := 8#32
  let v347 : BitVec 32 := Scalar.remsi v346 c8_i32_307
  let c1_i32_310 : BitVec 32 := 1#32
  let v348 : BitVec 32 := Scalar.muli v347 c1_i32_310
  let v349 : BitVec 32 := Scalar.addi c0_i32_311 v348
  v349.toNat
def k0_dev20 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_317 : BitVec 32 := 6#32
  let v356 : BitVec 32 := Scalar.addi v2 c6_i32_317
  let c8_i32_318 : BitVec 32 := 8#32
  let v357 : BitVec 32 := Scalar.remsi v356 c8_i32_318
  let c1_i32_321 : BitVec 32 := 1#32
  let v358 : BitVec 32 := Scalar.muli v357 c1_i32_321
  let v359 : BitVec 32 := Scalar.addi c0_i32_322 v358
  v359.toNat
def k0_dev21 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_328 : BitVec 32 := 7#32
  let v366 : BitVec 32 := Scalar.addi v2 c7_i32_328
  let c8_i32_329 : BitVec 32 := 8#32
  let v367 : BitVec 32 := Scalar.remsi v366 c8_i32_329
  let c1_i32_332 : BitVec 32 := 1#32
  let v368 : BitVec 32 := Scalar.muli v367 c1_i32_332
  let v369 : BitVec 32 := Scalar.addi c0_i32_333 v368
  v369.toNat
def k0_off145 (d0 : Dev nD) (c0_i32_427 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_426 : BitVec 32 := 7#32
  let v436 : BitVec 32 := Scalar.addi v2 c7_i32_426
  let v437 : BitVec 32 := Scalar.subi v436 c0_i32_427
  let c8_i32_428 : BitVec 32 := 8#32
  let v438 : BitVec 32 := Scalar.remsi v437 c8_i32_428
  let v439 : Index := Scalar.indexCast v438
  let v440 : Index := Scalar.indexCast v2
  ![v439.toNat, v440.toNat]
@[reducible] def k0_t9_loop : Scf.Loop 32 :=
  let c0_i32_597 : BitVec 32 := 0#32
  let c512_i32 : BitVec 32 := 512#32
  let v709 : BitVec 32 := Scalar.addi c0_i32_597 c512_i32
  let c1_i32_598 : BitVec 32 := 1#32
  ⟨c0_i32_597, v709, c1_i32_598⟩
def k0_off146 (k0_t9 : Fin k0_t9_loop.trips) : Fin 2 → Nat :=
  let c0_i32_597 : BitVec 32 := 0#32
  let c1_i32_598 : BitVec 32 := 1#32
  let arg17 : BitVec 32 := Scf.iv c0_i32_597 c1_i32_598 k0_t9
  let c8_i32_600 : BitVec 32 := 8#32
  let v711 : BitVec 32 := Scalar.muli arg17 c8_i32_600
  let c0_i32_601 : BitVec 32 := 0#32
  let v712 : BitVec 32 := Scalar.addi v711 c0_i32_601
  let c128_i32_602 : BitVec 32 := 128#32
  let v713 : BitVec 32 := Scalar.divsi v712 c128_i32_602
  let v715 : Index := Scalar.indexCast v713
  let c128_i32_603 : BitVec 32 := 128#32
  let v714 : BitVec 32 := Scalar.remsi v712 c128_i32_603
  let v716 : Index := Scalar.indexCast v714
  ![v715.toNat, v716.toNat]
def k0_off147 (v717 : BitVec 32) : Fin 3 → Nat :=
  let c8_i32_604 : BitVec 32 := 8#32
  let v718 : BitVec 32 := Scalar.divsi v717 c8_i32_604
  let v719 : Index := Scalar.indexCast v718
  let c0_605 : Index := 0#32
  let c0_606 : Index := 0#32
  ![v719.toNat, 0, 0]

def k0_chk73 (v717 : BitVec 32) : Prop :=
  (∀ a, (k0_off147 v717) a + S1x8x1024.size a ≤ S640x8x1024.size a)
theorem k0_off147_inb : ∀ (v717 : BitVec 32) (k0_hw73 : k0_chk73 v717), ∀ a, (k0_off147 v717) a + S1x8x1024.size a ≤ S640x8x1024.size a := fun v717 k0_hw73 => k0_hw73

def k0_off148 (k0_t9 : Fin k0_t9_loop.trips) : Fin 2 → Nat :=
  let c0_i32_597 : BitVec 32 := 0#32
  let c1_i32_598 : BitVec 32 := 1#32
  let arg17 : BitVec 32 := Scf.iv c0_i32_597 c1_i32_598 k0_t9
  let c8_i32_612 : BitVec 32 := 8#32
  let v730 : BitVec 32 := Scalar.muli arg17 c8_i32_612
  let c1_i32_613 : BitVec 32 := 1#32
  let v731 : BitVec 32 := Scalar.addi v730 c1_i32_613
  let c128_i32_614 : BitVec 32 := 128#32
  let v732 : BitVec 32 := Scalar.divsi v731 c128_i32_614
  let v734 : Index := Scalar.indexCast v732
  let c128_i32_615 : BitVec 32 := 128#32
  let v733 : BitVec 32 := Scalar.remsi v731 c128_i32_615
  let v735 : Index := Scalar.indexCast v733
  ![v734.toNat, v735.toNat]
def k0_off149 (v736 : BitVec 32) : Fin 3 → Nat :=
  let c8_i32_616 : BitVec 32 := 8#32
  let v737 : BitVec 32 := Scalar.divsi v736 c8_i32_616
  let v738 : Index := Scalar.indexCast v737
  let c0_617 : Index := 0#32
  let c0_618 : Index := 0#32
  ![v738.toNat, 0, 0]

def k0_chk74 (v736 : BitVec 32) : Prop :=
  (∀ a, (k0_off149 v736) a + S1x8x1024.size a ≤ S640x8x1024.size a)
theorem k0_off149_inb : ∀ (v736 : BitVec 32) (k0_hw74 : k0_chk74 v736), ∀ a, (k0_off149 v736) a + S1x8x1024.size a ≤ S640x8x1024.size a := fun v736 k0_hw74 => k0_hw74

def k0_off150 (k0_t9 : Fin k0_t9_loop.trips) : Fin 2 → Nat :=
  let c0_i32_597 : BitVec 32 := 0#32
  let c1_i32_598 : BitVec 32 := 1#32
  let arg17 : BitVec 32 := Scf.iv c0_i32_597 c1_i32_598 k0_t9
  let c8_i32_624 : BitVec 32 := 8#32
  let v749 : BitVec 32 := Scalar.muli arg17 c8_i32_624
  let c2_i32_625 : BitVec 32 := 2#32
  let v750 : BitVec 32 := Scalar.addi v749 c2_i32_625
  let c128_i32_626 : BitVec 32 := 128#32
  let v751 : BitVec 32 := Scalar.divsi v750 c128_i32_626
  let v753 : Index := Scalar.indexCast v751
  let c128_i32_627 : BitVec 32 := 128#32
  let v752 : BitVec 32 := Scalar.remsi v750 c128_i32_627
  let v754 : Index := Scalar.indexCast v752
  ![v753.toNat, v754.toNat]
def k0_off151 (v755 : BitVec 32) : Fin 3 → Nat :=
  let c8_i32_628 : BitVec 32 := 8#32
  let v756 : BitVec 32 := Scalar.divsi v755 c8_i32_628
  let v757 : Index := Scalar.indexCast v756
  let c0_629 : Index := 0#32
  let c0_630 : Index := 0#32
  ![v757.toNat, 0, 0]

def k0_chk75 (v755 : BitVec 32) : Prop :=
  (∀ a, (k0_off151 v755) a + S1x8x1024.size a ≤ S640x8x1024.size a)
theorem k0_off151_inb : ∀ (v755 : BitVec 32) (k0_hw75 : k0_chk75 v755), ∀ a, (k0_off151 v755) a + S1x8x1024.size a ≤ S640x8x1024.size a := fun v755 k0_hw75 => k0_hw75

def k0_off152 (k0_t9 : Fin k0_t9_loop.trips) : Fin 2 → Nat :=
  let c0_i32_597 : BitVec 32 := 0#32
  let c1_i32_598 : BitVec 32 := 1#32
  let arg17 : BitVec 32 := Scf.iv c0_i32_597 c1_i32_598 k0_t9
  let c8_i32_636 : BitVec 32 := 8#32
  let v768 : BitVec 32 := Scalar.muli arg17 c8_i32_636
  let c3_i32_637 : BitVec 32 := 3#32
  let v769 : BitVec 32 := Scalar.addi v768 c3_i32_637
  let c128_i32_638 : BitVec 32 := 128#32
  let v770 : BitVec 32 := Scalar.divsi v769 c128_i32_638
  let v772 : Index := Scalar.indexCast v770
  let c128_i32_639 : BitVec 32 := 128#32
  let v771 : BitVec 32 := Scalar.remsi v769 c128_i32_639
  let v773 : Index := Scalar.indexCast v771
  ![v772.toNat, v773.toNat]
def k0_off153 (v774 : BitVec 32) : Fin 3 → Nat :=
  let c8_i32_640 : BitVec 32 := 8#32
  let v775 : BitVec 32 := Scalar.divsi v774 c8_i32_640
  let v776 : Index := Scalar.indexCast v775
  let c0_641 : Index := 0#32
  let c0_642 : Index := 0#32
  ![v776.toNat, 0, 0]

def k0_chk76 (v774 : BitVec 32) : Prop :=
  (∀ a, (k0_off153 v774) a + S1x8x1024.size a ≤ S640x8x1024.size a)
theorem k0_off153_inb : ∀ (v774 : BitVec 32) (k0_hw76 : k0_chk76 v774), ∀ a, (k0_off153 v774) a + S1x8x1024.size a ≤ S640x8x1024.size a := fun v774 k0_hw76 => k0_hw76

def k0_off154 (k0_t9 : Fin k0_t9_loop.trips) : Fin 2 → Nat :=
  let c0_i32_597 : BitVec 32 := 0#32
  let c1_i32_598 : BitVec 32 := 1#32
  let arg17 : BitVec 32 := Scf.iv c0_i32_597 c1_i32_598 k0_t9
  let c8_i32_648 : BitVec 32 := 8#32
  let v787 : BitVec 32 := Scalar.muli arg17 c8_i32_648
  let c4_i32_649 : BitVec 32 := 4#32
  let v788 : BitVec 32 := Scalar.addi v787 c4_i32_649
  let c128_i32_650 : BitVec 32 := 128#32
  let v789 : BitVec 32 := Scalar.divsi v788 c128_i32_650
  let v791 : Index := Scalar.indexCast v789
  let c128_i32_651 : BitVec 32 := 128#32
  let v790 : BitVec 32 := Scalar.remsi v788 c128_i32_651
  let v792 : Index := Scalar.indexCast v790
  ![v791.toNat, v792.toNat]
def k0_off155 (v793 : BitVec 32) : Fin 3 → Nat :=
  let c8_i32_652 : BitVec 32 := 8#32
  let v794 : BitVec 32 := Scalar.divsi v793 c8_i32_652
  let v795 : Index := Scalar.indexCast v794
  let c0_653 : Index := 0#32
  let c0_654 : Index := 0#32
  ![v795.toNat, 0, 0]

def k0_chk77 (v793 : BitVec 32) : Prop :=
  (∀ a, (k0_off155 v793) a + S1x8x1024.size a ≤ S640x8x1024.size a)
theorem k0_off155_inb : ∀ (v793 : BitVec 32) (k0_hw77 : k0_chk77 v793), ∀ a, (k0_off155 v793) a + S1x8x1024.size a ≤ S640x8x1024.size a := fun v793 k0_hw77 => k0_hw77

def k0_off156 (k0_t9 : Fin k0_t9_loop.trips) : Fin 2 → Nat :=
  let c0_i32_597 : BitVec 32 := 0#32
  let c1_i32_598 : BitVec 32 := 1#32
  let arg17 : BitVec 32 := Scf.iv c0_i32_597 c1_i32_598 k0_t9
  let c8_i32_660 : BitVec 32 := 8#32
  let v806 : BitVec 32 := Scalar.muli arg17 c8_i32_660
  let c5_i32_661 : BitVec 32 := 5#32
  let v807 : BitVec 32 := Scalar.addi v806 c5_i32_661
  let c128_i32_662 : BitVec 32 := 128#32
  let v808 : BitVec 32 := Scalar.divsi v807 c128_i32_662
  let v810 : Index := Scalar.indexCast v808
  let c128_i32_663 : BitVec 32 := 128#32
  let v809 : BitVec 32 := Scalar.remsi v807 c128_i32_663
  let v811 : Index := Scalar.indexCast v809
  ![v810.toNat, v811.toNat]
def k0_off157 (v812 : BitVec 32) : Fin 3 → Nat :=
  let c8_i32_664 : BitVec 32 := 8#32
  let v813 : BitVec 32 := Scalar.divsi v812 c8_i32_664
  let v814 : Index := Scalar.indexCast v813
  let c0_665 : Index := 0#32
  let c0_666 : Index := 0#32
  ![v814.toNat, 0, 0]

def k0_chk78 (v812 : BitVec 32) : Prop :=
  (∀ a, (k0_off157 v812) a + S1x8x1024.size a ≤ S640x8x1024.size a)
theorem k0_off157_inb : ∀ (v812 : BitVec 32) (k0_hw78 : k0_chk78 v812), ∀ a, (k0_off157 v812) a + S1x8x1024.size a ≤ S640x8x1024.size a := fun v812 k0_hw78 => k0_hw78

def k0_off158 (k0_t9 : Fin k0_t9_loop.trips) : Fin 2 → Nat :=
  let c0_i32_597 : BitVec 32 := 0#32
  let c1_i32_598 : BitVec 32 := 1#32
  let arg17 : BitVec 32 := Scf.iv c0_i32_597 c1_i32_598 k0_t9
  let c8_i32_672 : BitVec 32 := 8#32
  let v825 : BitVec 32 := Scalar.muli arg17 c8_i32_672
  let c6_i32_673 : BitVec 32 := 6#32
  let v826 : BitVec 32 := Scalar.addi v825 c6_i32_673
  let c128_i32_674 : BitVec 32 := 128#32
  let v827 : BitVec 32 := Scalar.divsi v826 c128_i32_674
  let v829 : Index := Scalar.indexCast v827
  let c128_i32_675 : BitVec 32 := 128#32
  let v828 : BitVec 32 := Scalar.remsi v826 c128_i32_675
  let v830 : Index := Scalar.indexCast v828
  ![v829.toNat, v830.toNat]
def k0_off159 (v831 : BitVec 32) : Fin 3 → Nat :=
  let c8_i32_676 : BitVec 32 := 8#32
  let v832 : BitVec 32 := Scalar.divsi v831 c8_i32_676
  let v833 : Index := Scalar.indexCast v832
  let c0_677 : Index := 0#32
  let c0_678 : Index := 0#32
  ![v833.toNat, 0, 0]

def k0_chk79 (v831 : BitVec 32) : Prop :=
  (∀ a, (k0_off159 v831) a + S1x8x1024.size a ≤ S640x8x1024.size a)
theorem k0_off159_inb : ∀ (v831 : BitVec 32) (k0_hw79 : k0_chk79 v831), ∀ a, (k0_off159 v831) a + S1x8x1024.size a ≤ S640x8x1024.size a := fun v831 k0_hw79 => k0_hw79

def k0_off160 (k0_t9 : Fin k0_t9_loop.trips) : Fin 2 → Nat :=
  let c0_i32_597 : BitVec 32 := 0#32
  let c1_i32_598 : BitVec 32 := 1#32
  let arg17 : BitVec 32 := Scf.iv c0_i32_597 c1_i32_598 k0_t9
  let c8_i32_684 : BitVec 32 := 8#32
  let v844 : BitVec 32 := Scalar.muli arg17 c8_i32_684
  let c7_i32_685 : BitVec 32 := 7#32
  let v845 : BitVec 32 := Scalar.addi v844 c7_i32_685
  let c128_i32_686 : BitVec 32 := 128#32
  let v846 : BitVec 32 := Scalar.divsi v845 c128_i32_686
  let v848 : Index := Scalar.indexCast v846
  let c128_i32_687 : BitVec 32 := 128#32
  let v847 : BitVec 32 := Scalar.remsi v845 c128_i32_687
  let v849 : Index := Scalar.indexCast v847
  ![v848.toNat, v849.toNat]
def k0_off161 (v850 : BitVec 32) : Fin 3 → Nat :=
  let c8_i32_688 : BitVec 32 := 8#32
  let v851 : BitVec 32 := Scalar.divsi v850 c8_i32_688
  let v852 : Index := Scalar.indexCast v851
  let c0_689 : Index := 0#32
  let c0_690 : Index := 0#32
  ![v852.toNat, 0, 0]

def k0_chk80 (v850 : BitVec 32) : Prop :=
  (∀ a, (k0_off161 v850) a + S1x8x1024.size a ≤ S640x8x1024.size a)
theorem k0_off161_inb : ∀ (v850 : BitVec 32) (k0_hw80 : k0_chk80 v850), ∀ a, (k0_off161 v850) a + S1x8x1024.size a ≤ S640x8x1024.size a := fun v850 k0_hw80 => k0_hw80

def k0_off162 (k0_t9 : Fin k0_t9_loop.trips) : Fin 3 → Nat :=
  let c0_i32_597 : BitVec 32 := 0#32
  let c1_i32_598 : BitVec 32 := 1#32
  let arg17 : BitVec 32 := Scf.iv c0_i32_597 c1_i32_598 k0_t9
  let v863 : Index := Scalar.indexCast arg17
  let c0_696 : Index := 0#32
  let c0_697 : Index := 0#32
  ![v863.toNat, 0, 0]
abbrev stage0_0 : Fin 1 → Memref sig .tc .vmem S512x8x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32768x1024 : Shape := ⟨2, ![32768, 1024]⟩
abbrev S32768 : Shape := ⟨1, ![32768]⟩
abbrev S_ : Shape := ⟨0, ![]⟩
abbrev S32768x1 : Shape := ⟨2, ![32768, 1]⟩

abbrev nBuf : Space → Nat
  | .hbm => 14
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768, .i32⟩
  | .hbm, ⟨2, _⟩ => ⟨S32768, .i32⟩
  | .hbm, ⟨3, _⟩ => ⟨S32768, .i32⟩
  | .hbm, ⟨4, _⟩ => ⟨S32768, .i32⟩
  | .hbm, ⟨5, _⟩ => ⟨S_, .i32⟩
  | .hbm, ⟨6, _⟩ => ⟨S32768, .i32⟩
  | .hbm, ⟨7, _⟩ => ⟨S32768, .i1⟩
  | .hbm, ⟨8, _⟩ => ⟨S_, .i32⟩
  | .hbm, ⟨9, _⟩ => ⟨S32768, .i32⟩
  | .hbm, ⟨10, _⟩ => ⟨S32768, .i32⟩
  | .hbm, ⟨11, _⟩ => ⟨S32768, .i32⟩
  | .hbm, ⟨12, _⟩ => ⟨S32768x1, .i32⟩
  | .hbm, ⟨13, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Rows.lean ====
/-
  The row loops of the kernel body, once: both the gather loops (rows of the own block, addressed by the sorted order)
  and the compaction loop (rows of the receive buffer, addressed by the computed table) fill one eight-row slab from
  eight rows whose numbers they read as words. `rows` is that walk over a list of word addresses, `wp_rows` its one
  proof, and `below` what the loop around it has filled so far.
-/
module

public import proofs.«01_k».proof.Proof.Gen.KernelIdeal.Loops
public import Idealize.ShloMosaic.Lib.Pointwise
public import Idealize.ShloMosaic.Lib.KernelVsHost
public import Idealize.ShloMosaic.Lib.Rounds

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- An array of `n` slabs of eight rows. -/
abbrev Slabs (n : ℕ) : Shape := ⟨3, ![n, 8, 1024]⟩

/-- The slab a row number lies in, as an offset. -/
abbrev slabOff (w : BitVec 32) : Fin 3 → ℕ := ![(Scalar.indexCast (Scalar.divsi w 8#32)).toNat, 0, 0]

/-- The slab is inside the array. -/
abbrev slabIn (n : ℕ) (w : BitVec 32) : Prop := ∀ a, slabOff w a + S1x8x1024.size a ≤ (Slabs n).size a

/-- Put row `w` of a loaded slab at row `u` of the slab being built. -/
def sel (v3 : IVec S8x1024 32) (u : ℕ) (w : BitVec 32) (x : Vec F S1x8x1024 .bf16) (acc : FVec F S8x1024 .bf16) :
    FVec F S8x1024 .bf16 :=
  select (cmpi .eq v3 (broadcast S8x1024 (BitVec.ofNat 32 u)))
    (dynamicRotate 0 (Scalar.remsi (Scalar.addi (Scalar.subi (BitVec.ofNat 32 u) (Scalar.remsi w 8#32)) 8#32) 8#32) none
      (shapeCast S8x1024 x shapeCasts_S1x8x1024_S8x1024) rotates_S8x1024_d0) acc

/-- The address of one word of a scalar table. -/
structure WordAt (si : Shape) where
  r : Rect si
  one : r.shape.numel = 1

/-- The walk over the word addresses. -/
def rows {si : Shape} {n : ℕ} (mi : Memref sig .tc .smem si .i32) (ms : Memref sig .tc .vmem (Slabs n) .bf16)
    (dec : ∀ w, Decidable (slabIn n w)) (v3 : IVec S8x1024 32) :
    List (WordAt si) → ℕ → FVec F S8x1024 .bf16 → Prog (TpuEff nD τ sig (Elt F) Λ₀ .tc) (FVec F S8x1024 .bf16)
  | [], _, acc => pure acc
  | a :: L, u, acc => do
    let w : Elt F .i32 ← smemLoad mi a.r a.one rfl
    have h : slabIn n w := (← Prog.lift (TpuEff.assume (slabIn n w) (dec w))).down
    let x : Vec F S1x8x1024 .bf16 ← Prog.lift (.load ms (Rect.unit (s := Slabs n) (slabOff w) S1x8x1024.size h).toLoadRect (View.loadsAt_vmem h_S1x8x1024))
    rows mi ms dec v3 L (u + 1) (sel v3 u w x acc)

/-- One gather trip: eight rows, then the slab stored. -/
def trip {si : Shape} {n m : ℕ} (mi : Memref sig .tc .smem si .i32) (ms : Memref sig .tc .vmem (Slabs n) .bf16)
    (md : Memref sig .tc .vmem (Slabs m) .bf16)
    (dec : ∀ w, Decidable (slabIn n w)) (v3 : IVec S8x1024 32) (L : List (WordAt si))
    (so : Fin 3 → ℕ) (hso : ∀ a, so a + S1x8x1024.size a ≤ (Slabs m).size a)
    (hst : (md.access (Rect.unit (s := Slabs m) so S1x8x1024.size hso)).Stores Finset.univ) :
    Prog (TpuEff nD τ sig (Elt F) Λ₀ .tc) Unit := do
  let acc ← rows mi ms dec v3 L 0 (broadcast S8x1024 (Scalar.ofBits .bf16 0x0000#16))
  let _v : Vec F S1x8x1024 .bf16 ← Prog.lift (.load md (Rect.unit (s := Slabs m) so S1x8x1024.size hso).toLoadRect (View.loadsAt_vmem h_S1x8x1024))
  Prog.lift (.store md (Rect.unit (s := Slabs m) so S1x8x1024.size hso) (shapeCast S1x8x1024 acc shapeCasts_S8x1024_S1x8x1024) Finset.univ hst (.inl rfl))
  pure ⟨⟩

/-- The word address of one gathered row: entry `base + min (8 i + u) kmax` of the order, clamped. -/
abbrev gOff (base kmax i : BitVec 32) (u : ℕ) : Fin 1 → ℕ :=
  ![(Scalar.indexCast (Scalar.minsi (Scalar.addi base (Scalar.minsi (Scalar.addi (Scalar.muli i 8#32) (BitVec.ofNat 32 u)) kmax)) 4095#32)).toNat]

abbrev gIn (base kmax i : BitVec 32) : Prop := ∀ u : Fin 8, ∀ a, gOff base kmax i u a + S1.size a ≤ S4096.size a

def gList (base kmax i : BitVec 32) (h : gIn base kmax i) : List (WordAt S4096) :=
  let at_ (u : Fin 8) : WordAt S4096 := ⟨Rect.unit (s := S4096) (gOff base kmax i u) S1.size (h u), numel1_S1⟩
  [at_ 0, at_ 1, at_ 2, at_ 3, at_ 4, at_ 5, at_ 6, at_ 7]

/-- The exclusive prefix sum of the counts up to destination `t`, as the kernel selects it. -/
def baseSel (t c0 c1 c2 c3 c4 c5 c6 : BitVec 32) : BitVec 32 :=
  let p1 := Scalar.addi 0#32 c0
  let p2 := Scalar.addi p1 c1
  let p3 := Scalar.addi p2 c2
  let p4 := Scalar.addi p3 c3
  let p5 := Scalar.addi p4 c4
  let p6 := Scalar.addi p5 c5
  let p7 := Scalar.addi p6 c6
  Scalar.select (Scalar.cmpi .eq t 7#32) p7 (Scalar.select (Scalar.cmpi .eq t 6#32) p6 (Scalar.select (Scalar.cmpi .eq t 5#32) p5
    (Scalar.select (Scalar.cmpi .eq t 4#32) p4 (Scalar.select (Scalar.cmpi .eq t 3#32) p3 (Scalar.select (Scalar.cmpi .eq t 2#32) p2
    (Scalar.select (Scalar.cmpi .eq t 1#32) p1 (Scalar.select (Scalar.cmpi .eq t 0#32) 0#32 0#32)))))))

/-- The `j`-th destination of device `d`, as the kernel computes it. -/
def destW (d : Dev nD) (j : ℕ) : BitVec 32 :=
  Scalar.remsi (Scalar.addi (Scalar.addi (Scalar.remsi (Scalar.divsi (Dev.word d) 1#32) 8#32) 1#32) (BitVec.ofNat 32 j)) 8#32

/-- The last valid row number of a window of `n` rows. -/
abbrev kmaxW (n : BitVec 32) : BitVec 32 := Scalar.maxsi (Scalar.subi n 1#32) 0#32

/-- Where trip `i` of window `j` stores its slab. -/
abbrev gStore (j : ℕ) (i : BitVec 32) : Fin 3 → ℕ := ![(Scalar.indexCast (Scalar.addi (BitVec.ofNat 32 (80 * j)) i)).toNat, 0, 0]

/-! ## Words -/

theorem toNat_lt_two (w : BitVec 32) (n : ℕ) (h : w.toNat < n) (hn : n ≤ 2 ^ 31) : w.toInt = w.toNat := by
  rw [BitVec.toInt_eq_toNat_cond]; split <;> omega

theorem isInt_word (w : BitVec 32) (h : w.toNat < 2 ^ 31) : Idealize.ShloMosaic.Affine.IsInt w w.toNat := by
  have := Idealize.ShloMosaic.Affine.word w
  rwa [toNat_lt_two w _ h le_rfl] at this

theorem toNat_of_isInt {w : BitVec 32} {n : ℕ} (h : Idealize.ShloMosaic.Affine.IsInt w (n : Int)) (hn : n < 2 ^ 31) : w.toNat = n := by
  unfold Idealize.ShloMosaic.Affine.IsInt at h
  rw [BitVec.toInt_eq_toNat_cond] at h
  have := w.isLt
  split at h <;> omega

theorem toNat_divsi8 (w : BitVec 32) (h : w.toNat < 2 ^ 31) : (Scalar.divsi w 8#32).toNat = w.toNat / 8 :=
  toNat_of_isInt (Idealize.ShloMosaic.Affine.divsi (isInt_word w h) (Idealize.ShloMosaic.Affine.ofNat 8 ⟨rfl, by decide⟩) ⟨by push_cast; rfl, by omega, by decide⟩) (by omega)

theorem remsi8 (w : BitVec 32) (h : w.toNat < 2 ^ 31) : Scalar.remsi w 8#32 = BitVec.ofNat 32 (w.toNat % 8) := by
  apply BitVec.eq_of_toNat_eq
  rw [toNat_of_isInt (n := w.toNat % 8) (Idealize.ShloMosaic.Affine.remsi (isInt_word w h) (Idealize.ShloMosaic.Affine.ofNat 8 ⟨rfl, by decide⟩) ⟨by push_cast; rfl, by omega, by decide⟩) (by omega)]
  rw [BitVec.toNat_ofNat]; omega

theorem rot_word : ∀ u m : Fin 8, (Scalar.remsi (Scalar.addi (Scalar.subi (BitVec.ofNat 32 u) (BitVec.ofNat 32 m)) 8#32) 8#32).toNat = (u.val + 8 - m.val) % 8 := by decide

theorem slabIn_of (n : ℕ) (w : BitVec 32) (h : w.toNat < 8 * n) (hn : 8 * n ≤ 2 ^ 31) : slabIn n w := by
  intro a
  match a with
  | ⟨0, _⟩ =>
    show (Scalar.divsi w 8#32).toNat + 1 ≤ n
    rw [toNat_divsi8 w (by omega)]; omega
  | ⟨1, _⟩ => exact Nat.le_of_eq rfl
  | ⟨2, _⟩ => exact Nat.le_of_eq rfl

/-- The kernel's column of row numbers. -/
abbrev v3₀ : IVec S8x1024 32 := iota .tc S8x1024 32 [0] iota_S8x1024_d0_w32

theorem sel_apply (u : ℕ) (hu : u < 8) (w : BitVec 32) (hw : w.toNat < 2 ^ 31) (x : Vec F S1x8x1024 .bf16) (acc : FVec F S8x1024 .bf16) (y : S8x1024.Idx) :
    sel v3₀ u w x acc y = if (y 0).val = u then x (ix3 0 ⟨w.toNat % 8, Nat.mod_lt _ (by decide)⟩ (y 1)) else acc y := by
  have hy : (y 0).val < 8 := (y 0).isLt
  have hc : cmpi .eq v3₀ (broadcast S8x1024 (BitVec.ofNat 32 u)) y = if (y 0).val = u then 1#1 else 0#1 := by
    show IntOp.cmpi .eq (BitVec.ofNat 32 (0 * 8 + (y 0).val)) (BitVec.ofNat 32 u) = _
    unfold IntOp.cmpi
    have : (BitVec.ofNat 32 (0 * 8 + (y 0).val) == BitVec.ofNat 32 u) = decide ((y 0).val = u) := by
      rw [Bool.eq_iff_iff, beq_iff_eq, decide_eq_true_iff]
      constructor
      · intro h
        have := congrArg BitVec.toNat h
        rw [BitVec.toNat_ofNat, BitVec.toNat_ofNat] at this; omega
      · intro h; rw [h]; congr 1; omega
    simp only [this]
    by_cases h : (y 0).val = u <;> simp [h]
  unfold sel
  show Scalar.select _ _ _ = _
  rw [hc]
  by_cases h : (y 0).val = u
  · rw [if_pos h, if_pos h]
    rw [remsi8 w hw]
    refine (if_pos (by decide)).trans ?_
    rw [dynamicRotate_apply 0 _ _ _ y (ix2 ⟨w.toNat % 8, Nat.mod_lt _ (by decide)⟩ (y 1)) (by
      intro b
      match b with
      | ⟨0, _⟩ =>
        have := rot_word ⟨u, hu⟩ ⟨w.toNat % 8, Nat.mod_lt _ (by decide)⟩
        simp only at this
        show w.toNat % 8 = if _ then ((y 0).val + 8 - _ % 8) % 8 else _
        rw [this]; exact (by omega : w.toNat % 8 = ((y 0).val + 8 - (u + 8 - w.toNat % 8) % 8 % 8) % 8).trans (if_pos rfl).symm
      | ⟨1, _⟩ => rfl)]
    exact (shapeCast_dropUnit_apply _ _ _ _).trans (congrArg x (by funext a; match a with | ⟨0, _⟩ => rfl | ⟨1, _⟩ => rfl | ⟨2, _⟩ => rfl))
  · rw [if_neg h, if_neg h]; rfl

/-! ## The walk -/

/-- The pipeline's rounds, and the exchange's, whose duties are numbered by the seven peers. -/
abbrev UU : Type := UR sig nD τ × Rounds.URounds (GSem nD τ sig) (Fin 7)

local notation "𝕄" => MT nD τ sig Unit (Elt F) ℕ UU ℕ

abbrev 𝒱₀ : Variants := Variants.none

/-- The word read at an address of a scalar table at contents `fi`. -/
def wordOf {si : Shape} (mi : Memref sig .tc .smem si .i32) (fi : mi.view.ty.Contents (Elt F)) (a : WordAt si) : BitVec 32 :=
  (mi.access a.r).read (Elt F) fi (Shape.Idx.first (a.one.symm ▸ Nat.one_pos))

/-- Row `w` of an array of slabs, at lane `l`. -/
def rowOf {α : Type} {n : ℕ} (X : (Slabs n).Idx → α) (w : ℕ) (h : w < 8 * n) (l : Fin 1024) : α :=
  X (ix3 ⟨w / 8, by omega⟩ ⟨w % 8, Nat.mod_lt _ (by decide)⟩ l)

theorem read_slab {n : ℕ} (ms : Memref sig .tc .vmem (Slabs n) .bf16) (fs : ms.view.ty.Contents (Elt F)) (w : BitVec 32) (hw : w.toNat < 8 * n) (hn : 8 * n ≤ 2 ^ 31)
    (h : slabIn n w) (l : Fin 1024) :
    (ms.access (Rect.unit (s := Slabs n) (slabOff w) S1x8x1024.size h)).read (Elt F) fs (ix3 (0 : Fin 1) ⟨w.toNat % 8, Nat.mod_lt _ (by decide)⟩ l)
      = rowOf (ms.view.read (Elt F) fs) w.toNat hw l := by
  show ms.view.read (Elt F) fs ((Rect.unit (s := Slabs n) (slabOff w) S1x8x1024.size h).emb _) = _
  unfold rowOf
  congr 1
  funext a
  match a with
  | ⟨0, _⟩ =>
    apply Fin.ext
    show (Scalar.divsi w 8#32).toNat + 1 * 0 = w.toNat / 8
    rw [toNat_divsi8 w (by omega)]; omega
  | ⟨1, _⟩ => exact Fin.ext (show 0 + 1 * (w.toNat % 8) = w.toNat % 8 by omega)
  | ⟨2, _⟩ => exact Fin.ext (show 0 + 1 * l.val = l.val by omega)

section Walk

variable {si : Shape} {n : ℕ} (mi : Memref sig .tc .smem si .i32) (ms : Memref sig .tc .vmem (Slabs n) .bf16)
  (dec : ∀ w, Decidable (slabIn n w)) (c : Dev nD) {q1 q2 : PosShare TreeShare}
  (fi : Buf (Elt F) (mi.view.loc (c : Thread nD τ))) (fs : Buf (Elt F) (ms.view.loc (c : Thread nD τ)))

/-- The tables a walk reads, each at a share. -/
abbrev src (q1 q2 : PosShare TreeShare) : sProp 𝕄 :=
  iprop((mi.view.loc (c : Thread nD τ) ↦[Finset.univ]{q1} fi) ∗ (ms.view.loc (c : Thread nD τ) ↦[Finset.univ]{q2} fs))

/-- What a walk does with the word it read. -/
def rowK {β : Type} (L : List (WordAt si)) (u : ℕ) (acc : FVec F S8x1024 .bf16) (k : FVec F S8x1024 .bf16 → Prog (TpuEff nD τ sig (Elt F) Λ₀ .tc) β)
    (w : BitVec 32) : Prog (TpuEff nD τ sig (Elt F) Λ₀ .tc) β :=
  .op (.assume (slabIn n w) (dec w)) fun h =>
    .op (.load ms (Rect.unit (s := Slabs n) (slabOff w) S1x8x1024.size h.down).toLoadRect (View.loadsAt_vmem h_S1x8x1024)) fun x =>
      rows mi ms dec v3₀ L (u + 1) (sel v3₀ u w x acc) >>= k

theorem rows_cons {β : Type} (a : WordAt si) (L : List (WordAt si)) (u : ℕ) (acc : FVec F S8x1024 .bf16)
    (k : FVec F S8x1024 .bf16 → Prog (TpuEff nD τ sig (Elt F) Λ₀ .tc) β) :
    rows mi ms dec v3₀ (a :: L) u acc >>= k
      = .op (.load mi a.r.toLoadRect (View.loadsAt_rect (View.loads_smem_one rfl a.one)))
          fun f => rowK mi ms dec L u acc k (f (Shape.Idx.first (a.one.symm ▸ Nat.one_pos))) := rfl

/-- The walk: after it the slab holds, at every row it passed, the row of the source the word names. -/
theorem wp_rows (hn : 8 * n ≤ 2 ^ 31) (W : ℕ → BitVec 32) (R : ℕ → Fin 1024 → F .bf16)
    (hR : ∀ r < 8, ∃ h : (W r).toNat < 8 * n, ∀ l, rowOf (ms.view.read (Elt F) fs) (W r).toNat h l = R r l) :
    ∀ (L : List (WordAt si)) (u : ℕ) (acc : FVec F S8x1024 .bf16), u + L.length ≤ 8 →
      (∀ i (hi : i < L.length), wordOf mi fi L[i] = W (u + i)) →
      (∀ y : S8x1024.Idx, (y 0).val < u → acc y = R (y 0).val (y 1)) →
      ∀ {β : Type} (k : FVec F S8x1024 .bf16 → Prog (TpuEff nD τ sig (Elt F) Λ₀ .tc) β) (Q : β → sProp 𝕄),
      iprop(src mi ms c fi fs q1 q2
          ∗ (∀ acc' : FVec F S8x1024 .bf16, ⌜∀ y : S8x1024.Idx, (y 0).val < u + L.length → acc' y = R (y 0).val (y 1)⌝ -∗ src mi ms c fi fs q1 q2
              -∗ wp frame (wpE (defs₀ (F := F)) 𝒱₀ (c : Thread nD τ) none) Set.univ (k acc') Q))
        ⊢ wp frame (wpE (defs₀ (F := F)) 𝒱₀ (c : Thread nD τ) none) Set.univ (rows mi ms dec v3₀ L u acc >>= k) Q := by
  intro L
  induction L with
  | nil =>
    intro u acc _ _ hacc β k Q
    show _ ⊢ wp frame _ Set.univ (k acc) Q
    iintro ⟨Hs, Hk⟩
    iapply Hk $$ %acc %(fun y hy => hacc y hy)
    iexact Hs
  | cons a L ih =>
    intro u acc hlen hL hacc β k Q
    have hu : u < 8 := by simp only [List.length_cons] at hlen; omega
    have h0 : wordOf mi fi a = W u := hL 0 (Nat.succ_pos _)
    obtain ⟨hw, hRu⟩ := hR u hu
    have hin : slabIn n (W u) := slabIn_of n _ hw hn
    rw [rows_cons]
    iintro ⟨⟨H1, H2⟩, Hk⟩
    iapply (wp_load_rect 𝒱₀ (c : Thread nD τ) none Set.univ (m := mi) (r := a.r) (q := q1) (f := fi)
      (k := fun f => rowK mi ms dec L u acc k (f (Shape.Idx.first (a.one.symm ▸ Nat.one_pos)))) (Finset.subset_univ _)) $$ H1
    iintro H1
    have e0 : (mi.access a.r).read (Elt F) fi (Shape.Idx.first (a.one.symm ▸ Nat.one_pos)) = W u := h0
    rw [e0]
    unfold rowK
    iapply (wp_assume 𝒱₀ (c : Thread nD τ) none Set.univ hin)
    iapply (wp_load_rect 𝒱₀ (c : Thread nD τ) none Set.univ (m := ms) (r := Rect.unit (s := Slabs n) (slabOff (W u)) S1x8x1024.size hin) (q := q2) (f := fs)
      (k := fun x => rows mi ms dec v3₀ L (u + 1) (sel v3₀ u (W u) x acc) >>= k) (Finset.subset_univ _)) $$ H2
    iintro H2
    iapply (ih (u + 1) _ (by simp only [List.length_cons] at hlen; omega)
      (fun i hi => by
        have := hL (i + 1) (by simpa using hi)
        rw [List.getElem_cons_succ] at this
        rw [this]; congr 1; omega)
      (fun y hy => by
        rw [sel_apply u hu _ (by omega)]
        by_cases hy' : (y 0).val = u
        · exact (if_pos hy').trans ((read_slab ms fs (W u) hw hn hin (y 1)).trans ((hRu (y 1)).trans (by rw [hy'])))
        · rw [if_neg hy', hacc y (by omega)]) k Q)
    isplitl [H1 H2]
    · isplitl [H1]
      · iexact H1
      · iexact H2
    iintro %acc' %hacc'
    iapply Hk $$ %acc' %(fun y hy => hacc' y (by simp only [List.length_cons] at hy; omega))

/-! ## The loop -/

variable {m : ℕ} (md : Memref sig .tc .vmem (Slabs m) .bf16)

/-- The destination holds the wanted values in its first `b` slabs. -/
def below (V : (Slabs m).Idx → F .bf16) (b : ℕ) : sProp 𝕄 :=
  iprop(∃ fd : Buf (Elt F) (md.view.loc (c : Thread nD τ)), (md.view.loc (c : Thread nD τ) ↦[Finset.univ]{fullShare} fd)
    ∗ ⌜∀ z : (Slabs m).Idx, (z 0).val < b → md.view.read (Elt F) fd z = V z⌝)

/-- The store of one slab: the slab at its place, the rest as before. -/
theorem read_store (fd : md.view.ty.Contents (Elt F)) (b : ℕ) (so : Fin 3 → ℕ) (hso : ∀ a, so a + S1x8x1024.size a ≤ (Slabs m).size a)
    (h0 : so 0 = b) (h1 : so 1 = 0) (h2 : so 2 = 0) (acc : FVec F S8x1024 .bf16) (z : (Slabs m).Idx) :
    md.view.read (Elt F) ((md.access (Rect.unit (s := Slabs m) so S1x8x1024.size hso)).write (Elt F) fd
        (shapeCast S1x8x1024 acc shapeCasts_S8x1024_S1x8x1024) Finset.univ) z
      = if (z 0).val = b then acc (ix2 (z 1) (z 2)) else md.view.read (Elt F) fd z := by
  by_cases hz : (z 0).val = b
  · rw [if_pos hz]
    have hzz : z = (Rect.unit (s := Slabs m) so S1x8x1024.size hso).emb (ix3 (0 : Fin 1) (z 1) (z 2)) := by
      funext a
      match a with
      | ⟨0, _⟩ => exact Fin.ext (show (z 0).val = so 0 + 1 * 0 by omega)
      | ⟨1, _⟩ => exact Fin.ext (show (z 1).val = so 1 + 1 * (z 1).val by omega)
      | ⟨2, _⟩ => exact Fin.ext (show (z 2).val = so 2 + 1 * (z 2).val by omega)
    refine (congrArg _ hzz).trans ((View.read_slice_write_emb (v := md.view) _ fd _ (Finset.mem_univ _)).trans ?_)
    refine (shapeCast_addUnit_apply _ _ _ _).trans (congrArg acc ?_)
    funext a
    match a with
    | ⟨0, _⟩ => rfl
    | ⟨1, _⟩ => rfl
  · rw [if_neg hz]
    refine View.read_slice_write_of_not_mem (v := md.view) _ fd _ _ ?_
    intro hm
    obtain ⟨x, -, hx⟩ := Finset.mem_map.mp hm
    apply hz
    rw [← hx]
    have : (x 0).val < 1 := (x 0).isLt
    show so 0 + 1 * (x 0).val = b
    omega

/-- One trip: the slab at its place. -/
theorem wp_trip (hn : 8 * n ≤ 2 ^ 31) (V : (Slabs m).Idx → F .bf16) (b : ℕ) (hb : b < m) (W : ℕ → BitVec 32) (L : List (WordAt si)) (hlen : L.length = 8)
    (hR : ∀ r (hr : r < 8), ∃ h : (W r).toNat < 8 * n, ∀ l, rowOf (ms.view.read (Elt F) fs) (W r).toNat h l = V (ix3 ⟨b, hb⟩ ⟨r, hr⟩ l))
    (hL : ∀ i (hi : i < L.length), wordOf mi fi L[i] = W i)
    (so : Fin 3 → ℕ) (hso : ∀ a, so a + S1x8x1024.size a ≤ (Slabs m).size a) (h0 : so 0 = b) (h1 : so 1 = 0) (h2 : so 2 = 0)
    (hst : (md.access (Rect.unit (s := Slabs m) so S1x8x1024.size hso)).Stores Finset.univ) :
    iprop(src mi ms c fi fs q1 q2 ∗ below c md V b)
      ⊢ wp frame (wpE (defs₀ (F := F)) 𝒱₀ (c : Thread nD τ) none) Set.univ (trip mi ms md dec v3₀ L so hso hst)
          (fun _ => iprop(src mi ms c fi fs q1 q2 ∗ below c md V (b + 1))) := by
  have e : trip (F := F) mi ms md dec v3₀ L so hso hst = rows mi ms dec v3₀ L 0 (broadcast S8x1024 (Scalar.ofBits .bf16 0x0000#16)) >>= fun acc =>
      .op (.load md (Rect.unit (s := Slabs m) so S1x8x1024.size hso).toLoadRect (View.loadsAt_vmem h_S1x8x1024)) fun _ =>
      .op (.store md (Rect.unit (s := Slabs m) so S1x8x1024.size hso) (shapeCast S1x8x1024 acc shapeCasts_S8x1024_S1x8x1024) Finset.univ hst (.inl rfl)) fun _ => .ret ⟨⟩ := rfl
  rw [e]
  iintro ⟨Hs, Hb⟩
  iapply (wp_rows mi ms dec c fi fs hn W (fun r l => if hr : r < 8 then V (ix3 ⟨b, hb⟩ ⟨r, hr⟩ l) else V (ix3 ⟨b, hb⟩ 0 l))
    (fun r hr => by obtain ⟨h, h'⟩ := hR r hr; exact ⟨h, fun l => by rw [h' l, dif_pos hr]⟩) L 0 _ (by omega)
    (fun i hi => by rw [hL i hi, Nat.zero_add]) (fun y hy => absurd hy (Nat.not_lt_zero _)))
  isplitl [Hs]
  · iexact Hs
  iintro %acc %hacc Hs
  unfold below
  icases Hb with ⟨%fd, Hd, %hfd⟩
  iapply (wp_load_rect 𝒱₀ (c : Thread nD τ) none Set.univ (m := md) (r := Rect.unit (s := Slabs m) so S1x8x1024.size hso) (q := fullShare) (f := fd)
      (k := fun _ => .op (.store md (Rect.unit (s := Slabs m) so S1x8x1024.size hso) (shapeCast S1x8x1024 acc shapeCasts_S8x1024_S1x8x1024) Finset.univ hst (.inl rfl)) fun _ => .ret ⟨⟩)
      (Finset.subset_univ _)) $$ Hd
  iintro Hd
  iapply (wp_store 𝒱₀ (c : Thread nD τ) none Set.univ (m := md) (r := Rect.unit (s := Slabs m) so S1x8x1024.size hso) (f := fd) (k := fun _ => .ret ⟨⟩) (Finset.subset_univ _)) $$ Hd
  iintro Hd
  rw [wp_ret]; imodintro
  isplitl [Hs]
  · iexact Hs
  iexists _
  isplitl [Hd]
  · iexact Hd
  ipureintro
  intro z hz
  rw [read_store md fd b so hso h0 h1 h2]
  by_cases hzb : (z 0).val = b
  · rw [if_pos hzb]
    have h8 : (z 1).val < 8 := (z 1).isLt
    refine (hacc (ix2 (z 1) (z 2)) (by rw [hlen]; exact (by omega : (z 1).val < 0 + 8))).trans ?_
    refine (dif_pos h8).trans (congrArg V ?_)
    funext a
    match a with
    | ⟨0, _⟩ => exact Fin.ext hzb.symm
    | ⟨1, _⟩ => rfl
    | ⟨2, _⟩ => rfl
  · rw [if_neg hzb]; exact hfd z (by omega)

/-- The loop: from the wanted values below slab `b0` to the wanted values below the slab the last trip stored. -/
theorem wp_trips (lb ub st : BitVec 32) (hok : Scf.OK lb ub st) (body : Fin (Scf.trips lb ub st) → Unit → Prog (TpuEff nD τ sig (Elt F) Λ₀ .tc) Unit)
    (hn : 8 * n ≤ 2 ^ 31) (V : (Slabs m).Idx → F .bf16) (b0 : ℕ) (hb0 : b0 + Scf.trips lb ub st ≤ m)
    (hbody : ∀ k : Fin (Scf.trips lb ub st), ∃ L so hso hst, body k ⟨⟩ = trip mi ms md dec v3₀ L so hso hst
      ∧ so 0 = b0 + k.val ∧ so 1 = 0 ∧ so 2 = 0 ∧ ∃ hlen : L.length = 8, ∃ W : ℕ → BitVec 32, (∀ i (hi : i < L.length), wordOf mi fi L[i] = W i)
      ∧ ∀ r (hr : r < 8), ∃ h : (W r).toNat < 8 * n, ∀ l, rowOf (ms.view.read (Elt F) fs) (W r).toNat h l = V (ix3 ⟨b0 + k.val, by omega⟩ ⟨r, hr⟩ l))
    {β : Type} (kk : Unit → Prog (TpuEff nD τ sig (Elt F) Λ₀ .tc) β) (Q : β → sProp 𝕄) :
    iprop(src mi ms c fi fs q1 q2 ∗ below c md V b0)
      ⊢ iprop((src mi ms c fi fs q1 q2 -∗ below c md V (b0 + Scf.trips lb ub st) -∗ wp frame (wpE (defs₀ (F := F)) 𝒱₀ (c : Thread nD τ) none) Set.univ (kk ⟨⟩) Q)
        -∗ wp frame (wpE (defs₀ (F := F)) 𝒱₀ (c : Thread nD τ) none) Set.univ (Scf.for lb ub st hok ⟨⟩ body >>= kk) Q) := by
  iintro H Hk
  iapply (Scf.wp_for_bind frame (wpE (defs₀ (F := F)) 𝒱₀ (c : Thread nD τ) none) Set.univ lb ub st hok ⟨⟩ body
    (fun k _ => iprop(src mi ms c fi fs q1 q2 ∗ below c md V (b0 + k))) (fun k acc => by
      obtain ⟨L, so, hso, hst, e, h0, h1, h2, hlen, W, hL, hR⟩ := hbody k
      obtain rfl : acc = ⟨⟩ := rfl
      rw [e]
      exact wp_trip mi ms dec c fi fs md hn V (b0 + k.val) (by omega) W L hlen hR hL so hso h0 h1 h2 hst)) $$ H
  iintro %acc ⟨Hs, Hb⟩
  iapply Hk $$ Hs Hb

end Walk

end Cert.KernelIdeal.Own

end
-- ==== Proof.Base.lean ====
/-
  The exchange's protocol: which device a copy goes to, the cells, what each cell's round hands over, and the steps of a
  device's run as rules over it.
-/
module

public import proofs.«01_k».proof.Proof.Rows
public import proofs.«01_k».proof.Proof.Gen.KernelIdeal.Launch
public import Idealize.ShloMosaic.Lib.Memref
public import Idealize.ShloMosaic.Lib.Transfers
public import Idealize.ShloMosaic.Lib.SparseCore.ProtocolKit

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo)
open Cert.KernelIdeal Cert.KernelIdeal.Gen

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) (Fin 7)) (MT nD τ sig Unit (Elt F) ℕ UU ℕ) := embR

/-! ## Peers -/

/-- The device a device's `j`-th signal and copies go to. -/
def peer (c : Dev nD) (j : Fin 7) : Dev nD := ⟨(c.val + j.val + 1) % 8, Nat.mod_lt _ (by decide)⟩

theorem peer_rev : ∀ (c : Dev nD) (j : Fin 7), peer (peer c j) (Fin.rev j) = c := by decide
theorem peer_rev' : ∀ (c : Dev nD) (j : Fin 7), peer (peer c (Fin.rev j)) j = c := by decide

/-- Going to the `j`-th peer permutes the devices. -/
def ring (j : Fin 7) : Dev nD ≃ Dev nD := ⟨fun c => peer c j, fun c => peer c (Fin.rev j), fun c => peer_rev c j, fun c => peer_rev' c j⟩

/-- The device whose window `j` lands in window `j` here; the last window is the own one. -/
def srcOf (c : Dev nD) (j : ℕ) : Dev nD := ⟨(c.val + 7 + 8 * j - j) % 8, Nat.mod_lt _ (by decide)⟩

theorem srcOf_rev : ∀ (c : Dev nD) (j : Fin 7), peer c (Fin.rev j) = srcOf c j.val := by decide
theorem srcOf_peer : ∀ (c : Dev nD) (j : Fin 7), srcOf (peer c j) j.val = c := by decide
theorem srcOf_own : ∀ (c : Dev nD), srcOf c 7 = c := by decide

/-! ## Buffers -/

abbrev xM : Memref sig .tc .vmem S512x8x1024 .bf16 := Memref.whole cc0_stg0_0
abbrev ordM : Memref sig .tc .smem S4096 .i32 := Memref.whole cc0_stg1_0
abbrev cntM : Memref sig .tc .vmem S1x128 .i32 := Memref.whole cc0_stg2_0
abbrev outM : Memref sig .tc .vmem S512x8x1024 .bf16 := Memref.whole cc0_stg3_0
abbrev sendM : Memref sig .tc .vmem S640x8x1024 .bf16 := Memref.whole cc0_scratch0
abbrev recvM : Memref sig .tc .vmem S640x8x1024 .bf16 := Memref.whole cc0_scratch1
abbrev matM : Memref sig .tc .vmem S7x128 .i32 := Memref.whole cc0_scratch2
abbrev idxM : Memref sig .tc .vmem S32x128 .i32 := Memref.whole cc0_scratch3
abbrev cntsM : Memref sig .tc .smem S8x128 .i32 := Memref.whole cc0_scratch4
abbrev idxsM : Memref sig .tc .smem S32x128 .i32 := Memref.whole cc0_scratch5

theorem matR_in (i : Fin 7) : ∀ a, (![i.val, 0] : Fin 2 → ℕ) a + S1x128.size a ≤ S7x128.size a
  | ⟨0, _⟩ => i.isLt
  | ⟨1, _⟩ => Nat.le_of_eq rfl
/-- Row `i` of the count matrix. -/
abbrev matR (i : Fin 7) : Rect S7x128 := Rect.unit (s := S7x128) ![i.val, 0] S1x128.size (matR_in i)
abbrev matRow (i : Fin 7) : Memref sig .tc .vmem S1x128 .i32 := matM.slice (matR i) (fun _ => rfl)

theorem winR_in (j : Fin 8) : ∀ a, (![80 * j.val, 0, 0] : Fin 3 → ℕ) a + S80x8x1024.size a ≤ S640x8x1024.size a
  | ⟨0, _⟩ => (by omega : 80 * j.val + 80 ≤ 640)
  | ⟨1, _⟩ => Nat.le_of_eq rfl
  | ⟨2, _⟩ => Nat.le_of_eq rfl
/-- Window `j` of a buffer of eight windows. -/
abbrev winR (j : Fin 8) : Rect S640x8x1024 := Rect.unit (s := S640x8x1024) ![80 * j.val, 0, 0] S80x8x1024.size (winR_in j)
abbrev sendW (j : Fin 8) : Memref sig .tc .vmem S80x8x1024 .bf16 := sendM.slice (winR j) (fun _ => rfl)
abbrev recvW (j : Fin 8) : Memref sig .tc .vmem S80x8x1024 .bf16 := recvM.slice (winR j) (fun _ => rfl)

/-- The last row of the count table, and the seven before it. -/
abbrev ownR : Rect S8x128 := Rect.unit (s := S8x128) ![7, 0] S1x128.size inb_S8x128_S1x128_7_0
abbrev restR : Rect S8x128 := Rect.unit (s := S8x128) ![0, 0] S7x128.size inb_S8x128_S7x128_0_0
abbrev cntsOwn : Memref sig .tc .smem S1x128 .i32 := cntsM.slice ownR (fun _ => rfl)
abbrev cntsRest : Memref sig .tc .smem S7x128 .i32 := cntsM.slice restR (fun _ => rfl)

/-! ## Cells -/

/-- The kernel's own semaphores: four families of seven (data sent, data landed, counts sent, counts landed), then those of
    the local copies (the own window and the index table; the own counts; the count matrix). -/
abbrev Sc : Type := (Fin 4 × Fin 7) ⊕ Fin 3

abbrev barS : Sem sig := (SemArray.scalar (sig.barrier 0 rfl) : SemArray (Sem sig) S_).sem

def scS : Sc → DmaSem sig
  | .inl (f, i) => ⟨4 + 7 * f.val + i.val, by show _ < 35; omega⟩
  | .inr j => ⟨32 + j.val, by show _ < 35; omega⟩

def scOf (k : DmaSem sig) : Option Sc :=
  if k.val < 4 then none
  else if h : k.val < 32 then some (.inl (⟨(k.val - 4) / 7, by omega⟩, ⟨(k.val - 4) % 7, Nat.mod_lt _ (by decide)⟩))
  else some (.inr ⟨(k.val - 32) % 3, Nat.mod_lt _ (by decide)⟩)

theorem scOf_scS : ∀ s : Sc, scOf (scS s) = some s := by decide

theorem scS_inj : Function.Injective scS := fun a b h => Option.some.inj ((scOf_scS a).symm.trans ((congrArg scOf h).trans (scOf_scS b)))

abbrev dsS (i : Fin 7) : Sc := .inl (0, i)
abbrev drS (i : Fin 7) : Sc := .inl (1, i)
abbrev csS (i : Fin 7) : Sc := .inl (2, i)
abbrev crS (i : Fin 7) : Sc := .inl (3, i)
abbrev locS : Sc := .inr 0
abbrev rowS : Sc := .inr 1
abbrev matS : Sc := .inr 2

abbrev barCell (c : Dev nD) : GSem nD τ sig := ((c : Thread nD τ), .reg barS)
abbrev scCell (c : Dev nD) (s : Sc) : GSem nD τ sig := ((c : Thread nD τ), .dma (scS s))

/-- Every cell of the exchange. -/
def cell (p : Dev nD × Option Sc) : GSem nD τ sig :=
  match p.2 with
  | none => barCell p.1
  | some s => scCell p.1 s

/-! ## Contents -/

/-- What the devices bring to the exchange: their rows, the order of their rows, and how many rows go to each device. -/
structure Inp (F : FTy → Type) where
  x : Dev nD → S512x8x1024.Idx → Elt F .bf16
  ord : Dev nD → S4096.Idx → BitVec 32
  cnt : Dev nD → S1x128.Idx → BitVec 32

variable (I : Inp F)

/-- How many rows device `s` sends to device `t`. -/
def nOf (s : Dev nD) (t : ℕ) (ht : t < 8) : ℕ := (I.cnt s (ix2 0 ⟨t, by omega⟩)).toNat
/-- How many rows device `s` sends to the devices before `t`. -/
def preOf (s : Dev nD) (t : ℕ) : ℕ := ∑ u : Fin 8, if u.val < t then nOf I s u.val u.isLt else 0
/-- How many rows the devices before `s` send to device `t`. -/
def offOf (t : Dev nD) (s : ℕ) : ℕ := ∑ u : Fin 8, if u.val < s then nOf I ⟨u.val, u.isLt⟩ t.val t.isLt else 0

/-- The number of the row at place `k` of device `s`'s window for device `t`. -/
def rowN (s : Dev nD) (t : Fin 8) (k : ℕ) : ℕ :=
  (I.ord s (ix1 ⟨min (preOf I s t.val + min k (nOf I s t.val t.isLt - 1)) 4095, by omega⟩)).toNat

/-- Row `w` of the slabs of a device, for any number. -/
def xRow (s : Dev nD) (w : ℕ) (l : Fin 1024) : Elt F .bf16 :=
  I.x s (ix3 ⟨w / 8 % 512, Nat.mod_lt _ (by decide)⟩ ⟨w % 8, Nat.mod_lt _ (by decide)⟩ l)

/-- The destination of window `j`. -/
def destN (c : Dev nD) (j : ℕ) : Fin 8 := ⟨(c.val + 1 + j) % 8, Nat.mod_lt _ (by decide)⟩

/-- The filled send buffer. -/
def sendV (c : Dev nD) : S640x8x1024.Idx → Elt F .bf16 := fun z =>
  xRow I c (rowN I c (destN c ((z 0).val / 80)) ((z 0).val % 80 * 8 + (z 1).val)) (z 2)
/-- The receive buffer after every window has landed. -/
def recvV (c : Dev nD) : S640x8x1024.Idx → Elt F .bf16 := fun z => sendV I (srcOf c ((z 0).val / 80)) z
/-- The counts of every source, in the order of the windows. -/
def cntsV (c : Dev nD) : S8x128.Idx → BitVec 32 := fun y => I.cnt (srcOf c (y 0).val) (ix2 0 (y 1))
def matV (c : Dev nD) : S7x128.Idx → BitVec 32 := fun y => I.cnt (srcOf c (y 0).val) (ix2 0 (y 1))

/-- The source whose rows hold place `i` of device `c`'s result. -/
def segN (c : Dev nD) (i : ℕ) : ℕ := ∑ s : Fin 7, if offOf I c (s.val + 1) ≤ i then 1 else 0
/-- The row of the receive buffer at place `i` of the result. -/
def idxN (c : Dev nD) (i : ℕ) : ℕ := (c.val + 7 + 7 * segN I c i) % 8 * 640 + (i - offOf I c (segN I c i))
def idxV (c : Dev nD) : S32x128.Idx → BitVec 32 := fun y => BitVec.ofNat 32 (idxN I c ((y 0).val * 128 + (y 1).val))
/-- The result. -/
def outV (c : Dev nD) : S512x8x1024.Idx → Elt F .bf16 := fun z =>
  recvV I c (ix3 ⟨idxN I c ((z 0).val * 8 + (z 1).val) / 8 % 640, Nat.mod_lt _ (by decide)⟩ ⟨idxN I c ((z 0).val * 8 + (z 1).val) % 8, Nat.mod_lt _ (by decide)⟩ (z 2))

/-- What the exchange needs of what the devices bring. -/
structure Good : Prop where
  ord_lt : ∀ c y, (I.ord c y).toNat < 4096
  cnt_le : ∀ s t ht, nOf I s t ht ≤ 640
  row_sum : ∀ s, preOf I s 8 = 4096
  col_fit : ∀ t : Dev nD, 640 * t.val ≤ offOf I t 7 + 1024

/-! ## What a round hands over -/

/-- A memref at contents not named. -/
def any {sp : Space} {sh : Shape} {e : EltTy} (c : Dev nD) (m : Memref sig .tc sp sh e) : sProp 𝕄 :=
  iprop(∃ f, (m.view.loc (c : Thread nD τ) ↦[m.view.set]{fullShare} f))

instance any_storable {sp : Space} {sh : Shape} {e : EltTy} (c : Dev nD) (m : Memref sig .tc sp sh e) :
    BI.Storable (upEmb : UEmb _ 𝕄) (any (F := F) c m) := by unfold any; infer_instance

theorem any_of_owns {sp : Space} {sh : Shape} {e : EltTy} (c : Dev nD) (m : Memref sig .tc sp sh e) (X : sh.Idx → Elt F e) :
    (owns (c : Thread nD τ) m fullShare X : sProp 𝕄) ⊢ any c m := by
  unfold owns any; iintro ⟨%f, -, H⟩; iexists f; iexact H

/-- The share of the counts the `i`-th reader holds. -/
abbrev tokQ (i : ℕ) : PosShare TreeShare := Transfers.shareTokN fullShare i

/-- Paid to `c`'s barrier by its `i`-th peer: the row and the window there that `c`'s copies fill. -/
def barPay (c : Dev nD) (i : Fin 7) : sProp 𝕄 :=
  iprop(any (peer c i) (matRow i) ∗ any (peer c i) (recvW i.castSucc)
    ∗ reached ER (scCell (peer c i) (crS i)) 0 ∗ reached ER (scCell (peer c i) (drS i)) 0)

/-- Paid to the other cells of `c`. -/
def scPay (c : Dev nD) : Sc → ℕ → sProp 𝕄
  | .inl (f, i), _ =>
    (![owns (c : Thread nD τ) (sendW i.castSucc) fullShare (fun y => sendV I c ((winR i.castSucc).emb y)),
       owns (c : Thread nD τ) (recvW i.castSucc) fullShare (fun y => recvV I c ((winR i.castSucc).emb y)),
       owns (c : Thread nD τ) cntM (tokQ i.val) (I.cnt c),
       owns (c : Thread nD τ) (matRow i) fullShare (fun y => matV I c ((matR i).emb y))] : Fin 4 → sProp 𝕄) f
  | .inr j, r =>
    (![if r = 0 then iprop(owns (c : Thread nD τ) (recvW 7) fullShare (fun y => recvV I c ((winR 7).emb y))
          ∗ owns (c : Thread nD τ) (sendW 7) fullShare (fun y => sendV I c ((winR 7).emb y)))
        else iprop(owns (c : Thread nD τ) idxsM fullShare (idxV I c) ∗ owns (c : Thread nD τ) idxM fullShare (idxV I c)),
       iprop(owns (c : Thread nD τ) cntsOwn fullShare (I.cnt c) ∗ owns (c : Thread nD τ) cntM (tokQ 7) (I.cnt c)),
       iprop(owns (c : Thread nD τ) cntsRest fullShare (matV I c) ∗ owns (c : Thread nD τ) matM fullShare (matV I c))] : Fin 3 → sProp 𝕄) j

instance scPay_storable (c : Dev nD) (s : Sc) (r : ℕ) : BI.Storable (upEmb : UEmb _ 𝕄) (scPay I c s r) := by
  match s with
  | .inl (⟨0, _⟩, i) => exact owns_storable _ _ _ _
  | .inl (⟨1, _⟩, i) => exact owns_storable _ _ _ _
  | .inl (⟨2, _⟩, i) => exact owns_storable _ _ _ _
  | .inl (⟨3, _⟩, i) => exact owns_storable _ _ _ _
  | .inr ⟨0, _⟩ =>
    show BI.Storable (upEmb : UEmb _ 𝕄) (if r = 0 then iprop(owns _ _ _ _ ∗ owns _ _ _ _) else iprop(owns _ _ _ _ ∗ owns _ _ _ _))
    split <;> infer_instance
  | .inr ⟨1, _⟩ => show BI.Storable (upEmb : UEmb _ 𝕄) iprop(owns _ _ _ _ ∗ owns _ _ _ _); infer_instance
  | .inr ⟨2, _⟩ => show BI.Storable (upEmb : UEmb _ 𝕄) iprop(owns _ _ _ _ ∗ owns _ _ _ _); infer_instance

instance barPay_storable (c : Dev nD) (i : Fin 7) : BI.Storable (upEmb : UEmb _ 𝕄) (barPay (F := F) c i) := by
  unfold barPay; infer_instance

/-- How much each round of a cell counts. -/
def scAmt : Sc → ℕ → ℕ
  | .inl (f, _), _ => (![(sendW 0).view.dmaCredit, (sendW 0).view.dmaCredit, cntM.view.dmaCredit, cntM.view.dmaCredit] : Fin 4 → ℕ) f
  | .inr j, r => (![if r = 0 then (sendW 0).view.dmaCredit else idxsM.view.dmaCredit, cntsOwn.view.dmaCredit, cntsRest.view.dmaCredit] : Fin 3 → ℕ) j

theorem scAmt_pos (s : Sc) (r : ℕ) : 0 < scAmt s r := by
  match s with
  | .inl (⟨0, _⟩, i) => exact View.dmaCredit_pos _ (by decide)
  | .inl (⟨1, _⟩, i) => exact View.dmaCredit_pos _ (by decide)
  | .inl (⟨2, _⟩, i) => exact View.dmaCredit_pos _ (by decide)
  | .inl (⟨3, _⟩, i) => exact View.dmaCredit_pos _ (by decide)
  | .inr ⟨0, _⟩ =>
    show 0 < if r = 0 then _ else _
    split <;> exact View.dmaCredit_pos _ (by decide)
  | .inr ⟨1, _⟩ => exact View.dmaCredit_pos _ (by decide)
  | .inr ⟨2, _⟩ => exact View.dmaCredit_pos _ (by decide)

/-- How many rounds a cell has. -/
def scLen : Sc → ℕ
  | .inl _ => 1
  | .inr j => (![2, 1, 1] : Fin 3 → ℕ) j

def Rd : Rounds.Schedule (GSem nD τ sig) (Fin 7) 𝕄 where
  duties g r :=
    if g.1.2 = .tc then
      match g.2 with
      | .reg _ => if r = 0 then Finset.univ else ∅
      | .dma k => match scOf k with
        | none => ∅
        | some s => if r < scLen s then {0} else ∅
    else ∅
  unitless _ := False
  amount g r _ := match g.2 with
    | .reg _ => 1
    | .dma k => match scOf k with
      | none => 1
      | some s => scAmt s r
  payload g r d := match g.2 with
    | .reg _ => barPay g.1.1 d
    | .dma k => match scOf k with
      | none => iprop(emp)
      | some s => scPay I g.1.1 s r
  amount_pos g r d _ := by
    split
    · exact Nat.one_pos
    · split
      · exact Nat.one_pos
      · exact scAmt_pos _ _

instance Rd_payload_storable (g : GSem nD τ sig) (r : ℕ) (d : Fin 7) : BI.Storable (upEmb : UEmb _ 𝕄) ((Rd I).payload g r d) := by
  dsimp only [Rd]
  split
  · infer_instance
  · split <;> infer_instance

section Tables

variable (c : Dev nD) (s : Sc) (r : ℕ) (d : Fin 7)

theorem duties_bar : (Rd I).duties (barCell c) 0 = Finset.univ := rfl
theorem duties_sc (h : r < scLen s) : (Rd I).duties (scCell c s) r = {0} := by
  dsimp only [Rd]; rw [scOf_scS]; exact (if_pos rfl).trans (if_pos h)
theorem duties_sc_later (h : scLen s ≤ r) : (Rd I).duties (scCell c s) r = ∅ := by
  dsimp only [Rd]; rw [scOf_scS]; exact (if_pos rfl).trans (if_neg (Nat.not_lt.mpr h))
theorem duties_bar_later (h : 1 ≤ r) : (Rd I).duties (barCell c) r = ∅ :=
  by dsimp only [Rd]; exact (if_pos rfl).trans (if_neg (by omega))
theorem amount_bar : (Rd I).amount (barCell c) 0 d = 1 := rfl
theorem amount_sc : (Rd I).amount (scCell c s) r d = scAmt s r := by dsimp only [Rd]; rw [scOf_scS]
theorem payload_bar : (Rd I).payload (barCell c) 0 d = barPay c d := rfl
theorem payload_sc : (Rd I).payload (scCell c s) r d = scPay I c s r := by dsimp only [Rd]; rw [scOf_scS]
theorem expect_bar : (Rd I).expect (barCell c) 0 = 7 := by
  unfold Schedule.expect Schedule.amountOf; rw [duties_bar]; rfl
theorem expect_sc (h : r < scLen s) : (Rd I).expect (scCell c s) r = scAmt s r := by
  unfold Schedule.expect Schedule.amountOf; rw [duties_sc I c s r h, Finset.sum_singleton, amount_sc]
theorem rest_bar : bigSep ((Rd I).duties (barCell c) 0 \ ∅) (fun d => (Rd I).payload (barCell c) 0 d) = bigSep Finset.univ (fun d => barPay (F := F) c d) := by
  rw [Finset.sdiff_empty]; rfl
theorem rest_sc (h : r < scLen s) : bigSep ((Rd I).duties (scCell c s) r \ ∅) (fun d => (Rd I).payload (scCell c s) r d) = scPay I c s r := by
  rw [Finset.sdiff_empty, duties_sc I c s r h, bigSep_singleton, payload_sc]

end Tables

/-! ## Debts and levels -/

/-- The amounts of a count copy and of a data copy. -/
abbrev Nc : ℕ := cntM.view.dmaCredit
abbrev Nd : ℕ := (sendW 0).view.dmaCredit

/-- What is owed from the `k`-th peer on: the counts, the windows, the barrier units. -/
def Oc (c : Dev nD) (k : ℕ) : CellTallies nD τ sig Unit := ∑ i ∈ finFrom 7 k, tallyAt (scCell (peer c i) (crS i)) () Nc
def Od (c : Dev nD) (k : ℕ) : CellTallies nD τ sig Unit := ∑ i ∈ finFrom 7 k, tallyAt (scCell (peer c i) (drS i)) () Nd
def Ob (c : Dev nD) (k : ℕ) : CellTallies nD τ sig Unit := ∑ i ∈ finFrom 7 k, tallyAt (barCell (peer c i)) () 1

def O₀ (c : Dev nD) : CellTallies nD τ sig Unit := Od c 0 + Oc c 0 + Ob c 0

def L (g : GSem nD τ sig) : Finset Unit := if g.1.2 = .tc then {()} else ∅
/-- Barriers below what lands; the rest lower. -/
def lv (g : GSem nD τ sig) (_ : Unit) : ℕ := match g.2 with
  | .reg _ => 1
  | .dma k => match scOf k with
    | some (.inl (f, _)) => if f = 1 ∨ f = 3 then 2 else 0
    | _ => 0

theorem L_of_ne (g : GSem nD τ sig) (h : g.1.2 ≠ .tc) : L g = ∅ := if_neg h
theorem L_tc (c : Dev nD) (sm : SemLoc sig) : L ((c : Thread nD τ), sm) = {()} := if_pos rfl

theorem sum_tally_pos {ι : Type} (S : Finset ι) (g : ι → GSem nD τ sig) (n : ℕ) (x : GSem nD τ sig) (u : Unit)
    (h : 0 < (∑ i ∈ S, tallyAt (g i) () n : CellTallies nD τ sig Unit) x u) : ∃ i ∈ S, x = g i := by
  classical
  by_contra hn
  push Not at hn
  have : (∑ i ∈ S, tallyAt (g i) () n : CellTallies nD τ sig Unit) x u = 0 := by
    induction S using Finset.induction_on with
    | empty => rfl
    | insert a S ha ih =>
      rw [Finset.sum_insert ha]
      show (tallyAt (g a) () n : CellTallies nD τ sig Unit) x u + _ = 0
      have h1 : (tallyAt (g a) () n : CellTallies nD τ sig Unit) x u = 0 := by
        rw [tallyAt_apply, if_neg]; exact fun h => hn a (Finset.mem_insert_self _ _) h.1
      rw [h1, zero_add]
      apply ih
      · rw [Finset.sum_insert ha] at h
        have h' : 0 < (tallyAt (g a) () n : CellTallies nD τ sig Unit) x u + (∑ i ∈ S, tallyAt (g i) () n : CellTallies nD τ sig Unit) x u := h
        omega
      · exact fun i hi => hn i (Finset.mem_insert_of_mem hi)
  omega

theorem lv_cr (c : Dev nD) (i : Fin 7) (u : Unit) : lv (scCell c (crS i)) u = 2 := by
  dsimp only [lv]; rw [scOf_scS]; rfl
theorem lv_dr (c : Dev nD) (i : Fin 7) (u : Unit) : lv (scCell c (drS i)) u = 2 := by
  dsimp only [lv]; rw [scOf_scS]; rfl
theorem lv_row (c : Dev nD) (u : Unit) : lv (scCell c rowS) u = 0 := by
  dsimp only [lv]; rw [scOf_scS]

theorem mayWait_of (c : Dev nD) (sm : SemLoc sig) (hl : lv ((c : Thread nD τ), sm) () ≤ 1) (O : CellTallies nD τ sig Unit)
    (h : ∀ g u, 0 < O g u → ∃ (t : Dev nD) (i : Fin 7), g = scCell t (crS i) ∨ g = scCell t (drS i)) :
    (levAts L lv : sProp 𝕄) ⊢ MayWait (c : Thread nD τ) sm () O :=
  MayOwe.of_cut (L := L) (lev := lv) 1 (fun p hp => by rw [Finset.mem_singleton.mp hp, L_tc]; exact Finset.mem_singleton_self _)
    (fun g u hg => by
      obtain ⟨t, i, h | h⟩ := h g u hg <;> rw [h, L_tc] <;> exact Finset.mem_singleton_self _)
    (fun p hp => by rw [Finset.mem_singleton.mp hp]; exact hl)
    (fun g u hg => by
      obtain ⟨t, i, h | h⟩ := h g u hg <;> rw [h]
      · rw [lv_cr]; decide
      · rw [lv_dr]; decide)

theorem Od_pos (c : Dev nD) (k : ℕ) (g u) (h : 0 < Od c k g u) : ∃ (t : Dev nD) (i : Fin 7), g = scCell t (crS i) ∨ g = scCell t (drS i) := by
  obtain ⟨i, -, h⟩ := sum_tally_pos _ _ _ _ _ h
  exact ⟨_, i, .inr h⟩
theorem Oc_pos (c : Dev nD) (k : ℕ) (g u) (h : 0 < Oc c k g u) : ∃ (t : Dev nD) (i : Fin 7), g = scCell t (crS i) ∨ g = scCell t (drS i) := by
  obtain ⟨i, -, h⟩ := sum_tally_pos _ _ _ _ _ h
  exact ⟨_, i, .inl h⟩

theorem mayWait_bar (c : Dev nD) : (levAts L lv : sProp 𝕄) ⊢ MayWait (c : Thread nD τ) (.reg barS) () (Od c 0 + Oc c 0) :=
  mayWait_of c _ (le_refl 1) _ fun g u h => by
    have h' : 0 < Od c 0 g u + Oc c 0 g u := h
    by_cases h0 : 0 < Od c 0 g u
    · exact Od_pos c 0 g u h0
    · exact Oc_pos c 0 g u (by omega)

theorem mayWait_row (c : Dev nD) : (levAts L lv : sProp 𝕄) ⊢ MayWait (c : Thread nD τ) (.dma (scS rowS)) () (Od c 0) :=
  mayWait_of c _ (by show lv (scCell c rowS) () ≤ 1; rw [lv_row]; decide) _ (Od_pos c 0)

end Cert.KernelIdeal.Own

end
-- ==== Proof.Steps.lean ====
/-
  The steps of a device's run as rules: a signal, the barrier's wait, a remote copy, a local copy, a wait.
-/
module

public import proofs.«01_k».proof.Proof.Base

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

variable (I : Inp F) (K : GSem nD τ sig → ℕ) (c : Dev nD)

/-- A device's run of a program. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What every step may use -/

def invAll : sProp 𝕄 := bigSep Finset.univ fun p : Dev nD × Option Sc => cellInv ER (Rd I) (K (cell p)) (cell p)
def barReached : sProp 𝕄 := bigSep Finset.univ fun t : Dev nD => reached ER (barCell t) 0
def ownReached : sProp 𝕄 := bigSep Finset.univ fun s : Sc => reached ER (scCell c s) 0

instance invAll_persistent : BI.Persistent (invAll I K) := by unfold invAll; infer_instance
instance barReached_persistent : BI.Persistent (barReached (F := F)) := by unfold barReached; infer_instance
instance ownReached_persistent : BI.Persistent (ownReached (F := F) c) := by unfold ownReached; infer_instance

def pers : sProp 𝕄 := iprop(invAll I K ∗ levAts L lv ∗ barReached ∗ ownReached c)

instance pers_persistent : BI.Persistent (pers I K c) := by unfold pers; infer_instance

theorem inv_bar (t : Dev nD) : (invAll I K : sProp 𝕄) ⊢ cellInv ER (Rd I) (K (barCell t)) (barCell t) :=
  bigSep_univ_elim (fun p : Dev nD × Option Sc => cellInv ER (Rd I) (K (cell p)) (cell p)) (t, none)
theorem inv_sc (t : Dev nD) (s : Sc) : (invAll I K : sProp 𝕄) ⊢ cellInv ER (Rd I) (K (scCell t s)) (scCell t s) :=
  bigSep_univ_elim (fun p : Dev nD × Option Sc => cellInv ER (Rd I) (K (cell p)) (cell p)) (t, some s)
theorem reached_bar (t : Dev nD) : (barReached : sProp 𝕄) ⊢ reached ER (barCell t) 0 :=
  bigSep_univ_elim (fun t : Dev nD => reached ER (barCell t) 0) t
theorem reached_sc (s : Sc) : (ownReached c : sProp 𝕄) ⊢ reached ER (scCell c s) 0 :=
  bigSep_univ_elim (fun s : Sc => reached ER (scCell c s) 0) s

/-- The right to pay, with what is owed. -/
abbrev owing (O : CellTallies nD τ sig Unit) : sProp 𝕄 := iprop(∃ W, owes (c : Thread nD τ) O W)

/-! ## Signals -/

def sigRes (i : Fin 7) : sProp 𝕄 :=
  iprop(dutyTok ER (barCell (peer c i)) 0 (Fin.rev i) ∗ any c (matRow (Fin.rev i)) ∗ any c (recvW (Fin.rev i).castSucc))
/-- Before the `k`-th signal. -/
def sigSt (k : ℕ) : sProp 𝕄 := iprop(bigSep (finFrom 7 k) (sigRes (F := F) c) ∗ owing c (Od c 0 + Oc c 0 + Ob c k))

abbrev sigP (t : Dev nD) : Prog (TpuEff nD τ sig (Elt F) Λ₀ .tc) PUnit := Prog.lift (.semSignal (t : Thread nD τ) barS 1)

theorem Ob_succ (i : Fin 7) : Ob c i.val = Ob c (i.val + 1) + tallyAt (barCell (peer c i)) () 1 := sum_finFrom_succ i.isLt _
theorem Oc_succ (i : Fin 7) : Oc c i.val = Oc c (i.val + 1) + tallyAt (scCell (peer c i) (crS i)) () Nc := sum_finFrom_succ i.isLt _
theorem Od_succ (i : Fin 7) : Od c i.val = Od c (i.val + 1) + tallyAt (scCell (peer c i) (drS i)) () Nd := sum_finFrom_succ i.isLt _

theorem step_signal (i : Fin 7) {t : Dev nD} (ht : t = peer c i) {α : Type} (kk : PUnit → Prog (TpuEff nD τ sig (Elt F) Λ₀ .tc) α) (Q : α → sProp 𝕄) :
    iprop(pers I K c ∗ sigSt c i.val) ⊢ iprop((sigSt c (i.val + 1) -∗ run c (kk ⟨⟩) Q) -∗ run c (sigP t >>= kk) Q) := by
  subst ht
  unfold pers sigSt
  rw [bigSep_finFrom_succ i.isLt]
  show iprop(_ ∗ (sigRes c i ∗ _) ∗ _) ⊢ _
  unfold sigRes
  iintro ⟨⟨#HI, -, #HB, #HR⟩, ⟨⟨Ht, Hm, Hw⟩, Hrest⟩, ⟨%W, HO⟩⟩ Hk
  ihave #HIb := (inv_bar I K (peer c i)) $$ HI
  ihave #HrB := (reached_bar (peer c i)) $$ HB
  ihave #Hrc := (reached_sc c (crS (Fin.rev i))) $$ HR
  ihave #Hrd := (reached_sc c (drS (Fin.rev i))) $$ HR
  iapply (Rounds.wp_signal 𝒱₀ ER (Rd I) (c : Thread nD τ) none (dst := (peer c i : Thread nD τ)) (sem := barS) (r := 0) (d := Fin.rev i)
      (κ := K (barCell (peer c i))) (k' := 1) (k := kk)
      (Finset.mem_univ _) (amount_bar I (peer c i) (Fin.rev i)) () (Od c 0 + Oc c 0 + Ob c (i.val + 1))
      ((congrArg _ (Ob_succ c i)).trans (add_assoc _ _ _).symm)) $$ [HO Ht Hm Hw]
  · isplitr; · iexact HIb
    isplitl [HO]; · iexact HO
    isplitl [Ht]; · iexact Ht
    isplitl [Hm Hw]
    · rw [payload_bar]; unfold barPay; rw [peer_rev]
      isplitl [Hm]; · iexact Hm
      isplitl [Hw]; · iexact Hw
      isplitr; · iexact Hrc
      iexact Hrd
    · iexact HrB
  iintro HO
  iapply Hk
  isplitl [Hrest]; · iexact Hrest
  iexists W; iexact HO

/-! ## The barrier's wait -/

theorem step_barrier {α : Type} (kk : PUnit → Prog (TpuEff nD τ sig (Elt F) Λ₀ .tc) α) (Q : α → sProp 𝕄) :
    iprop(pers I K c ∗ owing c (Od c 0 + Oc c 0) ∗ cred (tallyAt (barCell c) () 7) ∗ atPos ER (barCell c) 0 ∅ 0)
      ⊢ iprop((owing c (Od c 0 + Oc c 0) ∗ atPos ER (barCell c) 1 ∅ 0 ∗ bigSep Finset.univ (fun i => barPay (F := F) c i) -∗ run c (kk ⟨⟩) Q)
        -∗ run c ((Prog.lift (.semWait barS 7) : Prog (TpuEff nD τ sig (Elt F) Λ₀ .tc) PUnit) >>= kk) Q) := by
  unfold pers
  iintro ⟨⟨#HI, #Hlev, -, -⟩, ⟨%W, HO⟩, Hc, Hat⟩ Hk
  ihave #HIb := (inv_bar I K c) $$ HI
  iapply (Rounds.wp_wait_rest_token 𝒱₀ ER (Rd I) (c : Thread nD τ) none (κ := K (barCell c)) (k := kk)
      (wpE_semWait_eq 𝒱₀ (c : Thread nD τ) none Set.univ) (Set.mem_univ _) () (O := Od c 0 + Oc c 0) (W := W) (R := 0) (m := 0) (T := ∅)
      ((Nat.zero_add 7).trans (expect_bar I c).symm)) $$ [Hc HO Hat]
  · isplitr; · iexact HIb
    isplitl [Hc]; · iexact Hc
    isplitl [HO]; · iexact HO
    isplitr; · iapply (mayWait_bar c); iexact Hlev
    iexact Hat
  iintro ⟨HO, Hat, -, Hpay⟩
  ihave Hp := (Entails.of_eq (rest_bar I c)) $$ Hpay
  iapply Hk
  isplitl [HO]; · iexists _; iexact HO
  isplitl [Hat]; · iexact Hat
  iexact Hp

/-! ## Copies -/

/-- A remote copy into the same window `w` of device `t`. -/
theorem wp_send_owns {sp₁ sp₂ : Space} {sh : Shape} {e : EltTy} {src : Memref sig .tc sp₁ sh e} {dst : Memref sig .tc sp₂ sh e} (t : Dev nD)
    (s₁ s₂ : Sc) (q : PosShare TreeShare) (X : sh.Idx → Elt F e) (N : ℕ)
    {hsc : dst.view.ref.isScScratch = false}
    {hsrc : src.view.WordExact} {hdst : dst.view.WordExact} {hsem : DmaTarget.Typed sp₁ (SemLoc.dma (scS s₂)) (.remote (Dev.tc t : Thread nD τ) dst (SemLoc.dma (scS s₁)) hsc)}
    (h₁ : 0 < scLen s₁) (h₂ : 0 < scLen s₂) (hN : dst.view.dmaCredit = N) (a₁ : scAmt s₁ 0 = N) (a₂ : scAmt s₂ 0 = N)
    (O₁ O : CellTallies nD τ sig Unit) (hO : O₁ = O + tallyAt (scCell t s₂) () N)
    (p₁ : scPay I c s₁ 0 = owns (c : Thread nD τ) src q X) (p₂ : scPay I t s₂ 0 = owns (t : Thread nD τ) dst fullShare X)
    {α : Type} (kk : PUnit → Prog (TpuEff nD τ sig (Elt F) Λ₀ .tc) α) (Q : α → sProp 𝕄) :
    iprop(pers I K c ∗ owns (c : Thread nD τ) src q X ∗ any t dst ∗ owing c O₁
        ∗ dutyTok ER (scCell c s₁) 0 0 ∗ dutyTok ER (scCell t s₂) 0 0 ∗ reached ER (scCell t s₂) 0)
      ⊢ iprop((cred (tallyAt (scCell c s₁) () N) ∗ owing c O -∗ run c (kk ⟨⟩) Q)
        -∗ run c (Prog.lift (.enqueueDma src (.remote (Dev.tc t) dst (.dma (scS s₁)) hsc) (.dma (scS s₂)) hsrc hdst hsem) >>= kk) Q) := by
  unfold pers
  rw [show owns (c : Thread nD τ) src q X = iprop(∃ f, ⌜src.view.read (Elt F) f = X⌝ ∗ (src.view.loc (c : Thread nD τ) ↦[src.view.set]{q} f)) from rfl]
  rw [show (any t dst : sProp 𝕄) = iprop(∃ f, (dst.view.loc (t : Thread nD τ) ↦[dst.view.set]{fullShare} f)) from rfl]
  iintro ⟨⟨#HI, -, -, #HR⟩, ⟨%fs, %hfs, Hs⟩, ⟨%fd, Hd⟩, ⟨%W, HO⟩, Ht1, Ht2, Hr⟩ Hk
  ihave #HI1 := (inv_sc I K c s₁) $$ HI
  ihave #HI2 := (inv_sc I K t s₂) $$ HI
  ihave #Hr1 := (reached_sc c s₁) $$ HR
  iapply (Rounds.wp_send_pointsTo 𝒱₀ ER (Rd I) (c : Thread nD τ) none (c' := (t : Thread nD τ)) (src := src) (dst := dst)
      (sS := .dma (scS s₁)) (sem := .dma (scS s₂)) (q := q) (fs := fs) (κ₁ := K (scCell c s₁)) (κ₂ := K (scCell t s₂))
      (r₁ := 0) (r₂ := 0) (d₁ := 0) (d₂ := 0) (fd := fd) (k := kk)
      (by rw [duties_sc I c s₁ 0 h₁]; exact Finset.mem_singleton_self _) (by rw [duties_sc I t s₂ 0 h₂]; exact Finset.mem_singleton_self _)
      () () N hN ((amount_sc I c s₁ 0 0).trans a₁) ((amount_sc I t s₂ 0 0).trans a₂) O hO (W := W)
      (by rw [payload_sc, p₁, ← hfs]; exact owns_intro _ _ _ _)
      (by rw [payload_sc, p₂, ← hfs]
          refine (owns_intro (t : Thread nD τ) dst fullShare _).trans (Entails.of_eq ?_)
          rw [View.read_write_univ])) $$ [Hs Hd HO Ht1 Ht2 Hr]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr
  iintro ⟨Hc, HO⟩
  iapply Hk
  isplitl [Hc]; · iexact Hc
  iexists W; iexact HO

/-- A local copy. -/
theorem wp_copy_owns {sp₁ sp₂ : Space} {sh : Shape} {e : EltTy} {src : Memref sig .tc sp₁ sh e} {dst : Memref sig .tc sp₂ sh e}
    (s : Sc) (r : ℕ) (q : PosShare TreeShare) (X : sh.Idx → Elt F e) (N : ℕ)
    {hsrc : src.view.WordExact} {hdst : dst.view.WordExact} {hsem : DmaTarget.Typed (p := ((c : Thread nD τ)).2) sp₁ (SemLoc.dma (scS s)) (.here dst)}
    (h : r < scLen s) (hN : dst.view.dmaCredit = N) (a : scAmt s r = N)
    (p : scPay I c s r = iprop(owns (c : Thread nD τ) dst fullShare X ∗ owns (c : Thread nD τ) src q X))
    {α : Type} (kk : PUnit → Prog (TpuEff nD τ sig (Elt F) Λ₀ .tc) α) (Q : α → sProp 𝕄) :
    iprop(pers I K c ∗ owns (c : Thread nD τ) src q X ∗ any c dst ∗ dutyTok ER (scCell c s) r 0 ∗ reached ER (scCell c s) r)
      ⊢ iprop((cred (tallyAt (scCell c s) () N) -∗ run c (kk ⟨⟩) Q)
        -∗ run c (Prog.lift (.enqueueDma src (.here dst) (.dma (scS s)) hsrc hdst hsem) >>= kk) Q) := by
  unfold pers
  rw [show owns (c : Thread nD τ) src q X = iprop(∃ f, ⌜src.view.read (Elt F) f = X⌝ ∗ (src.view.loc (c : Thread nD τ) ↦[src.view.set]{q} f)) from rfl]
  rw [show (any c dst : sProp 𝕄) = iprop(∃ f, (dst.view.loc (c : Thread nD τ) ↦[dst.view.set]{fullShare} f)) from rfl]
  iintro ⟨⟨#HI, -, -, -⟩, ⟨%fs, %hfs, Hs⟩, ⟨%fd, Hd⟩, Ht, Hr⟩ Hk
  ihave #HI1 := (inv_sc I K c s) $$ HI
  iapply (Rounds.wp_copy_pointsTo 𝒱₀ ER (Rd I) (c : Thread nD τ) none (src := src) (dst := dst) (sem := .dma (scS s)) (q := q)
      (fs := fs) (fd := fd) (r := r) (d := 0) (κ := K (scCell c s)) (k := kk)
      (by rw [duties_sc I c s r h]; exact Finset.mem_singleton_self _) () N hN ((amount_sc I c s r 0).trans a)
      (by rw [payload_sc, p, ← hfs]
          refine BI.sep_mono ((owns_intro (c : Thread nD τ) dst fullShare _).trans (Entails.of_eq ?_)) (owns_intro _ _ _ _)
          rw [View.read_write_univ])) $$ [Hs Hd Ht Hr]
  · isplitr; · iexact HI1
    isplitl [Hs]; · iexact Hs
    isplitl [Hd]; · iexact Hd
    isplitl [Ht]; · iexact Ht
    iexact Hr
  iintro Hc
  iapply Hk; iexact Hc

/-! ## Waits for a copy -/

theorem wp_wait_sc {sp₁ sp₂ : Space} {sh₁ sh₂ : Shape} {e₁ e₂ : EltTy} {src : Memref sig .tc sp₁ sh₁ e₁} {dst : Memref sig .tc sp₂ sh₂ e₂}
    (s : Sc) (r : ℕ) (N : ℕ) {hsrc : src.view.WordExact} {hdst : dst.view.WordExact}
    (h : r < scLen s) (hN : dst.view.dmaCredit = N) (a : scAmt s r = N) (O : CellTallies nD τ sig Unit)
    (hM : (levAts L lv : sProp 𝕄) ⊢ MayWait (c : Thread nD τ) (.dma (scS s)) () O)
    {α : Type} (kk : PUnit → Prog (TpuEff nD τ sig (Elt F) Λ₀ .tc) α) (Q : α → sProp 𝕄) :
    iprop(pers I K c ∗ owing c O ∗ cred (tallyAt (scCell c s) () N) ∗ atPos ER (scCell c s) r ∅ 0)
      ⊢ iprop((owing c O ∗ atPos ER (scCell c s) (r + 1) ∅ 0 ∗ reached ER (scCell c s) (r + 1) ∗ scPay I c s r -∗ run c (kk ⟨⟩) Q)
        -∗ run c (Prog.lift (.waitDma2 (scS s) src dst hsrc hdst) >>= kk) Q) := by
  unfold pers
  subst hN
  iintro ⟨⟨#HI, #Hlev, -, -⟩, ⟨%W, HO⟩, Hc, Hat⟩ Hk
  ihave #HI1 := (inv_sc I K c s) $$ HI
  iapply (Rounds.wp_wait_rest_token 𝒱₀ ER (Rd I) (c : Thread nD τ) none (κ := K (scCell c s)) (k := kk)
      (wpE_waitDma2_eq (src := src) (dst := dst) 𝒱₀ (c : Thread nD τ) none Set.univ) (Set.mem_univ _) () (O := O) (W := W) (R := r) (m := 0) (T := ∅)
      ((Nat.zero_add _).trans (a.symm.trans (expect_sc I c s r h).symm))) $$ [Hc HO Hat]
  · isplitr; · iexact HI1
    isplitl [Hc]; · iexact Hc
    isplitl [HO]; · iexact HO
    isplitr; · iapply hM; iexact Hlev
    iexact Hat
  iintro ⟨HO, Hat, Hr, Hpay⟩
  ihave Hp := (Entails.of_eq (rest_sc I c s r h)) $$ Hpay
  iapply Hk
  isplitl [HO]; · iexists _; iexact HO
  isplitl [Hat]; · iexact Hat
  isplitl [Hr]; · iexact Hr
  iexact Hp

theorem mayWait_nothing (sm : SemLoc sig) : (levAts L lv : sProp 𝕄) ⊢ MayWait (c : Thread nD τ) sm () 0 := by
  rw [MayWait_zero]; iintro -; iempintro

/-! ## The two families of remote copies -/

def cntRes (i : Fin 7) : sProp 𝕄 :=
  iprop(owns (c : Thread nD τ) cntM (tokQ i.val) (I.cnt c) ∗ any (peer c i) (matRow i) ∗ reached ER (scCell (peer c i) (crS i)) 0
    ∗ dutyTok ER (scCell c (csS i)) 0 0 ∗ dutyTok ER (scCell (peer c i) (crS i)) 0 0)
/-- Before the `k`-th count copy. -/
def cntSt (k : ℕ) : sProp 𝕄 :=
  iprop(bigSep (finFrom 7 k) (cntRes I c) ∗ bigSep (finUpTo 7 k) (fun i => cred (tallyAt (scCell c (csS i)) () Nc)) ∗ owing c (Od c 0 + Oc c k))

theorem matV_row (i : Fin 7) : (fun y : S1x128.Idx => matV I (peer c i) ((matR i).emb y)) = I.cnt c := by
  funext y
  show I.cnt (srcOf (peer c i) _) _ = I.cnt c y
  have h0 : (y 0).val = 0 := by have : (y 0).val < 1 := (y 0).isLt; omega
  have e0 : (((matR i).emb y) 0).val = i.val := by
    show i.val + 1 * (y 0).val = i.val
    omega
  rw [e0, srcOf_peer]
  congr 1
  funext a
  match a with
  | ⟨0, _⟩ => exact Fin.ext h0.symm
  | ⟨1, _⟩ => exact Fin.ext (by show 0 + 1 * (y 1).val = (y 1).val; omega)

theorem recvV_win (i : Fin 7) : (fun y : S80x8x1024.Idx => recvV I (peer c i) ((winR i.castSucc).emb y)) = fun y => sendV I c ((winR i.castSucc).emb y) := by
  funext y
  show sendV I (srcOf (peer c i) _) _ = _
  have e0 : (((winR i.castSucc).emb y) 0).val / 80 = i.val := by
    have h := (y 0).isLt
    have h' : (y 0).val < 80 := h
    show (80 * i.val + 1 * (y 0).val) / 80 = i.val
    omega
  rw [e0, srcOf_peer]

theorem step_cnt (i : Fin 7) {t : Dev nD} (ht : t = peer c i)
    {hsc : (matRow i).view.ref.isScScratch = false} {hsrc : cntM.view.WordExact} {hdst : (matRow i).view.WordExact}
    {hsem : DmaTarget.Typed .vmem (SemLoc.dma (scS (crS i))) (.remote (Dev.tc t : Thread nD τ) (matRow i) (SemLoc.dma (scS (csS i))) hsc)}
    {α : Type} (kk : PUnit → Prog (TpuEff nD τ sig (Elt F) Λ₀ .tc) α) (Q : α → sProp 𝕄) :
    iprop(pers I K c ∗ cntSt I c i.val) ⊢ iprop((cntSt I c (i.val + 1) -∗ run c (kk ⟨⟩) Q)
      -∗ run c (Prog.lift (.enqueueDma cntM (.remote (Dev.tc t) (matRow i) (.dma (scS (csS i))) hsc) (.dma (scS (crS i))) hsrc hdst hsem) >>= kk) Q) := by
  subst ht
  unfold cntSt
  rw [bigSep_finFrom_succ i.isLt, bigSep_finUpTo_succ i.isLt]
  show iprop(_ ∗ (cntRes I c i ∗ _) ∗ _) ⊢ _
  unfold cntRes
  iintro ⟨#HP, ⟨⟨Hs, Hd, Hr, Ht1, Ht2⟩, Hrest⟩, Hdone, HO⟩ Hk
  iapply (wp_send_owns I K c (src := cntM) (dst := matRow i) (peer c i) (csS i) (crS i) (tokQ i.val) (I.cnt c) Nc (hsc := hsc) (hsrc := hsrc) (hdst := hdst) (hsem := hsem)
    Nat.one_pos Nat.one_pos rfl rfl rfl (Od c 0 + Oc c i.val) (Od c 0 + Oc c (i.val + 1)) ((congrArg _ (Oc_succ c i)).trans (add_assoc _ _ _).symm) rfl
    (by show owns (peer c i : Thread nD τ) (matRow i) fullShare _ = _; rw [matV_row]) kk Q) $$ [Hs Hd HO Ht1 Ht2 Hr]
  · isplitr; · iexact HP
    isplitl [Hs]; · iexact Hs
    isplitl [Hd]; · iexact Hd
    isplitl [HO]; · iexact HO
    isplitl [Ht1]; · iexact Ht1
    isplitl [Ht2]; · iexact Ht2
    iexact Hr
  iintro ⟨Hc, HO⟩
  iapply Hk
  isplitl [Hrest]; · iexact Hrest
  isplitl [Hc Hdone]
  · isplitl [Hc]; · iexact Hc
    iexact Hdone
  iexact HO

def datRes (i : Fin 7) : sProp 𝕄 :=
  iprop(any (peer c i) (recvW i.castSucc) ∗ reached ER (scCell (peer c i) (drS i)) 0
    ∗ dutyTok ER (scCell c (dsS i)) 0 0 ∗ dutyTok ER (scCell (peer c i) (drS i)) 0 0)
/-- The filled window `j` of the send buffer. -/
abbrev sentW (j : Fin 8) : sProp 𝕄 := owns (c : Thread nD τ) (sendW j) fullShare (fun y => sendV I c ((winR j).emb y))
/-- Before the `k`-th copy of rows. -/
def datSt (k : ℕ) : sProp 𝕄 :=
  iprop(bigSep (finFrom 7 k) (fun i => iprop(sentW I c i.castSucc ∗ datRes c i)) ∗ bigSep (finUpTo 7 k) (fun i => cred (tallyAt (scCell c (dsS i)) () Nd)) ∗ owing c (Od c k))

theorem step_dat (i : Fin 7) {t : Dev nD} (ht : t = peer c i)
    {hsc : (recvW i.castSucc).view.ref.isScScratch = false} {hsrc : (sendW i.castSucc).view.WordExact} {hdst : (recvW i.castSucc).view.WordExact}
    {hsem : DmaTarget.Typed .vmem (SemLoc.dma (scS (drS i))) (.remote (Dev.tc t : Thread nD τ) (recvW i.castSucc) (SemLoc.dma (scS (dsS i))) hsc)}
    {α : Type} (kk : PUnit → Prog (TpuEff nD τ sig (Elt F) Λ₀ .tc) α) (Q : α → sProp 𝕄) :
    iprop(pers I K c ∗ datSt I c i.val) ⊢ iprop((datSt I c (i.val + 1) -∗ run c (kk ⟨⟩) Q)
      -∗ run c (Prog.lift (.enqueueDma (sendW i.castSucc) (.remote (Dev.tc t) (recvW i.castSucc) (.dma (scS (dsS i))) hsc) (.dma (scS (drS i))) hsrc hdst hsem) >>= kk) Q) := by
  subst ht
  unfold datSt
  rw [bigSep_finFrom_succ i.isLt, bigSep_finUpTo_succ i.isLt]
  show iprop(_ ∗ ((sentW I c i.castSucc ∗ datRes c i) ∗ _) ∗ _) ⊢ _
  unfold datRes
  iintro ⟨#HP, ⟨⟨Hs, Hd, Hr, Ht1, Ht2⟩, Hrest⟩, Hdone, HO⟩ Hk
  iapply (wp_send_owns I K c (src := sendW i.castSucc) (dst := recvW i.castSucc) (peer c i) (dsS i) (drS i) fullShare
    (fun y => sendV I c ((winR i.castSucc).emb y)) Nd (hsc := hsc) (hsrc := hsrc) (hdst := hdst) (hsem := hsem)
    Nat.one_pos Nat.one_pos rfl rfl rfl (Od c i.val) (Od c (i.val + 1)) (Od_succ c i) rfl
    (by show owns (peer c i : Thread nD τ) (recvW i.castSucc) fullShare _ = _; rw [recvV_win]; rfl) kk Q) $$ [Hs Hd HO Ht1 Ht2 Hr]
  · isplitr; · iexact HP
    isplitl [Hs]; · iexact Hs
    isplitl [Hd]; · iexact Hd
    isplitl [HO]; · iexact HO
    isplitl [Ht1]; · iexact Ht1
    isplitl [Ht2]; · iexact Ht2
    iexact Hr
  iintro ⟨Hc, HO⟩
  iapply Hk
  isplitl [Hrest]; · iexact Hrest
  isplitl [Hc Hdone]
  · isplitl [Hc]; · iexact Hc
    iexact Hdone
  iexact HO

/-! ## The families of waits -/

/-- Before the `k`-th wait on family `f`. -/
def waitSt (f : Fin 4) (k : ℕ) : sProp 𝕄 :=
  iprop(bigSep (finFrom 7 k) (fun i => iprop(cred (tallyAt (scCell c (.inl (f, i))) () (scAmt (.inl (f, i)) 0)) ∗ atPos ER (scCell c (.inl (f, i))) 0 ∅ 0))
    ∗ bigSep (finUpTo 7 k) (fun i => iprop(atPos ER (scCell c (.inl (f, i))) 1 ∅ 0 ∗ scPay I c (.inl (f, i)) 0)))

theorem step_wait (f : Fin 4) (i : Fin 7) {sp₁ sp₂ : Space} {sh₁ sh₂ : Shape} {e₁ e₂ : EltTy} {src : Memref sig .tc sp₁ sh₁ e₁} {dst : Memref sig .tc sp₂ sh₂ e₂}
    {hsrc : src.view.WordExact} {hdst : dst.view.WordExact} (hN : dst.view.dmaCredit = scAmt (.inl (f, i)) 0)
    {α : Type} (kk : PUnit → Prog (TpuEff nD τ sig (Elt F) Λ₀ .tc) α) (Q : α → sProp 𝕄) :
    iprop(pers I K c ∗ owing c 0 ∗ waitSt I c f i.val) ⊢ iprop((owing c 0 ∗ waitSt I c f (i.val + 1) -∗ run c (kk ⟨⟩) Q)
      -∗ run c (Prog.lift (.waitDma2 (scS (.inl (f, i))) src dst hsrc hdst) >>= kk) Q) := by
  unfold waitSt
  rw [bigSep_finFrom_succ i.isLt, bigSep_finUpTo_succ i.isLt]
  iintro ⟨#HP, HO, ⟨⟨Hc, Hat⟩, Hrest⟩, Hdone⟩ Hk
  iapply (wp_wait_sc I K c (src := src) (dst := dst) (.inl (f, i)) 0 (scAmt (.inl (f, i)) 0) (hsrc := hsrc) (hdst := hdst)
    Nat.one_pos hN rfl 0 (mayWait_nothing c _) kk Q) $$ [HO Hc Hat]
  · isplitr; · iexact HP
    isplitl [HO]; · iexact HO
    isplitl [Hc]; · iexact Hc
    iexact Hat
  iintro ⟨HO, Hat, -, Hp⟩
  iapply Hk
  isplitl [HO]; · iexact HO
  isplitl [Hrest]; · iexact Hrest
  isplitl [Hat Hp]
  · isplitl [Hat]; · iexact Hat
    iexact Hp
  iexact Hdone

end Cert.KernelIdeal.Own

end
-- ==== Proof.Words.lean ====
/-
  The kernel's words as numbers, and its gather and compaction loops over what the devices bring.
-/
module

public import proofs.«01_k».proof.Proof.Steps

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-! ## Arithmetic of small words -/

theorem addi_nat (a b : BitVec 32) (h : a.toNat + b.toNat < 2 ^ 32) : (Scalar.addi a b).toNat = a.toNat + b.toNat := by
  show (a + b).toNat = _
  rw [BitVec.toNat_add, Nat.mod_eq_of_lt h]

theorem muli_nat (a b : BitVec 32) (h : a.toNat * b.toNat < 2 ^ 32) : (Scalar.muli a b).toNat = a.toNat * b.toNat := by
  show (a * b).toNat = _
  rw [BitVec.toNat_mul, Nat.mod_eq_of_lt h]

theorem minsi_nat (a b : BitVec 32) (ha : a.toNat < 2 ^ 31) (hb : b.toNat < 2 ^ 31) : (Scalar.minsi a b).toNat = min a.toNat b.toNat := by
  show (if a.slt b then a else b).toNat = _
  have e : a.slt b = decide (a.toNat < b.toNat) := by
    rw [BitVec.slt_eq_decide, toNat_lt_two a _ ha le_rfl, toNat_lt_two b _ hb le_rfl]; simp
  rw [e]
  by_cases h : a.toNat < b.toNat
  · simp [h]; omega
  · simp [h]; omega

theorem kmaxW_nat (n : BitVec 32) (h : n.toNat < 2 ^ 31) : (kmaxW n).toNat = n.toNat - 1 := by
  by_cases h0 : n.toNat = 0
  · have : n = 0#32 := BitVec.eq_of_toNat_eq h0
    subst this; decide
  · have e1 : (Scalar.subi n 1#32).toNat = n.toNat - 1 := by
      show (n - 1#32).toNat = _
      rw [BitVec.toNat_sub]
      have : (1#32).toNat = 1 := rfl
      omega
    show (if (0#32).slt (Scalar.subi n 1#32) then Scalar.subi n 1#32 else 0#32).toNat = _
    have e : (0#32).slt (Scalar.subi n 1#32) = decide (0 < n.toNat - 1) := by
      rw [BitVec.slt_eq_decide, toNat_lt_two (Scalar.subi n 1#32) (n.toNat - 1 + 1) (by omega) (by omega), e1]
      simp
    rw [e]
    by_cases h1 : 0 < n.toNat - 1
    · simp [h1, e1]
    · simp [h1]; omega

theorem iv_nat (k : ℕ) (h : k < 2 ^ 31) : (Scf.iv 0#32 1#32 k).toNat = k := by
  show (0#32 + BitVec.ofNat 32 k * 1#32).toNat = k
  rw [BitVec.zero_add, BitVec.mul_one, BitVec.toNat_ofNat]; omega

theorem destW_eq : ∀ (d : Dev nD) (j : Fin 8), destW d j.val = BitVec.ofNat 32 ((d.val + 1 + j.val) % 8) := by decide

theorem baseSel_nat (t : Fin 8) (w : Fin 7 → BitVec 32) (h : ∀ i, (w i).toNat ≤ 640) :
    (baseSel (BitVec.ofNat 32 t.val) (w 0) (w 1) (w 2) (w 3) (w 4) (w 5) (w 6)).toNat = ∑ i : Fin 7, if i.val < t.val then (w i).toNat else 0 := by
  have h0 := h 0
  have h1 := h 1
  have h2 := h 2
  have h3 := h 3
  have h4 := h 4
  have h5 := h 5
  have h6 := h 6
  have z : (0#32).toNat = 0 := rfl
  have e1 : (Scalar.addi 0#32 (w 0)).toNat = (w 0).toNat := by rw [addi_nat _ _ (by omega)]; omega
  have e2 : (Scalar.addi (Scalar.addi 0#32 (w 0)) (w 1)).toNat = (w 0).toNat + (w 1).toNat := by rw [addi_nat _ _ (by omega), e1]
  have e3 := addi_nat (Scalar.addi (Scalar.addi 0#32 (w 0)) (w 1)) (w 2) (by omega)
  rw [e2] at e3
  have e4 := addi_nat (Scalar.addi (Scalar.addi (Scalar.addi 0#32 (w 0)) (w 1)) (w 2)) (w 3) (by omega)
  rw [e3] at e4
  have e5 := addi_nat (Scalar.addi (Scalar.addi (Scalar.addi (Scalar.addi 0#32 (w 0)) (w 1)) (w 2)) (w 3)) (w 4) (by omega)
  rw [e4] at e5
  have e6 := addi_nat (Scalar.addi (Scalar.addi (Scalar.addi (Scalar.addi (Scalar.addi 0#32 (w 0)) (w 1)) (w 2)) (w 3)) (w 4)) (w 5) (by omega)
  rw [e5] at e6
  have e7 := addi_nat (Scalar.addi (Scalar.addi (Scalar.addi (Scalar.addi (Scalar.addi (Scalar.addi 0#32 (w 0)) (w 1)) (w 2)) (w 3)) (w 4)) (w 5)) (w 6) (by omega)
  rw [e6] at e7
  simp only [Fin.sum_univ_succ, Fin.sum_univ_zero]
  match t with
  | ⟨0, _⟩ => rfl
  | ⟨1, _⟩ => exact e1
  | ⟨2, _⟩ => exact e2
  | ⟨3, _⟩ => refine Eq.trans (b := _) e3 ?_; simp; omega
  | ⟨4, _⟩ => refine Eq.trans (b := _) e4 ?_; simp; omega
  | ⟨5, _⟩ => refine Eq.trans (b := _) e5 ?_; simp; omega
  | ⟨6, _⟩ => refine Eq.trans (b := _) e6 ?_; simp; omega
  | ⟨7, _⟩ => refine Eq.trans (b := _) e7 ?_; simp; omega

/-! ## The gather's addresses -/

variable (I : Inp F) (c : Dev nD)

/-- The count of device `c`'s rows for device `t`, as the word it is. -/
abbrev cw (t : Fin 8) : BitVec 32 := I.cnt c (ix2 0 ⟨t.val, by omega⟩)

/-- The first place of the rows for window `j`'s device, as the kernel's word. -/
abbrev baseW (j : Fin 8) : BitVec 32 := baseSel (destW c j.val) (cw I c 0) (cw I c 1) (cw I c 2) (cw I c 3) (cw I c 4) (cw I c 5) (cw I c 6)

theorem preOf_le (hG : Good I) (t : Fin 8) : preOf I c t.val ≤ 4096 := by
  rw [← hG.row_sum c]
  unfold preOf
  exact Finset.sum_le_sum fun u _ => by split <;> [exact (if_pos u.isLt).ge; exact Nat.zero_le _]

theorem baseW_nat (hG : Good I) (j : Fin 8) : (baseW I c j).toNat = preOf I c (destN c j.val).val := by
  unfold baseW
  rw [destW_eq]
  refine (baseSel_nat (destN c j.val) (fun i => cw I c i.castSucc) (fun i => hG.cnt_le c i.val (by omega))).trans ?_
  unfold preOf
  rw [Fin.sum_univ_castSucc (n := 7)]
  have : ¬ (Fin.last 7).val < (destN c j.val).val := by have := (destN c j.val).isLt; show ¬ 7 < _; omega
  rw [if_neg this, add_zero]
  rfl

theorem gOff_nat (hG : Good I) (j : Fin 8) (k : ℕ) (hk : k < 80) (u : Fin 8) :
    gOff (baseW I c j) (kmaxW (cw I c (destN c j.val))) (Scf.iv 0#32 1#32 k) u.val 0
      = min (preOf I c (destN c j.val).val + min (k * 8 + u.val) (nOf I c (destN c j.val).val (destN c j.val).isLt - 1)) 4095 := by
  have hn := hG.cnt_le c (destN c j.val).val (destN c j.val).isLt
  have hp := preOf_le I c hG (destN c j.val)
  have hb := baseW_nat I c hG j
  have hcw : (cw I c (destN c j.val)).toNat = nOf I c (destN c j.val).val (destN c j.val).isLt := rfl
  have hkm := kmaxW_nat (cw I c (destN c j.val)) (by omega)
  have hiv := iv_nat k (by omega)
  have e8 : (8#32).toNat = 8 := rfl
  have hm : (Scalar.muli (Scf.iv 0#32 1#32 k) 8#32).toNat = k * 8 := by rw [muli_nat _ _ (by rw [hiv, e8]; omega), hiv, e8]
  have hu : (BitVec.ofNat 32 u.val).toNat = u.val := by rw [BitVec.toNat_ofNat]; omega
  have ha : (Scalar.addi (Scalar.muli (Scf.iv 0#32 1#32 k) 8#32) (BitVec.ofNat 32 u.val)).toNat = k * 8 + u.val := by
    rw [addi_nat _ _ (by rw [hm, hu]; omega), hm, hu]
  have h1 := minsi_nat (Scalar.addi (Scalar.muli (Scf.iv 0#32 1#32 k) 8#32) (BitVec.ofNat 32 u.val)) (kmaxW (cw I c (destN c j.val))) (by omega) (by omega)
  rw [ha, hkm, hcw] at h1
  have h2 := addi_nat (baseW I c j) (Scalar.minsi (Scalar.addi (Scalar.muli (Scf.iv 0#32 1#32 k) 8#32) (BitVec.ofNat 32 u.val)) (kmaxW (cw I c (destN c j.val)))) (by omega)
  rw [hb, h1] at h2
  have e95 : (4095#32).toNat = 4095 := rfl
  have h3 := minsi_nat (Scalar.addi (baseW I c j) (Scalar.minsi (Scalar.addi (Scalar.muli (Scf.iv 0#32 1#32 k) 8#32) (BitVec.ofNat 32 u.val)) (kmaxW (cw I c (destN c j.val))))) 4095#32 (by omega) (by omega)
  rw [h2, e95] at h3
  exact h3

theorem gIn_ok (hG : Good I) (j : Fin 8) (k : ℕ) (hk : k < 80) : gIn (baseW I c j) (kmaxW (cw I c (destN c j.val))) (Scf.iv 0#32 1#32 k) := by
  intro u a
  match a with
  | ⟨0, _⟩ =>
    have := gOff_nat I c hG j k hk u
    show gOff _ _ _ _ 0 + 1 ≤ 4096
    omega

theorem wordOf_at (f : S4096.Idx → BitVec 32) (off : Fin 1 → ℕ) (h : ∀ a, off a + S1.size a ≤ S4096.size a) (n : ℕ) (hn : n < 4096) (e : off 0 = n) :
    wordOf (F := F) ordM f ⟨Rect.unit (s := S4096) off S1.size h, numel1_S1⟩ = f (ix1 ⟨n, hn⟩) := by
  show f _ = _
  congr 1
  funext a
  match a with
  | ⟨0, _⟩ => exact Fin.ext (show off 0 + 1 * 0 = n by omega)

/-- Trip `k` of window `j`'s gather. -/
theorem gather_trip (hG : Good I) (j : Fin 8) (k : ℕ) (hk : k < 80) :
    ∃ W : ℕ → BitVec 32, (∀ i (hi : i < (gList (baseW I c j) (kmaxW (cw I c (destN c j.val))) (Scf.iv 0#32 1#32 k) (gIn_ok I c hG j k hk)).length),
        wordOf (F := F) ordM (I.ord c) (gList (baseW I c j) (kmaxW (cw I c (destN c j.val))) (Scf.iv 0#32 1#32 k) (gIn_ok I c hG j k hk))[i] = W i)
      ∧ ∀ r (hr : r < 8), ∃ h : (W r).toNat < 8 * 512, ∀ l, rowOf (I.x c) (W r).toNat h l = sendV I c (ix3 ⟨80 * j.val + k, by omega⟩ ⟨r, hr⟩ l) := by
  have key (u : Fin 8) := gOff_nat I c hG j k hk u
  let p (r : ℕ) : ℕ := min (preOf I c (destN c j.val).val + min (k * 8 + r) (nOf I c (destN c j.val).val (destN c j.val).isLt - 1)) 4095
  have hp (r : ℕ) : p r < 4096 := by show min _ 4095 < 4096; omega
  refine ⟨fun r => I.ord c (ix1 ⟨p r, hp r⟩), fun i hi => ?_, fun r hr => ⟨hG.ord_lt c _, fun l => ?_⟩⟩
  · match i, hi with
    | 0, _ => exact wordOf_at (I.ord c) _ (gIn_ok I c hG j k hk 0) _ (hp 0) (key 0)
    | 1, _ => exact wordOf_at (I.ord c) _ (gIn_ok I c hG j k hk 1) _ (hp 1) (key 1)
    | 2, _ => exact wordOf_at (I.ord c) _ (gIn_ok I c hG j k hk 2) _ (hp 2) (key 2)
    | 3, _ => exact wordOf_at (I.ord c) _ (gIn_ok I c hG j k hk 3) _ (hp 3) (key 3)
    | 4, _ => exact wordOf_at (I.ord c) _ (gIn_ok I c hG j k hk 4) _ (hp 4) (key 4)
    | 5, _ => exact wordOf_at (I.ord c) _ (gIn_ok I c hG j k hk 5) _ (hp 5) (key 5)
    | 6, _ => exact wordOf_at (I.ord c) _ (gIn_ok I c hG j k hk 6) _ (hp 6) (key 6)
    | 7, _ => exact wordOf_at (I.ord c) _ (gIn_ok I c hG j k hk 7) _ (hp 7) (key 7)
  · have hd : (80 * j.val + k) / 80 = j.val := by omega
    have hm : (80 * j.val + k) % 80 = k := by omega
    have e : rowN I c (destN c ((80 * j.val + k) / 80)) ((80 * j.val + k) % 80 * 8 + r) = (I.ord c (ix1 ⟨p r, hp r⟩)).toNat := by
      rw [hd, hm]; rfl
    show _ = xRow I c (rowN I c (destN c ((80 * j.val + k) / 80)) ((80 * j.val + k) % 80 * 8 + r)) l
    rw [e]
    unfold rowOf xRow
    have hw := hG.ord_lt c (ix1 ⟨p r, hp r⟩)
    congr 1
    funext a
    match a with
    | ⟨0, _⟩ => exact Fin.ext (Nat.mod_eq_of_lt (by omega : (I.ord c (ix1 ⟨p r, hp r⟩)).toNat / 8 < 512)).symm
    | ⟨1, _⟩ => rfl
    | ⟨2, _⟩ => rfl

/-- Window `j`'s gather. -/
theorem wp_gather (hG : Good I) (j : Fin 8) (q1 q2 : PosShare TreeShare) (dec : ∀ w, Decidable (slabIn 512 w))
    (l : Scf.Loop 32) (ht : l.trips = 80) (hok : l.OK) (body : Fin l.trips → Unit → Prog (TpuEff nD τ sig (Elt F) Λ₀ .tc) Unit)
    (hbody : ∀ (k : Fin l.trips) hL, ∃ hs hst, body k ⟨⟩
      = trip (F := F) ordM xM sendM dec v3₀ (gList (baseW I c j) (kmaxW (cw I c (destN c j.val))) (Scf.iv 0#32 1#32 k) hL) (gStore j.val (Scf.iv 0#32 1#32 k)) hs hst)
    {β : Type} (kk : Unit → Prog (TpuEff nD τ sig (Elt F) Λ₀ .tc) β) (Q : β → sProp 𝕄) :
    iprop(src ordM xM c (I.ord c) (I.x c) q1 q2 ∗ below c sendM (sendV I c) (80 * j.val))
      ⊢ iprop((src ordM xM c (I.ord c) (I.x c) q1 q2 ∗ below c sendM (sendV I c) (80 * (j.val + 1)) -∗ run c (kk ⟨⟩) Q)
        -∗ run c (Scf.Loop.for l hok ⟨⟩ body >>= kk) Q) := by
  have hT : Scf.trips l.lb l.ub l.st = 80 := ht
  have e : 80 * (j.val + 1) = 80 * j.val + Scf.trips l.lb l.ub l.st := by rw [hT]; omega
  rw [e]
  iintro H Hk
  iapply (wp_trips ordM xM c (I.ord c) (I.x c) sendM l.lb l.ub l.st hok body (by decide) (sendV I c) (80 * j.val) (by rw [hT]; omega)
    (dec := dec) (fun k => by
      have hk : k.val < 80 := lt_of_lt_of_eq k.isLt hT
      obtain ⟨hs, hst, hb⟩ := hbody k (gIn_ok I c hG j k.val hk)
      obtain ⟨W, hW, hR⟩ := gather_trip I c hG j k.val hk
      refine ⟨_, _, hs, hst, hb, ?_, rfl, rfl, rfl, W, hW, hR⟩
      show (Scalar.addi (BitVec.ofNat 32 (80 * j.val)) (Scf.iv 0#32 1#32 k.val)).toNat = _
      have h1 : (BitVec.ofNat 32 (80 * j.val)).toNat = 80 * j.val := by rw [BitVec.toNat_ofNat]; omega
      have h2 := iv_nat k.val (by omega)
      rw [addi_nat _ _ (by rw [h1, h2]; omega), h1, h2]) kk Q) $$ H
  iintro Hs Hb
  iapply Hk
  isplitl [Hs]; · iexact Hs
  iexact Hb

/-! ## The compaction -/

/-- The word address of place `8 i + u` of the index table. -/
abbrev cOff (i : BitVec 32) (u : ℕ) : Fin 2 → ℕ :=
  ![(Scalar.indexCast (Scalar.divsi (Scalar.addi (Scalar.muli i 8#32) (BitVec.ofNat 32 u)) 128#32)).toNat,
    (Scalar.indexCast (Scalar.remsi (Scalar.addi (Scalar.muli i 8#32) (BitVec.ofNat 32 u)) 128#32)).toNat]

abbrev cIn (i : BitVec 32) : Prop := ∀ u : Fin 8, ∀ a, cOff i u a + S1x1.size a ≤ S32x128.size a

def cList (i : BitVec 32) (h : cIn i) : List (WordAt S32x128) :=
  let at_ (u : Fin 8) : WordAt S32x128 := ⟨Rect.unit (s := S32x128) (cOff i u) S1x1.size (h u), numel1_S1x1⟩
  [at_ 0, at_ 1, at_ 2, at_ 3, at_ 4, at_ 5, at_ 6, at_ 7]

abbrev cStore (i : BitVec 32) : Fin 3 → ℕ := ![(Scalar.indexCast i).toNat, 0, 0]

theorem cOff_nat (k : ℕ) (hk : k < 512) (u : Fin 8) :
    cOff (Scf.iv 0#32 1#32 k) u.val 0 = (k * 8 + u.val) / 128 ∧ cOff (Scf.iv 0#32 1#32 k) u.val 1 = (k * 8 + u.val) % 128 := by
  have hiv := iv_nat k (by omega)
  have e8 : (8#32).toNat = 8 := rfl
  have hm : (Scalar.muli (Scf.iv 0#32 1#32 k) 8#32).toNat = k * 8 := by rw [muli_nat _ _ (by rw [hiv, e8]; omega), hiv, e8]
  have hu : (BitVec.ofNat 32 u.val).toNat = u.val := by rw [BitVec.toNat_ofNat]; omega
  have ha : (Scalar.addi (Scalar.muli (Scf.iv 0#32 1#32 k) 8#32) (BitVec.ofNat 32 u.val)).toNat = k * 8 + u.val := by
    rw [addi_nat _ _ (by rw [hm, hu]; omega), hm, hu]
  have hw := isInt_word (Scalar.addi (Scalar.muli (Scf.iv 0#32 1#32 k) 8#32) (BitVec.ofNat 32 u.val)) (by omega)
  rw [ha] at hw
  exact ⟨toNat_of_isInt (Idealize.ShloMosaic.Affine.divsi hw (Idealize.ShloMosaic.Affine.ofNat 128 ⟨rfl, by decide⟩) ⟨by push_cast; rfl, by omega, by decide⟩) (by omega),
    toNat_of_isInt (Idealize.ShloMosaic.Affine.remsi hw (Idealize.ShloMosaic.Affine.ofNat 128 ⟨rfl, by decide⟩) ⟨by push_cast; rfl, by omega, by decide⟩) (by omega)⟩

theorem cIn_ok (k : ℕ) (hk : k < 512) : cIn (Scf.iv 0#32 1#32 k) := by
  intro u a
  have h := cOff_nat k hk u
  match a with
  | ⟨0, _⟩ =>
    show cOff _ _ 0 + 1 ≤ 32
    rw [h.1]; omega
  | ⟨1, _⟩ =>
    show cOff _ _ 1 + 1 ≤ 128
    rw [h.2]; omega

theorem wordOf_idx (f : S32x128.Idx → BitVec 32) (off : Fin 2 → ℕ) (h : ∀ a, off a + S1x1.size a ≤ S32x128.size a) (n : ℕ) (hn : n < 4096)
    (e0 : off 0 = n / 128) (e1 : off 1 = n % 128) :
    wordOf (F := F) idxsM f ⟨Rect.unit (s := S32x128) off S1x1.size h, numel1_S1x1⟩ = f (ix2 ⟨n / 128, by omega⟩ ⟨n % 128, by omega⟩) := by
  show f _ = _
  congr 1
  funext a
  match a with
  | ⟨0, _⟩ => exact Fin.ext (show off 0 + 1 * 0 = n / 128 by omega)
  | ⟨1, _⟩ => exact Fin.ext (show off 1 + 1 * 0 = n % 128 by omega)

/-! ## Which source a place of the result comes from -/

theorem offOf_succ (s : ℕ) (hs : s < 8) : offOf I c (s + 1) = offOf I c s + nOf I ⟨s, hs⟩ c.val c.isLt := by
  have h : ∀ (s : Fin 8) (f : Fin 8 → ℕ), (∑ u : Fin 8, if u.val < s.val + 1 then f u else 0) = (∑ u : Fin 8, if u.val < s.val then f u else 0) + f s := by
    intro s f
    rw [← Finset.add_sum_erase _ (fun u : Fin 8 => if u.val < s.val + 1 then f u else 0) (Finset.mem_univ s), ← Finset.add_sum_erase _ (fun u : Fin 8 => if u.val < s.val then f u else 0) (Finset.mem_univ s),
      if_pos (Nat.lt_succ_self _), if_neg (Nat.lt_irrefl _), zero_add, add_comm]
    congr 1
    refine Finset.sum_congr rfl fun u hu => ?_
    have : u.val ≠ s.val := fun h => (Finset.mem_erase.mp hu).1 (Fin.ext h)
    by_cases h : u.val < s.val
    · rw [if_pos h, if_pos (by omega)]
    · rw [if_neg h, if_neg (by omega)]
  exact h ⟨s, hs⟩ fun u => nOf I ⟨u.val, u.isLt⟩ c.val c.isLt

theorem offOf_zero : offOf I c 0 = 0 := Finset.sum_eq_zero fun u _ => if_neg (Nat.not_lt_zero _)

theorem offOf_mono {s s' : ℕ} (h : s ≤ s') : offOf I c s ≤ offOf I c s' :=
  Finset.sum_le_sum fun u _ => by
    by_cases h1 : u.val < s
    · rw [if_pos h1, if_pos (by omega)]
    · rw [if_neg h1]; exact Nat.zero_le _

/-- No more than a full window comes from each source. -/
theorem offOf_le (hG : Good I) (n : ℕ) (hn : n ≤ 8) : offOf I c n ≤ 640 * n := by
  induction n with
  | zero => exact Nat.le_of_eq (offOf_zero I c)
  | succ n ih =>
    rw [offOf_succ I c n (by omega)]
    have := ih (by omega)
    have := hG.cnt_le ⟨n, by show n < 8; omega⟩ c.val c.isLt
    omega

/-- Place `i` lies among the rows of source `segN i`, or past those of the first seven. -/
theorem segN_spec (i : ℕ) :
    segN I c i < 8 ∧ offOf I c (segN I c i) ≤ i ∧ (segN I c i = 7 ∨ i < offOf I c (segN I c i + 1)) := by
  have hex : ∃ k, k < 8 ∧ (k = 7 ∨ i < offOf I c (k + 1)) := ⟨7, by omega, .inl rfl⟩
  let k := Nat.find hex
  obtain ⟨hk8, hk⟩ := Nat.find_spec hex
  have hlow : offOf I c k ≤ i := by
    rcases Nat.eq_zero_or_pos k with h0 | h0
    · rw [h0, offOf_zero]; exact Nat.zero_le _
    · have := Nat.find_min hex (m := k - 1) (by show k - 1 < k; omega)
      have e : k - 1 + 1 = k := by omega
      rw [e] at this
      have hk8' : k < 8 := hk8
      by_contra hc
      exact this ⟨by omega, by omega⟩
  have hseg : segN I c i = k := by
    have : segN I c i = ∑ s : Fin 7, if s.val < k then 1 else 0 := by
      refine Finset.sum_congr rfl fun s _ => ?_
      by_cases h : s.val < k
      · rw [if_pos h, if_pos ((offOf_mono I c (by omega : s.val + 1 ≤ k)).trans hlow)]
      · rw [if_neg h, if_neg]
        intro hc
        have := offOf_mono I c (by omega : k + 1 ≤ s.val + 1)
        have hk' : i < offOf I c (k + 1) := hk.resolve_left fun h7 => h (by have := s.isLt; omega)
        omega
    rw [this]
    have hd : ∀ k : Fin 8, (∑ s : Fin 7, if s.val < k.val then 1 else 0) = k.val := by decide
    exact hd ⟨k, hk8⟩
  rw [hseg]
  exact ⟨hk8, hlow, hk⟩

theorem idxN_lt (hG : Good I) (i : ℕ) (hi : i < 4096) : idxN I c i < 8 * 640 := by
  obtain ⟨h8, hlo, hhi⟩ := segN_spec I c i
  unfold idxN
  rcases hhi with h7 | hhi
  · have := hG.col_fit c
    have hc : c.val < 8 := c.isLt
    rw [h7] at hlo ⊢
    omega
  · rw [offOf_succ I c _ h8] at hhi
    have := hG.cnt_le ⟨segN I c i, h8⟩ c.val c.isLt
    have h := Nat.mod_lt (c.val + 7 + 7 * segN I c i) (by decide : 0 < 8)
    have := Nat.mul_le_mul_right 640 (Nat.le_of_lt_succ h)
    omega

theorem rowOf_recv (w n : ℕ) (h : w < 8 * 640) (e : w = n) (l : Fin 1024) :
    rowOf (recvV I c) w h l = recvV I c (ix3 ⟨n / 8 % 640, Nat.mod_lt _ (by decide)⟩ ⟨n % 8, Nat.mod_lt _ (by decide)⟩ l) := by
  subst e
  unfold rowOf
  congr 2
  exact Fin.ext (Nat.mod_eq_of_lt (by omega)).symm

theorem outV_at (k r : ℕ) (l : Fin 1024) (hk : k < 512) (hr : r < 8) :
    outV I c (ix3 ⟨0 + k, by omega⟩ ⟨r, hr⟩ l) = recvV I c (ix3 ⟨idxN I c (k * 8 + r) / 8 % 640, Nat.mod_lt _ (by decide)⟩ ⟨idxN I c (k * 8 + r) % 8, Nat.mod_lt _ (by decide)⟩ l) := by
  have e : idxN I c ((0 + k) * 8 + r) = idxN I c (k * 8 + r) := by rw [Nat.zero_add]
  rw [← e]; rfl

/-- Trip `k` of the compaction. -/
theorem compact_trip (hG : Good I) (k : ℕ) (hk : k < 512) :
    ∃ W : ℕ → BitVec 32, (∀ i (hi : i < (cList (Scf.iv 0#32 1#32 k) (cIn_ok k hk)).length),
        wordOf (F := F) idxsM (idxV I c) (cList (Scf.iv 0#32 1#32 k) (cIn_ok k hk))[i] = W i)
      ∧ ∀ r (hr : r < 8), ∃ h : (W r).toNat < 8 * 640, ∀ l, rowOf (recvV I c) (W r).toNat h l = outV I c (ix3 ⟨0 + k, by omega⟩ ⟨r, hr⟩ l) := by
  have key (u : Fin 8) := cOff_nat k hk u
  have hW (r : ℕ) (hr : r < 8) : idxV I c (ix2 ⟨(k * 8 + r) / 128, by omega⟩ ⟨(k * 8 + r) % 128, by omega⟩) = BitVec.ofNat 32 (idxN I c (k * 8 + r)) := by
    show BitVec.ofNat 32 (idxN I c ((k * 8 + r) / 128 * 128 + (k * 8 + r) % 128)) = _
    congr 2; omega
  refine ⟨fun r => BitVec.ofNat 32 (idxN I c (k * 8 + r)), fun i hi => ?_, fun r hr => ?_⟩
  · match i, hi with
    | 0, _ => exact (wordOf_idx _ _ (cIn_ok k hk 0) (k * 8 + 0) (by omega) (key 0).1 (key 0).2).trans (hW 0 (by omega))
    | 1, _ => exact (wordOf_idx _ _ (cIn_ok k hk 1) (k * 8 + 1) (by omega) (key 1).1 (key 1).2).trans (hW 1 (by omega))
    | 2, _ => exact (wordOf_idx _ _ (cIn_ok k hk 2) (k * 8 + 2) (by omega) (key 2).1 (key 2).2).trans (hW 2 (by omega))
    | 3, _ => exact (wordOf_idx _ _ (cIn_ok k hk 3) (k * 8 + 3) (by omega) (key 3).1 (key 3).2).trans (hW 3 (by omega))
    | 4, _ => exact (wordOf_idx _ _ (cIn_ok k hk 4) (k * 8 + 4) (by omega) (key 4).1 (key 4).2).trans (hW 4 (by omega))
    | 5, _ => exact (wordOf_idx _ _ (cIn_ok k hk 5) (k * 8 + 5) (by omega) (key 5).1 (key 5).2).trans (hW 5 (by omega))
    | 6, _ => exact (wordOf_idx _ _ (cIn_ok k hk 6) (k * 8 + 6) (by omega) (key 6).1 (key 6).2).trans (hW 6 (by omega))
    | 7, _ => exact (wordOf_idx _ _ (cIn_ok k hk 7) (k * 8 + 7) (by omega) (key 7).1 (key 7).2).trans (hW 7 (by omega))
  · have hlt := idxN_lt I c hG (k * 8 + r) (by omega)
    have e : (BitVec.ofNat 32 (idxN I c (k * 8 + r))).toNat = idxN I c (k * 8 + r) := by rw [BitVec.toNat_ofNat]; omega
    exact ⟨e.trans_lt hlt, fun l => (rowOf_recv I c _ _ _ e l).trans (outV_at I c k r l hk hr).symm⟩

/-- The compaction. -/
theorem wp_compact (hG : Good I) (q1 q2 : PosShare TreeShare) (dec : ∀ w, Decidable (slabIn 640 w))
    (l : Scf.Loop 32) (ht : l.trips = 512) (hok : l.OK) (body : Fin l.trips → Unit → Prog (TpuEff nD τ sig (Elt F) Λ₀ .tc) Unit)
    (hbody : ∀ (k : Fin l.trips) hL, ∃ hs hst, body k ⟨⟩
      = trip (F := F) idxsM recvM outM dec v3₀ (cList (Scf.iv 0#32 1#32 k) hL) (cStore (Scf.iv 0#32 1#32 k)) hs hst)
    {β : Type} (kk : Unit → Prog (TpuEff nD τ sig (Elt F) Λ₀ .tc) β) (Q : β → sProp 𝕄) :
    iprop(src idxsM recvM c (idxV I c) (recvV I c) q1 q2 ∗ below c outM (outV I c) 0)
      ⊢ iprop((src idxsM recvM c (idxV I c) (recvV I c) q1 q2 ∗ below c outM (outV I c) 512 -∗ run c (kk ⟨⟩) Q)
        -∗ run c (Scf.Loop.for l hok ⟨⟩ body >>= kk) Q) := by
  have hT : Scf.trips l.lb l.ub l.st = 512 := ht
  have e : 512 = 0 + Scf.trips l.lb l.ub l.st := by rw [hT]
  iintro H Hk
  iapply (wp_trips idxsM recvM c (idxV I c) (recvV I c) outM l.lb l.ub l.st hok body (by decide) (outV I c) 0 (by rw [hT])
    (dec := dec) (fun k => by
      have hk : k.val < 512 := lt_of_lt_of_eq k.isLt hT
      obtain ⟨hs, hst, hb⟩ := hbody k (cIn_ok k.val hk)
      obtain ⟨W, hW, hR⟩ := compact_trip I c hG k.val hk
      refine ⟨_, _, hs, hst, hb, ?_, rfl, rfl, rfl, W, hW, hR⟩
      show (Scf.iv 0#32 1#32 k.val).toNat = _
      rw [iv_nat k.val (by omega), zero_add]) kk Q) $$ H
  iintro Hs Hb
  iapply Hk
  isplitl [Hs]; · iexact Hs
  rw [hT]
  iexact Hb

end Cert.KernelIdeal.Own

end
-- ==== Proof.Parts1.lean ====
/-
  The first stretch of a device's run: the barrier, the count copies, and the own counts.
-/
module

public import proofs.«01_k».proof.Proof.Words

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

/-! ## Backward rules -/

theorem fam_mono {ι : Type} {s : Finset ι} {Φ Ψ : ι → sProp 𝕄} (h : ∀ i ∈ s, Φ i ⊢ Ψ i) : bigSep s Φ ⊢ bigSep s Ψ := bigSep_mono h

theorem fam_zip {ι : Type} {s : Finset ι} {Φ Ψ Φ' Ψ' : ι → sProp 𝕄} (h : ∀ i ∈ s, iprop(Φ i ∗ Ψ i) ⊢ iprop(Φ' i ∗ Ψ' i)) :
    iprop(bigSep s Φ ∗ bigSep s Ψ) ⊢ iprop(bigSep s Φ' ∗ bigSep s Ψ') := by
  rw [← bigSep_sep', ← bigSep_sep']
  exact fam_mono h

section Backward

variable (c : Dev nD) {α β : Type}

/-- A step, then what follows it. -/
theorem after {A B P R W W' : sProp 𝕄} [BI.Persistent P] (h : iprop(P ∗ A) ⊢ iprop((B -∗ W) -∗ W')) (k : iprop(P ∗ B ∗ R) ⊢ W) :
    iprop(P ∗ A ∗ R) ⊢ W' := by
  iintro ⟨#HP, HA, HR⟩
  iapply h $$ [HA]
  · isplitr; · iexact HP
    iexact HA
  iintro HB
  iapply k
  isplitr; · iexact HP
  isplitl [HB]; · iexact HB
  iexact HR

/-- A step that uses nothing shared, then what follows it. -/
theorem after' {A B R W W' : sProp 𝕄} (h : A ⊢ iprop((B -∗ W) -∗ W')) (k : iprop(B ∗ R) ⊢ W) : iprop(A ∗ R) ⊢ W' := by
  iintro ⟨HA, HR⟩
  iapply h $$ [HA]; · iexact HA
  iintro HB
  iapply k
  isplitl [HB]; · iexact HB
  iexact HR

theorem run_bind {A : sProp 𝕄} {p : Prog (TpuEff nD τ sig (Elt F) Λ₀ .tc) α} {kk : α → Prog (TpuEff nD τ sig (Elt F) Λ₀ .tc) β} {Q : β → sProp 𝕄}
    (h : A ⊢ run c p (fun a => run c (kk a) Q)) : A ⊢ run c (p >>= kk) Q := by
  unfold run; rw [wp_bind]; exact h

theorem run_pure {A : sProp 𝕄} {a : α} {Q : α → sProp 𝕄} (h : A ⊢ Q a) : A ⊢ run c (pure a) Q := by
  show A ⊢ wp _ _ _ (Prog.ret a) Q
  rw [wp_ret]
  exact h.trans (by iintro H; imodintro; iexact H)

theorem run_device {A : sProp 𝕄} {kk : Dev nD → Prog (TpuEff nD τ sig (Elt F) Λ₀ .tc) α} {Q : α → sProp 𝕄} (h : A ⊢ run c (kk c) Q) :
    A ⊢ run c (Prog.lift .deviceId >>= kk) Q := by
  refine h.trans (Entails.of_eq ?_)
  exact (wp_deviceId 𝒱₀ (c : Thread nD τ) none Set.univ (k := kk) (Q := Q)).symm

theorem run_assume {A : sProp 𝕄} {P : Prop} {dec : Decidable P} (hP : P) {kk : PLift P → Prog (TpuEff nD τ sig (Elt F) Λ₀ .tc) α} {Q : α → sProp 𝕄}
    (h : A ⊢ run c (kk ⟨hP⟩) Q) : A ⊢ run c (Prog.lift (TpuEff.assume P dec) >>= kk) Q := by
  iintro H
  iapply (wp_assume 𝒱₀ (c : Thread nD τ) none Set.univ hP (k := kk))
  iapply h; iexact H

end Backward

/-- A function of the body's buffers and semaphores at the ones the run brings. -/
abbrev atBufs {β : Type 1} (f : (a0 : Memref sig .tc .vmem S512x8x1024 .bf16) → a0.IsWhole → (a1 : Memref sig .tc .smem S4096 .i32) → a1.IsWhole
    → (a2 : Memref sig .tc .vmem S1x128 .i32) → a2.IsWhole → (a3 : Memref sig .tc .vmem S512x8x1024 .bf16) → a3.IsWhole
    → (a4 : Memref sig .tc .vmem S640x8x1024 .bf16) → a4.IsWhole → (a5 : Memref sig .tc .vmem S640x8x1024 .bf16) → a5.IsWhole
    → (a6 : Memref sig .tc .vmem S7x128 .i32) → a6.IsWhole → (a7 : Memref sig .tc .vmem S32x128 .i32) → a7.IsWhole
    → (a8 : Memref sig .tc .smem S8x128 .i32) → a8.IsWhole → (a9 : Memref sig .tc .smem S32x128 .i32) → a9.IsWhole
    → DmaSems sig S7 → DmaSems sig S7 → DmaSems sig S7 → DmaSems sig S7 → DmaSems sig S_ → DmaSems sig S_ → DmaSems sig S_ → β) : β :=
  f xM (Memref.isWhole_whole _) ordM (Memref.isWhole_whole _) cntM (Memref.isWhole_whole _) outM (Memref.isWhole_whole _) sendM (Memref.isWhole_whole _)
    recvM (Memref.isWhole_whole _) matM (Memref.isWhole_whole _) idxM (Memref.isWhole_whole _) cntsM (Memref.isWhole_whole _) idxsM (Memref.isWhole_whole _)
    cc0_scratch6 cc0_scratch7 cc0_scratch8 cc0_scratch9 cc0_scratch10 cc0_scratch11 cc0_scratch12

/-! ## Reading the count table -/

section Reads

variable (I : Inp F) (c : Dev nD) {α : Type}

theorem read_word {cs : CoreSpace} {sh : Shape} (m : Memref sig .tc cs sh .i32) (r : Rect sh) (h1 : r.shape.numel = 1) (f : m.view.ty.Contents (Elt F)) (z : sh.Idx)
    (hz : ∀ a, (z a).val = r.off a) :
    (m.access r).read (Elt F) f (Shape.Idx.first (h1.symm ▸ Nat.one_pos)) = m.view.read (Elt F) f z := by
  show m.view.read (Elt F) f (r.emb _) = _
  congr 1
  funext a
  apply Fin.ext
  rw [hz a]
  have : ∀ (s : Shape) (h : 0 < s.numel) a, ((Shape.Idx.first h : s.Idx) a).val = 0 := by intros; rfl
  show r.off a + r.stride a * ((Shape.Idx.first _ : r.shape.Idx) a).val = _
  rw [this, Nat.mul_zero, Nat.add_zero]

/-- One word of the own counts. -/
theorem step_own (t : Fin 8) (off : Fin 2 → ℕ) (h : ∀ a, off a + S1x1.size a ≤ S8x128.size a) (h0 : off 0 = 7) (h1 : off 1 = t.val)
    (kk : Elt F .i32 → Prog (TpuEff nD τ sig (Elt F) Λ₀ .tc) α) (Q : α → sProp 𝕄) :
    (owns (c : Thread nD τ) cntsOwn fullShare (I.cnt c) : sProp 𝕄)
      ⊢ iprop((owns (c : Thread nD τ) cntsOwn fullShare (I.cnt c) -∗ run c (kk (cw I c t)) Q)
        -∗ run c (smemLoad cntsM (Rect.unit (s := S8x128) off S1x1.size h) numel1_S1x1 rfl >>= kk) Q) := by
  rw [show (owns (c : Thread nD τ) cntsOwn fullShare (I.cnt c) : sProp 𝕄)
    = iprop(∃ f, ⌜cntsOwn.view.read (Elt F) f = I.cnt c⌝ ∗ (cntsOwn.view.loc (c : Thread nD τ) ↦[cntsOwn.view.set]{fullShare} f)) from rfl]
  have hz : ∀ a, ((ownR.emb (ix2 (0 : Fin 1) (⟨t.val, by omega⟩ : Fin 128)) : S8x128.Idx) a).val = off a
    | ⟨0, _⟩ => h0.symm
    | ⟨1, _⟩ => (by show 0 + 1 * t.val = off 1; omega)
  iintro ⟨%f, %hf, H⟩ Hk
  iapply (wp_load_rect 𝒱₀ (c : Thread nD τ) none Set.univ (m := cntsM) (r := Rect.unit (s := S8x128) off S1x1.size h) (q := fullShare) (f := f)
    (S := cntsOwn.view.set)
    (k := fun f => kk (f (Shape.Idx.first ((numel1_S1x1 : (Rect.unit (s := S8x128) off S1x1.size h).shape.numel = 1).symm ▸ Nat.one_pos)))) (by
      intro w hw
      rw [View.set, Finset.mem_map] at hw
      obtain ⟨y, -, rfl⟩ := hw
      rw [View.set, Finset.mem_map]
      refine ⟨ix2 (0 : Fin 1) (⟨t.val, by omega⟩ : Fin 128), Finset.mem_univ _, ?_⟩
      show cntsM.view.emb (ownR.emb _) = cntsM.view.emb ((Rect.unit (s := S8x128) off S1x1.size h).emb y)
      congr 1
      funext a
      apply Fin.ext
      rw [hz a]
      have hy : (y a).val < S1x1.size a := (y a).isLt
      show off a = off a + 1 * (y a).val
      match a with
      | ⟨0, _⟩ => have hy : (y 0).val < 1 := hy; show off 0 = off 0 + 1 * (y 0).val; omega
      | ⟨1, _⟩ => have hy : (y 1).val < 1 := hy; show off 1 = off 1 + 1 * (y 1).val; omega)) $$ H
  iintro H
  have e : (cntsM.access (Rect.unit (s := S8x128) off S1x1.size h)).read (Elt F) f
      (Shape.Idx.first ((numel1_S1x1 : (Rect.unit (s := S8x128) off S1x1.size h).shape.numel = 1).symm ▸ Nat.one_pos)) = cw I c t :=
    (read_word cntsM _ numel1_S1x1 f _ hz).trans (congrFun hf (ix2 (0 : Fin 1) (⟨t.val, by omega⟩ : Fin 128)))
  rw [e]
  iapply Hk
  iexists f
  isplitr; · ipureintro; exact hf
  iexact H

/-- One word of the whole table. -/
theorem step_tab (off : Fin 2 → ℕ) (h : ∀ a, off a + S1x1.size a ≤ S8x128.size a) (z : S8x128.Idx) (hz : ∀ a, (z a).val = off a)
    (kk : Elt F .i32 → Prog (TpuEff nD τ sig (Elt F) Λ₀ .tc) α) (Q : α → sProp 𝕄) :
    (owns (c : Thread nD τ) cntsM fullShare (cntsV I c) : sProp 𝕄)
      ⊢ iprop((owns (c : Thread nD τ) cntsM fullShare (cntsV I c) -∗ run c (kk (cntsV I c z)) Q)
        -∗ run c (smemLoad cntsM (Rect.unit (s := S8x128) off S1x1.size h) numel1_S1x1 rfl >>= kk) Q) := by
  rw [show (owns (c : Thread nD τ) cntsM fullShare (cntsV I c) : sProp 𝕄)
    = iprop(∃ f, ⌜cntsM.view.read (Elt F) f = cntsV I c⌝ ∗ (cntsM.view.loc (c : Thread nD τ) ↦[cntsM.view.set]{fullShare} f)) from rfl]
  iintro ⟨%f, %hf, H⟩ Hk
  iapply (wp_load_rect 𝒱₀ (c : Thread nD τ) none Set.univ (m := cntsM) (r := Rect.unit (s := S8x128) off S1x1.size h) (q := fullShare) (f := f)
    (S := cntsM.view.set)
    (k := fun f => kk (f (Shape.Idx.first ((numel1_S1x1 : (Rect.unit (s := S8x128) off S1x1.size h).shape.numel = 1).symm ▸ Nat.one_pos))))
    (cntsM.view.set_slice_subset _)) $$ H
  iintro H
  have e : (cntsM.access (Rect.unit (s := S8x128) off S1x1.size h)).read (Elt F) f
      (Shape.Idx.first ((numel1_S1x1 : (Rect.unit (s := S8x128) off S1x1.size h).shape.numel = 1).symm ▸ Nat.one_pos)) = cntsV I c z :=
    (read_word cntsM _ numel1_S1x1 f _ hz).trans (congrFun hf z)
  rw [e]
  iapply Hk
  iexists f
  isplitr; · ipureintro; exact hf
  iexact H

end Reads

/-! ## The barrier and the count copies -/

section First

variable (I : Inp F) (K : GSem nD τ sig → ℕ) (c : Dev nD)

/-- The device's number as the kernel computes it. -/
abbrev w2 (c : Dev nD) : BitVec 32 := Scalar.remsi (Scalar.divsi (Dev.word c) 1#32) 8#32

theorem run_signal (i : Fin 7) {t : Dev nD} (ht : t = peer c i) {α : Type} {kk : PUnit → Prog (TpuEff nD τ sig (Elt F) Λ₀ .tc) α} {Q : α → sProp 𝕄} {R : sProp 𝕄}
    (h : iprop(pers I K c ∗ sigSt c (i.val + 1) ∗ R) ⊢ run c (kk ⟨⟩) Q) :
    iprop(pers I K c ∗ sigSt c i.val ∗ R) ⊢ run c (semSignalWord t (SemArray.scalar (sig.barrier 0 rfl) : Sems sig S_).sem 1#32 >>= kk) Q :=
  after (step_signal I K c i ht kk Q) h

theorem dev_sig : ∀ d : Dev nD, (⟨k0_dev1 d, k0_dev1_lt d⟩ : Dev nD) = peer d 0 ∧ (⟨k0_dev2 d, k0_dev2_lt d⟩ : Dev nD) = peer d 1
    ∧ (⟨k0_dev3 d, k0_dev3_lt d⟩ : Dev nD) = peer d 2 ∧ (⟨k0_dev4 d, k0_dev4_lt d⟩ : Dev nD) = peer d 3
    ∧ (⟨k0_dev5 d, k0_dev5_lt d⟩ : Dev nD) = peer d 4 ∧ (⟨k0_dev6 d, k0_dev6_lt d⟩ : Dev nD) = peer d 5 ∧ (⟨k0_dev7 d, k0_dev7_lt d⟩ : Dev nD) = peer d 6 := by decide

theorem dev_cnt : ∀ d : Dev nD, (⟨k0_dev8 d, k0_dev8_lt d⟩ : Dev nD) = peer d 0 ∧ (⟨k0_dev9 d, k0_dev9_lt d⟩ : Dev nD) = peer d 1
    ∧ (⟨k0_dev10 d, k0_dev10_lt d⟩ : Dev nD) = peer d 2 ∧ (⟨k0_dev11 d, k0_dev11_lt d⟩ : Dev nD) = peer d 3
    ∧ (⟨k0_dev12 d, k0_dev12_lt d⟩ : Dev nD) = peer d 4 ∧ (⟨k0_dev13 d, k0_dev13_lt d⟩ : Dev nD) = peer d 5 ∧ (⟨k0_dev14 d, k0_dev14_lt d⟩ : Dev nD) = peer d 6 := by decide

theorem dev_dat : ∀ d : Dev nD, (⟨k0_dev15 d, k0_dev15_lt d⟩ : Dev nD) = peer d 0 ∧ (⟨k0_dev16 d, k0_dev16_lt d⟩ : Dev nD) = peer d 1
    ∧ (⟨k0_dev17 d, k0_dev17_lt d⟩ : Dev nD) = peer d 2 ∧ (⟨k0_dev18 d, k0_dev18_lt d⟩ : Dev nD) = peer d 3
    ∧ (⟨k0_dev19 d, k0_dev19_lt d⟩ : Dev nD) = peer d 4 ∧ (⟨k0_dev20 d, k0_dev20_lt d⟩ : Dev nD) = peer d 5 ∧ (⟨k0_dev21 d, k0_dev21_lt d⟩ : Dev nD) = peer d 6 := by decide

theorem p37 {Q} {R : sProp 𝕄} (h : ∀ v25, iprop(pers I K c ∗ sigSt c 5 ∗ R) ⊢ Q ⟨c, w2 c, v3₀, SemArray.scalar (sig.barrier 0 rfl), v25⟩) :
    iprop(pers I K c ∗ sigSt c 0 ∗ R) ⊢ run c (atBufs (k0_part37 (F := F))) Q := by
  have hd := dev_sig c
  rw [k0_part37_eq_skeleton]
  refine run_device c ?_
  refine run_signal I K c 0 hd.1 ?_
  refine run_signal I K c 1 hd.2.1 ?_
  refine run_signal I K c 2 hd.2.2.1 ?_
  refine run_signal I K c 3 hd.2.2.2.1 ?_
  refine run_signal I K c 4 hd.2.2.2.2.1 ?_
  exact run_pure c (h _)

/-- What a count copy needs beside the landing place its peer hands over. -/
def cntPre (i : Fin 7) : sProp 𝕄 :=
  iprop(owns (c : Thread nD τ) cntM (tokQ i.val) (I.cnt c) ∗ dutyTok ER (scCell c (csS i)) 0 0 ∗ dutyTok ER (scCell (peer c i) (crS i)) 0 0)

/-- The landing place of a window. -/
def landed (i : Fin 7) : sProp 𝕄 := iprop(any (F := F) (peer c i) (recvW i.castSucc) ∗ reached ER (scCell (peer c i) (drS i)) 0)

theorem after_barrier : iprop(bigSep Finset.univ (fun i => barPay (F := F) c i) ∗ bigSep Finset.univ (cntPre I c))
    ⊢ iprop(bigSep (finFrom 7 0) (cntRes I c) ∗ bigSep Finset.univ (landed (F := F) c)) := by
  rw [bigSep_finFrom_zero]
  refine fam_zip fun i _ => ?_
  unfold barPay cntPre cntRes landed
  iintro ⟨⟨H1, H2, H3, H4⟩, H5, H6, H7⟩
  isplitl [H1 H3 H5 H6 H7]
  · isplitl [H5]; · iexact H5
    isplitl [H1]; · iexact H1
    isplitl [H3]; · iexact H3
    isplitl [H6]; · iexact H6
    iexact H7
  isplitl [H2]; · iexact H2
  iexact H4

/-- What the barrier's wait needs, and what the device has after it. -/
def barPre : sProp 𝕄 := iprop(cred (tallyAt (barCell c) () 7) ∗ atPos ER (barCell c) 0 ∅ 0 ∗ bigSep Finset.univ (cntPre I c))
def barPost : sProp 𝕄 := iprop(atPos ER (barCell c) 1 ∅ 0 ∗ bigSep Finset.univ (landed (F := F) c))

theorem run_barrier {α : Type} {kk : PUnit → Prog (TpuEff nD τ sig (Elt F) Λ₀ .tc) α} {Q : α → sProp 𝕄} {R : sProp 𝕄}
    (h : iprop(pers I K c ∗ cntSt I c 0 ∗ barPost c ∗ R) ⊢ run c (kk ⟨⟩) Q) :
    iprop(pers I K c ∗ sigSt c 7 ∗ barPre I c ∗ R) ⊢ run c (semWaitWord (SemArray.scalar (sig.barrier 0 rfl) : Sems sig S_).sem 7#32 >>= kk) Q := by
  have e : Ob c 7 = 0 := sum_finFrom_self _
  unfold sigSt barPre
  rw [e, add_zero, bigSep_finFrom_self]
  iintro ⟨#HP, ⟨-, HO⟩, ⟨Hc, Hat, Hpre⟩, HR⟩
  iapply (step_barrier I K c kk Q) $$ [HO Hc Hat]
  · isplitr; · iexact HP
    isplitl [HO]; · iexact HO
    isplitl [Hc]; · iexact Hc
    iexact Hat
  iintro ⟨HO, Hat, Hpay⟩
  ihave H := (after_barrier I c) $$ [Hpay Hpre]
  · isplitl [Hpay]; · iexact Hpay
    iexact Hpre
  icases H with ⟨Hres, Hland⟩
  iapply h
  isplitr; · iexact HP
  isplitl [Hres HO]
  · unfold cntSt
    rw [bigSep_finUpTo_zero]
    isplitl [Hres]; · iexact Hres
    isplitr; · iempintro
    iexact HO
  isplitl [Hat Hland]
  · unfold barPost
    isplitl [Hat]; · iexact Hat
    iexact Hland
  iexact HR

theorem p38 {Q} {R : sProp 𝕄} (h : ∀ v34 v43 v51 z, iprop(pers I K c ∗ cntSt I c 2 ∗ barPost c ∗ R) ⊢ Q ⟨v34, v43, v51, z⟩) (v25 : BitVec 32) :
    iprop(pers I K c ∗ sigSt c 5 ∗ barPre I c ∗ R) ⊢ run c (atBufs (k0_part38 (F := F)) c (w2 c) (SemArray.scalar (sig.barrier 0 rfl)) v25) Q := by
  have hd := dev_sig c
  have he := dev_cnt c
  rw [k0_part38_eq_skeleton]
  refine run_signal I K c 5 hd.2.2.2.2.2.1 ?_
  refine run_signal I K c 6 hd.2.2.2.2.2.2 ?_
  refine run_barrier I K c ?_
  refine after (step_cnt I K c 0 he.1 _ Q) ?_
  refine after (step_cnt I K c 1 he.2.1 _ Q) ?_
  exact run_pure c (h _ _ _ _)

theorem p39 {Q} {R : sProp 𝕄} (h : ∀ v52 v61 v70 v79 v80 z, iprop(pers I K c ∗ cntSt I c 5 ∗ R) ⊢ Q ⟨v52, v61, v70, v79, v80, z⟩) (v51 z : BitVec 32) :
    iprop(pers I K c ∗ cntSt I c 2 ∗ R) ⊢ run c (atBufs (k0_part39 (F := F)) c (w2 c) v51 z) Q := by
  have he := dev_cnt c
  rw [k0_part39_eq_skeleton]
  refine after (step_cnt I K c 2 he.2.2.1 _ Q) ?_
  refine after (step_cnt I K c 3 he.2.2.2.1 _ Q) ?_
  refine after (step_cnt I K c 4 he.2.2.2.2.1 _ Q) ?_
  exact run_pure c (h _ _ _ _ _ _)

/-- What the copy of the own counts needs, and what the device has after it. -/
def rowPre : sProp 𝕄 :=
  iprop(owns (c : Thread nD τ) cntM (tokQ 7) (I.cnt c) ∗ any c cntsOwn ∗ dutyTok ER (scCell c rowS) 0 0 ∗ atPos ER (scCell c rowS) 0 ∅ 0)
/-- The count copies after the last of them. -/
def cntPost : sProp 𝕄 :=
  iprop(bigSep Finset.univ (fun i => cred (tallyAt (scCell c (csS i)) () Nc)) ∗ owing (F := F) c (Od c 0)
    ∗ owns (c : Thread nD τ) cntM (tokQ 7) (I.cnt c) ∗ atPos ER (scCell c rowS) 1 ∅ 0)

abbrev ownCnt : sProp 𝕄 := owns (c : Thread nD τ) cntsOwn fullShare (I.cnt c)

theorem run_row {α : Type} {kk : PUnit → Prog (TpuEff nD τ sig (Elt F) Λ₀ .tc) α} {Q : α → sProp 𝕄} {R : sProp 𝕄}
    {h1 : cntM.view.WordExact} {h2 : cntsOwn.view.WordExact} {h3 : DmaTarget.Typed (p := ((c : Thread nD τ)).2) .vmem (SemLoc.dma (scS rowS)) (.here cntsOwn)}
    {h4 : cntM.view.WordExact} {h5 : cntsOwn.view.WordExact}
    (h : iprop(ownCnt I c ∗ cntPost I c ∗ pers I K c ∗ R) ⊢ run c (kk ⟨⟩) Q) :
    iprop(pers I K c ∗ cntSt I c 7 ∗ rowPre I c ∗ R)
      ⊢ run c (Prog.lift (.enqueueDma cntM (.here cntsOwn) (.dma (scS rowS)) h1 h2 h3) >>= fun _ => Prog.lift (.waitDma2 (scS rowS) cntM cntsOwn h4 h5) >>= kk) Q := by
  have e : Oc c 7 = 0 := sum_finFrom_self _
  unfold cntSt rowPre
  rw [e, add_zero, bigSep_finFrom_self, bigSep_finUpTo_self]
  iintro ⟨#HP, ⟨-, Hcs, HO⟩, ⟨Hc, Hany, Ht, Hat⟩, HR⟩
  ihave #HP' := (Entails.of_eq (show pers I K c = iprop(invAll I K ∗ levAts L lv ∗ barReached ∗ ownReached c) from rfl)) $$ HP
  icases HP' with ⟨-, -, -, Hown⟩
  ihave #Hr := (reached_sc c rowS) $$ Hown
  iapply (wp_copy_owns I K c (src := cntM) (dst := cntsOwn) (hsrc := h1) (hdst := h2) (hsem := h3) rowS 0 (tokQ 7) (I.cnt c) cntsOwn.view.dmaCredit Nat.one_pos rfl rfl rfl _ Q) $$ [Hc Hany Ht]
  · isplitr; · iexact HP
    isplitl [Hc]; · iexact Hc
    isplitl [Hany]; · iexact Hany
    isplitl [Ht]; · iexact Ht
    iexact Hr
  iintro Hcr
  iapply (wp_wait_sc I K c (src := cntM) (dst := cntsOwn) (hsrc := h4) (hdst := h5) rowS 0 cntsOwn.view.dmaCredit Nat.one_pos rfl rfl (Od c 0) (mayWait_row c) kk Q) $$ [HO Hcr Hat]
  · isplitr; · iexact HP
    isplitl [HO]; · iexact HO
    isplitl [Hcr]; · iexact Hcr
    iexact Hat
  iintro ⟨HO, Hat, -, Hpay⟩
  ihave Hpay' := (Entails.of_eq (show scPay I c rowS 0 = iprop(ownCnt I c ∗ owns (c : Thread nD τ) cntM (tokQ 7) (I.cnt c)) from rfl)) $$ Hpay
  icases Hpay' with ⟨Hown', Hcnt⟩
  iapply h
  isplitl [Hown']; · iexact Hown'
  isplitl [Hcs HO Hcnt Hat]
  · unfold cntPost
    isplitl [Hcs]; · iexact Hcs
    isplitl [HO]; · iexact HO
    isplitl [Hcnt]; · iexact Hcnt
    iexact Hat
  isplitr; · iexact HP
  iexact HR

/-- The sum of the first counts as the kernel adds them. -/
def sumW : ℕ → BitVec 32
  | 0 => 0#32
  | n + 1 => Scalar.addi (sumW n) (I.cnt c (ix2 0 ⟨n % 128, Nat.mod_lt _ (by decide)⟩))

theorem p40 {Q} {R : sProp 𝕄} (h : ∀ v88, iprop(ownCnt I c ∗ cntPost I c ∗ pers I K c ∗ R)
      ⊢ Q ⟨v88, cw I c 0, sumW I c 1, cw I c 1, sumW I c 2, cw I c 2, sumW I c 3, cw I c 3, sumW I c 4, cw I c 4, sumW I c 5, cw I c 5, sumW I c 6⟩) (v80 z : BitVec 32) :
    iprop(pers I K c ∗ cntSt I c 5 ∗ rowPre I c ∗ R) ⊢ run c (atBufs (k0_part40 (F := F)) c (w2 c) v80 z) Q := by
  have he := dev_cnt c
  rw [k0_part40_eq_skeleton]
  refine after (step_cnt I K c 5 he.2.2.2.2.2.1 _ Q) ?_
  refine after (step_cnt I K c 6 he.2.2.2.2.2.2 _ Q) ?_
  refine run_row I K c ?_
  refine after' (step_own I c 0 _ inb_S8x128_S1x1_7_0 rfl rfl _ Q) ?_
  refine after' (step_own I c 1 _ inb_S8x128_S1x1_7_1 rfl rfl _ Q) ?_
  refine after' (step_own I c 2 _ inb_S8x128_S1x1_7_2 rfl rfl _ Q) ?_
  refine after' (step_own I c 3 _ inb_S8x128_S1x1_7_3 rfl rfl _ Q) ?_
  refine after' (step_own I c 4 _ inb_S8x128_S1x1_7_4 rfl rfl _ Q) ?_
  refine after' (step_own I c 5 _ inb_S8x128_S1x1_7_5 rfl rfl _ Q) ?_
  exact run_pure c (h _)

end First

end Cert.KernelIdeal.Own

end
-- ==== Proof.Parts2.lean ====
/-
  The second stretch of a device's run: the eight gathers that fill the send buffer.
-/
module

public import proofs.«01_k».proof.Proof.Parts1

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

variable (I : Inp F) (c : Dev nD)

/-- Before window `j` is gathered. -/
def gat (j : ℕ) : sProp 𝕄 :=
  iprop(ownCnt I c ∗ src ordM xM c (I.ord c) (I.x c) fullShare fullShare ∗ below c sendM (sendV I c) (80 * j))

/-- The sum of the counts before `t`, among the first ones, as the kernel selects it. -/
def selUp (t : BitVec 32) : ℕ → BitVec 32
  | 0 => Scalar.select (Scalar.cmpi .eq t 0#32) 0#32 0#32
  | n + 1 => Scalar.select (Scalar.cmpi .eq t (BitVec.ofNat 32 (n + 1))) (sumW I c (n + 1)) (selUp t n)

theorem gat_word (t : Fin 8) (off : Fin 2 → ℕ) {h : ∀ a, off a + S1x1.size a ≤ S8x128.size a} (h0 : off 0 = 7 ∧ off 1 = t.val) {j : ℕ} {α : Type}
    {kk : Elt F .i32 → Prog (TpuEff nD τ sig (Elt F) Λ₀ .tc) α} {Q : α → sProp 𝕄} {R : sProp 𝕄}
    (k : iprop(gat I c j ∗ R) ⊢ run c (kk (cw I c t)) Q) :
    iprop(gat I c j ∗ R) ⊢ run c (smemLoad cntsM (Rect.unit (s := S8x128) off S1x1.size h) numel1_S1x1 rfl >>= kk) Q := by
  unfold gat at k ⊢
  iintro ⟨⟨Hc, Hs, Hb⟩, HR⟩
  iapply (step_own I c t off h h0.1 h0.2 kk Q) $$ Hc
  iintro Hc
  iapply k
  isplitr [HR]
  · isplitl [Hc]; · iexact Hc
    isplitl [Hs]; · iexact Hs
    iexact Hb
  iexact HR

theorem gat_loop (hG : Good I) (j : Fin 8) {dec : ∀ w, Decidable (slabIn 512 w)}
    (l : Scf.Loop 32) (ht : l.trips = 80) (hok : l.OK) (body : Fin l.trips → Unit → Prog (TpuEff nD τ sig (Elt F) Λ₀ .tc) Unit)
    (hbody : ∀ (k : Fin l.trips) hL, ∃ hs hst, body k ⟨⟩
      = trip (F := F) ordM xM sendM dec v3₀ (gList (baseW I c j) (kmaxW (cw I c (destN c j.val))) (Scf.iv 0#32 1#32 k) hL) (gStore j.val (Scf.iv 0#32 1#32 k)) hs hst)
    {β : Type} {kk : Unit → Prog (TpuEff nD τ sig (Elt F) Λ₀ .tc) β} {Q : β → sProp 𝕄} {R : sProp 𝕄}
    (k : iprop(gat I c (j.val + 1) ∗ R) ⊢ run c (kk ⟨⟩) Q) :
    iprop(gat I c j.val ∗ R) ⊢ run c (Scf.Loop.for l hok ⟨⟩ body >>= kk) Q := by
  unfold gat at k ⊢
  iintro ⟨⟨Hc, Hs⟩, HR⟩
  iapply (wp_gather I c hG j fullShare fullShare dec l ht hok body hbody kk Q) $$ Hs
  iintro Hs
  iapply k
  isplitr [HR]
  · isplitl [Hc]; · iexact Hc
    iexact Hs
  iexact HR

theorem off_word : ∀ d : Dev nD, (k0_off1 d 0 = 7 ∧ k0_off1 d 1 = (destN d 0).val) ∧ (k0_off19 d 0 = 7 ∧ k0_off19 d 1 = (destN d 1).val)
    ∧ (k0_off37 d 0 = 7 ∧ k0_off37 d 1 = (destN d 2).val) ∧ (k0_off55 d 0 = 7 ∧ k0_off55 d 1 = (destN d 3).val)
    ∧ (k0_off73 d 0 = 7 ∧ k0_off73 d 1 = (destN d 4).val) ∧ (k0_off91 d 0 = 7 ∧ k0_off91 d 1 = (destN d 5).val)
    ∧ (k0_off109 d 0 = 7 ∧ k0_off109 d 1 = (destN d 6).val) ∧ (k0_off127 d 0 = 7 ∧ k0_off127 d 1 = (destN d 7).val) := by decide

/-- The words of every trip of window `j` are inside the order. -/
theorem in_all (hG : Good I) (j : Fin 8) {n : ℕ} (hn : n ≤ 80) (k : Fin n) :
    gIn (baseW I c j) (kmaxW (cw I c (destN c j.val))) (Scf.iv 0#32 1#32 k) := gIn_ok I c hG j k.val (by omega)

theorem chk1 (hG : Good I) : k0_chk1 c (cw I c 0) (cw I c 1) (cw I c 2) (cw I c 3) (cw I c 4) (cw I c 5) (cw I c 6) (cw I c (destN c 0)) :=
  have h := fun k => in_all I c hG 0 (n := k0_t1_loop.trips) (by decide) k
  ⟨fun k => h k 0, fun k => h k 1, fun k => h k 2, fun k => h k 3, fun k => h k 4, fun k => h k 5, fun k => h k 6, fun k => h k 7⟩
theorem chk10 (hG : Good I) : k0_chk10 c (cw I c 0) (cw I c 1) (cw I c 2) (cw I c 3) (cw I c 4) (cw I c 5) (cw I c 6) (cw I c (destN c 1)) :=
  have h := fun k => in_all I c hG 1 (n := k0_t2_loop.trips) (by decide) k
  ⟨fun k => h k 0, fun k => h k 1, fun k => h k 2, fun k => h k 3, fun k => h k 4, fun k => h k 5, fun k => h k 6, fun k => h k 7⟩
theorem chk19 (hG : Good I) : k0_chk19 c (cw I c 0) (cw I c 1) (cw I c 2) (cw I c 3) (cw I c 4) (cw I c 5) (cw I c 6) (cw I c (destN c 2)) :=
  have h := fun k => in_all I c hG 2 (n := k0_t3_loop.trips) (by decide) k
  ⟨fun k => h k 0, fun k => h k 1, fun k => h k 2, fun k => h k 3, fun k => h k 4, fun k => h k 5, fun k => h k 6, fun k => h k 7⟩
theorem chk28 (hG : Good I) : k0_chk28 c (cw I c 0) (cw I c 1) (cw I c 2) (cw I c 3) (cw I c 4) (cw I c 5) (cw I c 6) (cw I c (destN c 3)) :=
  have h := fun k => in_all I c hG 3 (n := k0_t4_loop.trips) (by decide) k
  ⟨fun k => h k 0, fun k => h k 1, fun k => h k 2, fun k => h k 3, fun k => h k 4, fun k => h k 5, fun k => h k 6, fun k => h k 7⟩
theorem chk37 (hG : Good I) : k0_chk37 c (cw I c 0) (cw I c 1) (cw I c 2) (cw I c 3) (cw I c 4) (cw I c 5) (cw I c 6) (cw I c (destN c 4)) :=
  have h := fun k => in_all I c hG 4 (n := k0_t5_loop.trips) (by decide) k
  ⟨fun k => h k 0, fun k => h k 1, fun k => h k 2, fun k => h k 3, fun k => h k 4, fun k => h k 5, fun k => h k 6, fun k => h k 7⟩
theorem chk46 (hG : Good I) : k0_chk46 c (cw I c 0) (cw I c 1) (cw I c 2) (cw I c 3) (cw I c 4) (cw I c 5) (cw I c 6) (cw I c (destN c 5)) :=
  have h := fun k => in_all I c hG 5 (n := k0_t6_loop.trips) (by decide) k
  ⟨fun k => h k 0, fun k => h k 1, fun k => h k 2, fun k => h k 3, fun k => h k 4, fun k => h k 5, fun k => h k 6, fun k => h k 7⟩
theorem chk55 (hG : Good I) : k0_chk55 c (cw I c 0) (cw I c 1) (cw I c 2) (cw I c 3) (cw I c 4) (cw I c 5) (cw I c 6) (cw I c (destN c 6)) :=
  have h := fun k => in_all I c hG 6 (n := k0_t7_loop.trips) (by decide) k
  ⟨fun k => h k 0, fun k => h k 1, fun k => h k 2, fun k => h k 3, fun k => h k 4, fun k => h k 5, fun k => h k 6, fun k => h k 7⟩
theorem chk64 (hG : Good I) : k0_chk64 c (cw I c 0) (cw I c 1) (cw I c 2) (cw I c 3) (cw I c 4) (cw I c 5) (cw I c 6) (cw I c (destN c 7)) :=
  have h := fun k => in_all I c hG 7 (n := k0_t8_loop.trips) (by decide) k
  ⟨fun k => h k 0, fun k => h k 1, fun k => h k 2, fun k => h k 3, fun k => h k 4, fun k => h k 5, fun k => h k 6, fun k => h k 7⟩

theorem p41 (hG : Good I) {Q} {R : sProp 𝕄} (h : ∀ hw, iprop(gat I c 1 ∗ R) ⊢ Q ⟨cw I c 6, sumW I c 7, destW c 1, cw I c (destN c 1), hw⟩) :
    iprop(gat I c 0 ∗ R) ⊢ run c (atBufs (k0_part41 (F := F)) c (w2 c) v3₀ (cw I c 0) (sumW I c 1) (cw I c 1) (sumW I c 2) (cw I c 2) (sumW I c 3) (cw I c 3) (sumW I c 4) (cw I c 4) (sumW I c 5) (cw I c 5) (sumW I c 6)) Q := by
  have ho := off_word c
  rw [k0_part41_eq_skeleton]
  refine gat_word I c 6 _ ⟨rfl, rfl⟩ ?_
  refine gat_word I c (destN c 0) _ ho.1 ?_
  refine run_assume c (chk1 I c hG) ?_
  refine gat_loop I c hG 0 (dec := k0_chk2.dec) _ (by decide) k0_t1_ok _ (fun k hL => ⟨_, _, rfl⟩) ?_
  refine gat_word I c (destN c 1) _ ho.2.1 ?_
  refine run_assume c (chk10 I c hG) ?_
  exact run_pure c (h _)

theorem p42 (hG : Good I) (hw) {Q} {R : sProp 𝕄}
    (h : ∀ hw, iprop(gat I c 2 ∗ R) ⊢ Q ⟨destW c 2, cw I c (destN c 2), hw, selUp I c (destW c 2) 3⟩) :
    iprop(gat I c 1 ∗ R) ⊢ run c (atBufs (k0_part42 (F := F)) c (w2 c) v3₀ (cw I c 0) (sumW I c 1) (cw I c 1) (sumW I c 2) (cw I c 2) (sumW I c 3) (cw I c 3) (sumW I c 4) (cw I c 4) (sumW I c 5) (cw I c 5) (sumW I c 6) (cw I c 6) (sumW I c 7) (destW c 1) (cw I c (destN c 1)) hw) Q := by
  have ho := off_word c
  rw [k0_part42_eq_skeleton]
  refine gat_loop I c hG 1 (dec := k0_chk11.dec) _ (by decide) k0_t2_ok _ (fun k hL => ⟨_, _, rfl⟩) ?_
  refine gat_word I c (destN c 2) _ ho.2.2.1 ?_
  refine run_assume c (chk19 I c hG) ?_
  exact run_pure c (h _)

theorem p43 (hG : Good I) (hw) {Q} {R : sProp 𝕄}
    (h : ∀ hw, iprop(gat I c 3 ∗ R) ⊢ Q ⟨cw I c (destN c 3), hw, selUp I c (destW c 3) 7, Scalar.subi (cw I c (destN c 3)) 1#32⟩) :
    iprop(gat I c 2 ∗ R) ⊢ run c (atBufs (k0_part43 (F := F)) c (w2 c) v3₀ (cw I c 0) (sumW I c 1) (cw I c 1) (sumW I c 2) (cw I c 2) (sumW I c 3) (cw I c 3) (sumW I c 4) (cw I c 4) (sumW I c 5) (cw I c 5) (sumW I c 6) (cw I c 6) (sumW I c 7) (destW c 2) (cw I c (destN c 2)) hw (selUp I c (destW c 2) 3)) Q := by
  have ho := off_word c
  rw [k0_part43_eq_skeleton]
  refine gat_loop I c hG 2 (dec := k0_chk20.dec) _ (by decide) k0_t3_ok _ (fun k hL => ⟨_, _, rfl⟩) ?_
  refine gat_word I c (destN c 3) _ ho.2.2.2.1 ?_
  refine run_assume c (chk28 I c hG) ?_
  exact run_pure c (h _)

theorem p44 (hG : Good I) (hw) {Q} {R : sProp 𝕄}
    (h : iprop(gat I c 5 ∗ R) ⊢ Q (destW c 5)) :
    iprop(gat I c 3 ∗ R) ⊢ run c (atBufs (k0_part44 (F := F)) c (w2 c) v3₀ (cw I c 0) (sumW I c 1) (cw I c 1) (sumW I c 2) (cw I c 2) (sumW I c 3) (cw I c 3) (sumW I c 4) (cw I c 4) (sumW I c 5) (cw I c 5) (sumW I c 6) (cw I c 6) (sumW I c 7) (cw I c (destN c 3)) hw (selUp I c (destW c 3) 7) (Scalar.subi (cw I c (destN c 3)) 1#32)) Q := by
  have ho := off_word c
  rw [k0_part44_eq_skeleton]
  refine gat_loop I c hG 3 (dec := k0_chk29.dec) _ (by decide) k0_t4_ok _ (fun k hL => ⟨_, _, rfl⟩) ?_
  refine gat_word I c (destN c 4) _ ho.2.2.2.2.1 ?_
  refine run_assume c (chk37 I c hG) ?_
  refine gat_loop I c hG 4 (dec := k0_chk38.dec) _ (by decide) k0_t5_ok _ (fun k hL => ⟨_, _, rfl⟩) ?_
  exact run_pure c h

theorem p45 (hG : Good I) {Q} {R : sProp 𝕄}
    (h : ∀ hw, iprop(gat I c 6 ∗ R) ⊢ Q ⟨destW c 6, cw I c (destN c 6), hw, selUp I c (destW c 6) 1, Scalar.cmpi .eq (destW c 6) 2#32⟩) :
    iprop(gat I c 5 ∗ R) ⊢ run c (atBufs (k0_part45 (F := F)) c (w2 c) v3₀ (cw I c 0) (sumW I c 1) (cw I c 1) (sumW I c 2) (cw I c 2) (sumW I c 3) (cw I c 3) (sumW I c 4) (cw I c 4) (sumW I c 5) (cw I c 5) (sumW I c 6) (cw I c 6) (sumW I c 7) (destW c 5)) Q := by
  have ho := off_word c
  rw [k0_part45_eq_skeleton]
  refine gat_word I c (destN c 5) _ ho.2.2.2.2.2.1 ?_
  refine run_assume c (chk46 I c hG) ?_
  refine gat_loop I c hG 5 (dec := k0_chk47.dec) _ (by decide) k0_t6_ok _ (fun k hL => ⟨_, _, rfl⟩) ?_
  refine gat_word I c (destN c 6) _ ho.2.2.2.2.2.2.1 ?_
  refine run_assume c (chk55 I c hG) ?_
  exact run_pure c (h _)

theorem p46 (hG : Good I) (hw) {Q} {R : sProp 𝕄}
    (h : ∀ hw, iprop(gat I c 7 ∗ R) ⊢ Q ⟨destW c 7, cw I c (destN c 7), hw, selUp I c (destW c 7) 6, 7#32⟩) :
    iprop(gat I c 6 ∗ R) ⊢ run c (atBufs (k0_part46 (F := F)) c (w2 c) v3₀ (cw I c 0) (sumW I c 1) (cw I c 1) (sumW I c 2) (cw I c 2) (sumW I c 3) (cw I c 3) (sumW I c 4) (cw I c 4) (sumW I c 5) (cw I c 5) (sumW I c 6) (cw I c 6) (sumW I c 7) (destW c 6) (cw I c (destN c 6)) hw (selUp I c (destW c 6) 1) (Scalar.cmpi .eq (destW c 6) 2#32)) Q := by
  have ho := off_word c
  rw [k0_part46_eq_skeleton]
  refine gat_loop I c hG 6 (dec := k0_chk56.dec) _ (by decide) k0_t7_ok _ (fun k hL => ⟨_, _, rfl⟩) ?_
  refine gat_word I c (destN c 7) _ ho.2.2.2.2.2.2.2 ?_
  refine run_assume c (chk64 I c hG) ?_
  exact run_pure c (h _)

end Cert.KernelIdeal.Own

end
-- ==== Proof.Bufs.lean ====
/-
  The buffers cut into the pieces the copies move, and put together again.
-/
module

public import proofs.«01_k».proof.Proof.Parts2

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

/-- A family of eight is its first seven and its last. -/
theorem fam_last (Φ : Fin 8 → sProp 𝕄) : bigSep Finset.univ Φ = iprop(Φ 7 ∗ bigSep Finset.univ fun i : Fin 7 => Φ i.castSucc) := by
  rw [Fin.univ_castSuccEmb, Finset.cons_eq_insert, BI.bigSep_insert, BI.bigSep_map]
  · rfl
  · simp only [Finset.mem_map, Finset.mem_univ, true_and, not_exists]
    exact fun x h => absurd (congrArg Fin.val h) (Nat.ne_of_lt x.isLt)

theorem win_disj (j j' : Fin 8) (h : j ≠ j') : Disjoint (winR j).set (winR j').set := by
  rw [Finset.disjoint_left]
  intro z hz hz'
  have a := (Rect.mem_set_unit.1 hz) 0
  have b := (Rect.mem_set_unit.1 hz') 0
  have a1 : 80 * j.val ≤ (z 0).val := a.1
  have a2 : (z 0).val < 80 * j.val + 80 := a.2
  have b1 : 80 * j'.val ≤ (z 0).val := b.1
  have b2 : (z 0).val < 80 * j'.val + 80 := b.2
  exact h (Fin.ext (by omega))

theorem win_cov : (Finset.univ : Finset (Fin 8)).biUnion (fun j => (winR j).set) = Finset.univ := by
  ext z
  simp only [Finset.mem_biUnion, Finset.mem_univ, true_and, iff_true]
  have hz : (z 0).val < 640 := (z 0).isLt
  refine ⟨⟨(z 0).val / 80, by omega⟩, Rect.mem_set_unit.2 fun a => ?_⟩
  match a with
  | ⟨0, _⟩ => exact ⟨(by omega : 80 * ((z 0).val / 80) ≤ (z 0).val), (by omega : (z 0).val < 80 * ((z 0).val / 80) + 80)⟩
  | ⟨1, _⟩ => exact ⟨Nat.zero_le _, (Nat.zero_add 8).symm ▸ (z 1).isLt⟩
  | ⟨2, _⟩ => exact ⟨Nat.zero_le _, (Nat.zero_add 1024).symm ▸ (z 2).isLt⟩

theorem mat_disj (j j' : Fin 7) (h : j ≠ j') : Disjoint (matR j).set (matR j').set := by
  rw [Finset.disjoint_left]
  intro z hz hz'
  have a := (Rect.mem_set_unit.1 hz) 0
  have b := (Rect.mem_set_unit.1 hz') 0
  have a1 : j.val ≤ (z 0).val := a.1
  have a2 : (z 0).val < j.val + 1 := a.2
  have b1 : j'.val ≤ (z 0).val := b.1
  have b2 : (z 0).val < j'.val + 1 := b.2
  exact h (Fin.ext (by omega))

theorem mat_cov : (Finset.univ : Finset (Fin 7)).biUnion (fun j => (matR j).set) = Finset.univ := by
  ext z
  simp only [Finset.mem_biUnion, Finset.mem_univ, true_and, iff_true]
  refine ⟨z 0, Rect.mem_set_unit.2 fun a => ?_⟩
  match a with
  | ⟨0, _⟩ => exact ⟨Nat.le_refl (z 0).val, Nat.lt_succ_self (z 0).val⟩
  | ⟨1, _⟩ => exact ⟨Nat.zero_le _, (Nat.zero_add 128).symm ▸ (z 1).isLt⟩

/-- The two parts of the count table. -/
abbrev tabR (b : Bool) : Rect S8x128 := if b then ownR else restR

theorem own_rest : Disjoint ownR.set restR.set := by
  rw [Finset.disjoint_left]
  intro z hz hz'
  have a1 : 7 ≤ (z 0).val := ((Rect.mem_set_unit.1 hz) 0).1
  have b2 : (z 0).val < 0 + 7 := ((Rect.mem_set_unit.1 hz') 0).2
  omega

theorem tab_disj (b b' : Bool) (h : b ≠ b') : Disjoint (tabR b).set (tabR b').set := by
  match b, b' with
  | true, true => exact absurd rfl h
  | false, false => exact absurd rfl h
  | true, false => exact own_rest
  | false, true => exact own_rest.symm

theorem tab_cov : (Finset.univ : Finset Bool).biUnion (fun b => (tabR b).set) = Finset.univ := by
  ext z
  simp only [Finset.mem_biUnion, Finset.mem_univ, true_and, iff_true]
  have hz : (z 0).val < 8 := (z 0).isLt
  have h1 : (z 1).val < 128 := (z 1).isLt
  by_cases h : (z 0).val < 7
  · refine ⟨false, (Rect.mem_set_unit.2 fun a => ?_ : z ∈ restR.set)⟩
    match a with
    | ⟨0, _⟩ => exact ⟨Nat.zero_le _, (by omega : (z 0).val < 0 + 7)⟩
    | ⟨1, _⟩ => exact ⟨Nat.zero_le _, (by omega : (z 1).val < 0 + 128)⟩
  · refine ⟨true, (Rect.mem_set_unit.2 fun a => ?_ : z ∈ ownR.set)⟩
    match a with
    | ⟨0, _⟩ => exact ⟨(by omega : 7 ≤ (z 0).val), (by omega : (z 0).val < 7 + 1)⟩
    | ⟨1, _⟩ => exact ⟨Nat.zero_le _, (by omega : (z 1).val < 0 + 128)⟩

section Cuts

variable (I : Inp F) (c : Dev nD)

/-- A memref at any contents, cut. -/
theorem any_cut {sp : Space} {sh : Shape} {e : EltTy} (m : Memref sig .tc sp sh e) {T : Type} [Fintype T] (r : T → Rect sh) (hr : ∀ t a, (r t).stride a = 1)
    (hd : ∀ t t', t ≠ t' → Disjoint (r t).set (r t').set) (hcov : (Finset.univ : Finset T).biUnion (fun t => (r t).set) = Finset.univ) :
    (any c m : sProp 𝕄) ⊢ bigSep Finset.univ fun t => any c (m.slice (r t) (hr t)) := by
  unfold any
  iintro ⟨%f, H⟩
  ihave H := (Entails.of_eq (pointsTo_rects (c : Thread nD τ) m fullShare r hr hd hcov f)) $$ H
  ihave H := (fam_mono (s := Finset.univ) (fun t _ => any_of_owns c (m.slice (r t) (hr t)) (fun j => m.view.read (Elt F) f ((r t).emb j)))) $$ H
  iexact H

/-- The filled send buffer, cut into its windows. -/
theorem below_cut : below c sendM (sendV I c) 640 ⊢ (bigSep Finset.univ fun j : Fin 8 => sentW I c j : sProp 𝕄) := by
  unfold below
  iintro ⟨%f, H, %hf⟩
  have e : sendM.view.read (Elt F) f = sendV I c := funext fun z => hf z (z 0).isLt
  ihave H := (owns_intro (c : Thread nD τ) sendM fullShare f) $$ [H]
  · rw [View.set_whole]; iexact H
  rw [e]
  iapply (owns_rects (c : Thread nD τ) sendM fullShare winR (fun _ _ => rfl) win_disj win_cov (sendV I c))
  iexact H

theorem recv_join : bigSep Finset.univ (fun j : Fin 8 => owns (c : Thread nD τ) (recvW j) fullShare (fun y => recvV I c ((winR j).emb y)))
    ⊢ (owns (c : Thread nD τ) recvM fullShare (recvV I c) : sProp 𝕄) :=
  owns_of_rects (c : Thread nD τ) recvM fullShare winR (fun _ _ => rfl) win_disj win_cov (recvV I c)
theorem send_join : bigSep Finset.univ (fun j : Fin 8 => sentW I c j) ⊢ (owns (c : Thread nD τ) sendM fullShare (sendV I c) : sProp 𝕄) :=
  owns_of_rects (c : Thread nD τ) sendM fullShare winR (fun _ _ => rfl) win_disj win_cov (sendV I c)
theorem mat_join : bigSep Finset.univ (fun i : Fin 7 => owns (c : Thread nD τ) (matRow i) fullShare (fun y => matV I c ((matR i).emb y)))
    ⊢ (owns (c : Thread nD τ) matM fullShare (matV I c) : sProp 𝕄) := by
  have h := owns_of_rects (Ix := Unit) (Name := ℕ) (U := UU) (Lvl := ℕ) (c : Thread nD τ) matM fullShare matR (fun _ _ => rfl) mat_disj mat_cov (Val := Elt F) (matV I c)
  exact h

theorem tab_stride (b : Bool) (a) : (tabR b).stride a = 1 := by
  match b with
  | true => rfl
  | false => rfl

/-- The count table from its own row and the rest. -/
theorem tab_join : iprop(owns (c : Thread nD τ) cntsOwn fullShare (I.cnt c) ∗ owns (c : Thread nD τ) cntsRest fullShare (matV I c))
    ⊢ (owns (c : Thread nD τ) cntsM fullShare (cntsV I c) : sProp 𝕄) := by
  have h := owns_of_rects (Ix := Unit) (Name := ℕ) (U := UU) (Lvl := ℕ) (c : Thread nD τ) cntsM fullShare tabR tab_stride tab_disj tab_cov (Val := Elt F) (cntsV I c)
  refine .trans ?_ h
  rw [show (Finset.univ : Finset Bool) = {false, true} by decide, BI.bigSep_insert (by decide), BI.bigSep_singleton]
  have e1 : (fun j : S1x128.Idx => cntsV I c (ownR.emb j)) = I.cnt c := by
    funext y
    have h0 : (y 0).val = 0 := by have : (y 0).val < 1 := (y 0).isLt; omega
    have e0 : ((ownR.emb y) 0).val = 7 := by show 7 + 1 * (y 0).val = 7; omega
    show I.cnt (srcOf c _) _ = I.cnt c y
    rw [e0, srcOf_own]
    congr 1
    funext a
    match a with
    | ⟨0, _⟩ => exact Fin.ext h0.symm
    | ⟨1, _⟩ => exact Fin.ext (by show 0 + 1 * (y 1).val = (y 1).val; omega)
  have e2 : (fun j : S7x128.Idx => cntsV I c (restR.emb j)) = matV I c := by
    funext y
    have e0 : ((restR.emb y) 0).val = (y 0).val := by show 0 + 1 * (y 0).val = _; omega
    show I.cnt (srcOf c _) _ = I.cnt (srcOf c _) _
    rw [e0]
    congr 1
    funext a
    match a with
    | ⟨0, _⟩ => rfl
    | ⟨1, _⟩ => exact Fin.ext (by show 0 + 1 * (y 1).val = (y 1).val; omega)
  show _ ⊢ iprop(owns (Val := Elt F) (c : Thread nD τ) cntsRest fullShare (fun j : S7x128.Idx => cntsV I c (restR.emb j)) ∗ owns (Val := Elt F) (c : Thread nD τ) cntsOwn fullShare (fun j : S1x128.Idx => cntsV I c (ownR.emb j)))
  rw [e1, e2]
  iintro ⟨H1, H2⟩
  isplitl [H2]; · iexact H2
  iexact H1

/-- The count table at any contents, cut. -/
theorem tab_cut : (any c cntsM : sProp 𝕄) ⊢ iprop(any c cntsOwn ∗ any c cntsRest) := by
  refine .trans (any_cut c cntsM tabR tab_stride tab_disj tab_cov) ?_
  rw [show (Finset.univ : Finset Bool) = {false, true} by decide, BI.bigSep_insert (by decide), BI.bigSep_singleton]
  show iprop(any c cntsRest ∗ any c cntsOwn) ⊢ _
  iintro ⟨H2, H1⟩
  isplitl [H1]; · iexact H1
  iexact H2

end Cuts

end Cert.KernelIdeal.Own

end
-- ==== Proof.Parts3.lean ====
/-
  The third stretch of a device's run: the copies of rows leave, the counts have landed, and the count table is whole.
-/
module

public import proofs.«01_k».proof.Proof.Bufs

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

section Stretch

variable (I : Inp F) (K : GSem nD τ sig → ℕ) (c : Dev nD)

/-- What the copies of rows need beside the filled windows. -/
def datPre (i : Fin 7) : sProp 𝕄 := iprop(dutyTok ER (scCell c (dsS i)) 0 0 ∗ dutyTok ER (scCell (peer c i) (drS i)) 0 0)

/-- What the copy of the own window needs. -/
def selfPre : sProp 𝕄 :=
  iprop(owing (F := F) c (Od c 0) ∗ bigSep Finset.univ (landed (F := F) c) ∗ bigSep Finset.univ (datPre (F := F) c) ∗ any c (recvW 7) ∗ dutyTok ER (scCell c locS) 0 0)

/-- The order and the rows. -/
abbrev srcs : sProp 𝕄 := src ordM xM c (I.ord c) (I.x c) fullShare fullShare

theorem dat_zip : iprop(bigSep Finset.univ (fun i : Fin 7 => sentW I c i.castSucc) ∗ bigSep Finset.univ (landed (F := F) c) ∗ bigSep Finset.univ (datPre (F := F) c))
    ⊢ bigSep (finFrom 7 0) (fun i => iprop(sentW I c i.castSucc ∗ datRes c i)) := by
  rw [bigSep_finFrom_zero]
  have h : iprop(bigSep Finset.univ (landed (F := F) c) ∗ bigSep Finset.univ (datPre (F := F) c)) ⊢ bigSep Finset.univ (fun i => datRes (F := F) c i) := by
    rw [← BI.bigSep_sep']
    refine fam_mono fun i _ => ?_
    unfold landed datPre datRes
    iintro ⟨⟨H1, H2⟩, H3, H4⟩
    isplitl [H1]; · iexact H1
    isplitl [H2]; · iexact H2
    isplitl [H3]; · iexact H3
    iexact H4
  rw [BI.bigSep_sep']
  iintro ⟨H1, H2⟩
  isplitl [H1]; · iexact H1
  iapply h; iexact H2

/-- Afterwards. -/
def selfPost : sProp 𝕄 := iprop(cred (tallyAt (scCell c locS) () Nd) ∗ ownCnt I c ∗ srcs I c)

theorem run_self {α : Type} {kk : PUnit → Prog (TpuEff nD τ sig (Elt F) Λ₀ .tc) α} {Q : α → sProp 𝕄} {R : sProp 𝕄}
    {h1 : (sendW 7).view.WordExact} {h2 : (recvW 7).view.WordExact} {h3 : DmaTarget.Typed (p := ((c : Thread nD τ)).2) .vmem (SemLoc.dma (scS locS)) (.here (recvW 7))}
    (h : iprop(pers I K c ∗ datSt I c 0 ∗ selfPost I c ∗ R) ⊢ run c (kk ⟨⟩) Q) :
    iprop(gat I c 8 ∗ pers I K c ∗ selfPre c ∗ R)
      ⊢ run c (Prog.lift (.enqueueDma (sendW 7) (.here (recvW 7)) (.dma (scS locS)) h1 h2 h3) >>= kk) Q := by
  unfold gat selfPre
  iintro ⟨⟨Hc, Hs, Hb⟩, #HP, ⟨HO, Hl, Hd, Hany, Ht⟩, HR⟩
  ihave #HP' := (Entails.of_eq (show pers I K c = iprop(invAll I K ∗ levAts L lv ∗ barReached ∗ ownReached c) from rfl)) $$ HP
  icases HP' with ⟨-, -, -, Hown⟩
  ihave #Hr := (reached_sc c locS) $$ Hown
  ihave Hw := (below_cut I c) $$ Hb
  ihave Hw := (Entails.of_eq (fam_last (fun j => sentW I c j))) $$ Hw
  icases Hw with ⟨H7, Hw⟩
  iapply (wp_copy_owns I K c (src := sendW 7) (dst := recvW 7) (hsrc := h1) (hdst := h2) (hsem := h3) locS 0 fullShare (fun y => sendV I c ((winR 7).emb y)) Nd
    (by decide) rfl rfl (by
      show iprop(owns _ _ _ _ ∗ owns _ _ _ _) = _
      rw [show (fun y : S80x8x1024.Idx => recvV I c ((winR 7).emb y)) = fun y => sendV I c ((winR 7).emb y) from ?_]
      · rfl
      funext y
      show sendV I (srcOf c _) _ = _
      have e0 : (((winR 7).emb y) 0).val / 80 = 7 := by
        have h' : (y 0).val < 80 := (y 0).isLt
        show (80 * 7 + 1 * (y 0).val) / 80 = 7
        omega
      rw [e0, srcOf_own]) kk Q) $$ [H7 Hany Ht]
  · isplitr; · iexact HP
    isplitl [H7]; · iexact H7
    isplitl [Hany]; · iexact Hany
    isplitl [Ht]; · iexact Ht
    iexact Hr
  iintro Hcr
  iapply h
  isplitr; · iexact HP
  isplitl [Hw Hl Hd HO]
  · unfold datSt
    isplitl [Hw Hl Hd]
    · iapply (dat_zip I c)
      isplitl [Hw]; · iexact Hw
      isplitl [Hl]; · iexact Hl
      iexact Hd
    isplitr
    · rw [bigSep_finUpTo_zero]; iempintro
    iexact HO
  isplitr [HR]
  · unfold selfPost
    isplitl [Hcr]; · iexact Hcr
    isplitl [Hc]; · iexact Hc
    iexact Hs
  iexact HR

theorem p47 (hG : Good I) (hw) {Q} {R : sProp 𝕄} (h : ∀ v307 v317, iprop(pers I K c ∗ datSt I c 1 ∗ selfPost I c ∗ R) ⊢ Q ⟨v307, v317⟩) :
    iprop(gat I c 7 ∗ pers I K c ∗ selfPre c ∗ R) ⊢ run c (atBufs (k0_part47 (F := F)) c (w2 c) v3₀ (cw I c 0) (cw I c 1) (cw I c 2) (cw I c 3) (cw I c 4) (cw I c 5) (cw I c 6)
      (sumW I c 7) (destW c 7) (cw I c (destN c 7)) hw (selUp I c (destW c 7) 6) 7#32) Q := by
  have hd := dev_dat c
  rw [k0_part47_eq_skeleton]
  refine gat_loop I c hG 7 (dec := k0_chk65.dec) _ (by decide) k0_t8_ok _ (fun k hL => ⟨_, _, rfl⟩) ?_
  refine run_self I K c ?_
  refine after (step_dat I K c 0 hd.1 _ Q) ?_
  exact run_pure c (h _ _)

theorem p48 {Q} {R : sProp 𝕄} (h : ∀ v327 v337 v347 z, iprop(pers I K c ∗ datSt I c 4 ∗ R) ⊢ Q ⟨v327, v337, v347, z⟩) :
    iprop(pers I K c ∗ datSt I c 1 ∗ R) ⊢ run c (atBufs (k0_part48 (F := F)) c (w2 c)) Q := by
  have hd := dev_dat c
  rw [k0_part48_eq_skeleton]
  refine after (step_dat I K c 1 hd.2.1 _ Q) ?_
  refine after (step_dat I K c 2 hd.2.2.1 _ Q) ?_
  refine after (step_dat I K c 3 hd.2.2.2.1 _ Q) ?_
  exact run_pure c (h _ _ _ _)

theorem p49 {Q} {R : sProp 𝕄} (h : ∀ v357 v367, iprop(pers I K c ∗ datSt I c 6 ∗ R) ⊢ Q ⟨v357, v367⟩) (v347 z : BitVec 32) :
    iprop(pers I K c ∗ datSt I c 4 ∗ R) ⊢ run c (atBufs (k0_part49 (F := F)) c (w2 c) v347 z) Q := by
  have hd := dev_dat c
  rw [k0_part49_eq_skeleton]
  refine after (step_dat I K c 4 hd.2.2.2.2.1 _ Q) ?_
  refine after (step_dat I K c 5 hd.2.2.2.2.2.1 _ Q) ?_
  exact run_pure c (h _ _)

/-- Two families of waits, taken in turn. -/
def two (f g : Fin 4) (a b : ℕ) : sProp 𝕄 := iprop(owing (F := F) c 0 ∗ waitSt I c f a ∗ waitSt I c g b)

theorem step_fst (f g : Fin 4) (i : Fin 7) (b : ℕ) {sp₁ sp₂ : Space} {sh₁ sh₂ : Shape} {e₁ e₂ : EltTy} {src : Memref sig .tc sp₁ sh₁ e₁} {dst : Memref sig .tc sp₂ sh₂ e₂}
    {hsrc : src.view.WordExact} {hdst : dst.view.WordExact} (hN : dst.view.dmaCredit = scAmt (.inl (f, i)) 0)
    {α : Type} (kk : PUnit → Prog (TpuEff nD τ sig (Elt F) Λ₀ .tc) α) (Q : α → sProp 𝕄) :
    iprop(pers I K c ∗ two I c f g i.val b) ⊢ iprop((two I c f g (i.val + 1) b -∗ run c (kk ⟨⟩) Q)
      -∗ run c (Prog.lift (.waitDma2 (scS (.inl (f, i))) src dst hsrc hdst) >>= kk) Q) := by
  unfold two
  iintro ⟨#HP, HO, Hf, Hg⟩ Hk
  iapply (step_wait I K c f i (src := src) (dst := dst) (hsrc := hsrc) (hdst := hdst) hN kk Q) $$ [HO Hf]
  · isplitr; · iexact HP
    isplitl [HO]; · iexact HO
    iexact Hf
  iintro ⟨HO, Hf⟩
  iapply Hk
  isplitl [HO]; · iexact HO
  isplitl [Hf]; · iexact Hf
  iexact Hg

theorem step_snd (f g : Fin 4) (i : Fin 7) (a : ℕ) {sp₁ sp₂ : Space} {sh₁ sh₂ : Shape} {e₁ e₂ : EltTy} {src : Memref sig .tc sp₁ sh₁ e₁} {dst : Memref sig .tc sp₂ sh₂ e₂}
    {hsrc : src.view.WordExact} {hdst : dst.view.WordExact} (hN : dst.view.dmaCredit = scAmt (.inl (g, i)) 0)
    {α : Type} (kk : PUnit → Prog (TpuEff nD τ sig (Elt F) Λ₀ .tc) α) (Q : α → sProp 𝕄) :
    iprop(pers I K c ∗ two I c f g a i.val) ⊢ iprop((two I c f g a (i.val + 1) -∗ run c (kk ⟨⟩) Q)
      -∗ run c (Prog.lift (.waitDma2 (scS (.inl (g, i))) src dst hsrc hdst) >>= kk) Q) := by
  unfold two
  iintro ⟨#HP, HO, Hf, Hg⟩ Hk
  iapply (step_wait I K c g i (src := src) (dst := dst) (hsrc := hsrc) (hdst := hdst) hN kk Q) $$ [HO Hg]
  · isplitr; · iexact HP
    isplitl [HO]; · iexact HO
    iexact Hg
  iintro ⟨HO, Hg⟩
  iapply Hk
  isplitl [HO]; · iexact HO
  isplitl [Hf]; · iexact Hf
  iexact Hg

/-- A count wait of either side, at the buffers the kernel names. -/
theorem cs_wait (i : Fin 7) (b : ℕ) {h1 : (matRow i).view.WordExact} {h2 : cntM.view.WordExact}
    {α : Type} {kk : PUnit → Prog (TpuEff nD τ sig (Elt F) Λ₀ .tc) α} {Q : α → sProp 𝕄} {R : sProp 𝕄}
    (k : iprop(pers I K c ∗ two I c 2 3 (i.val + 1) b ∗ R) ⊢ run c (kk ⟨⟩) Q) :
    iprop(pers I K c ∗ two I c 2 3 i.val b ∗ R) ⊢ run c (Prog.lift (.waitDma2 (scS (csS i)) (matRow i) cntM h1 h2) >>= kk) Q :=
  after (step_fst I K c 2 3 i b rfl kk Q) k
theorem row_credit (i : Fin 7) : (matRow i).view.dmaCredit = scAmt (.inl (3, i)) 0 := show (matRow i).view.dmaCredit = Nc from rfl
theorem cr_wait (i : Fin 7) (a : ℕ) {h1 : cntM.view.WordExact} {h2 : (matRow i).view.WordExact}
    {α : Type} {kk : PUnit → Prog (TpuEff nD τ sig (Elt F) Λ₀ .tc) α} {Q : α → sProp 𝕄} {R : sProp 𝕄}
    (k : iprop(pers I K c ∗ two I c 2 3 a (i.val + 1) ∗ R) ⊢ run c (kk ⟨⟩) Q) :
    iprop(pers I K c ∗ two I c 2 3 a i.val ∗ R) ⊢ run c (Prog.lift (.waitDma2 (scS (crS i)) cntM (matRow i) h1 h2) >>= kk) Q := by
  refine after ?_ k
  exact step_snd I K c 2 3 i a (src := cntM) (dst := matRow i) (hsrc := h1) (hdst := h2) (row_credit i) kk Q

/-- The credits of the copies of rows. -/
abbrev datCreds : sProp 𝕄 := bigSep Finset.univ (fun i : Fin 7 => cred (tallyAt (scCell c (dsS i)) () Nd))

/-- After the last copy of rows nothing is owed. -/
theorem dat_done {R W : sProp 𝕄} (h : iprop(pers I K c ∗ two I c 2 3 0 0 ∗ datCreds c ∗ R) ⊢ W) :
    iprop(pers I K c ∗ datSt I c 7 ∗ (waitSt I c 2 0 ∗ waitSt I c 3 0) ∗ R) ⊢ W := by
  have e : Od c 7 = 0 := sum_finFrom_self _
  unfold datSt
  rw [e, bigSep_finFrom_self, bigSep_finUpTo_self]
  iintro ⟨#HP, ⟨-, Hc, HO⟩, ⟨Ha, Hb⟩, HR⟩
  iapply h
  isplitr; · iexact HP
  isplitl [HO Ha Hb]
  · unfold two
    isplitl [HO]; · iexact HO
    isplitl [Ha]; · iexact Ha
    iexact Hb
  isplitl [Hc]; · iexact Hc
  iexact HR

theorem p50 {Q} {R : sProp 𝕄} (h : iprop(pers I K c ∗ two I c 2 3 3 2 ∗ datCreds c ∗ R) ⊢ Q ⟨⟩) (a b d : BitVec 32) :
    iprop(pers I K c ∗ datSt I c 6 ∗ (waitSt I c 2 0 ∗ waitSt I c 3 0) ∗ R) ⊢ run c (atBufs (k0_part50 (F := F)) c a b d) Q := by
  have hd := dev_dat c
  rw [k0_part50_eq_skeleton]
  refine after (step_dat I K c 6 hd.2.2.2.2.2.2 _ Q) ?_
  refine dat_done I K c ?_
  refine cs_wait I K c 0 0 ?_
  refine cr_wait I K c 0 1 ?_
  refine cs_wait I K c 1 1 ?_
  refine cr_wait I K c 1 2 ?_
  refine cs_wait I K c 2 2 ?_
  exact run_pure c h

theorem p51 {Q} {R : sProp 𝕄} (h : ∀ v419, iprop(pers I K c ∗ two I c 2 3 6 5 ∗ R) ⊢ Q v419) (a b d : BitVec 32) :
    iprop(pers I K c ∗ two I c 2 3 3 2 ∗ R) ⊢ run c (atBufs (k0_part51 (F := F)) a b d) Q := by
  rw [k0_part51_eq_skeleton]
  refine cr_wait I K c 2 3 ?_
  refine cs_wait I K c 3 3 ?_
  refine cr_wait I K c 3 4 ?_
  refine cs_wait I K c 4 4 ?_
  refine cr_wait I K c 4 5 ?_
  refine cs_wait I K c 5 5 ?_
  exact run_pure c (h _)

/-- What the making of the count table needs. -/
def tabPre : sProp 𝕄 :=
  iprop(atPos ER (scCell c locS) 0 ∅ 0 ∗ any c cntsRest ∗ dutyTok ER (scCell c matS) 0 0 ∗ atPos ER (scCell c matS) 0 ∅ 0)
/-- The count table. -/
abbrev tab : sProp 𝕄 := owns (c : Thread nD τ) cntsM fullShare (cntsV I c)
/-- What is kept to the end. -/
def kept : sProp 𝕄 :=
  iprop(bigSep Finset.univ (fun i : Fin 7 => iprop(atPos ER (scCell c (csS i)) 1 ∅ 0 ∗ owns (c : Thread nD τ) cntM (tokQ i.val) (I.cnt c)))
    ∗ bigSep Finset.univ (fun i : Fin 7 => atPos ER (scCell c (crS i)) 1 ∅ 0)
    ∗ owns (c : Thread nD τ) matM fullShare (matV I c)
    ∗ owns (c : Thread nD τ) (recvW 7) fullShare (fun y => recvV I c ((winR 7).emb y))
    ∗ sentW I c 7 ∗ atPos ER (scCell c matS) 1 ∅ 0 ∗ srcs I c)
/-- What is left beside the table. -/
def tabPost : sProp 𝕄 := iprop(owing (F := F) c 0 ∗ atPos ER (scCell c locS) 1 ∅ 0 ∗ reached ER (scCell c locS) 1 ∗ kept I c)

theorem run_tab {α : Type} {kk : PUnit → Prog (TpuEff nD τ sig (Elt F) Λ₀ .tc) α} {Q : α → sProp 𝕄} {R : sProp 𝕄}
    {h1 : (sendW 7).view.WordExact} {h2 : (recvW 7).view.WordExact}
    {h3 : matM.view.WordExact} {h4 : cntsRest.view.WordExact} {h5 : DmaTarget.Typed (p := ((c : Thread nD τ)).2) .vmem (SemLoc.dma (scS matS)) (.here cntsRest)}
    {h6 : matM.view.WordExact} {h7 : cntsRest.view.WordExact}
    (h : iprop(tab I c ∗ pers I K c ∗ tabPost I c ∗ R) ⊢ run c (kk ⟨⟩) Q) :
    iprop(pers I K c ∗ two I c 2 3 7 7 ∗ selfPost I c ∗ tabPre c ∗ R)
      ⊢ run c (Prog.lift (.waitDma2 (scS locS) (sendW 7) (recvW 7) h1 h2) >>= fun _ =>
          Prog.lift (.enqueueDma matM (.here cntsRest) (.dma (scS matS)) h3 h4 h5) >>= fun _ => Prog.lift (.waitDma2 (scS matS) matM cntsRest h6 h7) >>= kk) Q := by
  unfold two selfPost tabPre waitSt
  rw [bigSep_finFrom_self, bigSep_finUpTo_self, bigSep_finFrom_self, bigSep_finUpTo_self]
  iintro ⟨#HP, ⟨HO, ⟨-, Hcs⟩, -, Hcr⟩, ⟨Hcred, Hown, Hsrc⟩, ⟨Hat, Hrest, Hduty, Hatm⟩, HR⟩
  ihave #HP' := (Entails.of_eq (show pers I K c = iprop(invAll I K ∗ levAts L lv ∗ barReached ∗ ownReached c) from rfl)) $$ HP
  icases HP' with ⟨-, -, -, Hr⟩
  ihave #Hrm := (reached_sc c matS) $$ Hr
  iapply (wp_wait_sc I K c (src := sendW 7) (dst := recvW 7) locS 0 Nd (hsrc := h1) (hdst := h2) (by decide) rfl rfl 0 (mayWait_nothing c _) _ Q) $$ [HO Hcred Hat]
  · isplitr; · iexact HP
    isplitl [HO]; · iexact HO
    isplitl [Hcred]; · iexact Hcred
    iexact Hat
  iintro ⟨HO, Hat, Hr1, Hp⟩
  ihave Hp := (Entails.of_eq (show scPay I c locS 0 = iprop(owns (c : Thread nD τ) (recvW 7) fullShare (fun y => recvV I c ((winR 7).emb y))
          ∗ owns (c : Thread nD τ) (sendW 7) fullShare (fun y => sendV I c ((winR 7).emb y))) from rfl)) $$ Hp
  icases Hp with ⟨Hrecv, Hsend⟩
  ihave Hcr := (Entails.of_eq (show (bigSep Finset.univ fun i : Fin 7 => iprop(atPos ER (scCell c (crS i)) 1 ∅ 0 ∗ scPay I c (crS i) 0))
      = bigSep Finset.univ fun i : Fin 7 => iprop(atPos ER (scCell c (crS i)) 1 ∅ 0 ∗ owns (c : Thread nD τ) (matRow i) fullShare (fun y => matV I c ((matR i).emb y))) from rfl)) $$ Hcr
  ihave Hcr := (Entails.of_eq (BI.bigSep_sep' (s := Finset.univ) (Φ := fun i : Fin 7 => atPos ER (scCell c (crS i)) 1 ∅ 0)
    (Ψ := fun i : Fin 7 => owns (c : Thread nD τ) (matRow i) fullShare (fun y => matV I c ((matR i).emb y))))) $$ Hcr
  icases Hcr with ⟨Hcr, Hmat⟩
  ihave Hmat := (mat_join I c) $$ Hmat
  iapply (wp_copy_owns I K c (src := matM) (dst := cntsRest) (hsrc := h3) (hdst := h4) (hsem := h5) matS 0 fullShare (matV I c) cntsRest.view.dmaCredit Nat.one_pos rfl rfl rfl _ Q) $$ [Hmat Hrest Hduty]
  · isplitr; · iexact HP
    isplitl [Hmat]; · iexact Hmat
    isplitl [Hrest]; · iexact Hrest
    isplitl [Hduty]; · iexact Hduty
    iexact Hrm
  iintro Hcred
  iapply (wp_wait_sc I K c (src := matM) (dst := cntsRest) matS 0 cntsRest.view.dmaCredit (hsrc := h6) (hdst := h7) Nat.one_pos rfl rfl 0 (mayWait_nothing c _) kk Q) $$ [HO Hcred Hatm]
  · isplitr; · iexact HP
    isplitl [HO]; · iexact HO
    isplitl [Hcred]; · iexact Hcred
    iexact Hatm
  iintro ⟨HO, Hatm, -, Hp⟩
  ihave Hp := (Entails.of_eq (show scPay I c matS 0 = iprop(owns (c : Thread nD τ) cntsRest fullShare (matV I c) ∗ owns (c : Thread nD τ) matM fullShare (matV I c)) from rfl)) $$ Hp
  icases Hp with ⟨Hrest, Hmat⟩
  iapply h
  isplitl [Hown Hrest]
  · iapply (tab_join I c)
    isplitl [Hown]; · iexact Hown
    iexact Hrest
  isplitr; · iexact HP
  isplitr [HR]
  · unfold tabPost kept
    isplitl [HO]; · iexact HO
    isplitl [Hat]; · iexact Hat
    isplitl [Hr1]; · iexact Hr1
    isplitl [Hcs]; · iexact Hcs
    isplitl [Hcr]; · iexact Hcr
    isplitl [Hmat]; · iexact Hmat
    isplitl [Hrecv]; · iexact Hrecv
    isplitl [Hsend]; · iexact Hsend
    isplitl [Hatm]; · iexact Hatm
    iexact Hsrc
  iexact HR

/-- The word of the count table that counts the rows from the `s`-th source back from device `c`'s. -/
theorem tab_off (c : Dev nD) (s : Fin 8) : k0_off145 c (BitVec.ofNat 32 s.val) 0 = (c.val + 7 - s.val) % 8 ∧ k0_off145 c (BitVec.ofNat 32 s.val) 1 = c.val := by
  revert c s; decide

end Stretch

end Cert.KernelIdeal.Own

end
-- ==== Proof.Index.lean ====
/-
  The index table the kernel computes is the index of each row of the result in the receive buffer.
-/
module

public import Idealize.ShloMosaic.Lib.WordCmp
public import proofs.«01_k».proof.Proof.Parts3

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

section Index

variable (I : Inp F) (c : Dev nD)

/-- The window of the receive buffer that holds the rows of source `k`, as the kernel computes it. -/
def slotW (k : Fin 8) : BitVec 32 := Scalar.remsi (Scalar.subi (Scalar.addi (w2 c) 7#32) (BitVec.ofNat 32 k.val)) 8#32
/-- The entry of the count table for source `k`. -/
def tabIx (k : Fin 8) : S8x128.Idx := ix2 ⟨(c.val + 7 - k.val) % 8, Nat.mod_lt _ (by decide)⟩ ⟨c.val, by have h : c.val < 8 := c.isLt; omega⟩
def ldW (k : Fin 8) : BitVec 32 := cntsV I c (tabIx c k)
/-- The running sum of the entries. -/
def cumW : ℕ → BitVec 32
  | 0 => 0#32
  | n + 1 => if h : n < 8 then Scalar.addi (cumW n) (ldW I c ⟨n, h⟩) else cumW n

theorem slotW_eq : ∀ (c : Dev nD) (k : Fin 8), slotW c k = BitVec.ofNat 32 ((c.val + 7 + 7 * k.val) % 8) := by decide
theorem srcOf_tab : ∀ (c : Dev nD) (k : Fin 8), srcOf c ((c.val + 7 - k.val) % 8) = ⟨k.val, k.isLt⟩ := by decide

theorem ldW_eq (k : Fin 8) : ldW I c k = BitVec.ofNat 32 (nOf I ⟨k.val, k.isLt⟩ c.val c.isLt) := by
  show I.cnt (srcOf c ((c.val + 7 - k.val) % 8)) _ = BitVec.ofNat 32 (BitVec.toNat (I.cnt _ _))
  rw [srcOf_tab, BitVec.ofNat_toNat, BitVec.setWidth_eq]
  rfl

theorem cumW_eq (n : ℕ) (hn : n ≤ 8) : cumW I c n = BitVec.ofNat 32 (offOf I c n) := by
  induction n with
  | zero => rw [offOf_zero]; rfl
  | succ n ih =>
    rw [cumW, dif_pos (by omega : n < 8), ih (by omega), ldW_eq, offOf_succ I c n (by omega), BitVec.ofNat_add]
    rfl

/-- One bit as a word. -/
def bitW (b : BitVec 1) : BitVec 32 := b.setWidth 32
/-- The source of a place, by counting the sums at most it. -/
def segW (i a b d e f g h : BitVec 32) : BitVec 32 :=
  0#32 + bitW (IntOp.cmpi .sge i a) + bitW (IntOp.cmpi .sge i b) + bitW (IntOp.cmpi .sge i d) + bitW (IntOp.cmpi .sge i e)
    + bitW (IntOp.cmpi .sge i f) + bitW (IntOp.cmpi .sge i g) + bitW (IntOp.cmpi .sge i h)
/-- The one of eight words a source number picks, as a sum of products. -/
def pickW (s : BitVec 32) (w : Fin 8 → BitVec 32) : BitVec 32 :=
  0#32 + bitW (IntOp.cmpi .eq s 0#32) * w 0 + bitW (IntOp.cmpi .eq s 1#32) * w 1 + bitW (IntOp.cmpi .eq s 2#32) * w 2 + bitW (IntOp.cmpi .eq s 3#32) * w 3
    + bitW (IntOp.cmpi .eq s 4#32) * w 4 + bitW (IntOp.cmpi .eq s 5#32) * w 5 + bitW (IntOp.cmpi .eq s 6#32) * w 6 + bitW (IntOp.cmpi .eq s 7#32) * w 7

theorem pickW_eq (k : Fin 8) (w : Fin 8 → BitVec 32) : pickW (BitVec.ofNat 32 k.val) w = w k := by
  fin_cases k <;> simp [pickW, bitW, IntOp.cmpi]

theorem bit_ge (i a : ℕ) (hi : i < 4096) (ha : a ≤ 5120) :
    bitW (IntOp.cmpi .sge (BitVec.ofNat 32 i) (BitVec.ofNat 32 a)) = BitVec.ofNat 32 (if a ≤ i then 1 else 0) := by
  rw [WordCmp.cmpi_sge_ofNat (by omega) (by omega)]
  by_cases h : a ≤ i
  · rw [decide_eq_true h, if_pos h]; decide
  · rw [decide_eq_false h, if_neg h]; decide

theorem segW_eq (hG : Good I) (i : ℕ) (hi : i < 4096) :
    segW (BitVec.ofNat 32 i) (cumW I c 1) (cumW I c 2) (cumW I c 3) (cumW I c 4) (cumW I c 5) (cumW I c 6) (cumW I c 7) = BitVec.ofNat 32 (segN I c i) := by
  have h8 (n : ℕ) (h : n ≤ 8) : offOf I c n ≤ 5120 := (offOf_le I c hG n h).trans (by omega)
  unfold segW segN
  rw [cumW_eq I c 1 (by decide), cumW_eq I c 2 (by decide), cumW_eq I c 3 (by decide), cumW_eq I c 4 (by decide), cumW_eq I c 5 (by decide), cumW_eq I c 6 (by decide), cumW_eq I c 7 (by decide),
    bit_ge i _ hi (h8 1 (by decide)), bit_ge i _ hi (h8 2 (by decide)), bit_ge i _ hi (h8 3 (by decide)), bit_ge i _ hi (h8 4 (by decide)), bit_ge i _ hi (h8 5 (by decide)),
    bit_ge i _ hi (h8 6 (by decide)), bit_ge i _ hi (h8 7 (by decide))]
  simp only [Fin.sum_univ_succ, Finset.univ_eq_empty, Finset.sum_empty, BitVec.ofNat_add]
  simp [BitVec.add_assoc]

/-- The table the kernel stores. -/
def idxPay : IVec S32x128 32 :=
  let seg := k0_pay81 (cumW I c 1) (cumW I c 2) (cumW I c 3) (cumW I c 4) (cumW I c 5) (cumW I c 6) (cumW I c 7)
  k0_pay93 (F := F) (slotW c 5) (cumW I c 6) (slotW c 6) (cumW I c 7) (slotW c 7) (cumW I c 8) k0_pay80 seg
    (k0_pay90 (slotW c 1) (slotW c 2) (slotW c 3) (slotW c 4) seg (k0_pay84 (slotW c 0) (cumW I c 1) (cumW I c 2) (cumW I c 3) (cumW I c 4) (cumW I c 5) (cumW I c 6) (cumW I c 7)))
    (k0_pay91 (F := F) (cumW I c 2) (cumW I c 3) (cumW I c 4) (cumW I c 5) seg k0_pay82
      (k0_pay85 (F := F) (cumW I c 1) (cumW I c 2) (cumW I c 3) (cumW I c 4) (cumW I c 5) (cumW I c 6) (cumW I c 7) (ldW I c 0)) (ldW I c 1) (ldW I c 2) (ldW I c 3) (ldW I c 4))
    (k0_pay92 seg) (ldW I c 5) (ldW I c 6) (ldW I c 7)

theorem place (y : S32x128.Idx) : k0_pay80 y = BitVec.ofNat 32 ((y 0).val * 128 + (y 1).val) := by
  show BitVec.ofNat 32 (0 * 32 + (y 0).val) * 128#32 + BitVec.ofNat 32 (0 * 128 + (y 1).val) = _
  rw [Nat.zero_mul, Nat.zero_add, Nat.zero_add, BitVec.ofNat_add, BitVec.ofNat_mul]

theorem idxPay_apply (y : S32x128.Idx) :
    idxPay I c y = pickW (segW (k0_pay80 y) (cumW I c 1) (cumW I c 2) (cumW I c 3) (cumW I c 4) (cumW I c 5) (cumW I c 6) (cumW I c 7)) (slotW c) * 640#32
      + (k0_pay80 y - pickW (segW (k0_pay80 y) (cumW I c 1) (cumW I c 2) (cumW I c 3) (cumW I c 4) (cumW I c 5) (cumW I c 6) (cumW I c 7)) (fun k => cumW I c (k.val + 1) - ldW I c k)) := by
  unfold idxPay k0_pay93
  rw [show ∀ (v : IVec S32x128 32) h, shapeCast S32x128 v h = v from fun v h => funext fun y => congrArg v (Shape.reshapeEquiv_self h y)]
  rfl

theorem word_place (a i o n : ℕ) (h : o ≤ i) :
    BitVec.ofNat 32 a * 640#32 + (BitVec.ofNat 32 i - (BitVec.ofNat 32 (o + n) - BitVec.ofNat 32 n)) = BitVec.ofNat 32 (a * 640 + (i - o)) := by
  obtain ⟨d, rfl⟩ := Nat.exists_eq_add_of_le h
  have e : BitVec.ofNat 32 (a * 640) = BitVec.ofNat 32 a * 640#32 := BitVec.ofNat_mul ..
  rw [Nat.add_sub_cancel_left, BitVec.ofNat_add (a * 640), e, BitVec.ofNat_add o d, BitVec.ofNat_add o n, BitVec.add_sub_cancel,
    BitVec.add_comm (BitVec.ofNat 32 o), BitVec.add_sub_cancel]

theorem idxPay_eq (hG : Good I) : idxPay I c = idxV I c := by
  funext y
  have h0 : (y 0).val < 32 := (y 0).isLt
  have h1 : (y 1).val < 128 := (y 1).isLt
  have hi : (y 0).val * 128 + (y 1).val < 4096 := by omega
  obtain ⟨h8, hlo, -⟩ := segN_spec I c _
  rw [idxPay_apply, place, segW_eq I c hG _ hi, pickW_eq ⟨_, h8⟩, pickW_eq ⟨_, h8⟩, slotW_eq, cumW_eq I c _ (by show _ + 1 ≤ 8; omega), ldW_eq]
  show _ = BitVec.ofNat 32 (idxN I c _)
  unfold idxN
  have e : offOf I c (segN I c ((y 0).val * 128 + (y 1).val) + 1) = _ := offOf_succ I c _ h8
  show _ * 640#32 + (_ - (BitVec.ofNat 32 (offOf I c (segN I c _ + 1)) - _)) = _
  rw [e]
  exact word_place _ _ _ _ hlo

end Index

end Cert.KernelIdeal.Own

end
-- ==== Proof.Parts4.lean ====
/- The rest of a device's program: the count waits, the count table, the table of indices, the waits for the rows, and the walk that
   gathers the received rows into the result. -/
module

public import proofs.«01_k».proof.Proof.Index
@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

section Rest

variable (I : Inp F) (K : GSem nD τ sig → ℕ) (c : Dev nD)

/-- A wait for a sent window. -/
theorem win_credit (i : Fin 7) : (sendW i.castSucc).view.dmaCredit = scAmt (.inl (0, i)) 0 := show (sendW i.castSucc).view.dmaCredit = Nd from rfl
theorem rwin_credit (i : Fin 7) : (recvW i.castSucc).view.dmaCredit = scAmt (.inl (1, i)) 0 := show (recvW i.castSucc).view.dmaCredit = Nd from rfl
theorem ds_wait (i : Fin 7) (b : ℕ) {h1 : (recvW i.castSucc).view.WordExact} {h2 : (sendW i.castSucc).view.WordExact}
    {α : Type} {kk : PUnit → Prog (TpuEff nD τ sig (Elt F) Λ₀ .tc) α} {Q : α → sProp 𝕄} {R : sProp 𝕄}
    (k : iprop(pers I K c ∗ two I c 0 1 (i.val + 1) b ∗ R) ⊢ run c (kk ⟨⟩) Q) :
    iprop(pers I K c ∗ two I c 0 1 i.val b ∗ R) ⊢ run c (Prog.lift (.waitDma2 (scS (dsS i)) (recvW i.castSucc) (sendW i.castSucc) h1 h2) >>= kk) Q := by
  refine after ?_ k
  exact step_fst I K c 0 1 i b (src := recvW i.castSucc) (dst := sendW i.castSucc) (hsrc := h1) (hdst := h2) (win_credit i) kk Q
/-- A wait for a received window. -/
theorem dr_wait (i : Fin 7) (a : ℕ) {h1 : (sendW i.castSucc).view.WordExact} {h2 : (recvW i.castSucc).view.WordExact}
    {α : Type} {kk : PUnit → Prog (TpuEff nD τ sig (Elt F) Λ₀ .tc) α} {Q : α → sProp 𝕄} {R : sProp 𝕄}
    (k : iprop(pers I K c ∗ two I c 0 1 a (i.val + 1) ∗ R) ⊢ run c (kk ⟨⟩) Q) :
    iprop(pers I K c ∗ two I c 0 1 a i.val ∗ R) ⊢ run c (Prog.lift (.waitDma2 (scS (drS i)) (sendW i.castSucc) (recvW i.castSucc) h1 h2) >>= kk) Q := by
  refine after ?_ k
  exact step_snd I K c 0 1 i a (src := sendW i.castSucc) (dst := recvW i.castSucc) (hsrc := h1) (hdst := h2) (rwin_credit i) kk Q

/-- A read of the count table. -/
theorem tab_word (k : Fin 8) {h : ∀ a, k0_off145 c (BitVec.ofNat 32 k.val) a + S1x1.size a ≤ S8x128.size a}
    {α : Type} {kk : Elt F .i32 → Prog (TpuEff nD τ sig (Elt F) Λ₀ .tc) α} {Q : α → sProp 𝕄} {R : sProp 𝕄}
    (hk : iprop(tab I c ∗ R) ⊢ run c (kk (ldW I c k)) Q) :
    iprop(tab I c ∗ R) ⊢ run c (smemLoad cntsM (Rect.unit (s := S8x128) (k0_off145 c (BitVec.ofNat 32 k.val)) S1x1.size h) numel1_S1x1 rfl >>= kk) Q := by
  refine after' (step_tab I c _ h (tabIx c k) ?_ kk Q) hk
  intro a
  match a with
  | ⟨0, _⟩ => exact (tab_off c k).1.symm
  | ⟨1, _⟩ => exact (tab_off c k).2.symm

/-- The words the table is made of. -/
theorem cum_succ (k : Fin 8) : Scalar.addi (cumW I c k.val) (ldW I c k) = cumW I c (k.val + 1) := by
  rw [cumW, dif_pos k.isLt]

theorem p52 {Q} {R : sProp 𝕄}
    (h : iprop(tab I c ∗ pers I K c ∗ tabPost I c ∗ R) ⊢ Q ⟨slotW c 0, cumW I c 1, Scalar.addi (w2 c) 7#32, 1#32⟩) (a b : BitVec 32) :
    iprop(pers I K c ∗ two I c 2 3 6 5 ∗ selfPost I c ∗ tabPre c ∗ R) ⊢ run c (atBufs (k0_part52 (F := F)) c (w2 c) a b) Q := by
  rw [k0_part52_eq_skeleton]
  refine cr_wait I K c 5 6 ?_
  refine cs_wait I K c 6 6 ?_
  refine cr_wait I K c 6 7 ?_
  refine run_tab I K c ?_
  refine tab_word I c 0 ?_
  rw [show Scalar.addi 0#32 (ldW I c 0) = cumW I c 1 from cum_succ I c 0]
  exact run_pure c h

theorem p53 {Q} {R : sProp 𝕄}
    (h : iprop(tab I c ∗ R) ⊢ Q ⟨slotW c 1, cumW I c 2, slotW c 2, cumW I c 3, slotW c 3, cumW I c 4, slotW c 4, cumW I c 5, slotW c 5, cumW I c 6, slotW c 6, cumW I c 7,
      Scalar.addi (w2 c) 7#32, 7#32⟩) :
    iprop(tab I c ∗ R) ⊢ run c (atBufs (k0_part53 (F := F)) c (w2 c) (cumW I c 1) (Scalar.addi (w2 c) 7#32) 1#32) Q := by
  rw [k0_part53_eq_skeleton]
  refine tab_word I c 1 ?_
  rw [show Scalar.addi (cumW I c 1) (ldW I c 1) = cumW I c 2 from cum_succ I c 1]
  refine tab_word I c 2 ?_
  rw [show Scalar.addi (cumW I c 2) (ldW I c 2) = cumW I c 3 from cum_succ I c 2]
  refine tab_word I c 3 ?_
  rw [show Scalar.addi (cumW I c 3) (ldW I c 3) = cumW I c 4 from cum_succ I c 3]
  refine tab_word I c 4 ?_
  rw [show Scalar.addi (cumW I c 4) (ldW I c 4) = cumW I c 5 from cum_succ I c 4]
  refine tab_word I c 5 ?_
  rw [show Scalar.addi (cumW I c 5) (ldW I c 5) = cumW I c 6 from cum_succ I c 5]
  refine tab_word I c 6 ?_
  rw [show Scalar.addi (cumW I c 6) (ldW I c 6) = cumW I c 7 from cum_succ I c 6]
  exact run_pure c h

/-- The part of the index table made before its second half. -/
def pay81 : IVec S32x128 32 := k0_pay81 (cumW I c 1) (cumW I c 2) (cumW I c 3) (cumW I c 4) (cumW I c 5) (cumW I c 6) (cumW I c 7)
def pay84 : IVec S32x128 32 := k0_pay84 (slotW c 0) (cumW I c 1) (cumW I c 2) (cumW I c 3) (cumW I c 4) (cumW I c 5) (cumW I c 6) (cumW I c 7)
def pay85 : IVec S32x128 32 := k0_pay85 (F := F) (cumW I c 1) (cumW I c 2) (cumW I c 3) (cumW I c 4) (cumW I c 5) (cumW I c 6) (cumW I c 7) (ldW I c 0)
def pay90 : IVec S32x128 32 := k0_pay90 (slotW c 1) (slotW c 2) (slotW c 3) (slotW c 4) (pay81 I c) (pay84 I c)
def pay91 : IVec S32x128 32 :=
  k0_pay91 (F := F) (cumW I c 2) (cumW I c 3) (cumW I c 4) (cumW I c 5) (pay81 I c) k0_pay82 (pay85 I c) (ldW I c 1) (ldW I c 2) (ldW I c 3) (ldW I c 4)

theorem p54 {Q} {R : sProp 𝕄}
    (h : iprop(tab I c ∗ R) ⊢ Q ⟨slotW c 7, cumW I c 8, k0_pay80, pay81 I c, k0_pay82, pay84 I c, pay85 I c⟩) :
    iprop(tab I c ∗ R) ⊢ run c (atBufs (k0_part54 (F := F)) c (w2 c) (slotW c 0) (cumW I c 1) (cumW I c 2) (cumW I c 3) (cumW I c 4) (cumW I c 5) (cumW I c 6) (cumW I c 7)
      (Scalar.addi (w2 c) 7#32) 7#32) Q := by
  rw [k0_part54_eq_skeleton]
  refine tab_word I c 7 ?_
  rw [show Scalar.addi (cumW I c 7) (ldW I c 7) = cumW I c 8 from cum_succ I c 7]
  refine tab_word I c 0 ?_
  exact run_pure c h

theorem p55 {Q} {R : sProp 𝕄}
    (h : iprop(tab I c ∗ R) ⊢ Q ⟨pay90 I c, pay91 I c, k0_pay92 (pay81 I c)⟩) :
    iprop(tab I c ∗ R) ⊢ run c (atBufs (k0_part55 (F := F)) c (w2 c) (slotW c 1) (cumW I c 2) (slotW c 2) (cumW I c 3) (slotW c 3) (cumW I c 4) (slotW c 4) (cumW I c 5)
      (pay81 I c) k0_pay82 (pay84 I c) (pay85 I c)) Q := by
  rw [k0_part55_eq_skeleton]
  refine tab_word I c 1 ?_
  refine tab_word I c 2 ?_
  refine tab_word I c 3 ?_
  refine tab_word I c 4 ?_
  exact run_pure c h

/-- What the making of the index table needs. -/
def idxPre : sProp 𝕄 := iprop(any c idxM ∗ any c idxsM ∗ dutyTok ER (scCell c locS) 1 0)
/-- What is left after it. -/
def idxPost : sProp 𝕄 :=
  iprop(owns (c : Thread nD τ) idxsM fullShare (idxV I c) ∗ owns (c : Thread nD τ) idxM fullShare (idxV I c) ∗ atPos ER (scCell c locS) 2 ∅ 0 ∗ tab I c ∗ kept I c)

/-- The whole of a table, as the rectangle the store names. -/
theorem whole_emb (h : ∀ a, (![0, 0] : Fin 2 → ℕ) a + S32x128.size a ≤ S32x128.size a) (z : S32x128.Idx) :
    (Rect.unit (s := S32x128) ![0, 0] S32x128.size h).emb z = z := by
  funext a
  match a with
  | ⟨0, _⟩ => exact Fin.ext (show 0 + 1 * (z 0).val = (z 0).val by omega)
  | ⟨1, _⟩ => exact Fin.ext (show 0 + 1 * (z 1).val = (z 1).val by omega)

theorem run_idx {α : Type} {kk : PUnit → Prog (TpuEff nD τ sig (Elt F) Λ₀ .tc) α} {Q : α → sProp 𝕄} {R : sProp 𝕄}
    {hr : ∀ a, (![0, 0] : Fin 2 → ℕ) a + S32x128.size a ≤ S32x128.size a} {hl : idxM.view.LoadsAt (Rect.unit (s := S32x128) ![0, 0] S32x128.size hr).toLoadRect}
    {hs : (idxM.access (Rect.unit (s := S32x128) ![0, 0] S32x128.size hr)).Stores Finset.univ} {hm : _}
    {h3 : idxM.view.WordExact} {h4 : idxsM.view.WordExact} {h5 : DmaTarget.Typed (p := ((c : Thread nD τ)).2) .vmem (SemLoc.dma (scS locS)) (.here idxsM)}
    {h6 : idxM.view.WordExact} {h7 : idxsM.view.WordExact}
    (h : iprop(pers I K c ∗ two I c 0 1 0 0 ∗ idxPost I c ∗ R) ⊢ run c (kk ⟨⟩) Q) :
    iprop(tab I c ∗ pers I K c ∗ tabPost I c ∗ (waitSt I c 0 0 ∗ waitSt I c 1 0) ∗ idxPre c ∗ R)
      ⊢ run c (Prog.lift (.load idxM (Rect.unit (s := S32x128) ![0, 0] S32x128.size hr).toLoadRect hl) >>= fun _ =>
          Prog.lift (.store idxM (Rect.unit (s := S32x128) ![0, 0] S32x128.size hr) (idxV I c) Finset.univ hs hm) >>= fun _ =>
          Prog.lift (.enqueueDma idxM (.here idxsM) (.dma (scS locS)) h3 h4 h5) >>= fun _ => Prog.lift (.waitDma2 (scS locS) idxM idxsM h6 h7) >>= kk) Q := by
  unfold tabPost idxPre
  rw [show (any c idxM : sProp 𝕄) = iprop(∃ f, (idxM.view.loc (c : Thread nD τ) ↦[idxM.view.set]{fullShare} f)) from rfl]
  iintro ⟨Htab, #HP, ⟨HO, Hat, Hr1, Hk⟩, ⟨Hw0, Hw1⟩, ⟨⟨%f, Hi⟩, Hrest, Hduty⟩, HR⟩
  iapply (wp_load_rect 𝒱₀ (c : Thread nD τ) none Set.univ (m := idxM) (r := Rect.unit (s := S32x128) ![0, 0] S32x128.size hr) (q := fullShare) (f := f)
    (S := idxM.view.set)
    (k := fun _ => Prog.lift (.store idxM (Rect.unit (s := S32x128) ![0, 0] S32x128.size hr) (idxV I c) Finset.univ hs hm) >>= fun _ =>
          Prog.lift (.enqueueDma idxM (.here idxsM) (.dma (scS locS)) h3 h4 h5) >>= fun _ => Prog.lift (.waitDma2 (scS locS) idxM idxsM h6 h7) >>= kk)
    (idxM.view.set_slice_subset _)) $$ Hi
  iintro Hi
  iapply (wp_store 𝒱₀ (c : Thread nD τ) none Set.univ (m := idxM) (r := Rect.unit (s := S32x128) ![0, 0] S32x128.size hr) (f := f) (S := idxM.view.set)
    (k := fun _ => Prog.lift (.enqueueDma idxM (.here idxsM) (.dma (scS locS)) h3 h4 h5) >>= fun _ => Prog.lift (.waitDma2 (scS locS) idxM idxsM h6 h7) >>= kk)
    (by
      intro z hz
      exact idxM.view.set_slice_subset _ (by
        rw [View.setOn, Finset.mem_map] at hz
        obtain ⟨y, -, rfl⟩ := hz
        exact Finset.mem_map_of_mem _ (Finset.mem_univ y)))) $$ Hi
  iintro Hi
  have e : idxM.view.read (Elt F) ((idxM.access (Rect.unit (s := S32x128) ![0, 0] S32x128.size hr)).write (Elt F) f (idxV I c) Finset.univ) = idxV I c := by
    funext z
    have := congrFun (View.read_write_univ (v := idxM.access (Rect.unit (s := S32x128) ![0, 0] S32x128.size hr)) (Val := Elt F) f (idxV I c)) z
    refine Eq.trans ?_ this
    exact congrArg (idxM.view.read (Elt F) _) (whole_emb hr z).symm
  ihave Hi := (owns_intro (c : Thread nD τ) idxM fullShare _) $$ Hi
  rw [e]
  iapply (wp_copy_owns I K c (src := idxM) (dst := idxsM) (hsrc := h3) (hdst := h4) (hsem := h5) locS 1 fullShare (idxV I c) idxsM.view.dmaCredit (by decide) rfl rfl rfl _ Q) $$ [Hi Hrest Hduty Hr1]
  · isplitr; · iexact HP
    isplitl [Hi]; · iexact Hi
    isplitl [Hrest]; · iexact Hrest
    isplitl [Hduty]; · iexact Hduty
    iexact Hr1
  iintro Hcred
  iapply (wp_wait_sc I K c (src := idxM) (dst := idxsM) locS 1 idxsM.view.dmaCredit (hsrc := h6) (hdst := h7) (by decide) rfl rfl 0 (mayWait_nothing c _) kk Q) $$ [HO Hcred Hat]
  · isplitr; · iexact HP
    isplitl [HO]; · iexact HO
    isplitl [Hcred]; · iexact Hcred
    iexact Hat
  iintro ⟨HO, Hat, -, Hp⟩
  ihave Hp := (Entails.of_eq (show scPay I c locS 1 = iprop(owns (c : Thread nD τ) idxsM fullShare (idxV I c) ∗ owns (c : Thread nD τ) idxM fullShare (idxV I c)) from rfl)) $$ Hp
  icases Hp with ⟨Hs, Hi⟩
  iapply h
  isplitr; · iexact HP
  isplitl [HO Hw0 Hw1]
  · unfold two
    isplitl [HO]; · iexact HO
    isplitl [Hw0]; · iexact Hw0
    iexact Hw1
  isplitr [HR]
  · unfold idxPost
    isplitl [Hs]; · iexact Hs
    isplitl [Hi]; · iexact Hi
    isplitl [Hat]; · iexact Hat
    isplitl [Htab]; · iexact Htab
    iexact Hk
  iexact HR

theorem p56 (hG : Good I) {Q} {R : sProp 𝕄} (h : iprop(pers I K c ∗ two I c 0 1 0 0 ∗ idxPost I c ∗ R) ⊢ Q ⟨⟩) :
    iprop(tab I c ∗ pers I K c ∗ tabPost I c ∗ (waitSt I c 0 0 ∗ waitSt I c 1 0) ∗ idxPre c ∗ R)
      ⊢ run c (atBufs (k0_part56 (F := F)) c (w2 c) (slotW c 5) (cumW I c 6) (slotW c 6) (cumW I c 7) (slotW c 7) (cumW I c 8) k0_pay80 (pay81 I c)
          (pay90 I c) (pay91 I c) (k0_pay92 (pay81 I c))) Q := by
  rw [k0_part56_eq_skeleton]
  refine tab_word I c 5 ?_
  refine tab_word I c 6 ?_
  refine tab_word I c 7 ?_
  have e : k0_pay93 (F := F) (slotW c 5) (cumW I c 6) (slotW c 6) (cumW I c 7) (slotW c 7) (cumW I c 8) k0_pay80 (pay81 I c)
          (pay90 I c) (pay91 I c) (k0_pay92 (pay81 I c)) (ldW I c 5) (ldW I c 6) (ldW I c 7) = idxV I c := (idxPay_eq I c hG : _)
  rw [e]
  refine run_idx I K c ?_
  exact run_pure c h

theorem p57 {Q} {R : sProp 𝕄} (h : iprop(pers I K c ∗ two I c 0 1 2 2 ∗ R) ⊢ Q ⟨⟩) (a b : BitVec 32) :
    iprop(pers I K c ∗ two I c 0 1 0 0 ∗ R) ⊢ run c (atBufs (k0_part57 (F := F)) a b) Q := by
  rw [k0_part57_eq_skeleton]
  refine ds_wait I K c 0 0 ?_
  refine dr_wait I K c 0 1 ?_
  refine ds_wait I K c 1 1 ?_
  refine dr_wait I K c 1 2 ?_
  exact run_pure c h

theorem p58 {Q} {R : sProp 𝕄} (h : iprop(pers I K c ∗ two I c 0 1 4 4 ∗ R) ⊢ Q ⟨⟩) (a b : BitVec 32) :
    iprop(pers I K c ∗ two I c 0 1 2 2 ∗ R) ⊢ run c (atBufs (k0_part58 (F := F)) a b) Q := by
  rw [k0_part58_eq_skeleton]
  refine ds_wait I K c 2 2 ?_
  refine dr_wait I K c 2 3 ?_
  refine ds_wait I K c 3 3 ?_
  refine dr_wait I K c 3 4 ?_
  exact run_pure c h

theorem p59 {Q} {R : sProp 𝕄} (h : iprop(pers I K c ∗ two I c 0 1 6 6 ∗ R) ⊢ Q ⟨⟩) (a b : BitVec 32) :
    iprop(pers I K c ∗ two I c 0 1 4 4 ∗ R) ⊢ run c (atBufs (k0_part59 (F := F)) a b) Q := by
  rw [k0_part59_eq_skeleton]
  refine ds_wait I K c 4 4 ?_
  refine dr_wait I K c 4 5 ?_
  refine ds_wait I K c 5 5 ?_
  refine dr_wait I K c 5 6 ?_
  exact run_pure c h

end Rest

end Cert.KernelIdeal.Own

end
-- ==== Proof.Body.lean ====
/- A device's whole program: the stretches in order. -/
module

public import proofs.«01_k».proof.Proof.Parts4
@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

section Body

variable (I : Inp F) (K : GSem nD τ sig → ℕ) (c : Dev nD)

/-! ## What the run starts with, in the order it is used -/

/-- The positions of seven semaphores of a family, at a round. -/
abbrev ats (f : Fin 4) (r : ℕ) : sProp 𝕄 := bigSep Finset.univ (fun i : Fin 7 => atPos ER (scCell c (.inl (f, i))) r ∅ 0)
/-- The credits of the arrivals of a family. -/
abbrev arrivals (f : Fin 4) (n : ℕ) : sProp 𝕄 := bigSep Finset.univ (fun i : Fin 7 => cred (tallyAt (scCell c (.inl (f, i))) () n))
abbrev pre7 : sProp 𝕄 := below c outM (outV I c) 0
abbrev pre6 : sProp 𝕄 := iprop((ats (F := F) c 0 0 ∗ waitSt I c 1 0) ∗ idxPre c ∗ pre7 I c)
abbrev pre5 : sProp 𝕄 := iprop(tabPre c ∗ pre6 I c)
abbrev pre4 : sProp 𝕄 := iprop((ats (F := F) c 2 0 ∗ waitSt I c 3 0) ∗ pre5 I c)
abbrev selfRest : sProp 𝕄 := iprop(bigSep Finset.univ (datPre (F := F) c) ∗ any c (recvW 7) ∗ dutyTok ER (scCell c locS) 0 0)
abbrev pre3 : sProp 𝕄 := iprop(selfRest c ∗ pre4 I c)
abbrev pre2 : sProp 𝕄 := iprop((srcs I c ∗ below c sendM (sendV I c) 0) ∗ pre3 I c)
abbrev pre1 : sProp 𝕄 := iprop(rowPre I c ∗ pre2 I c)
/-- What is out of the way from the barrier on. -/
abbrev keep1 : sProp 𝕄 := iprop(owns (c : Thread nD τ) cntM (tokQ 7) (I.cnt c) ∗ atPos ER (scCell c rowS) 1 ∅ 0 ∗ atPos ER (barCell c) 1 ∅ 0)

theorem sh40 {A B C D E : sProp 𝕄} : iprop(A ∗ B ∗ C ∗ D ∗ E) ⊢ iprop(A ∗ B ∗ D ∗ C ∗ E) := by
  iintro ⟨HA, HB, HC, HD, HE⟩
  isplitl [HA]; · iexact HA
  isplitl [HB]; · iexact HB
  isplitl [HD]; · iexact HD
  isplitl [HC]; · iexact HC
  iexact HE

theorem sh41 {P B : sProp 𝕄} : iprop(ownCnt I c ∗ cntPost I c ∗ P ∗ B ∗ (srcs I c ∗ below c sendM (sendV I c) 0) ∗ pre3 I c)
    ⊢ iprop(gat I c 0 ∗ cntPost I c ∗ P ∗ B ∗ pre3 I c) := by
  iintro ⟨H1, H2, H3, H4, ⟨H5, H6⟩, H7⟩
  isplitl [H1 H5 H6]
  · unfold gat
    isplitl [H1]; · iexact H1
    isplitl [H5]; · iexact H5
    iexact H6
  isplitl [H2]; · iexact H2
  isplitl [H3]; · iexact H3
  isplitl [H4]; · iexact H4
  iexact H7

theorem sh47 {G P : sProp 𝕄} : iprop(G ∗ cntPost I c ∗ P ∗ barPost c ∗ pre3 I c)
    ⊢ iprop(G ∗ P ∗ selfPre c ∗ arrivals c 2 Nc ∗ keep1 I c ∗ pre4 I c) := by
  unfold cntPost barPost selfPre
  iintro ⟨HG, ⟨Hcs, HO, Hc7, Hrow⟩, HP, ⟨Hbar, Hland⟩, ⟨Hdat, Hw7, Hloc⟩, HR⟩
  isplitl [HG]; · iexact HG
  isplitl [HP]; · iexact HP
  isplitl [HO Hland Hdat Hw7 Hloc]
  · isplitl [HO]; · iexact HO
    isplitl [Hland]; · iexact Hland
    isplitl [Hdat]; · iexact Hdat
    isplitl [Hw7]; · iexact Hw7
    iexact Hloc
  isplitl [Hcs]; · iexact Hcs
  isplitl [Hc7 Hrow Hbar]
  · isplitl [Hc7]; · iexact Hc7
    isplitl [Hrow]; · iexact Hrow
    iexact Hbar
  iexact HR

/-- Waits not yet begun, from the credits and the positions. -/
theorem wait_zero (f : Fin 4) (n : ℕ) (h : ∀ i, scAmt (.inl (f, i)) 0 = n) : iprop(arrivals (F := F) c f n ∗ ats c f 0) ⊢ waitSt I c f 0 := by
  unfold waitSt
  rw [bigSep_finFrom_zero, bigSep_finUpTo_zero]
  iintro ⟨H1, H2⟩
  isplitr []
  · simp only [h]
    iapply (Entails.of_eq (BI.bigSep_sep' (s := Finset.univ) (Φ := fun i : Fin 7 => (cred (tallyAt (scCell c (.inl (f, i))) () n) : sProp 𝕄))
      (Ψ := fun i : Fin 7 => atPos ER (scCell c (.inl (f, i))) 0 ∅ 0)).symm)
    isplitl [H1]; · iexact H1
    iexact H2
  iempintro

theorem sh50 {P S T : sProp 𝕄} : iprop(P ∗ S ∗ T ∗ arrivals c 2 Nc ∗ keep1 I c ∗ pre4 I c)
    ⊢ iprop(P ∗ S ∗ (waitSt I c 2 0 ∗ waitSt I c 3 0) ∗ T ∗ keep1 I c ∗ pre5 I c) := by
  iintro ⟨HP, HS, HT, Hcs, Hk, ⟨Hat, Hw⟩, HR⟩
  isplitl [HP]; · iexact HP
  isplitl [HS]; · iexact HS
  isplitl [Hcs Hat Hw]
  · isplitl [Hcs Hat]
    · iapply (wait_zero I c 2 Nc (fun _ => rfl))
      isplitl [Hcs]; · iexact Hcs
      iexact Hat
    iexact Hw
  isplitl [HT]; · iexact HT
  isplitl [Hk]; · iexact Hk
  iexact HR

theorem sh52 {P T D S : sProp 𝕄} : iprop(P ∗ T ∗ D ∗ S ∗ keep1 I c ∗ pre5 I c) ⊢ iprop(P ∗ T ∗ S ∗ tabPre c ∗ D ∗ keep1 I c ∗ pre6 I c) := by
  iintro ⟨HP, HT, HD, HS, Hk, HB, HR⟩
  isplitl [HP]; · iexact HP
  isplitl [HT]; · iexact HT
  isplitl [HS]; · iexact HS
  isplitl [HB]; · iexact HB
  isplitl [HD]; · iexact HD
  isplitl [Hk]; · iexact Hk
  iexact HR

theorem sh56 {T P S : sProp 𝕄} : iprop(T ∗ P ∗ S ∗ datCreds c ∗ keep1 I c ∗ pre6 I c)
    ⊢ iprop(T ∗ P ∗ S ∗ (waitSt I c 0 0 ∗ waitSt I c 1 0) ∗ idxPre c ∗ keep1 I c ∗ pre7 I c) := by
  iintro ⟨HT, HP, HS, HD, Hk, ⟨Hat, Hw⟩, HI, HR⟩
  isplitl [HT]; · iexact HT
  isplitl [HP]; · iexact HP
  isplitl [HS]; · iexact HS
  isplitl [HD Hat Hw]
  · isplitl [HD Hat]
    · iapply (wait_zero I c 0 Nd (fun _ => rfl))
      isplitl [HD]; · iexact HD
      iexact Hat
    iexact Hw
  isplitl [HI]; · iexact HI
  isplitl [Hk]; · iexact Hk
  iexact HR

/-! ## What it ends with -/

/-- The buffers, at the values the run leaves. -/
def bufEnd : sProp 𝕄 :=
  iprop(srcs I c ∗ (bigSep Finset.univ (fun i : Fin 7 => owns (c : Thread nD τ) cntM (tokQ i.val) (I.cnt c)) ∗ owns (c : Thread nD τ) cntM (tokQ 7) (I.cnt c))
    ∗ below c outM (outV I c) 512
    ∗ owns (c : Thread nD τ) sendM fullShare (sendV I c) ∗ owns (c : Thread nD τ) recvM fullShare (recvV I c) ∗ owns (c : Thread nD τ) matM fullShare (matV I c)
    ∗ owns (c : Thread nD τ) idxM fullShare (idxV I c) ∗ owns (c : Thread nD τ) cntsM fullShare (cntsV I c) ∗ owns (c : Thread nD τ) idxsM fullShare (idxV I c))
/-- Every semaphore of the call past its last round. -/
def scEnd : sProp 𝕄 := bigSep Finset.univ (fun s : Sc => atPos ER (scCell c s) (scLen s) ∅ 0)

theorem scEnd_intro : iprop((ats (F := F) c 0 1 ∗ ats c 1 1 ∗ ats c 2 1 ∗ ats c 3 1) ∗ atPos ER (scCell c locS) 2 ∅ 0 ∗ atPos ER (scCell c rowS) 1 ∅ 0 ∗ atPos ER (scCell c matS) 1 ∅ 0)
    ⊢ scEnd (F := F) c := by
  unfold scEnd
  rw [BI.bigSep_univ_sum, BI.bigSep_univ_prod, bigSep_univ_eq_bigSepL [(0 : Fin 4), 1, 2, 3] (by decide) (by decide),
    bigSep_univ_eq_bigSepL [(0 : Fin 3), 1, 2] (by decide) (by decide)]
  exact Entails.of_eq rfl

/-- A device's end. -/
def fin : sProp 𝕄 := iprop(owing (F := F) c 0 ∗ scEnd c ∗ atPos ER (barCell c) 1 ∅ 0 ∗ bufEnd I c)

theorem run_out (hG : Good I) {hok : k0_t9_loop.OK} {α : Type} {kk : Unit → Prog (TpuEff nD τ sig (Elt F) Λ₀ .tc) α} {Q : α → sProp 𝕄}
    (h : fin I c ⊢ run c (kk ⟨⟩) Q) :
    iprop(pers I K c ∗ two I c 0 1 7 7 ∗ idxPost I c ∗ keep1 I c ∗ pre7 I c)
      ⊢ run c (Scf.Loop.for k0_t9_loop hok ⟨⟩ (atBufs (k0_t9_body (F := F)) v3₀) >>= kk) Q := by
  unfold two waitSt idxPost kept
  rw [bigSep_finFrom_self, bigSep_finUpTo_self, bigSep_finFrom_self, bigSep_finUpTo_self]
  iintro ⟨-, ⟨HO, ⟨-, Hds⟩, -, Hdr⟩, ⟨Hxs, Hx, Hloc, Htab, Hcs, Hcr, Hmat, Hr7, Hs7, Hmt, Hsrc⟩, ⟨Hc7, Hrow, Hbar⟩, Hout⟩
  ihave Hds := (Entails.of_eq (show (bigSep Finset.univ fun i : Fin 7 => iprop(atPos ER (scCell c (.inl (0, i))) 1 ∅ 0 ∗ scPay I c (.inl (0, i)) 0))
      = bigSep Finset.univ fun i : Fin 7 => iprop(atPos ER (scCell c (.inl (0, i))) 1 ∅ 0 ∗ sentW I c i.castSucc) from rfl)) $$ Hds
  ihave Hds := (Entails.of_eq (BI.bigSep_sep' (s := Finset.univ) (Φ := fun i : Fin 7 => atPos ER (scCell c (.inl (0, i))) 1 ∅ 0) (Ψ := fun i : Fin 7 => sentW I c i.castSucc))) $$ Hds
  icases Hds with ⟨Hds, Hsent⟩
  ihave Hdr := (Entails.of_eq (show (bigSep Finset.univ fun i : Fin 7 => iprop(atPos ER (scCell c (.inl (1, i))) 1 ∅ 0 ∗ scPay I c (.inl (1, i)) 0))
      = bigSep Finset.univ fun i : Fin 7 => iprop(atPos ER (scCell c (.inl (1, i))) 1 ∅ 0 ∗ owns (c : Thread nD τ) (recvW i.castSucc) fullShare (fun y => recvV I c ((winR i.castSucc).emb y))) from rfl)) $$ Hdr
  ihave Hdr := (Entails.of_eq (BI.bigSep_sep' (s := Finset.univ) (Φ := fun i : Fin 7 => atPos ER (scCell c (.inl (1, i))) 1 ∅ 0)
    (Ψ := fun i : Fin 7 => owns (c : Thread nD τ) (recvW i.castSucc) fullShare (fun y => recvV I c ((winR i.castSucc).emb y))))) $$ Hdr
  icases Hdr with ⟨Hdr, Hrecv⟩
  ihave Hcs := (Entails.of_eq (BI.bigSep_sep' (s := Finset.univ) (Φ := fun i : Fin 7 => atPos ER (scCell c (csS i)) 1 ∅ 0) (Ψ := fun i : Fin 7 => owns (c : Thread nD τ) cntM (tokQ i.val) (I.cnt c)))) $$ Hcs
  icases Hcs with ⟨Hcs, Hcnt⟩
  ihave Hsend := (BIBase.Entails.trans (Entails.of_eq (fam_last (fun j : Fin 8 => sentW I c j)).symm) (send_join I c)) $$ [Hs7 Hsent]
  · isplitl [Hs7]; · iexact Hs7
    iexact Hsent
  ihave Hrcv := (BIBase.Entails.trans (Entails.of_eq (fam_last (fun j : Fin 8 => owns (c : Thread nD τ) (recvW j) fullShare (fun y => recvV I c ((winR j).emb y)))).symm) (recv_join I c)) $$ [Hr7 Hrecv]
  · isplitl [Hr7]; · iexact Hr7
    iexact Hrecv
  ihave Hrcv := (Entails.of_eq (owns_whole (c : Thread nD τ) cc0_scratch1 fullShare (recvV I c))) $$ Hrcv
  ihave Hxs := (Entails.of_eq (owns_whole (c : Thread nD τ) cc0_scratch5 fullShare (idxV I c))) $$ Hxs
  iapply (wp_compact I c hG fullShare fullShare k0_chk73.dec k0_t9_loop rfl hok (atBufs (k0_t9_body (F := F)) v3₀) (fun k hL => ⟨_, _, rfl⟩) kk Q) $$ [Hrcv Hxs Hout]
  · isplitl [Hrcv Hxs]
    · isplitl [Hxs]; · iexact Hxs
      iexact Hrcv
    iexact Hout
  iintro ⟨⟨Hxs, Hrcv⟩, Hout⟩
  ihave Hrcv := (Entails.of_eq (owns_whole (c : Thread nD τ) cc0_scratch1 fullShare (recvV I c)).symm) $$ Hrcv
  ihave Hxs := (Entails.of_eq (owns_whole (c : Thread nD τ) cc0_scratch5 fullShare (idxV I c)).symm) $$ Hxs
  iapply h
  unfold fin bufEnd
  isplitl [HO]; · iexact HO
  isplitl [Hds Hdr Hcs Hcr Hloc Hrow Hmt]
  · iapply (scEnd_intro (F := F) c)
    isplitl [Hds Hdr Hcs Hcr]
    · isplitl [Hds]; · iexact Hds
      isplitl [Hdr]; · iexact Hdr
      isplitl [Hcs]; · iexact Hcs
      iexact Hcr
    isplitl [Hloc]; · iexact Hloc
    isplitl [Hrow]; · iexact Hrow
    iexact Hmt
  isplitl [Hbar]; · iexact Hbar
  isplitl [Hsrc]; · iexact Hsrc
  isplitl [Hcnt Hc7]
  · isplitl [Hcnt]; · iexact Hcnt
    iexact Hc7
  isplitl [Hout]; · iexact Hout
  isplitl [Hsend]; · iexact Hsend
  isplitl [Hrcv]; · iexact Hrcv
  isplitl [Hmat]; · iexact Hmat
  isplitl [Hx]; · iexact Hx
  isplitl [Htab]; · iexact Htab
  iexact Hxs

theorem body_core (hG : Good I) :
    iprop(pers I K c ∗ sigSt c 0 ∗ barPre I c ∗ pre1 I c) ⊢ run c (atBufs (cc0_body (F := F))) (fun _ => fin I c) := by
  rw [cc0_body_eq_skeleton]
  refine run_bind c (p37 I K c fun v25 => ?_)
  refine run_bind c (p38 I K c (fun v34 v43 v51 z => ?_) v25)
  refine run_bind c (p39 I K c (fun v52 v61 v70 v79 v80 z => ?_) v51 z)
  refine .trans sh40 ?_
  refine run_bind c (p40 I K c (fun v88 => ?_) v80 z)
  refine .trans (sh41 I c) ?_
  refine run_bind c (p41 I c hG fun hw => ?_)
  refine run_bind c (p42 I c hG hw fun hw => ?_)
  refine run_bind c (p43 I c hG hw fun hw => ?_)
  refine run_bind c (p44 I c hG hw ?_)
  refine run_bind c (p45 I c hG fun hw => ?_)
  refine run_bind c (p46 I c hG hw fun hw => ?_)
  refine .trans (sh47 I c) ?_
  refine run_bind c (p47 I K c hG hw fun v307 v317 => ?_)
  refine run_bind c (p48 I K c fun v327 v337 v347 z => ?_)
  refine run_bind c (p49 I K c (fun v357 v367 => ?_) v347 z)
  refine .trans (sh50 I c) ?_
  refine run_bind c (p50 I K c ?_ _ _ _)
  refine run_bind c (p51 I K c (fun v419 => ?_) _ _ _)
  refine .trans (sh52 I c) ?_
  refine run_bind c (p52 I K c ?_ _ _)
  refine run_bind c (p53 I c ?_)
  refine run_bind c (p54 I c ?_)
  refine run_bind c (p55 I c ?_)
  refine .trans (sh56 I c) ?_
  refine run_bind c (p56 I K c hG ?_)
  refine run_bind c (p57 I K c ?_ _ _)
  refine run_bind c (p58 I K c ?_ _ _)
  refine run_bind c (p59 I K c ?_ _ _)
  refine ds_wait I K c 6 6 ?_
  refine dr_wait I K c 6 7 ?_
  refine run_out I K c hG ?_
  exact run_pure c .rfl

end Body

end Cert.KernelIdeal.Own

end
-- ==== Proof.Enter.lean ====
/- From the buffers and the dealt ghost state to a device's run, and back: the counts shared out among their readers, the
   receive buffer and the count matrix lent out window by window, the call's semaphores opened before and closed after. -/
module

public import proofs.«01_k».proof.Proof.Body
@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

section Enter

variable (I : Inp F) (K : GSem nD τ sig → ℕ) (c : Dev nD)

/-! ## Opening and closing -/

/-- Every semaphore of the call before its first round. -/
def scStart : sProp 𝕄 := bigSep Finset.univ (fun s : Sc => atPos ER (scCell c s) 0 ∅ 0)
/-- The counters of the call's semaphores, at zero. -/
def scZero : sProp 𝕄 := bigSep Finset.univ (fun s : Sc => semVal (scCell c s) 0)
def scOpen : sProp 𝕄 := bigSep Finset.univ (fun s : Sc => openTok ER (scCell c s))

theorem each_fupd {T : Type} [Fintype T] [DecidableEq T] {P : sProp 𝕄} [BI.Persistent P] {A B : T → sProp 𝕄} (h : ∀ t, iprop(P ∗ A t) ⊢ (|={Set.univ}=> B t : sProp 𝕄)) :
    iprop(P ∗ bigSep Finset.univ A) ⊢ (|={Set.univ}=> bigSep Finset.univ B : sProp 𝕄) :=
  .trans (bigSep_with_persistent (R := P) (Φ := A) fun t _ => h t) (bigSep_fupd Finset.univ B)

theorem open_all : iprop(invAll I K ∗ scOpen c ∗ scZero c) ⊢ (|={Set.univ}=> iprop(scStart c ∗ ownReached c) : sProp 𝕄) := by
  have h := each_fupd (P := invAll I K) (A := fun s : Sc => iprop(openTok ER (scCell c s) ∗ semVal (scCell c s) 0))
    (B := fun s : Sc => iprop(atPos ER (scCell c s) 0 ∅ 0 ∗ reached ER (scCell c s) 0)) (fun s => by
      iintro ⟨#HI, H⟩
      iapply (Rounds.cell_open ER (Rd I) (g := scCell c s) (Set.mem_univ (K (scCell c s))))
      isplitr; · iapply (inv_sc I K c s); iexact HI
      iexact H)
  rw [BI.bigSep_sep', BI.bigSep_sep'] at h
  exact h

theorem close_all : iprop(invAll I K ∗ scEnd c) ⊢ (|={Set.univ}=> scZero c : sProp 𝕄) :=
  each_fupd (P := invAll I K) (A := fun s : Sc => atPos ER (scCell c s) (scLen s) ∅ 0) (B := fun s : Sc => semVal (scCell c s) 0) (fun s => by
    iintro ⟨#HI, H⟩
    iapply (Rounds.cell_close ER (Rd I) (g := scCell c s) (Set.mem_univ (K (scCell c s))) (fun h => h) (R := scLen s) (fun r hr => duties_sc_later I c s r hr))
    isplitr; · iapply (inv_sc I K c s); iexact HI
    iexact H)

theorem close_bar : iprop(invAll I K ∗ atPos ER (barCell c) 1 ∅ 0) ⊢ (|={Set.univ}=> semVal (barCell c) 0 : sProp 𝕄) := by
  iintro ⟨#HI, H⟩
  iapply (Rounds.cell_close ER (Rd I) (g := barCell c) (Set.mem_univ (K (barCell c))) (fun h => h) (R := 1) (fun r hr => duties_bar_later I c r hr))
  isplitr; · iapply (inv_bar I K c); iexact HI
  iexact H

/-! ## What is dealt to a device -/

/-- The rights to pay: to its peers' barriers, to its own and its peers' semaphores. -/
def toksTo : sProp 𝕄 :=
  iprop(bigSep Finset.univ (fun i : Fin 7 => dutyTok ER (barCell (peer c i)) 0 (Fin.rev i))
    ∗ bigSep Finset.univ (fun i : Fin 7 => dutyTok ER (scCell (peer c i) (drS i)) 0 0)
    ∗ bigSep Finset.univ (fun i : Fin 7 => dutyTok ER (scCell (peer c i) (crS i)) 0 0)
    ∗ bigSep Finset.univ (fun i : Fin 7 => dutyTok ER (scCell c (dsS i)) 0 0)
    ∗ bigSep Finset.univ (fun i : Fin 7 => dutyTok ER (scCell c (csS i)) 0 0)
    ∗ dutyTok ER (scCell c locS) 0 0 ∗ dutyTok ER (scCell c rowS) 0 0 ∗ dutyTok ER (scCell c matS) 0 0 ∗ dutyTok ER (scCell c locS) 1 0)
/-- The credits of what is owed to it. -/
def credsTo : sProp 𝕄 := iprop(cred (tallyAt (barCell c) () 7) ∗ arrivals c 1 Nd ∗ arrivals c 3 Nc)

/-- The call's own buffers, at contents not named. -/
def scratch : sProp 𝕄 := iprop(any c sendM ∗ any c recvM ∗ any c matM ∗ any c idxM ∗ any c cntsM ∗ any c idxsM)
/-- The call's operands. -/
def inputs : sProp 𝕄 :=
  iprop(owns (c : Thread nD τ) xM fullShare (I.x c) ∗ owns (c : Thread nD τ) ordM fullShare (I.ord c) ∗ owns (c : Thread nD τ) cntM fullShare (I.cnt c))

/-- What no reader of the counts holds. -/
def spare : sProp 𝕄 := owns (c : Thread nD τ) cntM (Transfers.shareDrop fullShare 8) (I.cnt c)

theorem any_whole (b : Ref sig .tc) : (any c (Memref.whole b) : sProp 𝕄) = iprop(∃ f : Buf (Elt F) ((c : Thread nD τ).loc b), ((c : Thread nD τ).loc b) ↦{fullShare} f) := by
  unfold any; simp only [Memref.view_whole, View.set_whole]

theorem below_zero {m : ℕ} (b : Ref sig .tc) (md : Memref sig .tc .vmem (Slabs m) .bf16) (hs : md.view.set = Finset.univ) (V : (Slabs m).Idx → Elt F .bf16) :
    (any c md : sProp 𝕄) ⊢ below c md V 0 := by
  unfold any below
  rw [hs]
  iintro ⟨%f, H⟩
  iexists f
  isplitl [H]; · iexact H
  ipureintro; exact fun z h => absurd h (Nat.not_lt_zero _)

theorem cnt_split : (owns (c : Thread nD τ) cntM fullShare (I.cnt c) : sProp 𝕄)
    ⊢ iprop(spare I c ∗ owns (c : Thread nD τ) cntM (tokQ 7) (I.cnt c) ∗ bigSep Finset.univ fun i : Fin 7 => owns (c : Thread nD τ) cntM (tokQ i.val) (I.cnt c)) := by
  unfold spare
  have e (q : PosShare TreeShare) := owns_whole (Ix := Unit) (Name := ℕ) (U := UU) (Lvl := ℕ) (Val := Elt F) (c : Thread nD τ) cc0_stg2_0 q (I.cnt c)
  simp only [e]
  refine .trans (Transfers.pointsTo_toks_split fullShare 8) ?_
  rw [fam_last]
  exact .rfl

theorem cnt_join : iprop(spare I c ∗ owns (c : Thread nD τ) cntM (tokQ 7) (I.cnt c) ∗ bigSep Finset.univ fun i : Fin 7 => owns (c : Thread nD τ) cntM (tokQ i.val) (I.cnt c))
    ⊢ (owns (c : Thread nD τ) cntM fullShare (I.cnt c) : sProp 𝕄) := by
  unfold spare
  have e (q : PosShare TreeShare) := owns_whole (Ix := Unit) (Name := ℕ) (U := UU) (Lvl := ℕ) (Val := Elt F) (c : Thread nD τ) cc0_stg2_0 q (I.cnt c)
  simp only [e]
  refine .trans ?_ (Transfers.pointsTo_toks_join fullShare 8)
  rw [fam_last]
  exact .rfl

theorem start_split : (scStart c : sProp 𝕄)
    ⊢ iprop((ats c 0 0 ∗ ats c 1 0 ∗ ats c 2 0 ∗ ats c 3 0) ∗ atPos ER (scCell c locS) 0 ∅ 0 ∗ atPos ER (scCell c rowS) 0 ∅ 0 ∗ atPos ER (scCell c matS) 0 ∅ 0) := by
  unfold scStart
  rw [BI.bigSep_univ_sum, BI.bigSep_univ_prod, bigSep_univ_eq_bigSepL [(0 : Fin 4), 1, 2, 3] (by decide) (by decide),
    bigSep_univ_eq_bigSepL [(0 : Fin 3), 1, 2] (by decide) (by decide)]
  exact Entails.of_eq rfl

/-- The windows and rows lent out with the barrier's signals. -/
theorem sig_zip : iprop(bigSep Finset.univ (fun i : Fin 7 => dutyTok ER (barCell (peer c i)) 0 (Fin.rev i))
      ∗ bigSep Finset.univ (fun i : Fin 7 => any c (matRow i)) ∗ bigSep Finset.univ (fun i : Fin 7 => any c (recvW i.castSucc)))
    ⊢ (bigSep (finFrom 7 0) (sigRes c) : sProp 𝕄) := by
  rw [bigSep_finFrom_zero, BI.bigSep_univ_equiv Fin.revPerm (fun i : Fin 7 => (any c (matRow i) : sProp 𝕄)),
    BI.bigSep_univ_equiv Fin.revPerm (fun i : Fin 7 => (any c (recvW i.castSucc) : sProp 𝕄)), ← BI.bigSep_sep', ← BI.bigSep_sep']
  exact .rfl

theorem enter (W : Waits sig Unit) :
    iprop(inputs I c ∗ any c outM ∗ scratch c ∗ scStart c ∗ atPos ER (barCell c) 0 ∅ 0 ∗ toksTo c ∗ credsTo c ∗ owes (c : Thread nD τ) (O₀ c) W)
      ⊢ iprop((sigSt c 0 ∗ barPre I c ∗ pre1 I c) ∗ spare I c) := by
  unfold inputs scratch toksTo credsTo
  iintro ⟨⟨Hx, Hord, Hcnt⟩, Hout, ⟨Hsend, Hrecv, Hmat, Hidx, Hcnts, Hidxs⟩, Hat, Hbar, ⟨Htb, Htdr, Htcr, Htds, Htcs, Htl, Htr, Htm, Htl1⟩, ⟨Hcb, Hcd, Hcc⟩, HO⟩
  ihave Hat := (start_split (F := F) c) $$ Hat
  icases Hat with ⟨⟨Ha0, Ha1, Ha2, Ha3⟩, Hal, Har, Ham⟩
  ihave Hcnt := (cnt_split I c) $$ Hcnt
  icases Hcnt with ⟨Hsp, Hc7, Hcf⟩
  ihave Hmat := (any_cut c matM matR (fun _ _ => rfl) mat_disj mat_cov) $$ Hmat
  ihave Hrecv := (any_cut c recvM winR (fun _ _ => rfl) win_disj win_cov) $$ Hrecv
  ihave Hrecv := (Entails.of_eq (fam_last (fun j : Fin 8 => any (F := F) c (recvW j)))) $$ Hrecv
  icases Hrecv with ⟨Hr7, Hrecv⟩
  ihave Hcnts := (tab_cut (F := F) c) $$ Hcnts
  icases Hcnts with ⟨Hown, Hrest⟩
  ihave Hx := (Entails.of_eq (owns_whole (c : Thread nD τ) cc0_stg0_0 fullShare (I.x c))) $$ Hx
  ihave Hord := (Entails.of_eq (owns_whole (c : Thread nD τ) cc0_stg1_0 fullShare (I.ord c))) $$ Hord
  isplitr [Hsp]
  · isplitl [Htb Hmat Hrecv HO]
    · unfold sigSt
      isplitl [Htb Hmat Hrecv]
      · iapply (sig_zip (F := F) c)
        isplitl [Htb]; · iexact Htb
        isplitl [Hmat]; · iexact Hmat
        iexact Hrecv
      iexists W; iexact HO
    isplitl [Hcb Hbar Htcs Htcr Hcf]
    · unfold barPre
      isplitl [Hcb]; · iexact Hcb
      isplitl [Hbar]; · iexact Hbar
      unfold cntPre
      simp only [BI.bigSep_sep']
      isplitl [Hcf]; · iexact Hcf
      isplitl [Htcs]; · iexact Htcs
      iexact Htcr
    isplitl [Hc7 Hown Htr Har]
    · unfold rowPre
      isplitl [Hc7]; · iexact Hc7
      isplitl [Hown]; · iexact Hown
      isplitl [Htr]; · iexact Htr
      iexact Har
    isplitl [Hx Hord Hsend]
    · isplitl [Hx Hord]
      · isplitl [Hord]; · iexact Hord
        iexact Hx
      iapply (below_zero c cc0_scratch0 sendM (View.set_whole _) (sendV I c)); iexact Hsend
    isplitl [Htds Htdr Hr7 Htl]
    · isplitl [Htds Htdr]
      · unfold datPre
        simp only [BI.bigSep_sep']
        isplitl [Htds]; · iexact Htds
        iexact Htdr
      isplitl [Hr7]; · iexact Hr7
      iexact Htl
    isplitl [Ha2 Ha3 Hcc]
    · isplitl [Ha2]; · iexact Ha2
      iapply (wait_zero I c 3 Nc (fun _ => rfl))
      isplitl [Hcc]; · iexact Hcc
      iexact Ha3
    isplitl [Hal Hrest Htm Ham]
    · unfold tabPre
      isplitl [Hal]; · iexact Hal
      isplitl [Hrest]; · iexact Hrest
      isplitl [Htm]; · iexact Htm
      iexact Ham
    isplitl [Ha0 Ha1 Hcd]
    · isplitl [Ha0]; · iexact Ha0
      iapply (wait_zero I c 1 Nd (fun _ => rfl))
      isplitl [Hcd]; · iexact Hcd
      iexact Ha1
    isplitl [Hidx Hidxs Htl1]
    · unfold idxPre
      isplitl [Hidx]; · iexact Hidx
      isplitl [Hidxs]; · iexact Hidxs
      iexact Htl1
    iapply (below_zero c cc0_stg3_0 outM (View.set_whole _) (outV I c)); iexact Hout
  iexact Hsp

/-- What the run leaves in the buffers. -/
theorem leave : iprop(bufEnd I c ∗ spare I c) ⊢ iprop(inputs I c ∗ owns (c : Thread nD τ) outM fullShare (outV I c) ∗ scratch c) := by
  unfold bufEnd inputs scratch
  iintro ⟨⟨⟨Hord, Hx⟩, ⟨Hcf, Hc7⟩, Hout, Hsend, Hrecv, Hmat, Hidx, Hcnts, Hidxs⟩, Hsp⟩
  ihave Hx := (Entails.of_eq (owns_whole (c : Thread nD τ) cc0_stg0_0 fullShare (I.x c)).symm) $$ Hx
  ihave Hord := (Entails.of_eq (owns_whole (c : Thread nD τ) cc0_stg1_0 fullShare (I.ord c)).symm) $$ Hord
  isplitl [Hx Hord Hcf Hc7 Hsp]
  · isplitl [Hx]; · iexact Hx
    isplitl [Hord]; · iexact Hord
    iapply (cnt_join I c)
    isplitl [Hsp]; · iexact Hsp
    isplitl [Hc7]; · iexact Hc7
    iexact Hcf
  isplitl [Hout]
  · unfold below
    icases Hout with ⟨%f, H, %hf⟩
    have e : outM.view.read (Elt F) f = outV I c := funext fun z => hf z (z 0).isLt
    rw [← e]
    iapply (owns_intro (c : Thread nD τ) outM fullShare f)
    rw [View.set_whole]; iexact H
  isplitl [Hsend]; · iapply (any_of_owns c sendM _); iexact Hsend
  isplitl [Hrecv]; · iapply (any_of_owns c recvM _); iexact Hrecv
  isplitl [Hmat]; · iapply (any_of_owns c matM (matV I c : S7x128.Idx → Elt F .i32)); iexact Hmat
  isplitl [Hidx]; · iapply (any_of_owns c idxM (idxV I c : S32x128.Idx → Elt F .i32)); iexact Hidx
  isplitl [Hcnts]; · iapply (any_of_owns c cntsM (cntsV I c : S8x128.Idx → Elt F .i32)); iexact Hcnts
  iapply (any_of_owns c idxsM (idxV I c : S32x128.Idx → Elt F .i32)); iexact Hidxs

/-- A device's run, from its operands and what it was dealt. -/
theorem body_run (hG : Good I) (W : Waits sig Unit) :
    iprop(pers I K c ∗ inputs I c ∗ any c outM ∗ scratch c ∗ scStart c ∗ atPos ER (barCell c) 0 ∅ 0 ∗ toksTo c ∗ credsTo c ∗ owes (c : Thread nD τ) (O₀ c) W)
      ⊢ run c (atBufs (cc0_body (F := F)))
        (fun _ => iprop(owing c 0 ∗ scZero c ∗ semVal (barCell c) 0 ∗ inputs I c ∗ owns (c : Thread nD τ) outM fullShare (outV I c) ∗ scratch c)) := by
  have step : iprop(pers I K c ∗ ((sigSt c 0 ∗ barPre I c ∗ pre1 I c) ∗ spare I c)) ⊢ run c (atBufs (cc0_body (F := F))) (fun _ => iprop(fin I c ∗ spare I c ∗ invAll I K)) := by
    refine .trans ?_ (wp_frame_r frame (wpE (defs₀ (F := F)) 𝒱₀ (c : Thread nD τ) none) Set.univ (Q := fun _ => fin I c) (R := iprop(spare I c ∗ invAll I K)))
    iintro ⟨#HP, Hs, Hsp⟩
    isplitl [Hs]
    · iapply (body_core I K c hG)
      isplitr; · iexact HP
      iexact Hs
    isplitl [Hsp]; · iexact Hsp
    unfold pers
    icases HP with ⟨HI, -⟩
    iexact HI
  refine .trans ?_ (.trans step (.trans (wp_mono _ _ _ fun _ => ?_) (wp_fupd _ _ _ _ _)))
  · iintro ⟨#HP, H⟩
    isplitr; · iexact HP
    iapply (enter I c W); iexact H
  unfold fin
  iintro ⟨⟨HO, Hsc, Hb, Hbuf⟩, Hsp, #HI⟩
  imod (close_all I K c) $$ [Hsc] with Hz
  · isplitr; · iexact HI
    iexact Hsc
  imod (close_bar I K c) $$ [Hb] with Hb
  · isplitr; · iexact HI
    iexact Hb
  imodintro
  isplitl [HO]; · iexact HO
  isplitl [Hz]; · iexact Hz
  isplitl [Hb]; · iexact Hb
  iapply (leave I c)
  isplitl [Hbuf]; · iexact Hbuf
  iexact Hsp

end Enter

end Cert.KernelIdeal.Own

end
-- ==== Proof.Region.lean ====
/- The call as a region of @main: what it finds in its arrays and leaves in them, the ghost state that enters it, and its
   record for the launch. -/
module

public import proofs.«01_k».proof.Proof.Enter
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit.Geometry
@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

open Idealize.ShloMosaic.Pipeline (Dat BodyObligation)

section Region

variable (m : (ℓ : Loc nD τ sig) → Buf (Elt F) ℓ)

/-! ## What the call works on -/

/-- The buffers as the call finds them. -/
@[irreducible] def at5 (c : Dev nD) : Valuation τ sig (Elt F) := V5 m c
theorem at5_eq : at5 m = V5 m := by unfold at5; rfl

/-- What each device brings to the exchange: what @main's first part leaves in the call's operands. -/
def inp : Inp F where
  x c := at5 m c main_v21
  ord c := at5 m c main_v10
  cnt c := at5 m c main_v20

/-- What the call leaves in its result. -/
def outs : Outs (F := F) := fun _ r c =>
  if h : r = main_v22 then h ▸ (outV (inp m) c : Buf (Elt F) ((c : Thread nD τ).loc main_v22)) else default

theorem outs_v22 (n : ℕ) (c : Dev nD) : outs m n main_v22 c = outV (inp m) c := dif_pos rfl

/-- The invariants, known beside what has been reached. -/
def shared (K : GSem nD τ sig → ℕ) : sProp 𝕄 := iprop(invAll (inp m) K ∗ barReached)

/-- What a device holds for the exchange before the call's semaphores are opened. -/
def ghost (c : Dev nD) : sProp 𝕄 :=
  iprop((∃ K, shared m K) ∗ atPos ER (barCell c) 0 ∅ 0 ∗ scOpen c ∗ toksTo c ∗ credsTo c)

/-- … and after. -/
def opened (c : Dev nD) : sProp 𝕄 :=
  iprop((∃ K, pers (inp m) K c) ∗ atPos ER (barCell c) 0 ∅ 0 ∗ scStart c ∗ toksTo c ∗ credsTo c)

def dat (c : Dev nD) : Pipeline.Dat τ (Elt F) Unit ℕ UU ℕ cfg0 c where
  A := fun
    | 0 => at5 m c main_v21
    | 1 => at5 m c main_v10
    | 2 => at5 m c main_v20
    | 3 => at5 m c main_v22
    | ⟨_ + 4, h⟩ => absurd h (Nat.not_lt.2 (Nat.le_add_left _ _))
  after := fun
    | 0 => fun _ => (inp m).x c
    | 1 => fun _ => (inp m).ord c
    | 2 => fun _ => (inp m).cnt c
    | 3 => fun _ => outV (inp m) c
    | ⟨_ + 4, h⟩ => absurd h (Nat.not_lt.2 (Nat.le_add_left _ _))
  Φ t := if t.val = 0 then iprop(opened m c ∗ scratch c ∗ ∃ r, prngReg c r)
    else iprop(scZero c ∗ semVal (barCell c) 0 ∗ scratch c ∗ ∃ r, prngReg c r)
  q _ := fullShare
  owed t := if t.val = 0 then O₀ c else 0

def pdats : (p : Fin 1) → (c : Dev nD) → Pipeline.Dat τ (Elt F) Unit ℕ UU ℕ (cfgs p) c
  | 0 => dat m

theorem N_one : cfg0.N = 1 := N_0
theorem last_ne : (Fin.last cfg0.N).val ≠ 0 := by rw [Fin.val_last, N_one]; decide

theorem Φ_first (c : Dev nD) : (dat m c).Φ 0 = iprop(opened m c ∗ scratch c ∗ ∃ r, prngReg c r) := by
  dsimp only [dat]
  exact if_pos rfl
theorem Φ_last (c : Dev nD) : (dat m c).Φ (Fin.last _) = iprop(scZero c ∗ semVal (barCell c) 0 ∗ scratch c ∗ ∃ r, prngReg c r) := by
  dsimp only [dat]
  exact if_neg last_ne
theorem owed_first (c : Dev nD) : (dat m c).owed 0 = O₀ c := by
  dsimp only [dat]
  exact if_pos rfl
theorem owed_last (c : Dev nD) : (dat m c).owed (Fin.last _) = 0 := by
  dsimp only [dat]
  exact if_neg last_ne

theorem whole_0 (A : S512x8x1024.Idx → Elt F .bf16) (d) : (cfg0.win 0).fill (cfg0.grid.coords t0_0) d (((cfg0.win 0).blk t0_0).view.read (Elt F) A) = A := by
  funext j
  unfold Pipeline.Window.fill
  rw [dif_pos (((cfg0.win 0).moved_iff _ j).mpr fun a => (j a).isLt)]
  show A _ = A j
  congr 1
  funext a
  exact Fin.ext (Pipeline.Window.rect_emb_val_of_index_zero win0_0 t0_0 a rfl _)

theorem whole_1 (A : S4096.Idx → Elt F .i32) (d) : (cfg0.win 1).fill (cfg0.grid.coords t0_0) d (((cfg0.win 1).blk t0_0).view.read (Elt F) A) = A := by
  funext j
  unfold Pipeline.Window.fill
  rw [dif_pos (((cfg0.win 1).moved_iff _ j).mpr fun a => (j a).isLt)]
  show A _ = A j
  congr 1
  funext a
  exact Fin.ext (Pipeline.Window.rect_emb_val_of_index_zero win0_1 t0_0 a rfl _)

theorem whole_2 (A : S1x128.Idx → Elt F .i32) (d) : (cfg0.win 2).fill (cfg0.grid.coords t0_0) d (((cfg0.win 2).blk t0_0).view.read (Elt F) A) = A := by
  funext j
  unfold Pipeline.Window.fill
  rw [dif_pos (((cfg0.win 2).moved_iff _ j).mpr fun a => (j a).isLt)]
  show A _ = A j
  congr 1
  funext a
  exact Fin.ext (Pipeline.Window.rect_emb_val_of_index_zero win0_2 t0_0 a rfl _)

theorem before_0 (c : Dev nD) (d) : (dat m c).before 0 t0_0 d = (inp m).x c :=
  ((dat m c).before_fetched 0 t0_0 (fetch0_0 t0_0) d).trans (whole_0 ((inp m).x c) d)
theorem before_1 (c : Dev nD) (d) : (dat m c).before 1 t0_0 d = (inp m).ord c :=
  ((dat m c).before_fetched 1 t0_0 (fetch0_1 t0_0) d).trans (whole_1 (F := F) ((inp m).ord c) d)
theorem before_2 (c : Dev nD) (d) : (dat m c).before 2 t0_0 d = (inp m).cnt c :=
  ((dat m c).before_fetched 2 t0_0 (fetch0_2 t0_0) d).trans (whole_2 (F := F) ((inp m).cnt c) d)

theorem owesAt_of (c : Dev nD) (t : Fin (cfg0.N + 1)) (O : CellTallies nD τ sig Unit) (h : (dat m c).owed t = O) :
    (owing c O : sProp 𝕄) ⊢ ((dat m c).owesAt () t : sProp 𝕄) := by
  unfold owing Dat.owesAt Pipeline.owesWithin Dat.bound; rw [h, show (dat m c).recorded t = Set.univ from rfl]
  iintro ⟨%W, HO⟩; iexists W; isplitr; · ipureintro; exact fun _ _ => Or.inl trivial
  iexact HO
theorem of_owesAt (c : Dev nD) (t : Fin (cfg0.N + 1)) (O : CellTallies nD τ sig Unit) (h : (dat m c).owed t = O) :
    ((dat m c).owesAt () t : sProp 𝕄) ⊢ owing c O := by
  unfold owing Dat.owesAt Pipeline.owesWithin; rw [h]
  iintro ⟨%W, -, HO⟩; iexists W; iexact HO

theorem out_any (c : Dev nD) (d) : (owns (c : Thread nD τ) (stage0_3 0) fullShare ((dat m c).before 3 t0_0 d) : sProp 𝕄) ⊢ any c outM := by
  generalize (dat m c).before 3 t0_0 d = X
  exact any_of_owns c outM X

theorem body (hG : Good (inp m)) (c : Dev nD) : BodyObligation (dat m c) defs₀ 𝒱₀ () Set.univ := fun t => by
  obtain rfl := fin_N0 t
  rw [bigSep_W0, bigSep_W0]
  rw [show t0_0.castSucc = (0 : Fin (cfg0.N + 1)) from rfl, show t0_0.succ = Fin.last cfg0.N from Fin.ext (by rw [Fin.val_last, N_one]; rfl),
    Φ_first, Φ_last]
  dsimp only
  simp only [before_0, before_1, before_2]
  show _ ⊢ run c (atBufs (cc0_body (F := F))) _
  unfold opened
  refine .trans ?_ (.trans (wp_frame_r frame (wpE (defs₀ (F := F)) 𝒱₀ (c : Thread nD τ) none) Set.univ
    (Q := fun _ => iprop(owing c 0 ∗ scZero c ∗ semVal (barCell c) 0 ∗ inputs (inp m) c ∗ owns (c : Thread nD τ) outM fullShare (outV (inp m) c) ∗ scratch c))
    (R := iprop(∃ r, prngReg c r))) (wp_mono _ _ _ fun _ => ?_))
  · iintro ⟨⟨⟨⟨%K, #HP⟩, Hat, Hst, Htk, Hcr⟩, Hsc, Hreg⟩, HO, ⟨%d0, H0⟩, ⟨%d1, H1⟩, ⟨%d2, H2⟩, ⟨%d3, H3⟩⟩
    ihave HO' := (of_owesAt m c _ (O₀ c) (owed_first m c)) $$ HO
    unfold owing
    icases HO' with ⟨%W, HO⟩
    isplitr [Hreg]
    · iapply (body_run (inp m) K c hG W)
      isplitr; · iexact HP
      isplitl [H0 H1 H2]
      · unfold inputs
        isplitl [H0]; · iexact H0
        isplitl [H1]; · iexact H1
        iexact H2
      isplitl [H3]; · iapply (out_any m c d3); iexact H3
      isplitl [Hsc]; · iexact Hsc
      isplitl [Hst]; · iexact Hst
      isplitl [Hat]; · iexact Hat
      isplitl [Htk]; · iexact Htk
      isplitl [Hcr]; · iexact Hcr
      iexact HO
    · iexact Hreg
  unfold inputs
  iintro ⟨⟨HO, Hz, Hb, ⟨H0, H1, H2⟩, H3, Hsc⟩, Hreg⟩
  isplitl [Hz Hb Hsc Hreg]
  · isplitl [Hz]; · iexact Hz
    isplitl [Hb]; · iexact Hb
    isplitl [Hsc]; · iexact Hsc
    iexact Hreg
  isplitl [HO]; · iapply (owesAt_of m c _ 0 (owed_last m c)); iexact HO
  isplitl [H0]; · iexact H0
  isplitl [H1]; · iexact H1
  isplitl [H2]; · iexact H2
  iexact H3

/-! ## The region's record -/

/-- The call's own semaphores. -/
abbrev osem (s : Sc) : SemLoc sig := .dma (scS s)

theorem ownSemFacts : Pipeline.OwnSemFacts spec0 osem := by decide

theorem scopedRest_scratch (c : Dev nD) : (Pipeline.scopedRest (Ix := Unit) (Name := ℕ) (U := UU) (Lvl := ℕ) (Val := Elt F) spec0 c : sProp 𝕄) = scratch c := by
  unfold scratch
  rw [scopedRest0_eq, any_whole, any_whole, any_whole, any_whole, any_whole, any_whole]

theorem ownSems_eq (c : Dev nD) : (Pipeline.ownSems0 osem c : sProp 𝕄) = scZero c := rfl

/-- The unscoped buffers that are no operand of the call. -/
abbrev rest : Finset (DevRef τ sig) := Pipeline.ucRefs τ sig \ Pipeline.arrRefs (τ := τ) spec0

theorem hopen (c : Dev nD) : iprop(ghost m c ∗ Pipeline.ownSems0 osem c ∗ levAts L lv) ⊢ (|={Set.univ}=> opened m c : sProp 𝕄) := by
  rw [ownSems_eq]
  unfold ghost opened shared
  iintro ⟨⟨⟨%K, #HI, #HR⟩, Hat, Ho, Htk, Hcr⟩, Hz, #Hl⟩
  imod (open_all (inp m) K c) $$ [Ho Hz] with ⟨Hst, #HO⟩
  · isplitr; · iexact HI
    isplitl [Ho]; · iexact Ho
    iexact Hz
  imodintro
  isplitr
  · iexists K; unfold pers
    isplitr; · iexact HI
    isplitr; · iexact Hl
    isplitr; · iexact HR
    iexact HO
  isplitl [Hat]; · iexact Hat
  isplitl [Hst]; · iexact Hst
  isplitl [Htk]; · iexact Htk
  iexact Hcr

theorem O₀_pos (c : Dev nD) (g u) (h : 0 < O₀ c g u) : g.1.2 = .tc ∧ 0 < lv g u := by
  have h' : 0 < Od c 0 g u + Oc c 0 g u + Ob c 0 g u := h
  have big : (∃ (t : Dev nD) (i : Fin 7), g = scCell t (crS i) ∨ g = scCell t (drS i)) → g.1.2 = .tc ∧ 0 < lv g u := by
    rintro ⟨t, i, h | h⟩ <;> subst h
    · exact ⟨rfl, by rw [lv_cr]; decide⟩
    · exact ⟨rfl, by rw [lv_dr]; decide⟩
  by_cases h1 : 0 < Od c 0 g u
  · exact big (Od_pos c 0 g u h1)
  by_cases h2 : 0 < Oc c 0 g u
  · exact big (Oc_pos c 0 g u h2)
  obtain ⟨i, -, h⟩ := sum_tally_pos _ _ _ _ _ (show 0 < Ob c 0 g u by omega)
  subst h
  exact ⟨rfl, Nat.one_pos⟩

theorem cut : Pipeline.LevelCutOwed (pcfgs (F := F)) adm (pdats m) () L lv 0 (fun _ => 0) where
  hι c w s := by rw [L_tc]; exact Finset.mem_singleton_self _
  hιb c w s := by
    have : ∀ (w : Fin 4) (s : Fin (spec0 w).nbuf), scOf ((spec0 w).sem s) = none := by decide
    show lv ((c : Thread nD τ), .dma ((spec0 w).sem s)) () ≤ 0
    dsimp only [lv]; rw [this]
  hD c t g i h := by
    have e : (pdats (F := F) m 0 c).owed t = if t.val = 0 then O₀ c else 0 := rfl
    rw [e] at h
    split at h
    · obtain ⟨h1, h2⟩ := O₀_pos c g i h
      exact ⟨by unfold L; rw [if_pos h1]; exact Finset.mem_singleton_self _, h2⟩
    · exact absurd h (Nat.lt_irrefl 0)

theorem arr_v22 : (Proc.devRef .tc main_v22 : DevRef τ sig) ∈ Pipeline.arrRefs (τ := τ) spec0 := by decide

theorem arr_out (c : Dev nD) : (dat m c).arrAt 3 cfg0.N = outV (inp m) c :=
  Dat.arrAt_eq_of_after_last (dat m c) 3 t0_0 (by decide +kernel) (outV (inp m) c) fun j => rfl

/-- The buffers as the call leaves them. -/
@[irreducible] def at6 (c : Dev nD) : Valuation τ sig (Elt F) := V6 m (outs m) c
theorem at6_eq : at6 m = V6 m (outs m) := by unfold at6; rfl

theorem at6_of (c : Dev nD) (b : DevRef τ sig) (h : b ≠ Proc.devRef .tc main_v22) : at6 m c b = at5 m c b := by
  rw [at6_eq, at5_eq]; exact Function.update_of_ne h _ _
theorem at6_v22 (c : Dev nD) : at6 m c main_v22 = outV (inp m) c := by
  rw [at6_eq]
  show Function.update (V5 m c) (Proc.devRef .tc main_v22) (outs m 6 main_v22 c) (Proc.devRef .tc main_v22) = _
  rw [Function.update_self, outs_v22]

set_option backward.isDefEq.respectTransparency.types false in
def reg (hG : Good (inp m)) : Pipeline.RegionSeg (pcfgs (F := F)) adm (pdats m) () defs₀ 𝒱₀ L lv 0 :=
  Pipeline.RegionSeg.ofTalk (pcfgs (F := F)) adm (pdats m) () defs₀ 𝒱₀ L lv 0 osem ownSemFacts
    ∅ rest (Finset.empty_subset _) launch0.toP rfl (fun c => (body m hG c).loose)
    (fun _ => 0) O₀ (fun c => (owed_first m c).trans (zero_add _).symm) (owed_last m) (fun _ => rfl) (fun c w => ite_self fullShare)
    (at5 m) (at6 m) (fun c b hb => at6_of m c b fun h => by
      subst h; rw [Finset.sdiff_empty, Finset.mem_sdiff] at hb; exact hb.2 arr_v22)
    (ghost m) (fun c => semVal (barCell c) 0) (opened m) (fun c => semVal (barCell c) 0) (hopen m)
    (fun c => by
      rw [show (pdats m 0 c).Φ 0 = (dat m c).Φ 0 from rfl, Φ_first, ← scopedRest_scratch]
      iintro ⟨Hs, Hp, -, HX⟩
      isplitl [HX]; · iexact HX
      isplitl [Hs]; · iexact Hs
      iexact Hp)
    (fun c => by
      rw [show (pdats m 0 c).Φ (Fin.last _) = (dat m c).Φ (Fin.last _) from rfl, Φ_last, ← scopedRest_scratch, ownSems_eq]
      iintro ⟨Hz, Hb, Hs, Hp⟩
      isplitl [Hs]; · iexact Hs
      isplitl [Hp]; · iexact Hp
      isplitr
      · unfold StableHlo.held; rw [BI.bigSep_empty]; iempintro
      isplitl [Hz]; · iexact Hz
      iexact Hb)
    (fun c => by iintro H; imodintro; iexact H)
    (fun _ => 0) (cut m) (fun _ => iprop(emp))
    (fun c w => by
      match w with
      | 0 => rfl
      | 1 => rfl
      | 2 => rfl
      | 3 => rfl)
    (fun c w => by
      match w with
      | 0 => exact (Dat.arrAt_in (dat m c) 0 rfl _).trans (at6_of m c main_v21 (by decide)).symm
      | 1 => exact (Dat.arrAt_in (dat m c) 1 rfl _).trans (at6_of m c main_v10 (by decide)).symm
      | 2 => exact (Dat.arrAt_in (dat m c) 2 rfl _).trans (at6_of m c main_v20 (by decide)).symm
      | 3 => exact (arr_out m c).trans (at6_v22 m c).symm)

end Region

end Cert.KernelIdeal.Own

end
-- ==== Proof.Launch.lean ====
/- The launch: every semaphore's invariant allocated, every device dealt what it pays with and what it is owed; then the run
   of @main on the eight devices. -/
module

public import proofs.«01_k».proof.Proof.Region
public import Idealize.ShloMosaic.Lib.Quiescent
@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

/-! ## The cells and the rights to pay -/

def barEmb : Dev nD ↪ GSem nD τ sig := ⟨fun c => barCell c, fun _ _ h => congrArg (fun g : GSem nD τ sig => g.1.1) h⟩
theorem scCell_inj {a b : Dev nD × Sc} (h : scCell a.1 a.2 = scCell b.1 b.2) : a = b := by
  refine Prod.ext (congrArg (fun g : GSem nD τ sig => g.1.1) h) (scS_inj ?_)
  exact SemLoc.dma.inj (congrArg (fun g : GSem nD τ sig => g.2) h)
def scEmb : Dev nD × Sc ↪ GSem nD τ sig := ⟨fun p => scCell p.1 p.2, fun _ _ h => scCell_inj h⟩

abbrev barCells : Finset (GSem nD τ sig) := Finset.univ.map barEmb
abbrev scCells : Finset (GSem nD τ sig) := Finset.univ.map scEmb

theorem cells_disjoint : Disjoint barCells scCells := by
  rw [Finset.disjoint_left]
  rintro g h₁ h₂
  obtain ⟨c, -, rfl⟩ := Finset.mem_map.mp h₁
  obtain ⟨p, -, h⟩ := Finset.mem_map.mp h₂
  exact absurd (congrArg Prod.snd h) (fun h => nomatch h)

theorem cell_mem (p : Dev nD × Option Sc) : cell p ∈ (barCells ∪ scCells : Finset (GSem nD τ sig)) := by
  obtain ⟨c, s⟩ := p
  cases s with
  | none => exact Finset.mem_union_left _ (Finset.mem_map_of_mem barEmb (Finset.mem_univ c))
  | some s => exact Finset.mem_union_right _ (Finset.mem_map_of_mem scEmb (Finset.mem_univ (c, s)))

/-- The payments into a device's cells: seven at its barrier, one at each semaphore of the call, one more at the local copies'. -/
abbrev Pay : Type := Fin 7 ⊕ Sc ⊕ Unit

def payOf : Pay → SemLoc sig × ℕ × Fin 7
  | .inl j => (.reg barS, 0, j)
  | .inr (.inl s) => (.dma (scS s), 0, 0)
  | .inr (.inr _) => (.dma (scS locS), 1, 0)

theorem payOf_inj : Function.Injective payOf := by
  rintro (a | a | a) (b | b | b) h <;> simp only [payOf, Prod.mk.injEq, reduceCtorEq, SemLoc.dma.injEq, false_and, and_false, zero_ne_one, one_ne_zero, true_and, and_true] at h
  · rw [h]
  · rw [scS_inj h]
  · rfl

def payEmb : Dev nD × Pay ↪ GSem nD τ sig × ℕ × Fin 7 :=
  ⟨fun p => (((p.1 : Thread nD τ), (payOf p.2).1), (payOf p.2).2), fun a b h => by
    exact Prod.ext (congrArg (fun t : GSem nD τ sig × ℕ × Fin 7 => t.1.1.1) h) (payOf_inj (Prod.ext
      (congrArg (fun t : GSem nD τ sig × ℕ × Fin 7 => t.1.2) h) (congrArg (fun t : GSem nD τ sig × ℕ × Fin 7 => t.2) h)))⟩

abbrev pays : Finset (GSem nD τ sig × ℕ × Fin 7) := Finset.univ.map payEmb

/-- The rights to pay into a device's cells. -/
def toksAt (c : Dev nD) : sProp 𝕄 :=
  iprop(bigSep Finset.univ (fun i : Fin 7 => dutyTok ER (barCell c) 0 i)
    ∗ bigSep Finset.univ (fun i : Fin 7 => dutyTok ER (scCell c (drS i)) 0 0)
    ∗ bigSep Finset.univ (fun i : Fin 7 => dutyTok ER (scCell c (crS i)) 0 0)
    ∗ bigSep Finset.univ (fun i : Fin 7 => dutyTok ER (scCell c (dsS i)) 0 0)
    ∗ bigSep Finset.univ (fun i : Fin 7 => dutyTok ER (scCell c (csS i)) 0 0)
    ∗ dutyTok ER (scCell c locS) 0 0 ∗ dutyTok ER (scCell c rowS) 0 0 ∗ dutyTok ER (scCell c matS) 0 0 ∗ dutyTok ER (scCell c locS) 1 0)

theorem toksAt_of (c : Dev nD) :
    (bigSep Finset.univ fun k : Pay => (dutyTok ER (payEmb (c, k)).1 (payEmb (c, k)).2.1 (payEmb (c, k)).2.2 : sProp 𝕄)) ⊢ toksAt c := by
  rw [BI.bigSep_univ_sum, BI.bigSep_univ_sum, BI.bigSep_univ_sum, BI.bigSep_univ_prod, bigSep_univ_eq_bigSepL [(0 : Fin 4), 1, 2, 3] (by decide) (by decide),
    bigSep_univ_eq_bigSepL [(0 : Fin 3), 1, 2] (by decide) (by decide), bigSep_univ_eq_bigSepL [()] (by decide) (by decide)]
  unfold toksAt
  show iprop(bigSep Finset.univ (fun i : Fin 7 => dutyTok ER (barCell c) 0 i)
    ∗ ((bigSep Finset.univ (fun i : Fin 7 => dutyTok ER (scCell c (dsS i)) 0 0)
      ∗ bigSep Finset.univ (fun i : Fin 7 => dutyTok ER (scCell c (drS i)) 0 0)
      ∗ bigSep Finset.univ (fun i : Fin 7 => dutyTok ER (scCell c (csS i)) 0 0)
      ∗ bigSep Finset.univ (fun i : Fin 7 => dutyTok ER (scCell c (crS i)) 0 0))
      ∗ dutyTok ER (scCell c locS) 0 0 ∗ dutyTok ER (scCell c rowS) 0 0 ∗ dutyTok ER (scCell c matS) 0 0) ∗ dutyTok ER (scCell c locS) 1 0) ⊢ _
  iintro ⟨Hb, ⟨⟨Hds, Hdr, Hcs, Hcr⟩, H0, H1, H2⟩, H3⟩
  isplitl [Hb]; · iexact Hb
  isplitl [Hdr]; · iexact Hdr
  isplitl [Hcr]; · iexact Hcr
  isplitl [Hds]; · iexact Hds
  isplitl [Hcs]; · iexact Hcs
  isplitl [H0]; · iexact H0
  isplitl [H1]; · iexact H1
  isplitl [H2]; · iexact H2
  iexact H3

theorem toks_dealt : bigSep pays (fun x => (dutyTok ER x.1 x.2.1 x.2.2 : sProp 𝕄)) ⊢ bigSep Finset.univ fun c : Dev nD => (toksAt c : sProp 𝕄) := by
  rw [BI.bigSep_map, BI.bigSep_univ_prod]
  exact BI.bigSep_mono fun c _ => toksAt_of c

/-! ## Each right to the device that pays -/

def ringAll : Dev nD × Fin 7 ≃ Dev nD × Fin 7 :=
  ⟨fun p => (peer p.1 p.2, p.2), fun p => (peer p.1 (Fin.rev p.2), p.2), fun p => Prod.ext (peer_rev p.1 p.2) rfl, fun p => Prod.ext (peer_rev' p.1 p.2) rfl⟩

theorem around (Φ : Dev nD → Fin 7 → sProp 𝕄) :
    bigSep Finset.univ (fun c => bigSep Finset.univ (fun i => Φ c i)) = bigSep Finset.univ (fun c => bigSep Finset.univ (fun i => Φ (peer c i) i)) := by
  have h := BI.bigSep_univ_equiv ringAll (fun p : Dev nD × Fin 7 => Φ p.1 p.2)
  rw [BI.bigSep_univ_prod, BI.bigSep_univ_prod] at h
  exact h

theorem around_rev (Φ : Dev nD → Fin 7 → sProp 𝕄) :
    bigSep Finset.univ (fun c => bigSep Finset.univ (fun i => Φ c i)) = bigSep Finset.univ (fun c => bigSep Finset.univ (fun i => Φ (peer c i) (Fin.rev i))) := by
  rw [← around (fun c i => Φ c (Fin.rev i))]
  exact BI.bigSep_congr fun c _ => BI.bigSep_univ_equiv Fin.revPerm _

theorem toks_around : (bigSep Finset.univ fun c : Dev nD => (toksAt c : sProp 𝕄)) ⊢ bigSep Finset.univ fun c : Dev nD => (toksTo c : sProp 𝕄) := by
  unfold toksAt toksTo
  rw [BI.bigSep_sep', BI.bigSep_sep', BI.bigSep_sep', BI.bigSep_sep', BI.bigSep_sep', BI.bigSep_sep', BI.bigSep_sep', BI.bigSep_sep',
    around_rev (fun c i => (dutyTok ER (barCell c) 0 i : sProp 𝕄)), around (fun c i => (dutyTok ER (scCell c (drS i)) 0 0 : sProp 𝕄)),
    around (fun c i => (dutyTok ER (scCell c (crS i)) 0 0 : sProp 𝕄))]
  simp only [BI.bigSep_sep']
  exact .rfl

/-! ## The launch credits -/

theorem sum_single (S : Finset (Fin 7)) (g : Fin 7 → GSem nD τ sig) (n : ℕ) (x : GSem nD τ sig) :
    (∑ i ∈ S, tallyAt (g i) () n : CellTallies nD τ sig Unit) x () = ∑ i ∈ S, if x = g i then n else 0 := by
  rw [Finset.sum_apply, Finsupp.finsetSum_apply]
  refine Finset.sum_congr rfl fun i _ => ?_
  rw [tallyAt_apply]
  exact if_congr (and_iff_left rfl) rfl rfl

theorem bar_eq {c d : Dev nD} : barCell c = barCell d ↔ c = d := ⟨fun h => congrArg (fun g : GSem nD τ sig => g.1.1) h, fun h => h ▸ rfl⟩
theorem sc_eq {c d : Dev nD} {s t : Sc} : scCell c s = scCell d t ↔ c = d ∧ s = t :=
  ⟨fun h => Prod.mk.inj (scCell_inj (a := (c, s)) (b := (d, t)) h), fun ⟨h, h'⟩ => h ▸ h' ▸ rfl⟩
theorem bar_sc {c d : Dev nD} {s : Sc} : barCell c ≠ scCell d s := fun h => nomatch congrArg Prod.snd h

theorem owed_bar (c d : Dev nD) : O₀ d (barCell c) () = ∑ i : Fin 7, if c = peer d i then 1 else 0 := by
  show Od d 0 (barCell c) () + Oc d 0 (barCell c) () + Ob d 0 (barCell c) () = _
  unfold Od Oc Ob
  rw [sum_single, sum_single, sum_single, Finset.sum_eq_zero fun i _ => if_neg bar_sc, Finset.sum_eq_zero fun i _ => if_neg bar_sc, finFrom_zero, zero_add, zero_add]
  exact Finset.sum_congr rfl fun i _ => if_congr bar_eq rfl rfl
theorem owed_dr (c d : Dev nD) (j : Fin 7) : O₀ d (scCell c (drS j)) () = if c = peer d j then Nd else 0 := by
  show Od d 0 (scCell c (drS j)) () + Oc d 0 (scCell c (drS j)) () + Ob d 0 (scCell c (drS j)) () = _
  unfold Od Oc Ob
  rw [sum_single, sum_single, sum_single, Finset.sum_eq_zero (s := finFrom 7 0) (f := fun i => if scCell c (drS j) = barCell (peer d i) then 1 else 0) fun i _ => if_neg bar_sc.symm,
    Finset.sum_eq_zero (s := finFrom 7 0) (f := fun i => if scCell c (drS j) = scCell (peer d i) (crS i) then Nc else 0) fun i _ => if_neg fun h => by
      have := (sc_eq.mp h).2; simp at this, add_zero, add_zero, finFrom_zero, Finset.sum_eq_single j]
  · exact if_congr (sc_eq.trans (and_iff_left rfl)) rfl rfl
  · exact fun i _ h => if_neg fun h' => h (by have := (sc_eq.mp h').2; simp at this; exact this.symm)
  · exact fun h => absurd (Finset.mem_univ j) h
theorem owed_cr (c d : Dev nD) (j : Fin 7) : O₀ d (scCell c (crS j)) () = if c = peer d j then Nc else 0 := by
  show Od d 0 (scCell c (crS j)) () + Oc d 0 (scCell c (crS j)) () + Ob d 0 (scCell c (crS j)) () = _
  unfold Od Oc Ob
  rw [sum_single, sum_single, sum_single, Finset.sum_eq_zero (s := finFrom 7 0) (f := fun i => if scCell c (crS j) = barCell (peer d i) then 1 else 0) fun i _ => if_neg bar_sc.symm,
    Finset.sum_eq_zero (s := finFrom 7 0) (f := fun i => if scCell c (crS j) = scCell (peer d i) (drS i) then Nd else 0) fun i _ => if_neg fun h => by
      have := (sc_eq.mp h).2; simp at this, add_zero, zero_add, finFrom_zero, Finset.sum_eq_single j]
  · exact if_congr (sc_eq.trans (and_iff_left rfl)) rfl rfl
  · exact fun i _ h => if_neg fun h' => h (by have := (sc_eq.mp h').2; simp at this; exact this.symm)
  · exact fun h => absurd (Finset.mem_univ j) h

theorem from_one (c : Dev nD) (j : Fin 7) (n : ℕ) : (∑ d : Dev nD, if c = peer d j then n else 0) = n := by
  rw [Finset.sum_eq_single (peer c (Fin.rev j))]
  · exact if_pos (peer_rev' c j).symm
  · exact fun d _ h => if_neg fun h' => h (by rw [h', peer_rev])
  · exact fun h => absurd (Finset.mem_univ _) h

theorem credit_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem credit_bar (c : Dev nD) : ∑ d : Dev nD, O₀ d (barCell c) () = 7 := by
  rw [Finset.sum_congr rfl fun d _ => owed_bar c d, Finset.sum_comm, Finset.sum_congr rfl fun i _ => from_one c i 1]
  rfl

/-- The semaphores at which a device is owed. -/
def dueEmb : Unit ⊕ Fin 7 ⊕ Fin 7 ↪ SemLoc sig :=
  ⟨fun | .inl _ => .reg barS | .inr (.inl i) => .dma (scS (drS i)) | .inr (.inr i) => .dma (scS (crS i)), by
    rintro (a | a | a) (b | b | b) h <;> simp only [reduceCtorEq, SemLoc.dma.injEq] at h
    · rfl
    · have := scS_inj h; simp at this; rw [this]
    · have := scS_inj h; simp at this
    · have := scS_inj h; simp at this
    · have := scS_inj h; simp at this; rw [this]⟩

theorem creds (c : Dev nD) : (Pipeline.launchCred O₀ c : sProp 𝕄) ⊢ credsTo c := by
  unfold Pipeline.launchCred credsTo arrivals
  refine .trans (BI.bigSep_subset (Finset.subset_univ (Finset.univ.map dueEmb))) ?_
  rw [BI.bigSep_map, BI.bigSep_univ_sum, BI.bigSep_univ_sum, bigSep_univ_eq_bigSepL [()] (by decide) (by decide)]
  show iprop(cred (tallyOn (barCell c) (launchCredit (Pipeline.owing O₀) 0 (barCell c)))
    ∗ bigSep Finset.univ (fun i : Fin 7 => cred (tallyOn (scCell c (drS i)) (launchCredit (Pipeline.owing O₀) 0 (scCell c (drS i)))))
    ∗ bigSep Finset.univ (fun i : Fin 7 => cred (tallyOn (scCell c (crS i)) (launchCredit (Pipeline.owing O₀) 0 (scCell c (crS i)))))) ⊢ _
  have hd (i : Fin 7) := credit_at (scCell c (drS i)) Nd (by rw [Finset.sum_congr rfl fun d _ => owed_dr c d i]; exact from_one c i Nd)
  have hc (i : Fin 7) := credit_at (scCell c (crS i)) Nc (by rw [Finset.sum_congr rfl fun d _ => owed_cr c d i]; exact from_one c i Nc)
  rw [credit_at (barCell c) 7 (credit_bar c)]
  simp only [hd, hc]
  exact .rfl

section Run

variable (m : (ℓ : Loc nD τ sig) → Buf (Elt F) ℓ) (ρ : Dev nD → PrngReg)

/-! ## Dealing -/

/-- The launch element: the pipeline library's at the staging cells; the exchange's at its own. -/
def u₀ : UU :=
  (initOf (Pipeline.cells cfgs cellOf_inj) (Pipeline.launchToks cfgs cellOf_inj), launchOf barCells scCells pays)

/-- The exchange's share of it, held on device 0 until it is dealt. -/
def parked (c : Dev nD) : sProp 𝕄 := if c = 0 then BI.own (ER (launchOf barCells scCells pays)) else iprop(emp)

theorem parked_eq : bigSep Finset.univ (parked (F := F)) = BI.own (ER (launchOf barCells scCells pays)) := by
  rw [bigSep_univ_at _ (0 : Dev nD), bigSep_congr (s := Finset.univ.erase 0) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

theorem shared_of (κ : GSem nD τ sig → ℕ) :
    iprop((bigSep (barCells ∪ scCells) fun g => cellInv ER (Rd (inp m)) (κ g) g) ∗ bigSep barCells fun g => reached ER g 0) ⊢ (shared m κ : sProp 𝕄) := by
  unfold shared invAll barReached
  iintro ⟨#HI, HR⟩
  isplitr
  · iapply (bigSep_with_persistent (R := bigSep (barCells ∪ scCells) fun g => cellInv ER (Rd (inp m)) (κ g) g) (Φ := fun _ => (iprop(emp) : sProp 𝕄))
      (Ψ := fun p => cellInv ER (Rd (inp m)) (κ (cell p)) (cell p)) (S := Finset.univ) fun p _ => by
        iintro ⟨#H, -⟩
        iapply (show (bigSep (barCells ∪ scCells) fun g => cellInv ER (Rd (inp m)) (κ g) g) ⊢ (cellInv ER (Rd (inp m)) (κ (cell p)) (cell p) : sProp 𝕄) from
          BI.bigSep_elim (cell_mem p)); iexact H)
    isplitr; · iexact HI
    rw [show (bigSep Finset.univ fun _ : Dev nD × Option Sc => (iprop(emp) : sProp 𝕄)) = BI.emp from BI.bigSep_emp_const _]
    iempintro
  · iapply (Entails.of_eq (BI.bigSep_map (s := Finset.univ) barEmb (Φ := fun g : GSem nD τ sig => (reached ER g 0 : sProp 𝕄)))) $$ HR

/-- What the launch makes for a device's thread beside its buffers, and what is left at the end. -/
def E0 (c : Dev nD) : sProp 𝕄 := iprop(ghost m c ∗ (∃ r, prngReg c r) ∗ owing c (O₀ c))
def E1 (c : Dev nD) : sProp 𝕄 := iprop(semVal (barCell c) 0 ∗ owing c 0)
def E : Fin 2 → Dev nD → sProp 𝕄
  | 0 => E0 m
  | 1 => E1

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What is dealt to a device from the exchange's ghost state, and what it already holds. -/
def dealt (c : Dev nD) : sProp 𝕄 := iprop(atPos ER (barCell c) 0 ∅ 0 ∗ scOpen c ∗ toksTo c)
def held0 (c : Dev nD) : sProp 𝕄 := iprop(credsTo c ∗ (∃ r, prngReg c r) ∗ owing c (O₀ c))

theorem E0_of (κ : GSem nD τ sig → ℕ) (c : Dev nD) : iprop(shared m κ ∗ (dealt c ∗ held0 c)) ⊢ E0 m c := by
  unfold dealt held0 E0 ghost
  iintro ⟨HS, ⟨Hat, Ho, Htk⟩, Hcr, Hp, HO⟩
  isplitr [Hp HO]
  · isplitl [HS]; · iexists κ; iexact HS
    isplitl [Hat]; · iexact Hat
    isplitl [Ho]; · iexact Ho
    isplitl [Htk]; · iexact Htk
    iexact Hcr
  isplitl [Hp]; · iexact Hp
  iexact HO

instance shared_persistent (κ : GSem nD τ sig → ℕ) : BI.Persistent (shared m κ) := by unfold shared; infer_instance

theorem deal :
    iprop((bigSep Finset.univ fun c : Dev nD => iprop(unscopedSems0 c ∗ owes (c : Thread nD τ) (O₀ c) ∅ ∗ Pipeline.launchCred O₀ c ∗ prngReg c (ρ c) ∗ parked c)))
      ⊢ (|={Set.univ}=> bigSep Finset.univ (E0 m) : sProp 𝕄) := by
  have h1 (c : Dev nD) : iprop(unscopedSems0 c ∗ owes (c : Thread nD τ) (O₀ c) ∅ ∗ Pipeline.launchCred O₀ c ∗ prngReg c (ρ c) ∗ parked c)
      ⊢ (iprop(held0 c ∗ semVal (barCell c) 0 ∗ parked c) : sProp 𝕄) := by
    rw [unscopedSems_eq]
    unfold held0 owing
    iintro ⟨Hus, HO, Hcr, Hp, HG⟩
    isplitl [HO Hcr Hp]
    · isplitl [Hcr]; · iapply (creds (F := F) c); iexact Hcr
      isplitl [Hp]; · iexists (ρ c); iexact Hp
      iexists ∅; iexact HO
    isplitl [Hus] <;> iassumption
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hopen : bigSep scCells (fun g => (openTok ER g : sProp 𝕄)) ⊢ bigSep Finset.univ (fun c : Dev nD => (scOpen c : sProp 𝕄)) :=
    Entails.of_eq (by rw [BI.bigSep_map, BI.bigSep_univ_prod]; rfl)
  refine .trans (BI.bigSep_mono fun c _ => h1 c) ?_
  rw [BI.bigSep_sep', BI.bigSep_sep']
  iintro ⟨HB, Hv, HG⟩
  imod (Rounds.fund_launch ER (Rd (inp m)) cells_disjoint (fun g _ h => h) pays) $$ [Hv HG] with ⟨%κ, -, Hinv, Hr, Hat, Hopen, Htok⟩
  · isplitl [Hv]
    · iapply hv $$ Hv
    · iapply (Entails.of_eq (parked_eq (F := F))) $$ HG
  imodintro
  iapply (bigSep_with_persistent (R := shared m κ) (Φ := fun c => iprop(dealt c ∗ held0 c)) fun c _ => E0_of m κ c)
  isplitl [Hinv Hr]
  · iapply (shared_of m κ)
    isplitl [Hinv]; · iexact Hinv
    iexact Hr
  rw [BI.bigSep_sep']
  isplitr [HB]
  · unfold dealt
    rw [BI.bigSep_sep', BI.bigSep_sep']
    isplitl [Hat]; · iapply hat $$ Hat
    isplitl [Hopen]; · iapply hopen $$ Hopen
    iapply (toks_around (F := F))
    iapply (toks_dealt (F := F)) $$ Htok
  · iexact HB

/-! ## The run -/

theorem arr_sub : Pipeline.arrRefs (τ := τ) spec0 ⊆ Pipeline.ucRefs τ sig := by decide

theorem reg_enter (hG : Good (inp m)) (c : Dev nD) :
    iprop(StableHlo.held (c : Thread nD τ) (Pipeline.ucRefs τ sig) (V5 m c) ∗ E m 0 c) ⊢ (reg m hG).pre c := by
  rw [← at5_eq m, StableHlo.held_sub_split (c : Thread nD τ) arr_sub (at5 m c)]
  show iprop((StableHlo.held (c : Thread nD τ) (Pipeline.arrRefs (τ := τ) spec0) (at5 m c) ∗ StableHlo.held (c : Thread nD τ) rest (at5 m c)) ∗ E0 m c)
    ⊢ (iprop(StableHlo.held (c : Thread nD τ) (Pipeline.arrRefs (τ := τ) spec0) (at5 m c) ∗ (∃ r, prngReg c r)
      ∗ (StableHlo.held (c : Thread nD τ) rest (at5 m c) ∗ emp) ∗ ghost m c ∗ ∃ Wd, owes (c : Thread nD τ) (0 + O₀ c) Wd) : sProp 𝕄)
  rw [zero_add]
  unfold E0 owing
  iintro ⟨⟨Ha, Hr⟩, Hg, Hp, HO⟩
  isplitl [Ha]; · iexact Ha
  isplitl [Hp]; · iexact Hp
  isplitl [Hr]
  · isplitl [Hr]; · iexact Hr
    iempintro
  isplitl [Hg]; · iexact Hg
  iexact HO

theorem reg_leave (hG : Good (inp m)) (c : Dev nD) :
    (reg m hG).post c ⊢ iprop(StableHlo.held (c : Thread nD τ) (Pipeline.ucRefs τ sig) (V6 m (outs m) c) ∗ E m 1 c) := by
  rw [← at6_eq m, StableHlo.held_sub_split (c : Thread nD τ) arr_sub (at6 m c)]
  show (iprop(StableHlo.held (c : Thread nD τ) (Pipeline.arrRefs (τ := τ) spec0) (at6 m c) ∗ (∃ r, prngReg c r)
      ∗ (StableHlo.held (c : Thread nD τ) rest (at6 m c) ∗ emp) ∗ semVal (barCell c) 0 ∗ ∃ Wd, owes (c : Thread nD τ) 0 Wd) : sProp 𝕄)
    ⊢ iprop((StableHlo.held (c : Thread nD τ) (Pipeline.arrRefs (τ := τ) spec0) (at6 m c) ∗ StableHlo.held (c : Thread nD τ) rest (at6 m c)) ∗ E1 c)
  unfold E1 owing
  iintro ⟨Ha, -, ⟨Hr, -⟩, Hb, HO⟩
  isplitl [Ha Hr]
  · isplitl [Ha]; · iexact Ha
    iexact Hr
  isplitl [Hb]; · iexact Hb
  iexact HO

def start (c : Dev nD) : sProp 𝕄 := iprop(StableHlo.held (c : Thread nD τ) (Pipeline.ucRefs τ sig) (V0 m c) ∗ E m 0 c)
def finish (c : Dev nD) : sProp 𝕄 := iprop(StableHlo.held (c : Thread nD τ) (Pipeline.ucRefs τ sig) (V7 m (outs m) c) ∗ semVal (barCell c) 0)

theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ parked c)) ∗ levAts L lv)
    ⊢ (|={Set.univ}=> bigSep Finset.univ (start m) : sProp 𝕄) := by
  have hb (c : Dev nD) : (unscopedBufs c (fun b => m ((c : Thread nD τ).loc b)) : sProp 𝕄)
      = StableHlo.held (c : Thread nD τ) (Pipeline.ucRefs τ sig) (V0 m c) := Pipeline.unscopedBufs_held c (V0 m c)
  rw [BI.bigSep_sep']
  iintro ⟨⟨HB, HR⟩, -⟩
  imod (deal m ρ) $$ HR with HE
  imodintro
  unfold start
  rw [BI.bigSep_sep']
  simp only [hb]
  isplitl [HB]; · iexact HB
  iexact HE

theorem unscoped_eq : ∀ sm : SemLoc sig, sm.isScoped .tc = false → sm = .reg barS := by decide

set_option backward.isDefEq.respectTransparency.types false in
/-- The run: from any memory with good inputs and zero counters, every run ends, with each device's buffers as the last
    stretch leaves them and every counter of the machine at zero. -/
theorem run_main (hG : Good (inp m)) : θ_run defs (onTc (τ := τ) (main (F := F))) ⟨m, fun _ => 0, ρ⟩
    (fun r => (∀ c : Dev nD, ∀ b ∈ Pipeline.ucRefs τ sig, r.2.mem (c, b) = V7 m (outs m) c b) ∧ r.2.sem = fun _ => 0) := by
  refine Pipeline.θ_run_regions_kit_dev_sems (pcfgs (F := F)) adm (pdats m) () cellOf_inj EP defs₀ 𝒱₀ L lv m ρ main
    (Gen.segs m (outs m) 𝒱₀ L lv (E m) () (pdats m) (reg m hG))
    (fun c Q => by
      rewrite [main_chain c, Pipeline.Seg.run_eq_chain,
        show (Gen.segs m (outs m) 𝒱₀ L lv (E m) () (pdats m) (reg m hG) c).map Pipeline.Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()),
          StableHlo.seq hostOps1 ] from rfl]
      dsimp (config := { failIfUnchanged := false }) only
      exact .rfl)
    (fun c => by simp only [Gen.segs, Pipeline.Seg.pipes_host, Pipeline.Seg.pipes_region, Pipeline.Seg.pipes_nil]; decide) O₀ L_of_ne
    (parked (F := F)) u₀ ?_ (start m) (finish m)
    (fun c => ⟨.rfl, .rfl, .rfl, .rfl, .rfl, reg_enter m hG c, reg_leave m hG c, ?_⟩) (init m ρ)
    (fun c s => (∀ b ∈ Pipeline.ucRefs τ sig, s.mem (c, b) = V7 m (outs m) c b) ∧ s.sem (barCell c) = 0) (fun c s' => ?_)
    (fun s h hs => ⟨fun c => (h c).1, sem_eq_zero hs fun c sm hsm => by
        obtain rfl := unscoped_eq sm hsm
        exact (h c).2⟩)
  · unfold u₀
    iintro Hu
    ihave H := (ownU_pair _ _) $$ Hu
    icases H with ⟨HP, HX⟩
    imodintro
    isplitl [HP]; · iexact HP
    rw [parked_eq]; iexact HX
  · show iprop(StableHlo.held (c : Thread nD τ) (Pipeline.ucRefs τ sig) (V7 m (outs m) c) ∗ E1 c)
      ⊢ (iprop(finish m c ∗ ∃ W, owes (c : Thread nD τ) (0 : CellTallies nD τ sig Unit) W) : sProp 𝕄)
    unfold E1 finish owing
    iintro ⟨Hh, Hb, HO⟩
    isplitr [HO]
    · isplitl [Hh] <;> iassumption
    · iexact HO
  · unfold finish StableHlo.held
    iintro ⟨⟨Hh, Hb⟩, HSI⟩
    icombine HSI Hb gives %hb
    ihave H := (pointsTo_read_all (Pipeline.ucRefs τ sig) (fun b => ((c, b) : Loc nD τ sig)) (V7 m (outs m) c) s') $$ [Hh HSI]
    · isplitl [Hh]; · iexact Hh
      iexact HSI
    icases H with ⟨%hm, HSI⟩
    imodintro
    isplitr
    · ipureintro
      exact ⟨hm, by simpa using hb⟩
    iexact HSI

end Run

end Cert.KernelIdeal.Own

end
-- ==== Proof.Counts.lean ====
/- Counts of the places of a table that hold a number. -/
module

public import proofs.«01_k».proof.Proof.Launch
public import Idealize.ShloMosaic.Lib.Routing.Ops
@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

/-! ## Counting the places of a table that hold a number -/

theorem vix1 {n : ℕ} (a : Fin n) : ValueIdx.ix1 a = (ix1 a : (⟨1, ![n]⟩ : Shape).Idx) := rfl
theorem vix2 {n k : ℕ} (a : Fin n) (b : Fin k) : ValueIdx.ix2 a b = (ix2 a b : (⟨2, ![n, k]⟩ : Shape).Idx) := rfl

section Mask

variable {n : ℕ} (D : (⟨1, ![n]⟩ : Shape).Idx → BitVec 32)
  (h1 : (⟨1, ![n]⟩ : Shape).BroadcastsInDim ⟨2, ![n, 1]⟩ (![0] : Fin 1 → Fin 2))
  (h2 : (⟨2, ![n, 1]⟩ : Shape).BroadcastsInDim ⟨2, ![n, 8]⟩ (![0, 1] : Fin 2 → Fin 2))
  (h3 : S8.BroadcastsInDim S1x8 (![1] : Fin 1 → Fin S1x8.rank))
  (h4 : S1x8.BroadcastsInDim ⟨2, ![n, 8]⟩ (![0, 1] : Fin 2 → Fin 2))

/-- Which places of the table hold which of the eight numbers. -/
def mask : IVec ⟨2, ![n, 8]⟩ 1 :=
  cmpi .eq (broadcastInDim ⟨2, ![n, 8]⟩ ![0, 1] h2 (broadcastInDim ⟨2, ![n, 1]⟩ ![0] h1 D))
    (broadcastInDim ⟨2, ![n, 8]⟩ ![0, 1] h4 (broadcastInDim S1x8 ![1] h3 (iotaInDim S8 32 0)))

theorem mask_iff (p : Fin n) (q : Fin 8) : mask D h1 h2 h3 h4 (ix2 p q) = 1#1 ↔ D (ix1 p) = BitVec.ofNat 32 q.val := by
  show IntOp.cmpi .eq (broadcastInDim (Routing.shape2 n 8) ![0, 1] h2 (broadcastInDim (Routing.shape2 n 1) ![0] h1 D) (ValueIdx.ix2 p q))
    (broadcastInDim (Routing.shape2 n 8) ![0, 1] h4 (broadcastInDim (Routing.shape2 1 8) ![1] h3 (iotaInDim S8 32 0)) (ValueIdx.ix2 p q)) = 1#1 ↔ _
  rw [StableHlo.Predicate.cmpi_eq_iff, Routing.bcRows, Routing.bcCols]
  rfl

/-- The sums of the columns are the counts. -/
theorem count_rows (hn : n < 2 ^ 32) (hw : 1 < 32) (h : (⟨2, ![n, 8]⟩ : Shape).ReducesTo [0] S8) (hu : 0 < S_.numel) (q : Fin 8) :
    (Host.reduce IntOp.addi (extui 32 (mask D h1 h2 h3 h4) hw) (constantI S_ 32 0#32) h hu (ix1 q)).toNat
      = (Finset.univ.filter fun p : Fin n => D (ix1 p) = BitVec.ofNat 32 q.val).card := by
  refine (StableHlo.Predicate.toNat_reduce_count_rows hn _ _ _ _ _).trans ?_
  refine congrArg Finset.card (Finset.filter_congr fun p _ => ?_)
  refine Iff.trans ?_ (mask_iff D h1 h2 h3 h4 p q)
  exact iff_of_eq (congrArg (fun z => mask D h1 h2 h3 h4 z = 1#1) (Routing.ij_eq_ix2 p q))

end Mask

end Cert.KernelIdeal.Own

end
-- ==== Proof.Host.lean ====
/- What @main computes before the call. -/
module

public import proofs.«01_k».proof.Proof.Counts
public import Idealize.ShloMosaic.Lib.DynamicIndex
public import Idealize.ShloMosaic.Lib.StableHlo.Run
@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What @main leaves in the call's operands -/

/-- Device `c`'s copy of the destinations. -/
abbrev dst (c : Dev nD) : S32768.Idx → BitVec 32 := m ((c.tc : Thread nD τ).loc main_arg1)
/-- Device `c`'s own destinations. -/
def own (c : Dev nD) : S4096.Idx → BitVec 32 := V1 m c main_v9

theorem V2_v10 (c : Dev nD) : V2 m c main_v10 = (Host.sort2 S4096 0 comparator_i32_i32_d0 (own m c) (iotaInDim S4096 32 0)).2 := by
  unfold V2
  simp only [hostOps0_1, StableHlo.TRef.binary, StableHlo.TRef.nullary, StableHlo.TRef.toBuf, StableHlo.TRef.ofBuf, cast_eq]
  after_results <;> rfl

/-- The operations before the slice that takes a device's own destinations. -/
abbrev preOps (c : Dev nD) : List (HloOp τ sig (Elt F)) := (hostOps0 c).dropLast
/-- What they leave. -/
def W0 (c : Dev nD) : Valuation τ sig (Elt F) := StableHlo.after (preOps c) (V0 m c)

theorem W0_arg1 (c : Dev nD) : W0 m c main_arg1 = dst m c := by
  unfold W0
  show StableHlo.after (List.dropLast _) _ _ = _
  simp only [preOps, hostOps0, List.dropLast]
  after_results

/-- The first of a device's own places, as computed. -/
def startW (c : Dev nD) : S_.Idx → BitVec 32 :=
  muli (id (Host.remui (Host.divui (constantI S_ 32 (Dev.word c)) (constantI S_ 32 1#32)) (constantI S_ 32 8#32))) (constantI S_ 32 4096#32)

theorem startW_val : ∀ (c : Dev nD), startW c = fun _ => BitVec.ofNat 32 (4096 * c.val) := by
  intro c; funext i; revert c;
  simp only [startW, muli, Host.remui, Host.divui, constantI, id]
  decide

theorem W0_v8 (c : Dev nD) : W0 m c main_v8 = select (cmpi .slt (startW c) (constantI S_ 32 0#32)) (addi (startW c) (constantI S_ 32 32768#32)) (startW c) := by
  unfold W0 startW
  simp only [preOps, hostOps0, List.dropLast]
  after_results

theorem V1_v9 (c : Dev nD) : own m c = Host.dynamicSlice S4096 (W0 m c main_arg1 : S32768.Idx → BitVec 32)
    (fun _ => ((W0 m c main_v8 : S_.Idx → BitVec 32) (Shape.Idx.first h_S_)).toInt) sliceFits_S32768_S4096 := by
  unfold own
  have e : V1 m c = (StableHlo.unaryIndexed main_arg1 ![main_v8] ⟨S_, .i32⟩ main_v9 ((fun x i => Host.dynamicSlice S4096 x (fun k => (i k (Shape.Idx.first h_S_)).toInt) sliceFits_S32768_S4096) : (⟨S32768, .i32⟩ : BufTy).Contents (Elt F) → (Fin 1 → (⟨S_, .i32⟩ : BufTy).Contents (Elt F)) → (⟨S4096, .i32⟩ : BufTy).Contents (Elt F)) : HloOp τ sig (Elt F)).result (W0 m c) := rfl
  rw [e, StableHlo.unaryIndexed_result]
  refine congrArg (fun st => Host.dynamicSlice S4096 (W0 m c main_arg1 : S32768.Idx → BitVec 32) st sliceFits_S32768_S4096) (funext fun k => ?_)
  rw [show k = 0 from Subsingleton.elim _ _]
  rfl

theorem V3_v18 (c : Dev nD) : V3 m c main_v18 = Host.reduce IntOp.addi (extui 32 (cmpi .eq
      (broadcastInDim S4096x8 ![0, 1] bcast_S4096x1_S4096x8_0_1 (broadcastInDim S4096x1 ![0] bcast_S4096_S4096x1_0 (V2 m c main_v9)))
      (broadcastInDim S4096x8 ![0, 1] bcast_S1x8_S4096x8_0_1 (broadcastInDim S1x8 ![1] bcast_S8_S1x8_1 (iotaInDim S8 32 0)))) natLt_1_32)
      (constantI S_ 32 0#32) reducesTo_S4096x8_S8_d0 h_S_ := by
  unfold V3
  after_results <;> rfl

theorem V4_v19 (c : Dev nD) : V4 m c main_v19 = pad S128 ![0] ![120] ![0] (V3 m c main_v18) (V3 m c main_c_5) pads_S8_S128_01200 h_S_ := by
  unfold V4
  simp only [hostOps0_3, StableHlo.TRef.binary, StableHlo.TRef.unary, StableHlo.TRef.toBuf, StableHlo.TRef.ofBuf, cast_eq]
  after_results <;> rfl

theorem V5_v20 (c : Dev nD) : V5 m c main_v20 = shapeCast S1x128 (V4 m c main_v19 : S128.Idx → BitVec 32) shapeCasts_S128_S1x128 := by
  unfold V5
  after_results <;> rfl

theorem V5_v21 (c : Dev nD) : V5 m c main_v21 = shapeCast S512x8x1024 (V4 m c main_arg0 : S4096x1024.Idx → Elt F .bf16) shapeCasts_S4096x1024_S512x8x1024 := by
  unfold V5
  after_results <;> rfl

theorem V7_v23 (outs : Outs (F := F)) (c : Dev nD) : V7 m outs c main_v23 = shapeCast S4096x1024 (V6 m outs c main_v22 : S512x8x1024.Idx → Elt F .bf16) shapeCasts_S512x8x1024_S4096x1024 := by
  unfold V7
  after_results <;> rfl

/-! ## … read at an index -/

/-- Place `p` of device `c`'s block of the destinations. -/
abbrev at' (c : Dev nD) (p : Fin 4096) : Fin 32768 := ⟨4096 * c.val + p.val, by have := c.isLt; have := p.isLt; simp only [nD] at *; omega⟩

theorem own_apply (c : Dev nD) (p : Fin 4096) : own m c (ix1 p) = dst m c (ix1 (at' c p)) := by
  have hc : c.val < 8 := c.isLt
  have hv : (W0 m c main_v8 : S_.Idx → BitVec 32) (Shape.Idx.first h_S_) = BitVec.ofNat 32 (4096 * c.val) := by
    rw [W0_v8, select_slt_zero_of_nonneg, startW_val]
    rw [startW_val, Idealize.ShloMosaic.toInt_ofNat_of_lt (by omega)]; omega
  have hsl : S32768.Slices (fun _ => 4096 * c.val) S4096 := ⟨rfl, fun a => by
    match a with
    | ⟨0, _⟩ => show 4096 * c.val + 4096 ≤ 32768; omega⟩
  rw [V1_v9, W0_arg1, Host.dynamicSlice_eq_extractStridedSlice S4096 _ _ (fun _ => 4096 * c.val) sliceFits_S32768_S4096 hsl
    (fun a => by rw [hv, Idealize.ShloMosaic.toInt_ofNat_of_lt (by omega)])]
  unfold extractStridedSlice
  refine congrArg _ (funext fun a => Fin.ext ?_)
  match a with
  | ⟨0, _⟩ => rfl

theorem V2_v9 (c : Dev nD) : V2 m c main_v9 = own m c := V2_of m c main_v9 (by decide)

theorem inp_ord (c : Dev nD) : (inp m).ord c = (Host.sort2 S4096 0 comparator_i32_i32_d0 (own m c) (iotaInDim S4096 32 0)).2 := by
  show at5 m c main_v10 = _
  rw [at5_eq, V5_of m c main_v10 (by decide), V4_of m c main_v10 (by decide), V3_of m c main_v10 (by decide), V2_v10]

theorem inp_x (c : Dev nD) (i : Fin 4096) (l : Fin 1024) (a : Fin 512) (b : Fin 8) (h : i.val = a.val * 8 + b.val) :
    (inp m).x c (ix3 a b l) = (m ((c.tc : Thread nD τ).loc main_arg0) : S4096x1024.Idx → Elt F .bf16) (ix2 i l) := by
  show at5 m c main_v21 _ = _
  rw [at5_eq, V5_v21, V4_of m c main_arg0 (by decide), V3_of m c main_arg0 (by decide), V2_of m c main_arg0 (by decide), V1_of m c main_arg0 (by decide)]
  refine shapeCast_apply (s := S4096x1024) (t := S512x8x1024) _ _ (ix3 a b l) (ix2 i l) ?_
  rw [Shape.rowMajor_val_two, Shape.rowMajor_val_three]
  show i.val * 1024 + l.val = (a.val * 8 + b.val) * 1024 + l.val
  rw [h]

theorem pad8 (x : S8.Idx → BitVec 32) (v : S_.Idx → BitVec 32) (t : ℕ) (ht : t < 8) :
    shapeCast S1x128 (pad S128 ![0] ![120] ![0] x v pads_S8_S128_01200 h_S_ : S128.Idx → BitVec 32) shapeCasts_S128_S1x128 (ix2 0 ⟨t, by omega⟩) = x (ix1 ⟨t, ht⟩) := by
  refine (Routing.cast12 _ _ (0 : Fin 1) (⟨t, by omega⟩ : Fin 128) ⟨t, by omega⟩ (by simp)).trans ?_
  refine (Routing.pad1 x v _ _ _).trans ?_
  rw [dif_pos ⟨Nat.zero_le _, by simpa using ht⟩]
  rfl

theorem cnt_inp (s : Dev nD) (t : ℕ) (ht : t < 8) :
    (inp m).cnt s (ix2 0 ⟨t, by omega⟩) = (V3 m s main_v18 : S8.Idx → BitVec 32) (ix1 ⟨t, ht⟩) := by
  have e : (inp m).cnt s = shapeCast S1x128 (pad S128 ![0] ![120] ![0] (V3 m s main_v18 : S8.Idx → BitVec 32) (V3 m s main_c_5 : S_.Idx → BitVec 32) pads_S8_S128_01200 h_S_ : S128.Idx → BitVec 32) shapeCasts_S128_S1x128 := by
    show at5 m s main_v20 = _
    rw [at5_eq, V5_v20, V4_v19]
  rw [e]
  exact pad8 _ _ t ht

theorem nOf_inp (s : Dev nD) (t : ℕ) (ht : t < 8) :
    nOf (inp m) s t ht = (Finset.univ.filter fun p : Fin 4096 => own m s (ix1 p) = BitVec.ofNat 32 t).card := by
  have e := cnt_inp m s t ht
  unfold nOf
  rw [e, V3_v18, V2_v9]
  exact count_rows (own m s) bcast_S4096_S4096x1_0 bcast_S4096x1_S4096x8_0_1 bcast_S8_S1x8_1 bcast_S1x8_S4096x8_0_1 (by decide) natLt_1_32 reducesTo_S4096x8_S8_d0 h_S_ ⟨t, ht⟩

end Cert.KernelIdeal.Own

end
-- ==== Proof.Ranks.lean ====
/- Stable sorting by a number: where each place goes, and how the order of eight blocks together is made of the orders of
   the blocks. -/
module

public import Idealize.ShloMosaic.Lib.SortFacts
public import Mathlib.Algebra.BigOperators.Fin
public import Mathlib.Order.Interval.Finset.Fin
public import Mathlib.Data.Fintype.BigOperators
public import Mathlib.Algebra.Order.BigOperators.Group.Finset

@[expose] public section

namespace Cert.KernelIdeal.Own

open Idealize.ShloMosaic

/-! ## The rank of a place -/

section Rank

variable {n : ℕ} (K : Fin n → ℕ)

/-- Place `q` comes before place `p`: its number is smaller, or the same and `q` is the earlier place. -/
def lexB (q p : Fin n) : Prop := K q < K p ∨ K q = K p ∧ q < p

instance : DecidableRel (lexB K) := fun _ _ => inferInstanceAs (Decidable (_ ∨ _))

/-- How many places come before `p`. -/
def rankK (p : Fin n) : ℕ := (Finset.univ.filter fun q => lexB K q p).card

theorem rankK_eq (p : Fin n) : rankK K p
    = (Finset.univ.filter fun q => K q < K p).card + (Finset.univ.filter fun q => K q = K p ∧ q < p).card := by
  unfold rankK
  rw [← Finset.card_union_of_disjoint]
  · refine congrArg Finset.card ?_
    ext q
    simp only [Finset.mem_filter, Finset.mem_univ, true_and, Finset.mem_union]
    exact Iff.rfl
  · rw [Finset.disjoint_left]
    intro q h1 h2
    have h1' := (Finset.mem_filter.1 h1).2
    have h2' := (Finset.mem_filter.1 h2).2.1
    omega

/-- Sorting before, by the number alone. -/
abbrev beforeK : Fin n → Fin n → Bool := fun a b => decide (K a < K b)

theorem insert_pairwise (a : Fin n) : ∀ l : List (Fin n), l.Pairwise (lexB K) → (∀ b ∈ l, a < b) →
    (insertBefore (beforeK K) a l).Pairwise (lexB K)
  | [], _, _ => List.pairwise_singleton _ _
  | b :: l, hl, ha => by
    obtain ⟨hb, hl'⟩ := List.pairwise_cons.1 hl
    have ih := insert_pairwise a l hl' fun c hc => ha c (List.mem_cons_of_mem _ hc)
    unfold insertBefore
    split
    · next h =>
      have hK : K b < K a := of_decide_eq_true h
      refine List.pairwise_cons.2 ⟨fun c hc => ?_, ih⟩
      rcases List.mem_cons.1 ((perm_insertBefore _ a l).mem_iff.1 hc) with rfl | hc
      · exact Or.inl hK
      · exact hb c hc
    · next h =>
      have hK : ¬ K b < K a := fun e => h (decide_eq_true e)
      refine List.pairwise_cons.2 ⟨fun c hc => ?_, hl⟩
      have hac := ha c hc
      rcases List.mem_cons.1 hc with rfl | hc
      · rcases Nat.lt_or_eq_of_le (Nat.le_of_not_lt hK) with e | e
        · exact Or.inl e
        · exact Or.inr ⟨e, hac⟩
      · rcases hb c hc with e | ⟨e, _⟩
        · exact Or.inl (by omega)
        · rcases Nat.lt_or_eq_of_le (Nat.le_of_not_lt hK) with e' | e'
          · exact Or.inl (by omega)
          · exact Or.inr ⟨by omega, hac⟩

theorem sort_pairwise : ∀ l : List (Fin n), l.Pairwise (· < ·) → (stableSort (beforeK K) l).Pairwise (lexB K)
  | [], _ => List.Pairwise.nil
  | a :: l, h => by
    obtain ⟨ha, hl⟩ := List.pairwise_cons.1 h
    unfold stableSort
    exact insert_pairwise K a _ (sort_pairwise l hl) fun b hb => ha b ((perm_stableSort _ l).mem_iff.1 hb)

/-- Along the sorted places each comes before the next. -/
theorem sorted_lex (i j : Fin n) (hij : i < j) : lexB K (sortedFrom (beforeK K) i) (sortedFrom (beforeK K) j) := by
  have hp : ∀ a b : Fin (sortPositions n (beforeK K)).length, a < b →
      lexB K ((sortPositions n (beforeK K)).get a) ((sortPositions n (beforeK K)).get b) :=
    List.pairwise_iff_get.mp (sort_pairwise K _ (List.pairwise_lt_finRange n))
  unfold sortedFrom
  exact hp _ _ (by simp only [Fin.lt_def, Fin.val_cast]; exact hij)

theorem lexB_asymm (p q : Fin n) (h : lexB K p q) (h' : lexB K q p) : False := by
  rcases h with h | ⟨h, hp⟩ <;> rcases h' with h' | ⟨h', hq⟩
  · omega
  · omega
  · omega
  · exact absurd hp (lt_asymm hq)

/-- The place that lands at `k` has `k` places before it. -/
theorem rank_sorted (k : Fin n) : rankK K (sortedFrom (beforeK K) k) = k.val := by
  have e : (Finset.univ.filter fun q => lexB K q (sortedFrom (beforeK K) k))
      = (Finset.univ.filter fun i : Fin n => i < k).image (sortedFrom (beforeK K)) := by
    ext q
    simp only [Finset.mem_filter, Finset.mem_univ, true_and, Finset.mem_image]
    constructor
    · intro hq
      obtain ⟨i, rfl⟩ := sortedFrom_surjective (beforeK K) q
      refine ⟨i, ?_, rfl⟩
      rcases lt_trichotomy i k with h | h | h
      · exact h
      · subst h; exact (lexB_asymm K _ _ hq hq).elim
      · exact (lexB_asymm K _ _ hq (sorted_lex K k i h)).elim
    · rintro ⟨i, hi, rfl⟩
      exact sorted_lex K i k hi
  unfold rankK
  rw [e, Finset.card_image_of_injective _ (sortedFrom_injective _)]
  rw [← Fin.card_Iio k]
  refine congrArg Finset.card ?_
  ext i
  rw [Finset.mem_filter, Finset.mem_Iio]
  exact ⟨fun h => h.2, fun h => ⟨Finset.mem_univ _, h⟩⟩

/-- A place of rank `k` is the one that lands at `k`. -/
theorem sorted_of_rank (p k : Fin n) (h : rankK K p = k.val) : sortedFrom (beforeK K) k = p := by
  obtain ⟨i, rfl⟩ := sortedFrom_surjective (beforeK K) p
  rw [rank_sorted] at h
  rw [Fin.ext h]

/-- The places with a number below `t`, counted number by number. -/
theorem card_lt_eq (t : ℕ) (ht : t ≤ 8) : (Finset.univ.filter fun q => K q < t).card
    = ∑ u : Fin 8, if u.val < t then (Finset.univ.filter fun q => K q = u.val).card else 0 := by
  have e : ∀ u : Fin 8, (if u.val < t then (Finset.univ.filter fun q => K q = u.val).card else 0)
      = ∑ q : Fin n, if u.val < t ∧ K q = u.val then 1 else 0 := fun u => by
    split
    · next h =>
      rw [Finset.card_filter]
      exact Finset.sum_congr rfl fun q _ => by simp only [h, true_and]
    · next h => simp only [h, false_and, if_false, Finset.sum_const_zero]
  rw [Finset.sum_congr rfl fun u _ => e u, Finset.sum_comm, Finset.card_filter]
  refine Finset.sum_congr rfl fun q _ => ?_
  by_cases h : K q < t
  · rw [if_pos h, Finset.sum_eq_single (⟨K q, by omega⟩ : Fin 8)]
    · rw [if_pos ⟨h, rfl⟩]
    · intro u _ hu
      exact if_neg fun hh => hu (Fin.ext hh.2.symm)
    · intro hh; exact absurd (Finset.mem_univ _) hh
  · rw [if_neg h]
    refine (Finset.sum_eq_zero fun u _ => if_neg fun hh => ?_).symm
    omega

end Rank

/-! ## Eight blocks -/

/-- Place `p` of block `s`. -/
abbrev plc (s : Fin 8) (p : Fin 4096) : Fin 32768 := ⟨4096 * s.val + p.val, by have := s.isLt; have := p.isLt; omega⟩

theorem plc_surj (q : Fin 32768) : plc ⟨q.val / 4096, by have := q.isLt; omega⟩ ⟨q.val % 4096, by omega⟩ = q :=
  Fin.ext (by show 4096 * (q.val / 4096) + q.val % 4096 = q.val; omega)

/-- A count over all places is the sum of the counts over the blocks. -/
theorem card_blocks (P : Fin 32768 → Prop) [DecidablePred P] : (Finset.univ.filter P).card
    = ∑ s : Fin 8, (Finset.univ.filter fun p : Fin 4096 => P (plc s p)).card := by
  have e : ∀ s : Fin 8, (Finset.univ.filter fun p : Fin 4096 => P (plc s p)).card = ∑ p : Fin 4096, if P (plc s p) then 1 else 0 :=
    fun s => Finset.card_filter _ _
  rw [Finset.sum_congr rfl fun s _ => e s, ← Fintype.sum_prod_type' (f := fun (s : Fin 8) (p : Fin 4096) => if P (plc s p) then 1 else 0), Finset.card_filter]
  refine Finset.sum_bij' (fun q _ => ((⟨q.val / 4096, by have := q.isLt; omega⟩ : Fin 8), (⟨q.val % 4096, by omega⟩ : Fin 4096)))
    (fun z _ => plc z.1 z.2) (fun _ _ => Finset.mem_univ _) (fun _ _ => Finset.mem_univ _) (fun q _ => plc_surj q) ?_ ?_
  · rintro ⟨s, p⟩ _
    refine Prod.ext (Fin.ext ?_) (Fin.ext ?_)
    · show (4096 * s.val + p.val) / 4096 = s.val
      have := p.isLt; omega
    · show (4096 * s.val + p.val) % 4096 = p.val
      have := p.isLt; omega
  · intro q _
    rw [plc_surj]

theorem sum_below : ∀ c : Fin 8, (∑ u : Fin 8, if u.val < c.val then 4096 else 0) = 4096 * c.val := by decide

section Blocks

variable (K : Fin 32768 → ℕ)

/-- How many places of block `s` hold `u`. -/
def cntK (s : Fin 8) (u : ℕ) : ℕ := (Finset.univ.filter fun p : Fin 4096 => K (plc s p) = u).card
/-- How many places of block `s` hold less than `t`. -/
def preK (s : Fin 8) (t : ℕ) : ℕ := ∑ u : Fin 8, if u.val < t then cntK K s u.val else 0
/-- How many places of the blocks before `s` hold `t`. -/
def offK (t : ℕ) (s : ℕ) : ℕ := ∑ u : Fin 8, if u.val < s then cntK K u t else 0

theorem card_lt_block (s : Fin 8) (t : ℕ) (ht : t ≤ 8) : (Finset.univ.filter fun p : Fin 4096 => K (plc s p) < t).card = preK K s t :=
  card_lt_eq (fun p => K (plc s p)) t ht

/-- The order of all the places, from the order of one block. -/
theorem sorted_block (hK : ∀ u : Fin 8, (Finset.univ.filter fun q => K q = u.val).card = 4096) (c s : Fin 8) (q : Fin 4096)
    (h1 : preK K s c.val ≤ q.val) (h2 : q.val < preK K s (c.val + 1)) (g : Fin 32768)
    (hg : g.val = 4096 * c.val + (offK K c.val s.val + (q.val - preK K s c.val))) :
    sortedFrom (beforeK K) g = plc s (sortedFrom (beforeK fun p => K (plc s p)) q) := by
  have hr := rank_sorted (fun p => K (plc s p)) q
  generalize sortedFrom (beforeK fun p => K (plc s p)) q = p at hr ⊢
  have hc : c.val < 8 := c.isLt
  rw [← card_lt_block K s _ (by omega)] at h1 h2
  have hp : K (plc s p) = c.val := by
    rcases lt_trichotomy (K (plc s p)) c.val with h | h | h
    · exfalso
      have : rankK (fun p => K (plc s p)) p < (Finset.univ.filter fun p : Fin 4096 => K (plc s p) < c.val).card := by
        refine Finset.card_lt_card (Finset.ssubset_iff_of_subset (fun q hq => ?_) |>.2 ⟨p, ?_, ?_⟩)
        · have hq' := (Finset.mem_filter.1 hq).2
          refine Finset.mem_filter.2 ⟨Finset.mem_univ _, ?_⟩
          rcases hq' with e | ⟨e, _⟩
          · exact Nat.lt_trans e h
          · exact lt_of_eq_of_lt e h
        · exact Finset.mem_filter.2 ⟨Finset.mem_univ _, h⟩
        · intro hq; exact lexB_asymm _ _ _ (Finset.mem_filter.1 hq).2 (Finset.mem_filter.1 hq).2
      omega
    · exact h
    · exfalso
      have : (Finset.univ.filter fun p : Fin 4096 => K (plc s p) < c.val + 1).card ≤ rankK (fun p => K (plc s p)) p := by
        refine Finset.card_le_card fun q hq => ?_
        have hq' := (Finset.mem_filter.1 hq).2
        exact Finset.mem_filter.2 ⟨Finset.mem_univ _, Or.inl (by show K (plc s q) < K (plc s p); omega)⟩
      omega
  refine sorted_of_rank K _ _ ?_
  rw [hg, rankK_eq, hp]
  refine congrArg₂ (· + ·) ?_ ?_
  · rw [card_lt_eq K _ (by omega)]
    rw [Finset.sum_congr rfl fun u _ => (by rw [hK u] : (if u.val < c.val then (Finset.univ.filter fun q => K q = u.val).card else 0) = if u.val < c.val then 4096 else 0)]
    exact sum_below c
  · rw [card_blocks (fun q => K q = c.val ∧ q < plc s p)]
    have hl : (Finset.univ.filter fun p' : Fin 4096 => K (plc s p') = c.val ∧ p' < p).card = q.val - (Finset.univ.filter fun p : Fin 4096 => K (plc s p) < c.val).card := by
      rw [rankK_eq, hp] at hr
      omega
    rw [← card_lt_block K s _ (by omega), ← hl]
    unfold offK
    generalize hX : (Finset.univ.filter fun p' : Fin 4096 => K (plc s p') = c.val ∧ p' < p).card = X
    have hs : X = ∑ u : Fin 8, if u = s then X else 0 := by
      rw [Finset.sum_ite_eq', if_pos (Finset.mem_univ _)]
    rw [hs, ← Finset.sum_add_distrib]
    refine Finset.sum_congr rfl fun u _ => ?_
    rcases lt_trichotomy u.val s.val with h | h | h
    · rw [if_pos h, if_neg (fun e => by rw [e] at h; exact lt_irrefl _ h), Nat.add_zero]
      unfold cntK
      refine congrArg Finset.card (Finset.filter_congr fun p' _ => ?_)
      refine ⟨fun e => e.1, fun e => ⟨e, ?_⟩⟩
      show 4096 * u.val + p'.val < 4096 * s.val + p.val
      have := p'.isLt
      omega
    · have e : u = s := Fin.ext h
      subst e
      rw [if_neg (lt_irrefl _), if_pos rfl, Nat.zero_add, ← hX]
      refine congrArg Finset.card (Finset.filter_congr fun p' _ => ?_)
      refine and_congr Iff.rfl ?_
      show 4096 * u.val + p'.val < 4096 * u.val + p.val ↔ p'.val < p.val
      omega
    · rw [if_neg (by omega), if_neg (fun e => by rw [e] at h; exact lt_irrefl _ h)]
      refine Finset.card_eq_zero.2 (Finset.filter_eq_empty_iff.2 fun p' _ hh => ?_)
      have h2 : 4096 * u.val + p'.val < 4096 * s.val + p.val := hh.2
      have := p.isLt
      omega

end Blocks

end Cert.KernelIdeal.Own

end
-- ==== Proof.Pre.lean ====
/- What the precondition says of the destinations. -/
module

public import proofs.«01_k».proof.Proof.Counts
public import proofs.«01_k».proof.Proof.Ranks
public import proofs.«01_k».proof.Proof.Gen.Pre_balanced_Kernel
public import Idealize.ShloMosaic.Lib.ReduceAll
@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

/-! ## What the precondition says -/

/-- How many places of block `s` name device `q`. -/
def cntD (D : S32768.Idx → BitVec 32) (s q : Fin 8) : ℕ :=
  (Finset.univ.filter fun p : Fin 4096 => D (ix1 (plc s p)) = BitVec.ofNat 32 q.val).card

/-- The destinations are balanced. -/
structure Bal (D : S32768.Idx → BitVec 32) : Prop where
  total : ∀ q : Fin 8, (Finset.univ.filter fun p : Fin 32768 => D (ix1 p) = BitVec.ofNat 32 q.val).card = 4096
  le : ∀ s q : Fin 8, cntD D s q ≤ 640
  ge : ∀ s q : Fin 8, s.val < 7 → 640 * q.val ≤ 7 * cntD D s q + 1024

abbrev S8x4096x8 : Shape := ⟨3, ![8, 4096, 8]⟩
abbrev S8x8 : Shape := ⟨2, ![8, 8]⟩

/-- The sums of the columns of each block are the counts of the block. -/
theorem count_block (M : IVec ⟨2, ![32768, 8]⟩ 1) (hw : 1 < 32) (hc : (⟨2, ![32768, 8]⟩ : Shape).ShapeCasts S8x4096x8)
    (h : S8x4096x8.ReducesTo [1] S8x8) (hu : 0 < S_.numel) (s q : Fin 8) :
    (Host.reduce IntOp.addi (shapeCast S8x4096x8 (extui 32 M hw) hc) (constantI S_ 32 0#32) h hu (ix2 s q)).toNat
      = (Finset.univ.filter fun p : Fin 4096 => M (ix2 (plc s p) q) = 1#1).card := by
  have hr : S8x4096x8.Reduces [1] S8x8 := by decide
  rw [Host.reduce_eq_fold_single IntOp.addi _ _ h hr hu]
  have hv : ∀ p : Fin 4096, (shapeCast S8x4096x8 (extui 32 M hw) hc (hr.lift (ix2 s q) p)).toNat = if M (ix2 (plc s p) q) = 1#1 then 1 else 0 := by
    intro p
    have e : hr.lift (ix2 s q) p = ix3 s p q := by
      funext a
      refine Fin.ext ((hr.lift_val _ _ a).trans ?_)
      match a with
      | ⟨0, _⟩ => rfl
      | ⟨1, _⟩ => rfl
      | ⟨2, _⟩ => rfl
    rw [e]
    have e2 : shapeCast S8x4096x8 (extui 32 M hw) hc (ix3 s p q) = extui 32 M hw (ix2 (plc s p) q) := by
      refine shapeCast_apply (s := ⟨2, ![32768, 8]⟩) (t := S8x4096x8) _ hc (ix3 s p q) (ix2 (plc s p) q) ?_
      rw [Shape.rowMajor_val_two, Shape.rowMajor_val_three]
      show (4096 * s.val + p.val) * 8 + q.val = (s.val * 4096 + p.val) * 8 + q.val
      omega
    rw [e2]
    exact StableHlo.Predicate.toNat_setWidth_bit _
  have hsum : ∑ p : Fin 4096, (shapeCast S8x4096x8 (extui 32 M hw) hc (hr.lift (ix2 s q) p)).toNat
      = (Finset.univ.filter fun p : Fin 4096 => M (ix2 (plc s p) q) = 1#1).card := by
    rw [Finset.card_filter]; exact Finset.sum_congr rfl fun p _ => hv p
  refine (StableHlo.Predicate.toNat_fold_addi (Finset.univ : Finset (Fin 4096)) _ ?_).trans hsum
  refine lt_of_eq_of_lt hsum (lt_of_le_of_lt (Finset.card_le_univ _) ?_)
  rw [Fintype.card_fin]; decide

/-- The least count of the third condition, as a word. -/
theorem least_val : ∀ q : Fin 8, (IntOp.subi (IntOp.muli 640#32 (BitVec.ofNat 32 q.val)) 1024#32).toInt = 640 * (q.val : ℤ) - 1024 := by decide

theorem ge_of (w : BitVec 32) (q : Fin 8) (hw : w.toNat ≤ 640)
    (h : IntOp.cmpi .sge (IntOp.muli 7#32 w) (IntOp.subi (IntOp.muli 640#32 (BitVec.ofNat 32 q.val)) 1024#32) = 1#1) :
    640 * q.val ≤ 7 * w.toNat + 1024 := by
  have e : (IntOp.muli 7#32 w).toNat = 7 * w.toNat := by
    show (7#32 * w).toNat = _
    rw [BitVec.toNat_mul]
    exact Nat.mod_eq_of_lt (by show 7 * w.toNat < 4294967296; omega)
  have e2 : (IntOp.muli 7#32 w).toInt = ((7 * w.toNat : ℕ) : ℤ) := by
    rw [StableHlo.Predicate.toInt_eq_toNat_of_lt (by omega), e]
  rw [IntOp.cmpi_sge, least_val, e2] at h
  push_cast at h; omega

open Cert.Pre_balanced_Kernel in
theorem bal_of_pre (x : FVec F Cert.Pre_balanced_Kernel.S4096x1024 .bf16) (D : S32768.Idx → BitVec 32)
    (h : Cert.Pre_balanced_Kernel.fn (F := F) x D = fun _ => 1#1) : Bal D := by
  have h0 := congrFun h ValueIdx.ix0
  unfold Cert.Pre_balanced_Kernel.fn Cert.Pre_balanced_Kernel.fn_part1 at h0
  dsimp only at h0
  obtain ⟨hab, hc⟩ := IntOp.andi_eq_one.1 h0
  obtain ⟨ha, hb⟩ := IntOp.andi_eq_one.1 hab
  haveI : Subsingleton (Cert.Pre_balanced_Kernel.S_ : Shape).Idx := ⟨fun a b => funext fun i => i.elim0⟩
  have ha' := Host.reduce_andi_all _ _ _ _ _ ha
  have hb' := Host.reduce_andi_all _ _ _ _ _ hb
  have hc' := Host.reduce_andi_all _ _ _ _ _ hc
  have hM : ∀ p q, mask D Facts.bcast_S32768_S32768x1_0 Facts.bcast_S32768x1_S32768x8_0_1 Facts.bcast_S8_S1x8_1 Facts.bcast_S1x8_S32768x8_0_1 (ix2 p q) = 1#1
      ↔ D (ix1 p) = BitVec.ofNat 32 q.val := mask_iff D _ _ _ _
  have hn : ∀ s q : Fin 8, (Host.reduce IntOp.addi (shapeCast S8x4096x8 (extui 32 (mask D Facts.bcast_S32768_S32768x1_0 Facts.bcast_S32768x1_S32768x8_0_1 Facts.bcast_S8_S1x8_1 Facts.bcast_S1x8_S32768x8_0_1) Facts.natLt_1_32) Facts.shapeCasts_S32768x8_S8x4096x8)
      (constantI S_ 32 0#32) Facts.reducesTo_S8x4096x8_S8x8_d1 Facts.h_S_ (ix2 s q)).toNat = cntD D s q := fun s q =>
    (count_block _ _ _ _ _ s q).trans (congrArg Finset.card (Finset.filter_congr fun p _ => hM _ q))
  have hle : ∀ s q : Fin 8, cntD D s q ≤ 640 := fun s q => by
    have hz : IntOp.cmpi .sle (Host.reduce IntOp.addi (shapeCast S8x4096x8 (extui 32 (mask D Facts.bcast_S32768_S32768x1_0 Facts.bcast_S32768x1_S32768x8_0_1 Facts.bcast_S8_S1x8_1 Facts.bcast_S1x8_S32768x8_0_1) Facts.natLt_1_32) Facts.shapeCasts_S32768x8_S8x4096x8)
      (constantI S_ 32 0#32) Facts.reducesTo_S8x4096x8_S8x8_d1 Facts.h_S_ (ix2 s q)) 640#32 = 1#1 := hb' (ix2 s q)
    have hk : cntD D s q ≤ 4096 := (Finset.card_le_univ _).trans_eq (Fintype.card_fin _)
    rw [StableHlo.Predicate.sle_iff_toNat (by rw [hn]; omega) (by decide), hn] at hz
    exact hz
  refine ⟨fun q => ?_, hle, fun s q hs => ?_⟩
  · have hz : IntOp.cmpi .eq (Host.reduce IntOp.addi (extui 32 (mask D Facts.bcast_S32768_S32768x1_0 Facts.bcast_S32768x1_S32768x8_0_1 Facts.bcast_S8_S1x8_1 Facts.bcast_S1x8_S32768x8_0_1) Facts.natLt_1_32)
      (constantI S_ 32 0#32) Facts.reducesTo_S32768x8_S8_d0 Facts.h_S_ (ix1 q)) 4096#32 = 1#1 := ha' (ix1 q)
    rw [StableHlo.Predicate.cmpi_eq_iff] at hz
    have := count_rows D Facts.bcast_S32768_S32768x1_0 Facts.bcast_S32768x1_S32768x8_0_1 Facts.bcast_S8_S1x8_1 Facts.bcast_S1x8_S32768x8_0_1 (by decide) Facts.natLt_1_32 Facts.reducesTo_S32768x8_S8_d0 Facts.h_S_ q
    rw [hz] at this
    exact this.symm
  · have hz := hc' (ix2 (⟨s.val, hs⟩ : Fin 7) q)
    rw [← hn s q]
    refine ge_of _ q (by rw [hn]; exact hle s q) ?_
    refine Eq.trans ?_ hz
    refine congrArg₂ (IntOp.cmpi .sge) (congrArg (IntOp.muli 7#32) ?_) ?_
    · unfold extractStridedSlice
      refine congrArg _ (funext fun a => Fin.ext ?_)
      match a with
      | ⟨0, _⟩ => show s.val = 0 + s.val; omega
      | ⟨1, _⟩ => show q.val = 0 + q.val; omega
    · refine Eq.symm ((broadcastInDim_apply _ _ _ _ (ix2 (0 : Fin 1) q) fun a => ?_).trans ?_)
      · match a with
        | ⟨0, _⟩ => rfl
        | ⟨1, _⟩ => rfl
      · refine congrArg (fun w => IntOp.subi (IntOp.muli 640#32 w) 1024#32) ?_
        refine (broadcastInDim_apply _ _ _ _ (ix1 q) fun a => ?_).trans rfl
        match a with
        | ⟨0, _⟩ => rfl

end Cert.KernelIdeal.Own

end
-- ==== Proof.Good.lean ====
/- Balanced destinations: the counts and the order of each device are good. -/
module

public import proofs.«01_k».proof.Proof.Host
public import proofs.«01_k».proof.Proof.Pre
@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

/-! ## Balanced destinations are good -/

/-- The number a place of the destinations holds. -/
abbrev keyN (D : S32768.Idx → BitVec 32) (p : Fin 32768) : ℕ := (D (ix1 p)).toNat

theorem ofNat_iff (w : BitVec 32) (q : Fin 8) : w = BitVec.ofNat 32 q.val ↔ w.toNat = q.val := by
  have hq := q.isLt
  constructor
  · intro h; rw [h, BitVec.toNat_ofNat]; omega
  · intro h; rw [← h, BitVec.ofNat_toNat, BitVec.setWidth_eq]

theorem cntK_eq (D : S32768.Idx → BitVec 32) (s q : Fin 8) : cntK (keyN D) s q.val = cntD D s q := by
  unfold cntK cntD
  exact congrArg Finset.card (Finset.filter_congr fun p _ => (ofNat_iff _ q).symm)

theorem Bal.totalK {D : S32768.Idx → BitVec 32} (h : Bal D) (q : Fin 8) : (Finset.univ.filter fun p => keyN D p = q.val).card = 4096 := by
  rw [← h.total q]
  exact congrArg Finset.card (Finset.filter_congr fun p _ => (ofNat_iff _ q).symm)

/-- Every place names a device. -/
theorem Bal.lt {D : S32768.Idx → BitVec 32} (h : Bal D) (p : Fin 32768) : keyN D p < 8 := by
  have e := card_lt_eq (keyN D) 8 le_rfl
  rw [Finset.sum_congr rfl fun u _ => (by rw [if_pos u.isLt, h.totalK u] : (if u.val < 8 then (Finset.univ.filter fun p => keyN D p = u.val).card else 0) = 4096), Finset.sum_const, Finset.card_univ, Fintype.card_fin, smul_eq_mul] at e
  have e2 : (Finset.univ.filter fun p => keyN D p < 8) = Finset.univ :=
    (Finset.card_eq_iff_eq_univ _).1 (e.trans (Fintype.card_fin 32768).symm)
  have hp : p ∈ (Finset.univ.filter fun p => keyN D p < 8) := by rw [e2]; exact Finset.mem_univ _
  exact (Finset.mem_filter.1 hp).2

theorem nOf_bal (m : (ℓ : Loc nD τ sig) → Buf (Elt F) ℓ) (s : Dev nD) (t : ℕ) (ht : t < 8) :
    nOf (inp m) s t ht = cntD (dst m s) s ⟨t, ht⟩ := by
  rw [nOf_inp]
  unfold cntD
  refine congrArg Finset.card (Finset.filter_congr fun p _ => ?_)
  rw [own_apply]

theorem preOf_bal (m : (ℓ : Loc nD τ sig) → Buf (Elt F) ℓ) (s : Dev nD) (t : ℕ) :
    preOf (inp m) s t = preK (keyN (dst m s)) s t := by
  unfold preOf preK
  refine Finset.sum_congr rfl fun u _ => ?_
  rw [nOf_bal, cntK_eq]

theorem row_total {D : S32768.Idx → BitVec 32} (h : Bal D) (s : Fin 8) : preK (keyN D) s 8 = 4096 := by
  rw [← card_lt_block _ _ _ le_rfl]
  rw [Finset.filter_true_of_mem fun p _ => h.lt _]
  exact Fintype.card_fin 4096

/-- The second of two lists sorted together, read: it holds what stood at the place the order names. -/
theorem sort2_read {n : ℕ} {α β : Type} (cmp : α × β → α × β → BitVec 1) (x : (⟨1, ![n]⟩ : Shape).Idx → α) (y : (⟨1, ![n]⟩ : Shape).Idx → β) (p : Fin n) :
    (Host.sort2 ⟨1, ![n]⟩ 0 cmp x y).2 (ix1 p)
      = y (ix1 (sortedFrom (fun a b : Fin n => cmp (x (ix1 a), y (ix1 a)) (x (ix1 b), y (ix1 b)) == 1#1) p)) := by
  have hd : 0 < (⟨1, ![n]⟩ : Shape).rank := Nat.zero_lt_one
  have e : ∀ (j : (⟨1, ![n]⟩ : Shape).Idx) (c : Fin n), j.along (⟨0, hd⟩ : Fin (⟨1, ![n]⟩ : Shape).rank) c = ix1 c :=
    fun j c => (Shape.Idx.along_rank1 j c).trans (Routing.ofFin_eq_ix1 c)
  unfold Host.sort2
  rw [dif_pos hd]
  refine congrArg y ((e _ _).trans (congrArg ix1 ?_))
  refine congrArg (fun b : Fin n → Fin n → Bool => sortedFrom b p) (funext fun a => funext fun b => ?_)
  exact congrArg₂ (fun u v => cmp (x u, y u) (x v, y v) == 1#1) (e (ix1 p) a) (e (ix1 p) b)

/-- Numbers below eight compare as words as they do as numbers. -/
theorem slt_small (a b : BitVec 32) (ha : a.toNat < 8) (hb : b.toNat < 8) : (IntOp.cmpi .slt a b == 1#1) = decide (a.toNat < b.toNat) := by
  rw [beq_eq_decide]
  refine decide_eq_decide.2 ?_
  rw [IntOp.cmpi_slt]
  rw [BitVec.toInt_eq_toNat_of_lt (by omega), BitVec.toInt_eq_toNat_of_lt (by omega)]
  exact Int.ofNat_lt

/-- The order of the places of a list of small numbers. -/
theorem order_read {n : ℕ} (x : (⟨1, ![n]⟩ : Shape).Idx → BitVec 32) (hx : ∀ p, (x (ix1 p)).toNat < 8) (p : Fin n) :
    (Host.sort2 ⟨1, ![n]⟩ 0 comparator_i32_i32_d0 x (iotaInDim ⟨1, ![n]⟩ 32 0)).2 (ix1 p)
      = BitVec.ofNat 32 (sortedFrom (beforeK fun p => (x (ix1 p)).toNat) p).val := by
  rw [sort2_read]
  have e : (fun a b : Fin n => comparator_i32_i32_d0 (x (ix1 a), iotaInDim ⟨1, ![n]⟩ 32 0 (ix1 a)) (x (ix1 b), iotaInDim ⟨1, ![n]⟩ 32 0 (ix1 b)) == 1#1)
      = beforeK fun p => (x (ix1 p)).toNat := funext fun a => funext fun b => slt_small _ _ (hx a) (hx b)
  rw [e]
  rfl

theorem ord_bal (m : (ℓ : Loc nD τ sig) → Buf (Elt F) ℓ) (s : Dev nD) (h : Bal (dst m s)) (p : Fin 4096) :
    (inp m).ord s (ix1 p) = BitVec.ofNat 32 (sortedFrom (beforeK fun p => keyN (dst m s) (plc s p)) p).val := by
  have e : ∀ p : Fin 4096, own m s (ix1 p) = dst m s (ix1 (plc s p)) := fun p => own_apply m s p
  rw [inp_ord]
  refine (order_read (n := 4096) (own m s) (fun p => ?_) p).trans ?_
  · rw [e]; exact h.lt _
  · simp only [e]

theorem sum_fit (f : Fin 8 → ℕ) (A : ℕ) (h : ∀ u : Fin 8, u.val < 7 → A ≤ 7 * f u + 1024) :
    A ≤ (∑ u : Fin 8, if u.val < 7 then f u else 0) + 1024 := by
  have h0 := h 0 (by decide)
  have h1 := h 1 (by decide)
  have h2 := h 2 (by decide)
  have h3 := h 3 (by decide)
  have h4 := h 4 (by decide)
  have h5 := h 5 (by decide)
  have h6 := h 6 (by decide)
  rw [Fin.sum_univ_eight, if_pos (by decide), if_pos (by decide), if_pos (by decide), if_pos (by decide), if_pos (by decide), if_pos (by decide), if_pos (by decide), if_neg (by decide)]
  omega

theorem good_of_bal (m : (ℓ : Loc nD τ sig) → Buf (Elt F) ℓ) (h : ∀ c : Dev nD, Bal (dst m c)) : Good (inp m) where
  ord_lt c y := by
    obtain ⟨p, rfl⟩ : ∃ p, y = ix1 p := ⟨_, eq_ix1 y⟩
    rw [ord_bal m c (h c), BitVec.toNat_ofNat]
    have := (sortedFrom (beforeK fun p => keyN (dst m c) (plc c p)) p).isLt
    omega
  cnt_le s t ht := by rw [nOf_bal]; exact (h s).le _ _
  row_sum s := by rw [preOf_bal]; exact row_total (h s) s
  col_fit t := by
    refine sum_fit (fun u => nOf (inp m) ⟨u.val, u.isLt⟩ t.val t.isLt) _ fun u hu => ?_
    rw [nOf_bal]
    exact (h _).ge _ _ hu

end Cert.KernelIdeal.Own

end
-- ==== Proof.SameText.lean ====
/- The kernel and its idealization have the same text: each definition of the one is that of the other. -/
module

public import proofs.«01_k».proof.Kernel
public import proofs.«01_k».proof.KernelIdeal
public import proofs.«01_k».proof.Proof.Gen.Kernel
public import proofs.«01_k».proof.Proof.Gen.KernelIdeal

@[expose] public section

noncomputable section

namespace Cert.KernelIdeal.Own

open Idealize.ShloMosaic

variable {F : FTy → Type} [FloatOps F]

theorem e_k0_part33 : Cert.Kernel.k0_part33 (F := F) = Cert.KernelIdeal.k0_part33 (F := F) := rfl
theorem e_k0_part34 : Cert.Kernel.k0_part34 (F := F) = Cert.KernelIdeal.k0_part34 (F := F) := rfl
theorem e_k0_part35 : Cert.Kernel.k0_part35 (F := F) = Cert.KernelIdeal.k0_part35 (F := F) := rfl
theorem e_k0_part36 : Cert.Kernel.k0_part36 (F := F) = Cert.KernelIdeal.k0_part36 (F := F) := rfl
theorem e_k0_part37 : Cert.Kernel.k0_part37 (F := F) = Cert.KernelIdeal.k0_part37 (F := F) := rfl
theorem e_k0_part38 : Cert.Kernel.k0_part38 (F := F) = Cert.KernelIdeal.k0_part38 (F := F) := rfl
theorem e_k0_part39 : Cert.Kernel.k0_part39 (F := F) = Cert.KernelIdeal.k0_part39 (F := F) := rfl
theorem e_k0_part40 : Cert.Kernel.k0_part40 (F := F) = Cert.KernelIdeal.k0_part40 (F := F) := rfl
theorem e_k0_part41 : Cert.Kernel.k0_part41 (F := F) = Cert.KernelIdeal.k0_part41 (F := F) := rfl
theorem e_k0_part42 : Cert.Kernel.k0_part42 (F := F) = Cert.KernelIdeal.k0_part42 (F := F) := rfl
theorem e_k0_part43 : Cert.Kernel.k0_part43 (F := F) = Cert.KernelIdeal.k0_part43 (F := F) := rfl
theorem e_k0_part44 : Cert.Kernel.k0_part44 (F := F) = Cert.KernelIdeal.k0_part44 (F := F) := rfl
theorem e_k0_part45 : Cert.Kernel.k0_part45 (F := F) = Cert.KernelIdeal.k0_part45 (F := F) := rfl
theorem e_k0_part46 : Cert.Kernel.k0_part46 (F := F) = Cert.KernelIdeal.k0_part46 (F := F) := rfl
theorem e_k0_part47 : Cert.Kernel.k0_part47 (F := F) = Cert.KernelIdeal.k0_part47 (F := F) := rfl
theorem e_k0_part48 : Cert.Kernel.k0_part48 (F := F) = Cert.KernelIdeal.k0_part48 (F := F) := rfl
theorem e_k0_part49 : Cert.Kernel.k0_part49 (F := F) = Cert.KernelIdeal.k0_part49 (F := F) := rfl
theorem e_k0_part50 : Cert.Kernel.k0_part50 (F := F) = Cert.KernelIdeal.k0_part50 (F := F) := rfl
theorem e_k0_part51 : Cert.Kernel.k0_part51 (F := F) = Cert.KernelIdeal.k0_part51 (F := F) := rfl
theorem e_k0_part52 : Cert.Kernel.k0_part52 (F := F) = Cert.KernelIdeal.k0_part52 (F := F) := rfl
theorem e_k0_part53 : Cert.Kernel.k0_part53 (F := F) = Cert.KernelIdeal.k0_part53 (F := F) := rfl
theorem e_k0_part54 : Cert.Kernel.k0_part54 (F := F) = Cert.KernelIdeal.k0_part54 (F := F) := rfl
theorem e_k0_part55 : Cert.Kernel.k0_part55 (F := F) = Cert.KernelIdeal.k0_part55 (F := F) := rfl
theorem e_k0_part56 : Cert.Kernel.k0_part56 (F := F) = Cert.KernelIdeal.k0_part56 (F := F) := rfl
theorem e_k0_part57 : Cert.Kernel.k0_part57 (F := F) = Cert.KernelIdeal.k0_part57 (F := F) := rfl
theorem e_k0_part58 : Cert.Kernel.k0_part58 (F := F) = Cert.KernelIdeal.k0_part58 (F := F) := rfl
theorem e_k0_part59 : Cert.Kernel.k0_part59 (F := F) = Cert.KernelIdeal.k0_part59 (F := F) := rfl

theorem bind_eq.{v} {E : Type → Type v} {α β : Type} {p q : Idealize.SL.Sem.Prog E α} {f g : α → Idealize.SL.Sem.Prog E β}
    (h : p = q) (k : ∀ a, f a = g a) : p >>= f = q >>= g := by
  rw [h, funext k]

set_option maxHeartbeats 4000000 in
theorem e_body : Cert.Kernel.cc0_body (F := F) = Cert.KernelIdeal.cc0_body (F := F) := by
  unfold Cert.Kernel.cc0_body Cert.KernelIdeal.cc0_body
  funext arg0 harg0 arg1 harg1 arg2 harg2 arg3 harg3 arg4 harg4 arg5 harg5 arg6 harg6 arg7 harg7 arg8 harg8 arg9 harg9 arg10 arg11 arg12 arg13 arg14 arg15 arg16
  refine bind_eq ?_ ?_
  · rw [e_k0_part37]
  rintro ⟨_, _, _, _, _⟩
  refine bind_eq ?_ ?_
  · rw [e_k0_part38]
  rintro ⟨_, _, _, _⟩
  refine bind_eq ?_ ?_
  · rw [e_k0_part39]
  rintro ⟨_, _, _, _, _, _⟩
  refine bind_eq ?_ ?_
  · rw [e_k0_part40]
  rintro ⟨_, _, _, _, _, _, _, _, _, _, _, _, _⟩
  refine bind_eq ?_ ?_
  · rw [e_k0_part41]
  rintro ⟨_, _, _, _, _⟩
  refine bind_eq ?_ ?_
  · rw [e_k0_part42]
  rintro ⟨_, _, _, _⟩
  refine bind_eq ?_ ?_
  · rw [e_k0_part43]
  rintro ⟨_, _, _, _⟩
  refine bind_eq ?_ ?_
  · rw [e_k0_part44]
  rintro _
  refine bind_eq ?_ ?_
  · rw [e_k0_part45]
  rintro ⟨_, _, _, _, _⟩
  refine bind_eq ?_ ?_
  · rw [e_k0_part46]
  rintro ⟨_, _, _, _, _⟩
  refine bind_eq ?_ ?_
  · rw [e_k0_part47]
  rintro ⟨_, _⟩
  refine bind_eq ?_ ?_
  · rw [e_k0_part48]
  rintro ⟨_, _, _, _⟩
  refine bind_eq ?_ ?_
  · rw [e_k0_part49]
  rintro ⟨_, _⟩
  refine bind_eq ?_ ?_
  · rw [e_k0_part50]
  rintro _
  refine bind_eq ?_ ?_
  · rw [e_k0_part51]
  rintro _
  refine bind_eq ?_ ?_
  · rw [e_k0_part52]
  rintro ⟨_, _, _, _⟩
  refine bind_eq ?_ ?_
  · rw [e_k0_part53]
  rintro ⟨_, _, _, _, _, _, _, _, _, _, _, _, _, _⟩
  refine bind_eq ?_ ?_
  · rw [e_k0_part54]
  rintro ⟨_, _, _, _, _, _, _⟩
  refine bind_eq ?_ ?_
  · rw [e_k0_part55]
  rintro ⟨_, _, _⟩
  refine bind_eq ?_ ?_
  · rw [e_k0_part56]
  rintro _
  refine bind_eq ?_ ?_
  · rw [e_k0_part57]
  rintro _
  refine bind_eq ?_ ?_
  · rw [e_k0_part58]
  rintro _
  refine bind_eq ?_ ?_
  · rw [e_k0_part59]
  rintro _
  rfl

set_option maxHeartbeats 1000000 in
theorem e_defs₀ : Cert.Kernel.defs₀ (F := F) = Cert.KernelIdeal.defs₀ (F := F) := by
  unfold Cert.Kernel.defs₀ Cert.KernelIdeal.defs₀
  rw [e_body]
  refine congrArg Defs.onTc (funext fun l => funext fun a => ?_)
  match l, a with
  | 0, (t, s) => rfl
  | ⟨_ + 1, h⟩, _ => exact absurd h (Nat.not_lt.2 (Nat.le_add_left _ _))

set_option maxHeartbeats 1000000 in
theorem e_defs : Cert.Kernel.defs (F := F) = Cert.KernelIdeal.defs (F := F) := by
  unfold Cert.Kernel.defs Cert.KernelIdeal.defs
  rw [e_defs₀]
  rfl

set_option maxHeartbeats 1000000 in
theorem e_main : Cert.Kernel.main (F := F) = Cert.KernelIdeal.main (F := F) := rfl

end Cert.KernelIdeal.Own

end
-- ==== Proof.Frames.lean ====
/- The claims that the programs run and leave their arguments as they were. -/
module

public import proofs.«01_k».proof.Defs
public import proofs.«01_k».proof.Proof.Good
public import proofs.«01_k».proof.Proof.SameText
public import proofs.«01_k».proof.Proof.Gen.Kernel
public import proofs.«01_k».proof.Proof.Gen.ReferenceIdeal.Run
public import proofs.«01_k».proof.Proof.Gen.Pre_balanced_ReferenceIdeal
public import Idealize.ShloMosaic.Lib.Quiescent

@[expose] public section

noncomputable section

namespace Cert.KernelIdeal.Own

open Idealize.ShloMosaic Idealize.ShloMosaic.TcCoe
open Idealize.SL.Sem
open Cert.KernelIdeal Cert.KernelIdeal.Gen

variable {F : FTy → Type} [FloatOps F]

/-- From balanced destinations the exchange runs: the result is known, the arguments are as they were, every counter is zero. -/
theorem run_bal (m : (ℓ : Loc nD τ sig) → Buf (Elt F) ℓ) (ρ : Dev nD → PrngReg) (h : ∀ c : Dev nD, Bal (dst m c)) :
    θ_run defs (onTc (τ := τ) (main (F := F))) ⟨m, fun _ => 0, ρ⟩ (fun r => (∀ c : Dev nD,
      r.2.mem ((c.tc : Thread nD τ).loc main_v23) = V7 m (outs m) c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨h.1 c (Proc.devRef .tc main_v23) (Finset.mem_filter.mpr ⟨StableHlo.devRef_mem_tcRefs main_v23, by decide⟩),
     (h.1 c (Proc.devRef .tc main_arg0) (Finset.mem_filter.mpr ⟨StableHlo.devRef_mem_tcRefs main_arg0, by decide⟩)).trans (V7_main_arg0 m (outs m) c),
     (h.1 c (Proc.devRef .tc main_arg1) (Finset.mem_filter.mpr ⟨StableHlo.devRef_mem_tcRefs main_arg1, by decide⟩)).trans (V7_main_arg1 m (outs m) c)⟩, h.2⟩)
    (run_main m ρ (good_of_bal m h))

set_option maxHeartbeats 1000000 in
theorem frame_kernel : Cert.quiescent_Kernel := fun m ρ hp => by
  rw [e_defs, e_main]
  exact (θ_run Cert.KernelIdeal.defs _ _).mono (fun _ h => ⟨fun c => (h.1 c).2, h.2⟩)
    (run_bal (F := Bits) m ρ fun c => bal_of_pre _ _ (hp c))

theorem frame_ideal : Cert.quiescent_KernelIdeal := fun m ρ hp =>
  (θ_run Cert.KernelIdeal.defs _ _).mono (fun _ h => ⟨fun c => (h.1 c).2, h.2⟩)
    (run_bal (F := Ideal) m ρ fun c => bal_of_pre _ _ (hp c))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_balanced_ReferenceIdeal := fun m ρ _ =>
  frame_reference m ρ trivial

end Cert.KernelIdeal.Own

end
-- ==== Proof.Value.lean ====
/- What the kernel's result holds, row by row. -/
module

public import proofs.«01_k».proof.Proof.Good
@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal Cert.KernelIdeal.Gen

variable {F : FTy → Type} [FloatOps F]

local notation "𝕄" => MT nD τ sig Unit (Elt F) ℕ UU ℕ

/-! ## The kernel's rows -/

theorem sum_succ8 (s : Fin 8) (f : Fin 8 → ℕ) :
    (∑ u : Fin 8, if u.val < s.val + 1 then f u else 0) = (∑ u : Fin 8, if u.val < s.val then f u else 0) + f s := by
  have e : ∀ u : Fin 8, (if u.val < s.val + 1 then f u else 0) = (if u.val < s.val then f u else 0) + if u = s then f u else 0 := fun u => by
    rcases lt_trichotomy u.val s.val with h | h | h
    · rw [if_pos (by omega), if_pos h, if_neg (fun e => by rw [e] at h; exact lt_irrefl _ h), Nat.add_zero]
    · rw [if_pos (by omega), if_neg (by omega), if_pos (Fin.ext h), Nat.zero_add]
    · rw [if_neg (by omega), if_neg (by omega), if_neg (fun e => by rw [e] at h; exact lt_irrefl _ h)]
  rw [Finset.sum_congr rfl fun u _ => e u, Finset.sum_add_distrib, Finset.sum_ite_eq' Finset.univ s f, if_pos (Finset.mem_univ _)]

/-- The shape of all the rows. -/
abbrev SAll : Shape := ⟨2, ![32768, 1024]⟩

section Rows

variable {D : S32768.Idx → BitVec 32} (hD : Bal D)

include hD in
/-- Every device is sent as many rows as it has. -/
theorem off_total (t : Fin 8) : offK (keyN D) t.val 8 = 4096 := by
  rw [← hD.totalK t, card_blocks]
  exact Finset.sum_congr rfl fun u _ => if_pos u.isLt

variable (m : (ℓ : Loc nD τ sig) → Buf (Elt F) ℓ) (hm : ∀ c : Dev nD, dst m c = D)

include hm

theorem off_bal (c : Dev nD) (s : ℕ) : offOf (inp m) c s = offK (keyN D) c.val s := by
  unfold offOf offK
  refine Finset.sum_congr rfl fun u _ => ?_
  rw [nOf_bal, hm, ← cntK_eq]

theorem pre_bal (s : Dev nD) (t : ℕ) : preOf (inp m) s t = preK (keyN D) s t := by rw [preOf_bal, hm]

include hD

/-- The source of place `i` of device `c`'s result, and the place among its rows for `c`. -/
theorem seg_bounds (c : Dev nD) (i : Fin 4096) : ∃ s : Fin 8, segN (inp m) c i.val = s.val
    ∧ offK (keyN D) c.val s.val ≤ i.val ∧ i.val < offK (keyN D) c.val s.val + cntD D s ⟨c.val, c.isLt⟩ := by
  obtain ⟨h8, hlo, hhi⟩ := segN_spec (inp m) c i.val
  refine ⟨⟨_, h8⟩, rfl, by rw [← off_bal m hm]; exact hlo, ?_⟩
  have e : offOf (inp m) c (segN (inp m) c i.val + 1) = offK (keyN D) c.val (segN (inp m) c i.val) + cntD D ⟨_, h8⟩ ⟨c.val, c.isLt⟩ := by
    rw [offOf_succ _ _ _ h8, off_bal m hm, nOf_bal, hm]
  rw [← e]
  rcases hhi with h7 | hhi
  · rw [h7, off_bal m hm, off_total hD ⟨c.val, c.isLt⟩]; exact i.isLt
  · exact hhi

/-- Place `i` of device `c`'s result is the row that lands there when all the rows are put in order. -/
theorem out_row (X : SAll.Idx → Elt F .bf16)
    (hX : ∀ (c : Dev nD) (r : Fin 4096) (l : Fin 1024), (m ((c.tc : Thread nD τ).loc main_arg0) : S4096x1024.Idx → Elt F .bf16) (ix2 r l) = X (ix2 (plc c r) l))
    (c : Dev nD) (i : Fin 4096) (l : Fin 1024) (a : Fin 512) (b : Fin 8) (hi : i.val = a.val * 8 + b.val) :
    outV (inp m) c (ix3 a b l) = X (ix2 (sortedFrom (beforeK (keyN D)) (plc c i)) l) := by
  obtain ⟨s, hs, h1, h2⟩ := seg_bounds hD m hm c i
  have hc : c.val < 8 := c.isLt
  have hs8 : s.val < 8 := s.isLt
  have hn : cntD D s ⟨c.val, c.isLt⟩ ≤ 640 := hD.le _ _
  have hp1 : preK (keyN D) s (c.val + 1) = preK (keyN D) s c.val + cntD D s ⟨c.val, c.isLt⟩ := by
    rw [← cntK_eq]; exact sum_succ8 ⟨c.val, c.isLt⟩ fun u => cntK (keyN D) s u.val
  have hp2 : preK (keyN D) s (c.val + 1) ≤ 4096 := by
    rw [← row_total hD s]
    exact Finset.sum_le_sum fun u _ => by
      split
      · rw [if_pos u.isLt]
      · exact Nat.zero_le _
  obtain ⟨k, hk⟩ : ∃ k, i.val = offK (keyN D) c.val s.val + k := ⟨i.val - offK (keyN D) c.val s.val, by omega⟩
  have hkn : k < cntD D s ⟨c.val, c.isLt⟩ := by omega
  have hJ : idxN (inp m) c i.val = (c.val + 7 + 7 * s.val) % 8 * 640 + k := by
    unfold idxN; rw [hs, off_bal m hm, hk, Nat.add_sub_cancel_left]
  have hw : (c.val + 7 + 7 * s.val) % 8 < 8 := Nat.mod_lt _ (by decide)
  have hsrc : srcOf c ((c.val + 7 + 7 * s.val) % 8) = s := Fin.ext (by
    show (c.val + 7 + 8 * ((c.val + 7 + 7 * s.val) % 8) - (c.val + 7 + 7 * s.val) % 8) % 8 = s.val
    omega)
  have hdst : destN s ((c.val + 7 + 7 * s.val) % 8) = c := Fin.ext (by
    show (s.val + 1 + (c.val + 7 + 7 * s.val) % 8) % 8 = c.val
    omega)
  have hz : outV (inp m) c (ix3 a b l) = xRow (inp m) s (rowN (inp m) s c k) l := by
    show recvV (inp m) c (ix3 ⟨idxN (inp m) c (a.val * 8 + b.val) / 8 % 640, _⟩ ⟨idxN (inp m) c (a.val * 8 + b.val) % 8, _⟩ l) = _
    show xRow (inp m) (srcOf c (idxN (inp m) c (a.val * 8 + b.val) / 8 % 640 / 80)) (rowN (inp m) (srcOf c (idxN (inp m) c (a.val * 8 + b.val) / 8 % 640 / 80))
      (destN (srcOf c (idxN (inp m) c (a.val * 8 + b.val) / 8 % 640 / 80)) (idxN (inp m) c (a.val * 8 + b.val) / 8 % 640 / 80))
      (idxN (inp m) c (a.val * 8 + b.val) / 8 % 640 % 80 * 8 + idxN (inp m) c (a.val * 8 + b.val) % 8)) l = _
    rw [← hi, hJ]
    have e1 : ((c.val + 7 + 7 * s.val) % 8 * 640 + k) / 8 % 640 / 80 = (c.val + 7 + 7 * s.val) % 8 := by omega
    have e2 : ((c.val + 7 + 7 * s.val) % 8 * 640 + k) / 8 % 640 % 80 * 8 + ((c.val + 7 + 7 * s.val) % 8 * 640 + k) % 8 = k := by omega
    rw [e1, e2, hsrc, hdst]
  have hq : preK (keyN D) s c.val + k < 4096 := by omega
  have hrow : rowN (inp m) s c k = (sortedFrom (beforeK fun p => keyN D (plc s p)) ⟨preK (keyN D) s c.val + k, hq⟩).val := by
    unfold rowN
    have e : (⟨min (preOf (inp m) s c.val + min k (nOf (inp m) s c.val c.isLt - 1)) 4095, by omega⟩ : Fin 4096) = ⟨preK (keyN D) s c.val + k, hq⟩ := Fin.ext (by
      show min (preOf (inp m) s c.val + min k (nOf (inp m) s c.val c.isLt - 1)) 4095 = preK (keyN D) s c.val + k
      rw [pre_bal m hm, nOf_bal, hm]
      omega)
    refine (congrArg (fun p : Fin 4096 => ((inp m).ord s (ix1 p)).toNat) e).trans ?_
    show ((inp m).ord s (ix1 _)).toNat = _
    rw [ord_bal m s (by rw [hm]; exact hD), BitVec.toNat_ofNat, hm]
    have := (sortedFrom (beforeK fun p => keyN D (plc s p)) ⟨preK (keyN D) s c.val + k, hq⟩).isLt
    omega
  rw [hz, hrow, sorted_block (keyN D) hD.totalK c s ⟨preK (keyN D) s c.val + k, hq⟩ (Nat.le_add_right _ _) (by show preK (keyN D) s c.val + k < _; rw [hp1]; omega) (plc c i)
    (by show 4096 * c.val + i.val = 4096 * c.val + (offK (keyN D) c.val s.val + (preK (keyN D) s c.val + k - preK (keyN D) s c.val)); omega)]
  generalize sortedFrom (beforeK fun p => keyN D (plc s p)) ⟨preK (keyN D) s c.val + k, hq⟩ = p
  unfold xRow
  have hp := p.isLt
  rw [inp_x m s p l ⟨p.val / 8 % 512, _⟩ ⟨p.val % 8, _⟩ (by show p.val = p.val / 8 % 512 * 8 + p.val % 8; omega)]
  exact hX s p l

/-- The result of device `c`, row by row. -/
theorem result_row (X : SAll.Idx → Elt F .bf16)
    (hX : ∀ (c : Dev nD) (r : Fin 4096) (l : Fin 1024), (m ((c.tc : Thread nD τ).loc main_arg0) : S4096x1024.Idx → Elt F .bf16) (ix2 r l) = X (ix2 (plc c r) l))
    (c : Dev nD) (i : Fin 4096) (l : Fin 1024) :
    (V7 m (outs m) c main_v23 : S4096x1024.Idx → Elt F .bf16) (ix2 i l) = X (ix2 (sortedFrom (beforeK (keyN D)) (plc c i)) l) := by
  have hi := i.isLt
  rw [V7_v23, ← at6_eq, at6_v22]
  refine (shapeCast_apply (s := S512x8x1024) (t := S4096x1024) _ _ (ix2 i l) (ix3 (⟨i.val / 8, by omega⟩ : Fin 512) (⟨i.val % 8, by omega⟩ : Fin 8) l) ?_).trans ?_
  · rw [Shape.rowMajor_val_two, Shape.rowMajor_val_three]
    show (i.val / 8 * 8 + i.val % 8) * 1024 + l.val = i.val * 1024 + l.val
    omega
  · exact out_row hD m hm X hX c i l _ _ (by show i.val = i.val / 8 * 8 + i.val % 8; omega)

end Rows

end Cert.KernelIdeal.Own

end
-- ==== Proof.Reference.lean ====
/- What the reference's result holds, row by row; and that the kernel's result is it, cut into blocks. -/
module

public import proofs.«01_k».proof.Proof.Value
public import proofs.«01_k».proof.Proof.Frames
public import Idealize.ShloMosaic.Lib.Routing.OpsPair

@[expose] public section

noncomputable section

namespace Cert.KernelIdeal.Own

open Idealize.ShloMosaic Idealize.ShloMosaic.TcCoe
open Idealize.SL.Sem

variable {F : FTy → Type} [FloatOps F]

/-- The order of the reference: the list of the places, sorted with the destinations. -/
abbrev refOrd (D : S32768.Idx → BitVec 32) : S32768.Idx → BitVec 32 :=
  (Host.sort2 S32768 0 Cert.ReferenceIdeal.comparator_i32_i32_d0 D (iotaInDim S32768 32 0)).2

/-- The reference's result. -/
abbrev refOut (X : SAll.Idx → Elt F .bf16) (D : S32768.Idx → BitVec 32) : SAll.Idx → Elt F .bf16 :=
  Host.gather Cert.ReferenceIdeal.gather_S32768x1024_S32768x1_S32768x1024_1_0_n_n_0_1_11024 X
    (broadcastInDim Cert.ReferenceIdeal.S32768x1 ![0] Cert.ReferenceIdeal.Facts₀.bcast_S32768_S32768x1_0
      (select (cmpi .slt (refOrd D) (broadcastInDim S32768 ![] Cert.ReferenceIdeal.Facts₀.bcast_S_S32768 (constantI S_ 32 0#32)))
        (addi (refOrd D) (broadcastInDim S32768 ![] Cert.ReferenceIdeal.Facts₀.bcast_S_S32768 (constantI S_ 32 32768#32))) (refOrd D)))

theorem refOrd_apply {D : S32768.Idx → BitVec 32} (hD : Bal D) (g : Fin 32768) :
    refOrd D (ix1 g) = BitVec.ofNat 32 (sortedFrom (beforeK (keyN D)) g).val :=
  order_read (n := 32768) D hD.lt g

theorem refOut_apply (X : SAll.Idx → Elt F .bf16) {D : S32768.Idx → BitVec 32} (hD : Bal D) (g : Fin 32768) (l : Fin 1024) :
    refOut X D (ix2 g l) = X (ix2 (sortedFrom (beforeK (keyN D)) g) l) := by
  refine Routing.gather_row _ rfl rfl rfl rfl rfl X _ g l (sortedFrom (beforeK (keyN D)) g) ?_ (by decide)
  refine (Routing.bcCol (n := 32768) _ _ g).trans ?_
  have hg := (sortedFrom (beforeK (keyN D)) g).isLt
  show Scalar.select (IntOp.cmpi .slt (refOrd D (ix1 g)) 0#32) _ (refOrd D (ix1 g)) = _
  rw [Routing.wrap_of_lt _ _ (by rw [refOrd_apply hD, BitVec.toNat_ofNat]; omega), refOrd_apply hD]

/-- The kernel's results are the reference's, cut into blocks of rows. -/
theorem value : Cert.algebraic_KernelIdeal_ReferenceIdeal := by
  intro m g m' g' hp hm
  have hb : ∀ c : Dev Cert.KernelIdeal.nD, Bal (dst m c) := fun c => bal_of_pre _ _ (hp c)
  have hd : ∀ c : Dev Cert.KernelIdeal.nD, dst m c = dst m 0 := fun c => (hm c).2.trans (hm 0).2.symm
  have hD := hb 0
  refine ⟨refOut (F := Ideal) (m' (((0 : Dev Cert.ReferenceIdeal.nD).tc : Thread Cert.ReferenceIdeal.nD Cert.ReferenceIdeal.τ).loc Cert.ReferenceIdeal.main_arg0)) (dst m 0), ?_, ?_⟩
  · refine (θ_run Cert.KernelIdeal.defs _ _).mono (fun r h c => ⟨(h.1 c).1.trans ?_, (h.1 c).2⟩) (run_bal (F := Ideal) m g hb)
    funext y
    obtain ⟨i, l, rfl⟩ : ∃ (i : Fin 4096) (l : Fin 1024), y = ix2 i l := ⟨_, _, eq_ix2 y⟩
    have hi : ∀ (h : Layout.Tiles (⟨2, ![4096, 1024]⟩ : Shape) (⟨2, ![32768, 1024]⟩ : Shape) 0 8) (c : Fin 8) (i : Fin 4096) (l : Fin 1024), h.idx c (ix2 i l) = ix2 (plc c i) l := by
      intro h c i l
      funext a
      refine Fin.ext ?_
      match a with
      | ⟨0, _⟩ => exact ((Layout.idx_rows_val h c (ix2 i l)).1.trans (by show c.val * 4096 + i.val = 4096 * c.val + i.val; omega))
      | ⟨1, _⟩ => exact (Layout.idx_rows_val h c (ix2 i l)).2
    refine (result_row hD m hd (m' (((0 : Dev Cert.ReferenceIdeal.nD).tc : Thread Cert.ReferenceIdeal.nD Cert.ReferenceIdeal.τ).loc Cert.ReferenceIdeal.main_arg0)) (fun c r l => ?_) c i l).trans ?_
    · rw [(hm c).1, Layout.block_apply, hi]
    · rw [Layout.block_apply, hi, refOut_apply _ hD]
  · refine (θ_run Cert.ReferenceIdeal.defs _ _).mono (fun r h => ?_) (Cert.ReferenceIdeal.Value.run (F := Ideal) m' g')
    obtain ⟨h1, h2, h3⟩ := h 0
    refine ⟨h1.trans ?_, h2, h3⟩
    have e : dst m 0 = m' (((0 : Dev Cert.ReferenceIdeal.nD).tc : Thread Cert.ReferenceIdeal.nD Cert.ReferenceIdeal.τ).loc Cert.ReferenceIdeal.main_arg1) := (hm 0).2
    exact (congrArg (refOut (F := Ideal) (m' (((0 : Dev Cert.ReferenceIdeal.nD).tc : Thread Cert.ReferenceIdeal.nD Cert.ReferenceIdeal.τ).loc Cert.ReferenceIdeal.main_arg0))) e).symm

end Cert.KernelIdeal.Own

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.Pre_balanced_Kernel
public import proofs.«01_k».proof.Proof.Gen.Pre_balanced_ReferenceIdeal
public import proofs.«01_k».proof.Proof.Frames
public import proofs.«01_k».proof.Proof.Reference

/-! The claims of the certificate, each from the module that proves it. -/

@[expose] public section

namespace Cert.Proof

theorem claim : Cert.Claim :=
  ⟨Cert.Kernel.Gen.facts, Cert.KernelIdeal.Gen.facts, Cert.ReferenceIdeal.Gen.facts,
    Cert.Pre_balanced_Kernel.Gen.facts, Cert.Pre_balanced_ReferenceIdeal.Gen.facts,
    Cert.KernelIdeal.Own.frame_kernel, Cert.KernelIdeal.Own.frame_ideal,
    Cert.KernelIdeal.Own.frame_reference, Cert.KernelIdeal.Own.frame_reference_pre,
    trivial, Cert.KernelIdeal.Own.value⟩

end Cert.Proof

end
